-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_arguments [hPre_finite_arguments : Cert.Pre_finite_arguments.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite_arguments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_arguments [hPre_finite_arguments : Cert.Pre_finite_arguments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite_arguments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_KernelUpDw (m : (ℓ : Loc Cert.KernelUpDw.nD Cert.KernelUpDw.τ Cert.KernelUpDw.sig) → Buf (Elt Bits) ℓ) : Prop :=
  True

def Pre_KernelUpDwIdeal (m : (ℓ : Loc Cert.KernelUpDwIdeal.nD Cert.KernelUpDwIdeal.τ Cert.KernelUpDwIdeal.sig) → Buf (Elt Ideal) ℓ) : Prop :=
  True

def Pre_ReferenceUpDwIdeal (m : (ℓ : Loc Cert.ReferenceUpDwIdeal.nD Cert.ReferenceUpDwIdeal.τ Cert.ReferenceUpDwIdeal.sig) → Buf (Elt Ideal) ℓ) : Prop :=
  True

def Pre_KernelUpDx (m : (ℓ : Loc Cert.KernelUpDx.nD Cert.KernelUpDx.τ Cert.KernelUpDx.sig) → Buf (Elt Bits) ℓ) : Prop :=
  True

def Pre_KernelUpDxIdeal (m : (ℓ : Loc Cert.KernelUpDxIdeal.nD Cert.KernelUpDxIdeal.τ Cert.KernelUpDxIdeal.sig) → Buf (Elt Ideal) ℓ) : Prop :=
  True

def Pre_ReferenceUpDxIdeal (m : (ℓ : Loc Cert.ReferenceUpDxIdeal.nD Cert.ReferenceUpDxIdeal.τ Cert.ReferenceUpDxIdeal.sig) → Buf (Elt Ideal) ℓ) : Prop :=
  True

def Pre_KernelDownDw (m : (ℓ : Loc Cert.KernelDownDw.nD Cert.KernelDownDw.τ Cert.KernelDownDw.sig) → Buf (Elt Bits) ℓ) : Prop :=
  True

def Pre_KernelDownDwIdeal (m : (ℓ : Loc Cert.KernelDownDwIdeal.nD Cert.KernelDownDwIdeal.τ Cert.KernelDownDwIdeal.sig) → Buf (Elt Ideal) ℓ) : Prop :=
  True

def Pre_ReferenceDownDwIdeal (m : (ℓ : Loc Cert.ReferenceDownDwIdeal.nD Cert.ReferenceDownDwIdeal.τ Cert.ReferenceDownDwIdeal.sig) → Buf (Elt Ideal) ℓ) : Prop :=
  True

def Pre_KernelDownDx (m : (ℓ : Loc Cert.KernelDownDx.nD Cert.KernelDownDx.τ Cert.KernelDownDx.sig) → Buf (Elt Bits) ℓ) : Prop :=
  True

def Pre_KernelDownDxIdeal (m : (ℓ : Loc Cert.KernelDownDxIdeal.nD Cert.KernelDownDxIdeal.τ Cert.KernelDownDxIdeal.sig) → Buf (Elt Ideal) ℓ) : Prop :=
  True

def Pre_ReferenceDownDxIdeal (m : (ℓ : Loc Cert.ReferenceDownDxIdeal.nD Cert.ReferenceDownDxIdeal.τ Cert.ReferenceDownDxIdeal.sig) → Buf (Elt Ideal) ℓ) : Prop :=
  True

def Pre_KernelInDw (m : (ℓ : Loc Cert.KernelInDw.nD Cert.KernelInDw.τ Cert.KernelInDw.sig) → Buf (Elt Bits) ℓ) : Prop :=
  True

def Pre_KernelInDwIdeal (m : (ℓ : Loc Cert.KernelInDwIdeal.nD Cert.KernelInDwIdeal.τ Cert.KernelInDwIdeal.sig) → Buf (Elt Ideal) ℓ) : Prop :=
  True

def Pre_ReferenceInDwIdeal (m : (ℓ : Loc Cert.ReferenceInDwIdeal.nD Cert.ReferenceInDwIdeal.τ Cert.ReferenceInDwIdeal.sig) → Buf (Elt Ideal) ℓ) : Prop :=
  True

def Pre_KernelInDx (m : (ℓ : Loc Cert.KernelInDx.nD Cert.KernelInDx.τ Cert.KernelInDx.sig) → Buf (Elt Bits) ℓ) : Prop :=
  True

def Pre_KernelInDxIdeal (m : (ℓ : Loc Cert.KernelInDxIdeal.nD Cert.KernelInDxIdeal.τ Cert.KernelInDxIdeal.sig) → Buf (Elt Ideal) ℓ) : Prop :=
  True

def Pre_ReferenceInDxIdeal (m : (ℓ : Loc Cert.ReferenceInDxIdeal.nD Cert.ReferenceInDxIdeal.τ Cert.ReferenceInDxIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelOutDw (m : (ℓ : Loc Cert.KernelOutDw.nD Cert.KernelOutDw.τ Cert.KernelOutDw.sig) → Buf (Elt Bits) ℓ) : Prop :=
  True

def Pre_KernelOutDwIdeal (m : (ℓ : Loc Cert.KernelOutDwIdeal.nD Cert.KernelOutDwIdeal.τ Cert.KernelOutDwIdeal.sig) → Buf (Elt Ideal) ℓ) : Prop :=
  True

def Pre_ReferenceOutDwIdeal (m : (ℓ : Loc Cert.ReferenceOutDwIdeal.nD Cert.ReferenceOutDwIdeal.τ Cert.ReferenceOutDwIdeal.sig) → Buf (Elt Ideal) ℓ) : Prop :=
  True

def Pre_KernelOutDx (m : (ℓ : Loc Cert.KernelOutDx.nD Cert.KernelOutDx.τ Cert.KernelOutDx.sig) → Buf (Elt Bits) ℓ) : Prop :=
  True

def Pre_KernelOutDxIdeal (m : (ℓ : Loc Cert.KernelOutDxIdeal.nD Cert.KernelOutDxIdeal.τ Cert.KernelOutDxIdeal.sig) → Buf (Elt Ideal) ℓ) : Prop :=
  True

def Pre_ReferenceOutDxIdeal (m : (ℓ : Loc Cert.ReferenceOutDxIdeal.nD Cert.ReferenceOutDxIdeal.τ Cert.ReferenceOutDxIdeal.sig) → Buf (Elt Ideal) ℓ) : Prop :=
  True

def Pre_KernelBranchDw (m : (ℓ : Loc Cert.KernelBranchDw.nD Cert.KernelBranchDw.τ Cert.KernelBranchDw.sig) → Buf (Elt Bits) ℓ) : Prop :=
  True

def Pre_KernelBranchDwIdeal (m : (ℓ : Loc Cert.KernelBranchDwIdeal.nD Cert.KernelBranchDwIdeal.τ Cert.KernelBranchDwIdeal.sig) → Buf (Elt Ideal) ℓ) : Prop :=
  True

def Pre_ReferenceBranchDwIdeal (m : (ℓ : Loc Cert.ReferenceBranchDwIdeal.nD Cert.ReferenceBranchDwIdeal.τ Cert.ReferenceBranchDwIdeal.sig) → Buf (Elt Ideal) ℓ) : Prop :=
  True

def Pre_KernelBranchDx (m : (ℓ : Loc Cert.KernelBranchDx.nD Cert.KernelBranchDx.τ Cert.KernelBranchDx.sig) → Buf (Elt Bits) ℓ) : Prop :=
  True

def Pre_KernelBranchDxIdeal (m : (ℓ : Loc Cert.KernelBranchDxIdeal.nD Cert.KernelBranchDxIdeal.τ Cert.KernelBranchDxIdeal.sig) → Buf (Elt Ideal) ℓ) : Prop :=
  True

def Pre_ReferenceBranchDxIdeal (m : (ℓ : Loc Cert.ReferenceBranchDxIdeal.nD Cert.ReferenceBranchDxIdeal.τ Cert.ReferenceBranchDxIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelBranch (m : (ℓ : Loc Cert.KernelBranch.nD Cert.KernelBranch.τ Cert.KernelBranch.sig) → Buf (Elt Bits) ℓ) : Prop :=
  True

def Pre_KernelBranchIdeal (m : (ℓ : Loc Cert.KernelBranchIdeal.nD Cert.KernelBranchIdeal.τ Cert.KernelBranchIdeal.sig) → Buf (Elt Ideal) ℓ) : Prop :=
  True

def Pre_ReferenceBranchIdeal (m : (ℓ : Loc Cert.ReferenceBranchIdeal.nD Cert.ReferenceBranchIdeal.τ Cert.ReferenceBranchIdeal.sig) → Buf (Elt Ideal) ℓ) : Prop :=
  True

def Pre_KernelXaQ (m : (ℓ : Loc Cert.KernelXaQ.nD Cert.KernelXaQ.τ Cert.KernelXaQ.sig) → Buf (Elt Bits) ℓ) : Prop :=
  True

def Pre_KernelXaQIdeal (m : (ℓ : Loc Cert.KernelXaQIdeal.nD Cert.KernelXaQIdeal.τ Cert.KernelXaQIdeal.sig) → Buf (Elt Ideal) ℓ) : Prop :=
  True

def Pre_ReferenceXaQIdeal (m : (ℓ : Loc Cert.ReferenceXaQIdeal.nD Cert.ReferenceXaQIdeal.τ Cert.ReferenceXaQIdeal.sig) → Buf (Elt Ideal) ℓ) : Prop :=
  True

def Pre_KernelXaQDw (m : (ℓ : Loc Cert.KernelXaQDw.nD Cert.KernelXaQDw.τ Cert.KernelXaQDw.sig) → Buf (Elt Bits) ℓ) : Prop :=
  True

def Pre_KernelXaQDwIdeal (m : (ℓ : Loc Cert.KernelXaQDwIdeal.nD Cert.KernelXaQDwIdeal.τ Cert.KernelXaQDwIdeal.sig) → Buf (Elt Ideal) ℓ) : Prop :=
  True

def Pre_ReferenceXaQDwIdeal (m : (ℓ : Loc Cert.ReferenceXaQDwIdeal.nD Cert.ReferenceXaQDwIdeal.τ Cert.ReferenceXaQDwIdeal.sig) → Buf (Elt Ideal) ℓ) : Prop :=
  True

def Pre_KernelXaQDx (m : (ℓ : Loc Cert.KernelXaQDx.nD Cert.KernelXaQDx.τ Cert.KernelXaQDx.sig) → Buf (Elt Bits) ℓ) : Prop :=
  True

def Pre_KernelXaQDxIdeal (m : (ℓ : Loc Cert.KernelXaQDxIdeal.nD Cert.KernelXaQDxIdeal.τ Cert.KernelXaQDxIdeal.sig) → Buf (Elt Ideal) ℓ) : Prop :=
  True

def Pre_ReferenceXaQDxIdeal (m : (ℓ : Loc Cert.ReferenceXaQDxIdeal.nD Cert.ReferenceXaQDxIdeal.τ Cert.ReferenceXaQDxIdeal.sig) → Buf (Elt Ideal) ℓ) : Prop :=
  True

def Pre_KernelXaO (m : (ℓ : Loc Cert.KernelXaO.nD Cert.KernelXaO.τ Cert.KernelXaO.sig) → Buf (Elt Bits) ℓ) : Prop :=
  True

def Pre_KernelXaOIdeal (m : (ℓ : Loc Cert.KernelXaOIdeal.nD Cert.KernelXaOIdeal.τ Cert.KernelXaOIdeal.sig) → Buf (Elt Ideal) ℓ) : Prop :=
  True

def Pre_ReferenceXaOIdeal (m : (ℓ : Loc Cert.ReferenceXaOIdeal.nD Cert.ReferenceXaOIdeal.τ Cert.ReferenceXaOIdeal.sig) → Buf (Elt Ideal) ℓ) : Prop :=
  True

def Pre_KernelXaODw (m : (ℓ : Loc Cert.KernelXaODw.nD Cert.KernelXaODw.τ Cert.KernelXaODw.sig) → Buf (Elt Bits) ℓ) : Prop :=
  True

def Pre_KernelXaODwIdeal (m : (ℓ : Loc Cert.KernelXaODwIdeal.nD Cert.KernelXaODwIdeal.τ Cert.KernelXaODwIdeal.sig) → Buf (Elt Ideal) ℓ) : Prop :=
  True

def Pre_ReferenceXaODwIdeal (m : (ℓ : Loc Cert.ReferenceXaODwIdeal.nD Cert.ReferenceXaODwIdeal.τ Cert.ReferenceXaODwIdeal.sig) → Buf (Elt Ideal) ℓ) : Prop :=
  True

def Pre_KernelXaODx (m : (ℓ : Loc Cert.KernelXaODx.nD Cert.KernelXaODx.τ Cert.KernelXaODx.sig) → Buf (Elt Bits) ℓ) : Prop :=
  True

def Pre_KernelXaODxIdeal (m : (ℓ : Loc Cert.KernelXaODxIdeal.nD Cert.KernelXaODxIdeal.τ Cert.KernelXaODxIdeal.sig) → Buf (Elt Ideal) ℓ) : Prop :=
  True

def Pre_ReferenceXaODxIdeal (m : (ℓ : Loc Cert.ReferenceXaODxIdeal.nD Cert.ReferenceXaODxIdeal.τ Cert.ReferenceXaODxIdeal.sig) → Buf (Elt Ideal) ℓ) : Prop :=
  True

def Pre_KernelFox (m : (ℓ : Loc Cert.KernelFox.nD Cert.KernelFox.τ Cert.KernelFox.sig) → Buf (Elt Bits) ℓ) : Prop :=
  True

def Pre_KernelFoxIdeal (m : (ℓ : Loc Cert.KernelFoxIdeal.nD Cert.KernelFoxIdeal.τ Cert.KernelFoxIdeal.sig) → Buf (Elt Ideal) ℓ) : Prop :=
  True

def Pre_KernelFoxIdeal_finite_fox [hPre_finite_fox : Cert.Pre_finite_fox.Facts] (m : (ℓ : Loc Cert.KernelFoxIdeal.nD Cert.KernelFoxIdeal.τ Cert.KernelFoxIdeal.sig) → Buf (Elt Ideal) ℓ) : Prop :=
  ∀ c : Dev Cert.KernelFoxIdeal.nD,
    (Cert.Pre_finite_fox.fn (F := Ideal) (m ((c.tc : Thread Cert.KernelFoxIdeal.nD Cert.KernelFoxIdeal.τ).loc Cert.KernelFoxIdeal.main_arg0)) (m ((c.tc : Thread Cert.KernelFoxIdeal.nD Cert.KernelFoxIdeal.τ).loc Cert.KernelFoxIdeal.main_arg1)) (m ((c.tc : Thread Cert.KernelFoxIdeal.nD Cert.KernelFoxIdeal.τ).loc Cert.KernelFoxIdeal.main_arg2)) (m ((c.tc : Thread Cert.KernelFoxIdeal.nD Cert.KernelFoxIdeal.τ).loc Cert.KernelFoxIdeal.main_arg3))).1 = (fun _ => 1#1)
    ∧ (Cert.Pre_finite_fox.fn (F := Ideal) (m ((c.tc : Thread Cert.KernelFoxIdeal.nD Cert.KernelFoxIdeal.τ).loc Cert.KernelFoxIdeal.main_arg0)) (m ((c.tc : Thread Cert.KernelFoxIdeal.nD Cert.KernelFoxIdeal.τ).loc Cert.KernelFoxIdeal.main_arg1)) (m ((c.tc : Thread Cert.KernelFoxIdeal.nD Cert.KernelFoxIdeal.τ).loc Cert.KernelFoxIdeal.main_arg2)) (m ((c.tc : Thread Cert.KernelFoxIdeal.nD Cert.KernelFoxIdeal.τ).loc Cert.KernelFoxIdeal.main_arg3))).2.1 = (fun _ => 1#1)
    ∧ (Cert.Pre_finite_fox.fn (F := Ideal) (m ((c.tc : Thread Cert.KernelFoxIdeal.nD Cert.KernelFoxIdeal.τ).loc Cert.KernelFoxIdeal.main_arg0)) (m ((c.tc : Thread Cert.KernelFoxIdeal.nD Cert.KernelFoxIdeal.τ).loc Cert.KernelFoxIdeal.main_arg1)) (m ((c.tc : Thread Cert.KernelFoxIdeal.nD Cert.KernelFoxIdeal.τ).loc Cert.KernelFoxIdeal.main_arg2)) (m ((c.tc : Thread Cert.KernelFoxIdeal.nD Cert.KernelFoxIdeal.τ).loc Cert.KernelFoxIdeal.main_arg3))).2.2.1 = (fun _ => 1#1)
    ∧ (Cert.Pre_finite_fox.fn (F := Ideal) (m ((c.tc : Thread Cert.KernelFoxIdeal.nD Cert.KernelFoxIdeal.τ).loc Cert.KernelFoxIdeal.main_arg0)) (m ((c.tc : Thread Cert.KernelFoxIdeal.nD Cert.KernelFoxIdeal.τ).loc Cert.KernelFoxIdeal.main_arg1)) (m ((c.tc : Thread Cert.KernelFoxIdeal.nD Cert.KernelFoxIdeal.τ).loc Cert.KernelFoxIdeal.main_arg2)) (m ((c.tc : Thread Cert.KernelFoxIdeal.nD Cert.KernelFoxIdeal.τ).loc Cert.KernelFoxIdeal.main_arg3))).2.2.2 = (fun _ => 1#1)

def Pre_ReferenceFoxIdeal (m : (ℓ : Loc Cert.ReferenceFoxIdeal.nD Cert.ReferenceFoxIdeal.τ Cert.ReferenceFoxIdeal.sig) → Buf (Elt Ideal) ℓ) : Prop :=
  True

def Pre_ReferenceFoxIdeal_finite_fox [hPre_finite_fox : Cert.Pre_finite_fox.Facts] (m : (ℓ : Loc Cert.ReferenceFoxIdeal.nD Cert.ReferenceFoxIdeal.τ Cert.ReferenceFoxIdeal.sig) → Buf (Elt Ideal) ℓ) : Prop :=
  ∀ c : Dev Cert.ReferenceFoxIdeal.nD,
    (Cert.Pre_finite_fox.fn (F := Ideal) (m ((c.tc : Thread Cert.ReferenceFoxIdeal.nD Cert.ReferenceFoxIdeal.τ).loc Cert.ReferenceFoxIdeal.main_arg0)) (m ((c.tc : Thread Cert.ReferenceFoxIdeal.nD Cert.ReferenceFoxIdeal.τ).loc Cert.ReferenceFoxIdeal.main_arg1)) (m ((c.tc : Thread Cert.ReferenceFoxIdeal.nD Cert.ReferenceFoxIdeal.τ).loc Cert.ReferenceFoxIdeal.main_arg2)) (m ((c.tc : Thread Cert.ReferenceFoxIdeal.nD Cert.ReferenceFoxIdeal.τ).loc Cert.ReferenceFoxIdeal.main_arg3))).1 = (fun _ => 1#1)
    ∧ (Cert.Pre_finite_fox.fn (F := Ideal) (m ((c.tc : Thread Cert.ReferenceFoxIdeal.nD Cert.ReferenceFoxIdeal.τ).loc Cert.ReferenceFoxIdeal.main_arg0)) (m ((c.tc : Thread Cert.ReferenceFoxIdeal.nD Cert.ReferenceFoxIdeal.τ).loc Cert.ReferenceFoxIdeal.main_arg1)) (m ((c.tc : Thread Cert.ReferenceFoxIdeal.nD Cert.ReferenceFoxIdeal.τ).loc Cert.ReferenceFoxIdeal.main_arg2)) (m ((c.tc : Thread Cert.ReferenceFoxIdeal.nD Cert.ReferenceFoxIdeal.τ).loc Cert.ReferenceFoxIdeal.main_arg3))).2.1 = (fun _ => 1#1)
    ∧ (Cert.Pre_finite_fox.fn (F := Ideal) (m ((c.tc : Thread Cert.ReferenceFoxIdeal.nD Cert.ReferenceFoxIdeal.τ).loc Cert.ReferenceFoxIdeal.main_arg0)) (m ((c.tc : Thread Cert.ReferenceFoxIdeal.nD Cert.ReferenceFoxIdeal.τ).loc Cert.ReferenceFoxIdeal.main_arg1)) (m ((c.tc : Thread Cert.ReferenceFoxIdeal.nD Cert.ReferenceFoxIdeal.τ).loc Cert.ReferenceFoxIdeal.main_arg2)) (m ((c.tc : Thread Cert.ReferenceFoxIdeal.nD Cert.ReferenceFoxIdeal.τ).loc Cert.ReferenceFoxIdeal.main_arg3))).2.2.1 = (fun _ => 1#1)
    ∧ (Cert.Pre_finite_fox.fn (F := Ideal) (m ((c.tc : Thread Cert.ReferenceFoxIdeal.nD Cert.ReferenceFoxIdeal.τ).loc Cert.ReferenceFoxIdeal.main_arg0)) (m ((c.tc : Thread Cert.ReferenceFoxIdeal.nD Cert.ReferenceFoxIdeal.τ).loc Cert.ReferenceFoxIdeal.main_arg1)) (m ((c.tc : Thread Cert.ReferenceFoxIdeal.nD Cert.ReferenceFoxIdeal.τ).loc Cert.ReferenceFoxIdeal.main_arg2)) (m ((c.tc : Thread Cert.ReferenceFoxIdeal.nD Cert.ReferenceFoxIdeal.τ).loc Cert.ReferenceFoxIdeal.main_arg3))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_arguments [hKernelIdeal : Cert.KernelIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_arguments m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_arguments [hReferenceIdeal : Cert.ReferenceIdeal.Facts] [hPre_finite_arguments : Cert.Pre_finite_arguments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_arguments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelUpDw [hKernelUpDw : Cert.KernelUpDw.Facts] : Prop :=
  ∀ (m : (ℓ : Loc Cert.KernelUpDw.nD Cert.KernelUpDw.τ Cert.KernelUpDw.sig) → Buf (Elt Bits) ℓ) (g : Dev Cert.KernelUpDw.nD → PrngReg), Pre_KernelUpDw m →
    θ_run (Cert.KernelUpDw.defs (F := Bits)) (onTc (τ := Cert.KernelUpDw.τ) (Cert.KernelUpDw.main (F := Bits))) ⟨m, fun _ => 0, g⟩ (fun r => (∀ c : Dev Cert.KernelUpDw.nD,
      r.2.mem ((c.tc : Thread Cert.KernelUpDw.nD Cert.KernelUpDw.τ).loc Cert.KernelUpDw.main_arg0) = m ((c.tc : Thread Cert.KernelUpDw.nD Cert.KernelUpDw.τ).loc Cert.KernelUpDw.main_arg0)
      ∧ r.2.mem ((c.tc : Thread Cert.KernelUpDw.nD Cert.KernelUpDw.τ).loc Cert.KernelUpDw.main_arg1) = m ((c.tc : Thread Cert.KernelUpDw.nD Cert.KernelUpDw.τ).loc Cert.KernelUpDw.main_arg1))
      ∧ r.2.sem = fun _ => 0)

def quiescent_KernelUpDwIdeal [hKernelUpDwIdeal : Cert.KernelUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg), Pre_KernelUpDwIdeal m →
    θ_run (Cert.KernelUpDwIdeal.defs (F := Ideal)) (onTc (τ := Cert.KernelUpDwIdeal.τ) (Cert.KernelUpDwIdeal.main (F := Ideal))) ⟨m, fun _ => 0, g⟩ (fun r => (∀ c : Dev Cert.KernelUpDwIdeal.nD,
      r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
      ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1))
      ∧ r.2.sem = fun _ => 0)

def quiescent_ReferenceUpDwIdeal [hReferenceUpDwIdeal : Cert.ReferenceUpDwIdeal.Facts] : Prop :=
  ∀ (m : (ℓ : Loc Cert.ReferenceUpDwIdeal.nD Cert.ReferenceUpDwIdeal.τ Cert.ReferenceUpDwIdeal.sig) → Buf (Elt Ideal) ℓ) (g : Dev Cert.ReferenceUpDwIdeal.nD → PrngReg), Pre_ReferenceUpDwIdeal m →
    θ_run (Cert.ReferenceUpDwIdeal.defs (F := Ideal)) (onTc (τ := Cert.ReferenceUpDwIdeal.τ) (Cert.ReferenceUpDwIdeal.main (F := Ideal))) ⟨m, fun _ => 0, g⟩ (fun r => (∀ c : Dev Cert.ReferenceUpDwIdeal.nD,
      r.2.mem ((c.tc : Thread Cert.ReferenceUpDwIdeal.nD Cert.ReferenceUpDwIdeal.τ).loc Cert.ReferenceUpDwIdeal.main_arg0) = m ((c.tc : Thread Cert.ReferenceUpDwIdeal.nD Cert.ReferenceUpDwIdeal.τ).loc Cert.ReferenceUpDwIdeal.main_arg0)
      ∧ r.2.mem ((c.tc : Thread Cert.ReferenceUpDwIdeal.nD Cert.ReferenceUpDwIdeal.τ).loc Cert.ReferenceUpDwIdeal.main_arg1) = m ((c.tc : Thread Cert.ReferenceUpDwIdeal.nD Cert.ReferenceUpDwIdeal.τ).loc Cert.ReferenceUpDwIdeal.main_arg1))
      ∧ r.2.sem = fun _ => 0)

def quiescent_KernelUpDx [hKernelUpDx : Cert.KernelUpDx.Facts] : Prop :=
  ∀ (m : (ℓ : Loc Cert.KernelUpDx.nD Cert.KernelUpDx.τ Cert.KernelUpDx.sig) → Buf (Elt Bits) ℓ) (g : Dev Cert.KernelUpDx.nD → PrngReg), Pre_KernelUpDx m →
    θ_run (Cert.KernelUpDx.defs (F := Bits)) (onTc (τ := Cert.KernelUpDx.τ) (Cert.KernelUpDx.main (F := Bits))) ⟨m, fun _ => 0, g⟩ (fun r => (∀ c : Dev Cert.KernelUpDx.nD,
      r.2.mem ((c.tc : Thread Cert.KernelUpDx.nD Cert.KernelUpDx.τ).loc Cert.KernelUpDx.main_arg0) = m ((c.tc : Thread Cert.KernelUpDx.nD Cert.KernelUpDx.τ).loc Cert.KernelUpDx.main_arg0)
      ∧ r.2.mem ((c.tc : Thread Cert.KernelUpDx.nD Cert.KernelUpDx.τ).loc Cert.KernelUpDx.main_arg1) = m ((c.tc : Thread Cert.KernelUpDx.nD Cert.KernelUpDx.τ).loc Cert.KernelUpDx.main_arg1))
      ∧ r.2.sem = fun _ => 0)

def quiescent_KernelUpDxIdeal [hKernelUpDxIdeal : Cert.KernelUpDxIdeal.Facts] : Prop :=
  ∀ (m : (ℓ : Loc Cert.KernelUpDxIdeal.nD Cert.KernelUpDxIdeal.τ Cert.KernelUpDxIdeal.sig) → Buf (Elt Ideal) ℓ) (g : Dev Cert.KernelUpDxIdeal.nD → PrngReg), Pre_KernelUpDxIdeal m →
    θ_run (Cert.KernelUpDxIdeal.defs (F := Ideal)) (onTc (τ := Cert.KernelUpDxIdeal.τ) (Cert.KernelUpDxIdeal.main (F := Ideal))) ⟨m, fun _ => 0, g⟩ (fun r => (∀ c : Dev Cert.KernelUpDxIdeal.nD,
      r.2.mem ((c.tc : Thread Cert.KernelUpDxIdeal.nD Cert.KernelUpDxIdeal.τ).loc Cert.KernelUpDxIdeal.main_arg0) = m ((c.tc : Thread Cert.KernelUpDxIdeal.nD Cert.KernelUpDxIdeal.τ).loc Cert.KernelUpDxIdeal.main_arg0)
      ∧ r.2.mem ((c.tc : Thread Cert.KernelUpDxIdeal.nD Cert.KernelUpDxIdeal.τ).loc Cert.KernelUpDxIdeal.main_arg1) = m ((c.tc : Thread Cert.KernelUpDxIdeal.nD Cert.KernelUpDxIdeal.τ).loc Cert.KernelUpDxIdeal.main_arg1))
      ∧ r.2.sem = fun _ => 0)

def quiescent_ReferenceUpDxIdeal [hReferenceUpDxIdeal : Cert.ReferenceUpDxIdeal.Facts] : Prop :=
  ∀ (m : (ℓ : Loc Cert.ReferenceUpDxIdeal.nD Cert.ReferenceUpDxIdeal.τ Cert.ReferenceUpDxIdeal.sig) → Buf (Elt Ideal) ℓ) (g : Dev Cert.ReferenceUpDxIdeal.nD → PrngReg), Pre_ReferenceUpDxIdeal m →
    θ_run (Cert.ReferenceUpDxIdeal.defs (F := Ideal)) (onTc (τ := Cert.ReferenceUpDxIdeal.τ) (Cert.ReferenceUpDxIdeal.main (F := Ideal))) ⟨m, fun _ => 0, g⟩ (fun r => (∀ c : Dev Cert.ReferenceUpDxIdeal.nD,
      r.2.mem ((c.tc : Thread Cert.ReferenceUpDxIdeal.nD Cert.ReferenceUpDxIdeal.τ).loc Cert.ReferenceUpDxIdeal.main_arg0) = m ((c.tc : Thread Cert.ReferenceUpDxIdeal.nD Cert.ReferenceUpDxIdeal.τ).loc Cert.ReferenceUpDxIdeal.main_arg0)
      ∧ r.2.mem ((c.tc : Thread Cert.ReferenceUpDxIdeal.nD Cert.ReferenceUpDxIdeal.τ).loc Cert.ReferenceUpDxIdeal.main_arg1) = m ((c.tc : Thread Cert.ReferenceUpDxIdeal.nD Cert.ReferenceUpDxIdeal.τ).loc Cert.ReferenceUpDxIdeal.main_arg1))
      ∧ r.2.sem = fun _ => 0)

def quiescent_KernelDownDw [hKernelDownDw : Cert.KernelDownDw.Facts] : Prop :=
  ∀ (m : (ℓ : Loc Cert.KernelDownDw.nD Cert.KernelDownDw.τ Cert.KernelDownDw.sig) → Buf (Elt Bits) ℓ) (g : Dev Cert.KernelDownDw.nD → PrngReg), Pre_KernelDownDw m →
    θ_run (Cert.KernelDownDw.defs (F := Bits)) (onTc (τ := Cert.KernelDownDw.τ) (Cert.KernelDownDw.main (F := Bits))) ⟨m, fun _ => 0, g⟩ (fun r => (∀ c : Dev Cert.KernelDownDw.nD,
      r.2.mem ((c.tc : Thread Cert.KernelDownDw.nD Cert.KernelDownDw.τ).loc Cert.KernelDownDw.main_arg0) = m ((c.tc : Thread Cert.KernelDownDw.nD Cert.KernelDownDw.τ).loc Cert.KernelDownDw.main_arg0)
      ∧ r.2.mem ((c.tc : Thread Cert.KernelDownDw.nD Cert.KernelDownDw.τ).loc Cert.KernelDownDw.main_arg1) = m ((c.tc : Thread Cert.KernelDownDw.nD Cert.KernelDownDw.τ).loc Cert.KernelDownDw.main_arg1))
      ∧ r.2.sem = fun _ => 0)

def quiescent_KernelDownDwIdeal [hKernelDownDwIdeal : Cert.KernelDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg), Pre_KernelDownDwIdeal m →
    θ_run (Cert.KernelDownDwIdeal.defs (F := Ideal)) (onTc (τ := Cert.KernelDownDwIdeal.τ) (Cert.KernelDownDwIdeal.main (F := Ideal))) ⟨m, fun _ => 0, g⟩ (fun r => (∀ c : Dev Cert.KernelDownDwIdeal.nD,
      r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
      ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1))
      ∧ r.2.sem = fun _ => 0)

def quiescent_ReferenceDownDwIdeal [hReferenceDownDwIdeal : Cert.ReferenceDownDwIdeal.Facts] : Prop :=
  ∀ (m : (ℓ : Loc Cert.ReferenceDownDwIdeal.nD Cert.ReferenceDownDwIdeal.τ Cert.ReferenceDownDwIdeal.sig) → Buf (Elt Ideal) ℓ) (g : Dev Cert.ReferenceDownDwIdeal.nD → PrngReg), Pre_ReferenceDownDwIdeal m →
    θ_run (Cert.ReferenceDownDwIdeal.defs (F := Ideal)) (onTc (τ := Cert.ReferenceDownDwIdeal.τ) (Cert.ReferenceDownDwIdeal.main (F := Ideal))) ⟨m, fun _ => 0, g⟩ (fun r => (∀ c : Dev Cert.ReferenceDownDwIdeal.nD,
      r.2.mem ((c.tc : Thread Cert.ReferenceDownDwIdeal.nD Cert.ReferenceDownDwIdeal.τ).loc Cert.ReferenceDownDwIdeal.main_arg0) = m ((c.tc : Thread Cert.ReferenceDownDwIdeal.nD Cert.ReferenceDownDwIdeal.τ).loc Cert.ReferenceDownDwIdeal.main_arg0)
      ∧ r.2.mem ((c.tc : Thread Cert.ReferenceDownDwIdeal.nD Cert.ReferenceDownDwIdeal.τ).loc Cert.ReferenceDownDwIdeal.main_arg1) = m ((c.tc : Thread Cert.ReferenceDownDwIdeal.nD Cert.ReferenceDownDwIdeal.τ).loc Cert.ReferenceDownDwIdeal.main_arg1))
      ∧ r.2.sem = fun _ => 0)

def quiescent_KernelDownDx [hKernelDownDx : Cert.KernelDownDx.Facts] : Prop :=
  ∀ (m : (ℓ : Loc Cert.KernelDownDx.nD Cert.KernelDownDx.τ Cert.KernelDownDx.sig) → Buf (Elt Bits) ℓ) (g : Dev Cert.KernelDownDx.nD → PrngReg), Pre_KernelDownDx m →
    θ_run (Cert.KernelDownDx.defs (F := Bits)) (onTc (τ := Cert.KernelDownDx.τ) (Cert.KernelDownDx.main (F := Bits))) ⟨m, fun _ => 0, g⟩ (fun r => (∀ c : Dev Cert.KernelDownDx.nD,
      r.2.mem ((c.tc : Thread Cert.KernelDownDx.nD Cert.KernelDownDx.τ).loc Cert.KernelDownDx.main_arg0) = m ((c.tc : Thread Cert.KernelDownDx.nD Cert.KernelDownDx.τ).loc Cert.KernelDownDx.main_arg0)
      ∧ r.2.mem ((c.tc : Thread Cert.KernelDownDx.nD Cert.KernelDownDx.τ).loc Cert.KernelDownDx.main_arg1) = m ((c.tc : Thread Cert.KernelDownDx.nD Cert.KernelDownDx.τ).loc Cert.KernelDownDx.main_arg1))
      ∧ r.2.sem = fun _ => 0)

def quiescent_KernelDownDxIdeal [hKernelDownDxIdeal : Cert.KernelDownDxIdeal.Facts] : Prop :=
  ∀ (m : (ℓ : Loc Cert.KernelDownDxIdeal.nD Cert.KernelDownDxIdeal.τ Cert.KernelDownDxIdeal.sig) → Buf (Elt Ideal) ℓ) (g : Dev Cert.KernelDownDxIdeal.nD → PrngReg), Pre_KernelDownDxIdeal m →
    θ_run (Cert.KernelDownDxIdeal.defs (F := Ideal)) (onTc (τ := Cert.KernelDownDxIdeal.τ) (Cert.KernelDownDxIdeal.main (F := Ideal))) ⟨m, fun _ => 0, g⟩ (fun r => (∀ c : Dev Cert.KernelDownDxIdeal.nD,
      r.2.mem ((c.tc : Thread Cert.KernelDownDxIdeal.nD Cert.KernelDownDxIdeal.τ).loc Cert.KernelDownDxIdeal.main_arg0) = m ((c.tc : Thread Cert.KernelDownDxIdeal.nD Cert.KernelDownDxIdeal.τ).loc Cert.KernelDownDxIdeal.main_arg0)
      ∧ r.2.mem ((c.tc : Thread Cert.KernelDownDxIdeal.nD Cert.KernelDownDxIdeal.τ).loc Cert.KernelDownDxIdeal.main_arg1) = m ((c.tc : Thread Cert.KernelDownDxIdeal.nD Cert.KernelDownDxIdeal.τ).loc Cert.KernelDownDxIdeal.main_arg1))
      ∧ r.2.sem = fun _ => 0)

def quiescent_ReferenceDownDxIdeal [hReferenceDownDxIdeal : Cert.ReferenceDownDxIdeal.Facts] : Prop :=
  ∀ (m : (ℓ : Loc Cert.ReferenceDownDxIdeal.nD Cert.ReferenceDownDxIdeal.τ Cert.ReferenceDownDxIdeal.sig) → Buf (Elt Ideal) ℓ) (g : Dev Cert.ReferenceDownDxIdeal.nD → PrngReg), Pre_ReferenceDownDxIdeal m →
    θ_run (Cert.ReferenceDownDxIdeal.defs (F := Ideal)) (onTc (τ := Cert.ReferenceDownDxIdeal.τ) (Cert.ReferenceDownDxIdeal.main (F := Ideal))) ⟨m, fun _ => 0, g⟩ (fun r => (∀ c : Dev Cert.ReferenceDownDxIdeal.nD,
      r.2.mem ((c.tc : Thread Cert.ReferenceDownDxIdeal.nD Cert.ReferenceDownDxIdeal.τ).loc Cert.ReferenceDownDxIdeal.main_arg0) = m ((c.tc : Thread Cert.ReferenceDownDxIdeal.nD Cert.ReferenceDownDxIdeal.τ).loc Cert.ReferenceDownDxIdeal.main_arg0)
      ∧ r.2.mem ((c.tc : Thread Cert.ReferenceDownDxIdeal.nD Cert.ReferenceDownDxIdeal.τ).loc Cert.ReferenceDownDxIdeal.main_arg1) = m ((c.tc : Thread Cert.ReferenceDownDxIdeal.nD Cert.ReferenceDownDxIdeal.τ).loc Cert.ReferenceDownDxIdeal.main_arg1))
      ∧ r.2.sem = fun _ => 0)

def quiescent_KernelInDw [hKernelInDw : Cert.KernelInDw.Facts] : Prop :=
  ∀ (m : (ℓ : Loc Cert.KernelInDw.nD Cert.KernelInDw.τ Cert.KernelInDw.sig) → Buf (Elt Bits) ℓ) (g : Dev Cert.KernelInDw.nD → PrngReg), Pre_KernelInDw m →
    θ_run (Cert.KernelInDw.defs (F := Bits)) (onTc (τ := Cert.KernelInDw.τ) (Cert.KernelInDw.main (F := Bits))) ⟨m, fun _ => 0, g⟩ (fun r => (∀ c : Dev Cert.KernelInDw.nD,
      r.2.mem ((c.tc : Thread Cert.KernelInDw.nD Cert.KernelInDw.τ).loc Cert.KernelInDw.main_arg0) = m ((c.tc : Thread Cert.KernelInDw.nD Cert.KernelInDw.τ).loc Cert.KernelInDw.main_arg0)
      ∧ r.2.mem ((c.tc : Thread Cert.KernelInDw.nD Cert.KernelInDw.τ).loc Cert.KernelInDw.main_arg1) = m ((c.tc : Thread Cert.KernelInDw.nD Cert.KernelInDw.τ).loc Cert.KernelInDw.main_arg1))
      ∧ r.2.sem = fun _ => 0)

def quiescent_KernelInDwIdeal [hKernelInDwIdeal : Cert.KernelInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg), Pre_KernelInDwIdeal m →
    θ_run (Cert.KernelInDwIdeal.defs (F := Ideal)) (onTc (τ := Cert.KernelInDwIdeal.τ) (Cert.KernelInDwIdeal.main (F := Ideal))) ⟨m, fun _ => 0, g⟩ (fun r => (∀ c : Dev Cert.KernelInDwIdeal.nD,
      r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
      ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1))
      ∧ r.2.sem = fun _ => 0)

def quiescent_ReferenceInDwIdeal [hReferenceInDwIdeal : Cert.ReferenceInDwIdeal.Facts] : Prop :=
  ∀ (m : (ℓ : Loc Cert.ReferenceInDwIdeal.nD Cert.ReferenceInDwIdeal.τ Cert.ReferenceInDwIdeal.sig) → Buf (Elt Ideal) ℓ) (g : Dev Cert.ReferenceInDwIdeal.nD → PrngReg), Pre_ReferenceInDwIdeal m →
    θ_run (Cert.ReferenceInDwIdeal.defs (F := Ideal)) (onTc (τ := Cert.ReferenceInDwIdeal.τ) (Cert.ReferenceInDwIdeal.main (F := Ideal))) ⟨m, fun _ => 0, g⟩ (fun r => (∀ c : Dev Cert.ReferenceInDwIdeal.nD,
      r.2.mem ((c.tc : Thread Cert.ReferenceInDwIdeal.nD Cert.ReferenceInDwIdeal.τ).loc Cert.ReferenceInDwIdeal.main_arg0) = m ((c.tc : Thread Cert.ReferenceInDwIdeal.nD Cert.ReferenceInDwIdeal.τ).loc Cert.ReferenceInDwIdeal.main_arg0)
      ∧ r.2.mem ((c.tc : Thread Cert.ReferenceInDwIdeal.nD Cert.ReferenceInDwIdeal.τ).loc Cert.ReferenceInDwIdeal.main_arg1) = m ((c.tc : Thread Cert.ReferenceInDwIdeal.nD Cert.ReferenceInDwIdeal.τ).loc Cert.ReferenceInDwIdeal.main_arg1))
      ∧ r.2.sem = fun _ => 0)

def quiescent_KernelInDx [hKernelInDx : Cert.KernelInDx.Facts] : Prop :=
  ∀ (m : (ℓ : Loc Cert.KernelInDx.nD Cert.KernelInDx.τ Cert.KernelInDx.sig) → Buf (Elt Bits) ℓ) (g : Dev Cert.KernelInDx.nD → PrngReg), Pre_KernelInDx m →
    θ_run (Cert.KernelInDx.defs (F := Bits)) (onTc (τ := Cert.KernelInDx.τ) (Cert.KernelInDx.main (F := Bits))) ⟨m, fun _ => 0, g⟩ (fun r => (∀ c : Dev Cert.KernelInDx.nD,
      r.2.mem ((c.tc : Thread Cert.KernelInDx.nD Cert.KernelInDx.τ).loc Cert.KernelInDx.main_arg0) = m ((c.tc : Thread Cert.KernelInDx.nD Cert.KernelInDx.τ).loc Cert.KernelInDx.main_arg0)
      ∧ r.2.mem ((c.tc : Thread Cert.KernelInDx.nD Cert.KernelInDx.τ).loc Cert.KernelInDx.main_arg1) = m ((c.tc : Thread Cert.KernelInDx.nD Cert.KernelInDx.τ).loc Cert.KernelInDx.main_arg1))
      ∧ r.2.sem = fun _ => 0)

def quiescent_KernelInDxIdeal [hKernelInDxIdeal : Cert.KernelInDxIdeal.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg), Pre_KernelInDxIdeal m →
    θ_run (Cert.KernelInDxIdeal.defs (F := Ideal)) (onTc (τ := Cert.KernelInDxIdeal.τ) (Cert.KernelInDxIdeal.main (F := Ideal))) ⟨m, fun _ => 0, g⟩ (fun r => (∀ c : Dev Cert.KernelInDxIdeal.nD,
      r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
      ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1))
      ∧ r.2.sem = fun _ => 0)

def quiescent_ReferenceInDxIdeal [hReferenceInDxIdeal : Cert.ReferenceInDxIdeal.Facts] : Prop :=
  ∀ (m : (ℓ : Loc Cert.ReferenceInDxIdeal.nD Cert.ReferenceInDxIdeal.τ Cert.ReferenceInDxIdeal.sig) → Buf (Elt Ideal) ℓ) (g : Dev Cert.ReferenceInDxIdeal.nD → PrngReg), Pre_ReferenceInDxIdeal m →
    θ_run (Cert.ReferenceInDxIdeal.defs (F := Ideal)) (onTc (τ := Cert.ReferenceInDxIdeal.τ) (Cert.ReferenceInDxIdeal.main (F := Ideal))) ⟨m, fun _ => 0, g⟩ (fun r => (∀ c : Dev Cert.ReferenceInDxIdeal.nD,
      r.2.mem ((c.tc : Thread Cert.ReferenceInDxIdeal.nD Cert.ReferenceInDxIdeal.τ).loc Cert.ReferenceInDxIdeal.main_arg0) = m ((c.tc : Thread Cert.ReferenceInDxIdeal.nD Cert.ReferenceInDxIdeal.τ).loc Cert.ReferenceInDxIdeal.main_arg0)
      ∧ r.2.mem ((c.tc : Thread Cert.ReferenceInDxIdeal.nD Cert.ReferenceInDxIdeal.τ).loc Cert.ReferenceInDxIdeal.main_arg1) = m ((c.tc : Thread Cert.ReferenceInDxIdeal.nD Cert.ReferenceInDxIdeal.τ).loc Cert.ReferenceInDxIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2))
      ∧ r.2.sem = fun _ => 0)

def quiescent_KernelOutDw [hKernelOutDw : Cert.KernelOutDw.Facts] : Prop :=
  ∀ (m : (ℓ : Loc Cert.KernelOutDw.nD Cert.KernelOutDw.τ Cert.KernelOutDw.sig) → Buf (Elt Bits) ℓ) (g : Dev Cert.KernelOutDw.nD → PrngReg), Pre_KernelOutDw m →
    θ_run (Cert.KernelOutDw.defs (F := Bits)) (onTc (τ := Cert.KernelOutDw.τ) (Cert.KernelOutDw.main (F := Bits))) ⟨m, fun _ => 0, g⟩ (fun r => (∀ c : Dev Cert.KernelOutDw.nD,
      r.2.mem ((c.tc : Thread Cert.KernelOutDw.nD Cert.KernelOutDw.τ).loc Cert.KernelOutDw.main_arg0) = m ((c.tc : Thread Cert.KernelOutDw.nD Cert.KernelOutDw.τ).loc Cert.KernelOutDw.main_arg0)
      ∧ r.2.mem ((c.tc : Thread Cert.KernelOutDw.nD Cert.KernelOutDw.τ).loc Cert.KernelOutDw.main_arg1) = m ((c.tc : Thread Cert.KernelOutDw.nD Cert.KernelOutDw.τ).loc Cert.KernelOutDw.main_arg1))
      ∧ r.2.sem = fun _ => 0)

def quiescent_KernelOutDwIdeal [hKernelOutDwIdeal : Cert.KernelOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg), Pre_KernelOutDwIdeal m →
    θ_run (Cert.KernelOutDwIdeal.defs (F := Ideal)) (onTc (τ := Cert.KernelOutDwIdeal.τ) (Cert.KernelOutDwIdeal.main (F := Ideal))) ⟨m, fun _ => 0, g⟩ (fun r => (∀ c : Dev Cert.KernelOutDwIdeal.nD,
      r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
      ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ r.2.sem = fun _ => 0)

def quiescent_ReferenceOutDwIdeal [hReferenceOutDwIdeal : Cert.ReferenceOutDwIdeal.Facts] : Prop :=
  ∀ (m : (ℓ : Loc Cert.ReferenceOutDwIdeal.nD Cert.ReferenceOutDwIdeal.τ Cert.ReferenceOutDwIdeal.sig) → Buf (Elt Ideal) ℓ) (g : Dev Cert.ReferenceOutDwIdeal.nD → PrngReg), Pre_ReferenceOutDwIdeal m →
    θ_run (Cert.ReferenceOutDwIdeal.defs (F := Ideal)) (onTc (τ := Cert.ReferenceOutDwIdeal.τ) (Cert.ReferenceOutDwIdeal.main (F := Ideal))) ⟨m, fun _ => 0, g⟩ (fun r => (∀ c : Dev Cert.ReferenceOutDwIdeal.nD,
      r.2.mem ((c.tc : Thread Cert.ReferenceOutDwIdeal.nD Cert.ReferenceOutDwIdeal.τ).loc Cert.ReferenceOutDwIdeal.main_arg0) = m ((c.tc : Thread Cert.ReferenceOutDwIdeal.nD Cert.ReferenceOutDwIdeal.τ).loc Cert.ReferenceOutDwIdeal.main_arg0)
      ∧ r.2.mem ((c.tc : Thread Cert.ReferenceOutDwIdeal.nD Cert.ReferenceOutDwIdeal.τ).loc Cert.ReferenceOutDwIdeal.main_arg1) = m ((c.tc : Thread Cert.ReferenceOutDwIdeal.nD Cert.ReferenceOutDwIdeal.τ).loc Cert.ReferenceOutDwIdeal.main_arg1))
      ∧ r.2.sem = fun _ => 0)

def quiescent_KernelOutDx [hKernelOutDx : Cert.KernelOutDx.Facts] : Prop :=
  ∀ (m : (ℓ : Loc Cert.KernelOutDx.nD Cert.KernelOutDx.τ Cert.KernelOutDx.sig) → Buf (Elt Bits) ℓ) (g : Dev Cert.KernelOutDx.nD → PrngReg), Pre_KernelOutDx m →
    θ_run (Cert.KernelOutDx.defs (F := Bits)) (onTc (τ := Cert.KernelOutDx.τ) (Cert.KernelOutDx.main (F := Bits))) ⟨m, fun _ => 0, g⟩ (fun r => (∀ c : Dev Cert.KernelOutDx.nD,
      r.2.mem ((c.tc : Thread Cert.KernelOutDx.nD Cert.KernelOutDx.τ).loc Cert.KernelOutDx.main_arg0) = m ((c.tc : Thread Cert.KernelOutDx.nD Cert.KernelOutDx.τ).loc Cert.KernelOutDx.main_arg0)
      ∧ r.2.mem ((c.tc : Thread Cert.KernelOutDx.nD Cert.KernelOutDx.τ).loc Cert.KernelOutDx.main_arg1) = m ((c.tc : Thread Cert.KernelOutDx.nD Cert.KernelOutDx.τ).loc Cert.KernelOutDx.main_arg1))
      ∧ r.2.sem = fun _ => 0)

def quiescent_KernelOutDxIdeal [hKernelOutDxIdeal : Cert.KernelOutDxIdeal.Facts] : Prop :=
  ∀ (m : (ℓ : Loc Cert.KernelOutDxIdeal.nD Cert.KernelOutDxIdeal.τ Cert.KernelOutDxIdeal.sig) → Buf (Elt Ideal) ℓ) (g : Dev Cert.KernelOutDxIdeal.nD → PrngReg), Pre_KernelOutDxIdeal m →
    θ_run (Cert.KernelOutDxIdeal.defs (F := Ideal)) (onTc (τ := Cert.KernelOutDxIdeal.τ) (Cert.KernelOutDxIdeal.main (F := Ideal))) ⟨m, fun _ => 0, g⟩ (fun r => (∀ c : Dev Cert.KernelOutDxIdeal.nD,
      r.2.mem ((c.tc : Thread Cert.KernelOutDxIdeal.nD Cert.KernelOutDxIdeal.τ).loc Cert.KernelOutDxIdeal.main_arg0) = m ((c.tc : Thread Cert.KernelOutDxIdeal.nD Cert.KernelOutDxIdeal.τ).loc Cert.KernelOutDxIdeal.main_arg0)
      ∧ r.2.mem ((c.tc : Thread Cert.KernelOutDxIdeal.nD Cert.KernelOutDxIdeal.τ).loc Cert.KernelOutDxIdeal.main_arg1) = m ((c.tc : Thread Cert.KernelOutDxIdeal.nD Cert.KernelOutDxIdeal.τ).loc Cert.KernelOutDxIdeal.main_arg1))
      ∧ r.2.sem = fun _ => 0)

def quiescent_ReferenceOutDxIdeal [hReferenceOutDxIdeal : Cert.ReferenceOutDxIdeal.Facts] : Prop :=
  ∀ (m : (ℓ : Loc Cert.ReferenceOutDxIdeal.nD Cert.ReferenceOutDxIdeal.τ Cert.ReferenceOutDxIdeal.sig) → Buf (Elt Ideal) ℓ) (g : Dev Cert.ReferenceOutDxIdeal.nD → PrngReg), Pre_ReferenceOutDxIdeal m →
    θ_run (Cert.ReferenceOutDxIdeal.defs (F := Ideal)) (onTc (τ := Cert.ReferenceOutDxIdeal.τ) (Cert.ReferenceOutDxIdeal.main (F := Ideal))) ⟨m, fun _ => 0, g⟩ (fun r => (∀ c : Dev Cert.ReferenceOutDxIdeal.nD,
      r.2.mem ((c.tc : Thread Cert.ReferenceOutDxIdeal.nD Cert.ReferenceOutDxIdeal.τ).loc Cert.ReferenceOutDxIdeal.main_arg0) = m ((c.tc : Thread Cert.ReferenceOutDxIdeal.nD Cert.ReferenceOutDxIdeal.τ).loc Cert.ReferenceOutDxIdeal.main_arg0)
      ∧ r.2.mem ((c.tc : Thread Cert.ReferenceOutDxIdeal.nD Cert.ReferenceOutDxIdeal.τ).loc Cert.ReferenceOutDxIdeal.main_arg1) = m ((c.tc : Thread Cert.ReferenceOutDxIdeal.nD Cert.ReferenceOutDxIdeal.τ).loc Cert.ReferenceOutDxIdeal.main_arg1))
      ∧ r.2.sem = fun _ => 0)

def quiescent_KernelBranchDw [hKernelBranchDw : Cert.KernelBranchDw.Facts] : Prop :=
  ∀ (m : (ℓ : Loc Cert.KernelBranchDw.nD Cert.KernelBranchDw.τ Cert.KernelBranchDw.sig) → Buf (Elt Bits) ℓ) (g : Dev Cert.KernelBranchDw.nD → PrngReg), Pre_KernelBranchDw m →
    θ_run (Cert.KernelBranchDw.defs (F := Bits)) (onTc (τ := Cert.KernelBranchDw.τ) (Cert.KernelBranchDw.main (F := Bits))) ⟨m, fun _ => 0, g⟩ (fun r => (∀ c : Dev Cert.KernelBranchDw.nD,
      r.2.mem ((c.tc : Thread Cert.KernelBranchDw.nD Cert.KernelBranchDw.τ).loc Cert.KernelBranchDw.main_arg0) = m ((c.tc : Thread Cert.KernelBranchDw.nD Cert.KernelBranchDw.τ).loc Cert.KernelBranchDw.main_arg0)
      ∧ r.2.mem ((c.tc : Thread Cert.KernelBranchDw.nD Cert.KernelBranchDw.τ).loc Cert.KernelBranchDw.main_arg1) = m ((c.tc : Thread Cert.KernelBranchDw.nD Cert.KernelBranchDw.τ).loc Cert.KernelBranchDw.main_arg1))
      ∧ r.2.sem = fun _ => 0)

def quiescent_KernelBranchDwIdeal [hKernelBranchDwIdeal : Cert.KernelBranchDwIdeal.Facts] : Prop :=
  ∀ (m : (ℓ : Loc Cert.KernelBranchDwIdeal.nD Cert.KernelBranchDwIdeal.τ Cert.KernelBranchDwIdeal.sig) → Buf (Elt Ideal) ℓ) (g : Dev Cert.KernelBranchDwIdeal.nD → PrngReg), Pre_KernelBranchDwIdeal m →
    θ_run (Cert.KernelBranchDwIdeal.defs (F := Ideal)) (onTc (τ := Cert.KernelBranchDwIdeal.τ) (Cert.KernelBranchDwIdeal.main (F := Ideal))) ⟨m, fun _ => 0, g⟩ (fun r => (∀ c : Dev Cert.KernelBranchDwIdeal.nD,
      r.2.mem ((c.tc : Thread Cert.KernelBranchDwIdeal.nD Cert.KernelBranchDwIdeal.τ).loc Cert.KernelBranchDwIdeal.main_arg0) = m ((c.tc : Thread Cert.KernelBranchDwIdeal.nD Cert.KernelBranchDwIdeal.τ).loc Cert.KernelBranchDwIdeal.main_arg0)
      ∧ r.2.mem ((c.tc : Thread Cert.KernelBranchDwIdeal.nD Cert.KernelBranchDwIdeal.τ).loc Cert.KernelBranchDwIdeal.main_arg1) = m ((c.tc : Thread Cert.KernelBranchDwIdeal.nD Cert.KernelBranchDwIdeal.τ).loc Cert.KernelBranchDwIdeal.main_arg1))
      ∧ r.2.sem = fun _ => 0)

def quiescent_ReferenceBranchDwIdeal [hReferenceBranchDwIdeal : Cert.ReferenceBranchDwIdeal.Facts] : Prop :=
  ∀ (m : (ℓ : Loc Cert.ReferenceBranchDwIdeal.nD Cert.ReferenceBranchDwIdeal.τ Cert.ReferenceBranchDwIdeal.sig) → Buf (Elt Ideal) ℓ) (g : Dev Cert.ReferenceBranchDwIdeal.nD → PrngReg), Pre_ReferenceBranchDwIdeal m →
    θ_run (Cert.ReferenceBranchDwIdeal.defs (F := Ideal)) (onTc (τ := Cert.ReferenceBranchDwIdeal.τ) (Cert.ReferenceBranchDwIdeal.main (F := Ideal))) ⟨m, fun _ => 0, g⟩ (fun r => (∀ c : Dev Cert.ReferenceBranchDwIdeal.nD,
      r.2.mem ((c.tc : Thread Cert.ReferenceBranchDwIdeal.nD Cert.ReferenceBranchDwIdeal.τ).loc Cert.ReferenceBranchDwIdeal.main_arg0) = m ((c.tc : Thread Cert.ReferenceBranchDwIdeal.nD Cert.ReferenceBranchDwIdeal.τ).loc Cert.ReferenceBranchDwIdeal.main_arg0)
      ∧ r.2.mem ((c.tc : Thread Cert.ReferenceBranchDwIdeal.nD Cert.ReferenceBranchDwIdeal.τ).loc Cert.ReferenceBranchDwIdeal.main_arg1) = m ((c.tc : Thread Cert.ReferenceBranchDwIdeal.nD Cert.ReferenceBranchDwIdeal.τ).loc Cert.ReferenceBranchDwIdeal.main_arg1))
      ∧ r.2.sem = fun _ => 0)

def quiescent_KernelBranchDx [hKernelBranchDx : Cert.KernelBranchDx.Facts] : Prop :=
  ∀ (m : (ℓ : Loc Cert.KernelBranchDx.nD Cert.KernelBranchDx.τ Cert.KernelBranchDx.sig) → Buf (Elt Bits) ℓ) (g : Dev Cert.KernelBranchDx.nD → PrngReg), Pre_KernelBranchDx m →
    θ_run (Cert.KernelBranchDx.defs (F := Bits)) (onTc (τ := Cert.KernelBranchDx.τ) (Cert.KernelBranchDx.main (F := Bits))) ⟨m, fun _ => 0, g⟩ (fun r => (∀ c : Dev Cert.KernelBranchDx.nD,
      r.2.mem ((c.tc : Thread Cert.KernelBranchDx.nD Cert.KernelBranchDx.τ).loc Cert.KernelBranchDx.main_arg0) = m ((c.tc : Thread Cert.KernelBranchDx.nD Cert.KernelBranchDx.τ).loc Cert.KernelBranchDx.main_arg0)
      ∧ r.2.mem ((c.tc : Thread Cert.KernelBranchDx.nD Cert.KernelBranchDx.τ).loc Cert.KernelBranchDx.main_arg1) = m ((c.tc : Thread Cert.KernelBranchDx.nD Cert.KernelBranchDx.τ).loc Cert.KernelBranchDx.main_arg1))
      ∧ r.2.sem = fun _ => 0)

def quiescent_KernelBranchDxIdeal [hKernelBranchDxIdeal : Cert.KernelBranchDxIdeal.Facts] : Prop :=
  ∀ (m : (ℓ : Loc Cert.KernelBranchDxIdeal.nD Cert.KernelBranchDxIdeal.τ Cert.KernelBranchDxIdeal.sig) → Buf (Elt Ideal) ℓ) (g : Dev Cert.KernelBranchDxIdeal.nD → PrngReg), Pre_KernelBranchDxIdeal m →
    θ_run (Cert.KernelBranchDxIdeal.defs (F := Ideal)) (onTc (τ := Cert.KernelBranchDxIdeal.τ) (Cert.KernelBranchDxIdeal.main (F := Ideal))) ⟨m, fun _ => 0, g⟩ (fun r => (∀ c : Dev Cert.KernelBranchDxIdeal.nD,
      r.2.mem ((c.tc : Thread Cert.KernelBranchDxIdeal.nD Cert.KernelBranchDxIdeal.τ).loc Cert.KernelBranchDxIdeal.main_arg0) = m ((c.tc : Thread Cert.KernelBranchDxIdeal.nD Cert.KernelBranchDxIdeal.τ).loc Cert.KernelBranchDxIdeal.main_arg0)
      ∧ r.2.mem ((c.tc : Thread Cert.KernelBranchDxIdeal.nD Cert.KernelBranchDxIdeal.τ).loc Cert.KernelBranchDxIdeal.main_arg1) = m ((c.tc : Thread Cert.KernelBranchDxIdeal.nD Cert.KernelBranchDxIdeal.τ).loc Cert.KernelBranchDxIdeal.main_arg1))
      ∧ r.2.sem = fun _ => 0)

def quiescent_ReferenceBranchDxIdeal [hReferenceBranchDxIdeal : Cert.ReferenceBranchDxIdeal.Facts] : Prop :=
  ∀ (m : (ℓ : Loc Cert.ReferenceBranchDxIdeal.nD Cert.ReferenceBranchDxIdeal.τ Cert.ReferenceBranchDxIdeal.sig) → Buf (Elt Ideal) ℓ) (g : Dev Cert.ReferenceBranchDxIdeal.nD → PrngReg), Pre_ReferenceBranchDxIdeal m →
    θ_run (Cert.ReferenceBranchDxIdeal.defs (F := Ideal)) (onTc (τ := Cert.ReferenceBranchDxIdeal.τ) (Cert.ReferenceBranchDxIdeal.main (F := Ideal))) ⟨m, fun _ => 0, g⟩ (fun r => (∀ c : Dev Cert.ReferenceBranchDxIdeal.nD,
      r.2.mem ((c.tc : Thread Cert.ReferenceBranchDxIdeal.nD Cert.ReferenceBranchDxIdeal.τ).loc Cert.ReferenceBranchDxIdeal.main_arg0) = m ((c.tc : Thread Cert.ReferenceBranchDxIdeal.nD Cert.ReferenceBranchDxIdeal.τ).loc Cert.ReferenceBranchDxIdeal.main_arg0)
      ∧ r.2.mem ((c.tc : Thread Cert.ReferenceBranchDxIdeal.nD Cert.ReferenceBranchDxIdeal.τ).loc Cert.ReferenceBranchDxIdeal.main_arg1) = m ((c.tc : Thread Cert.ReferenceBranchDxIdeal.nD Cert.ReferenceBranchDxIdeal.τ).loc Cert.ReferenceBranchDxIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1)
      ∧ r.2.mem ((c.tc : Thread Cert.KernelOut.nD Cert.KernelOut.τ).loc Cert.KernelOut.main_arg2) = m ((c.tc : Thread Cert.KernelOut.nD Cert.KernelOut.τ).loc Cert.KernelOut.main_arg2))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
      ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1)
      ∧ r.2.mem ((c.tc : Thread Cert.ReferenceOutIdeal.nD Cert.ReferenceOutIdeal.τ).loc Cert.ReferenceOutIdeal.main_arg2) = m ((c.tc : Thread Cert.ReferenceOutIdeal.nD Cert.ReferenceOutIdeal.τ).loc Cert.ReferenceOutIdeal.main_arg2))
      ∧ r.2.sem = fun _ => 0)

def quiescent_KernelBranch [hKernelBranch : Cert.KernelBranch.Facts] : Prop :=
  ∀ (m : (ℓ : Loc Cert.KernelBranch.nD Cert.KernelBranch.τ Cert.KernelBranch.sig) → Buf (Elt Bits) ℓ) (g : Dev Cert.KernelBranch.nD → PrngReg), Pre_KernelBranch m →
    θ_run (Cert.KernelBranch.defs (F := Bits)) (onTc (τ := Cert.KernelBranch.τ) (Cert.KernelBranch.main (F := Bits))) ⟨m, fun _ => 0, g⟩ (fun r => (∀ c : Dev Cert.KernelBranch.nD,
      r.2.mem ((c.tc : Thread Cert.KernelBranch.nD Cert.KernelBranch.τ).loc Cert.KernelBranch.main_arg0) = m ((c.tc : Thread Cert.KernelBranch.nD Cert.KernelBranch.τ).loc Cert.KernelBranch.main_arg0)
      ∧ r.2.mem ((c.tc : Thread Cert.KernelBranch.nD Cert.KernelBranch.τ).loc Cert.KernelBranch.main_arg1) = m ((c.tc : Thread Cert.KernelBranch.nD Cert.KernelBranch.τ).loc Cert.KernelBranch.main_arg1))
      ∧ r.2.sem = fun _ => 0)

def quiescent_KernelBranchIdeal [hKernelBranchIdeal : Cert.KernelBranchIdeal.Facts] : Prop :=
  ∀ (m : (ℓ : Loc Cert.KernelBranchIdeal.nD Cert.KernelBranchIdeal.τ Cert.KernelBranchIdeal.sig) → Buf (Elt Ideal) ℓ) (g : Dev Cert.KernelBranchIdeal.nD → PrngReg), Pre_KernelBranchIdeal m →
    θ_run (Cert.KernelBranchIdeal.defs (F := Ideal)) (onTc (τ := Cert.KernelBranchIdeal.τ) (Cert.KernelBranchIdeal.main (F := Ideal))) ⟨m, fun _ => 0, g⟩ (fun r => (∀ c : Dev Cert.KernelBranchIdeal.nD,
      r.2.mem ((c.tc : Thread Cert.KernelBranchIdeal.nD Cert.KernelBranchIdeal.τ).loc Cert.KernelBranchIdeal.main_arg0) = m ((c.tc : Thread Cert.KernelBranchIdeal.nD Cert.KernelBranchIdeal.τ).loc Cert.KernelBranchIdeal.main_arg0)
      ∧ r.2.mem ((c.tc : Thread Cert.KernelBranchIdeal.nD Cert.KernelBranchIdeal.τ).loc Cert.KernelBranchIdeal.main_arg1) = m ((c.tc : Thread Cert.KernelBranchIdeal.nD Cert.KernelBranchIdeal.τ).loc Cert.KernelBranchIdeal.main_arg1))
      ∧ r.2.sem = fun _ => 0)

def quiescent_ReferenceBranchIdeal [hReferenceBranchIdeal : Cert.ReferenceBranchIdeal.Facts] : Prop :=
  ∀ (m : (ℓ : Loc Cert.ReferenceBranchIdeal.nD Cert.ReferenceBranchIdeal.τ Cert.ReferenceBranchIdeal.sig) → Buf (Elt Ideal) ℓ) (g : Dev Cert.ReferenceBranchIdeal.nD → PrngReg), Pre_ReferenceBranchIdeal m →
    θ_run (Cert.ReferenceBranchIdeal.defs (F := Ideal)) (onTc (τ := Cert.ReferenceBranchIdeal.τ) (Cert.ReferenceBranchIdeal.main (F := Ideal))) ⟨m, fun _ => 0, g⟩ (fun r => (∀ c : Dev Cert.ReferenceBranchIdeal.nD,
      r.2.mem ((c.tc : Thread Cert.ReferenceBranchIdeal.nD Cert.ReferenceBranchIdeal.τ).loc Cert.ReferenceBranchIdeal.main_arg0) = m ((c.tc : Thread Cert.ReferenceBranchIdeal.nD Cert.ReferenceBranchIdeal.τ).loc Cert.ReferenceBranchIdeal.main_arg0)
      ∧ r.2.mem ((c.tc : Thread Cert.ReferenceBranchIdeal.nD Cert.ReferenceBranchIdeal.τ).loc Cert.ReferenceBranchIdeal.main_arg1) = m ((c.tc : Thread Cert.ReferenceBranchIdeal.nD Cert.ReferenceBranchIdeal.τ).loc Cert.ReferenceBranchIdeal.main_arg1))
      ∧ r.2.sem = fun _ => 0)

def quiescent_KernelXaQ [hKernelXaQ : Cert.KernelXaQ.Facts] : Prop :=
  ∀ (m : (ℓ : Loc Cert.KernelXaQ.nD Cert.KernelXaQ.τ Cert.KernelXaQ.sig) → Buf (Elt Bits) ℓ) (g : Dev Cert.KernelXaQ.nD → PrngReg), Pre_KernelXaQ m →
    θ_run (Cert.KernelXaQ.defs (F := Bits)) (onTc (τ := Cert.KernelXaQ.τ) (Cert.KernelXaQ.main (F := Bits))) ⟨m, fun _ => 0, g⟩ (fun r => (∀ c : Dev Cert.KernelXaQ.nD,
      r.2.mem ((c.tc : Thread Cert.KernelXaQ.nD Cert.KernelXaQ.τ).loc Cert.KernelXaQ.main_arg0) = m ((c.tc : Thread Cert.KernelXaQ.nD Cert.KernelXaQ.τ).loc Cert.KernelXaQ.main_arg0)
      ∧ r.2.mem ((c.tc : Thread Cert.KernelXaQ.nD Cert.KernelXaQ.τ).loc Cert.KernelXaQ.main_arg1) = m ((c.tc : Thread Cert.KernelXaQ.nD Cert.KernelXaQ.τ).loc Cert.KernelXaQ.main_arg1))
      ∧ r.2.sem = fun _ => 0)

def quiescent_KernelXaQIdeal [hKernelXaQIdeal : Cert.KernelXaQIdeal.Facts] : Prop :=
  ∀ (m : (ℓ : Loc Cert.KernelXaQIdeal.nD Cert.KernelXaQIdeal.τ Cert.KernelXaQIdeal.sig) → Buf (Elt Ideal) ℓ) (g : Dev Cert.KernelXaQIdeal.nD → PrngReg), Pre_KernelXaQIdeal m →
    θ_run (Cert.KernelXaQIdeal.defs (F := Ideal)) (onTc (τ := Cert.KernelXaQIdeal.τ) (Cert.KernelXaQIdeal.main (F := Ideal))) ⟨m, fun _ => 0, g⟩ (fun r => (∀ c : Dev Cert.KernelXaQIdeal.nD,
      r.2.mem ((c.tc : Thread Cert.KernelXaQIdeal.nD Cert.KernelXaQIdeal.τ).loc Cert.KernelXaQIdeal.main_arg0) = m ((c.tc : Thread Cert.KernelXaQIdeal.nD Cert.KernelXaQIdeal.τ).loc Cert.KernelXaQIdeal.main_arg0)
      ∧ r.2.mem ((c.tc : Thread Cert.KernelXaQIdeal.nD Cert.KernelXaQIdeal.τ).loc Cert.KernelXaQIdeal.main_arg1) = m ((c.tc : Thread Cert.KernelXaQIdeal.nD Cert.KernelXaQIdeal.τ).loc Cert.KernelXaQIdeal.main_arg1))
      ∧ r.2.sem = fun _ => 0)

def quiescent_ReferenceXaQIdeal [hReferenceXaQIdeal : Cert.ReferenceXaQIdeal.Facts] : Prop :=
  ∀ (m : (ℓ : Loc Cert.ReferenceXaQIdeal.nD Cert.ReferenceXaQIdeal.τ Cert.ReferenceXaQIdeal.sig) → Buf (Elt Ideal) ℓ) (g : Dev Cert.ReferenceXaQIdeal.nD → PrngReg), Pre_ReferenceXaQIdeal m →
    θ_run (Cert.ReferenceXaQIdeal.defs (F := Ideal)) (onTc (τ := Cert.ReferenceXaQIdeal.τ) (Cert.ReferenceXaQIdeal.main (F := Ideal))) ⟨m, fun _ => 0, g⟩ (fun r => (∀ c : Dev Cert.ReferenceXaQIdeal.nD,
      r.2.mem ((c.tc : Thread Cert.ReferenceXaQIdeal.nD Cert.ReferenceXaQIdeal.τ).loc Cert.ReferenceXaQIdeal.main_arg0) = m ((c.tc : Thread Cert.ReferenceXaQIdeal.nD Cert.ReferenceXaQIdeal.τ).loc Cert.ReferenceXaQIdeal.main_arg0)
      ∧ r.2.mem ((c.tc : Thread Cert.ReferenceXaQIdeal.nD Cert.ReferenceXaQIdeal.τ).loc Cert.ReferenceXaQIdeal.main_arg1) = m ((c.tc : Thread Cert.ReferenceXaQIdeal.nD Cert.ReferenceXaQIdeal.τ).loc Cert.ReferenceXaQIdeal.main_arg1))
      ∧ r.2.sem = fun _ => 0)

def quiescent_KernelXaQDw [hKernelXaQDw : Cert.KernelXaQDw.Facts] : Prop :=
  ∀ (m : (ℓ : Loc Cert.KernelXaQDw.nD Cert.KernelXaQDw.τ Cert.KernelXaQDw.sig) → Buf (Elt Bits) ℓ) (g : Dev Cert.KernelXaQDw.nD → PrngReg), Pre_KernelXaQDw m →
    θ_run (Cert.KernelXaQDw.defs (F := Bits)) (onTc (τ := Cert.KernelXaQDw.τ) (Cert.KernelXaQDw.main (F := Bits))) ⟨m, fun _ => 0, g⟩ (fun r => (∀ c : Dev Cert.KernelXaQDw.nD,
      r.2.mem ((c.tc : Thread Cert.KernelXaQDw.nD Cert.KernelXaQDw.τ).loc Cert.KernelXaQDw.main_arg0) = m ((c.tc : Thread Cert.KernelXaQDw.nD Cert.KernelXaQDw.τ).loc Cert.KernelXaQDw.main_arg0)
      ∧ r.2.mem ((c.tc : Thread Cert.KernelXaQDw.nD Cert.KernelXaQDw.τ).loc Cert.KernelXaQDw.main_arg1) = m ((c.tc : Thread Cert.KernelXaQDw.nD Cert.KernelXaQDw.τ).loc Cert.KernelXaQDw.main_arg1))
      ∧ r.2.sem = fun _ => 0)

def quiescent_KernelXaQDwIdeal [hKernelXaQDwIdeal : Cert.KernelXaQDwIdeal.Facts] : Prop :=
  ∀ (m : (ℓ : Loc Cert.KernelXaQDwIdeal.nD Cert.KernelXaQDwIdeal.τ Cert.KernelXaQDwIdeal.sig) → Buf (Elt Ideal) ℓ) (g : Dev Cert.KernelXaQDwIdeal.nD → PrngReg), Pre_KernelXaQDwIdeal m →
    θ_run (Cert.KernelXaQDwIdeal.defs (F := Ideal)) (onTc (τ := Cert.KernelXaQDwIdeal.τ) (Cert.KernelXaQDwIdeal.main (F := Ideal))) ⟨m, fun _ => 0, g⟩ (fun r => (∀ c : Dev Cert.KernelXaQDwIdeal.nD,
      r.2.mem ((c.tc : Thread Cert.KernelXaQDwIdeal.nD Cert.KernelXaQDwIdeal.τ).loc Cert.KernelXaQDwIdeal.main_arg0) = m ((c.tc : Thread Cert.KernelXaQDwIdeal.nD Cert.KernelXaQDwIdeal.τ).loc Cert.KernelXaQDwIdeal.main_arg0)
      ∧ r.2.mem ((c.tc : Thread Cert.KernelXaQDwIdeal.nD Cert.KernelXaQDwIdeal.τ).loc Cert.KernelXaQDwIdeal.main_arg1) = m ((c.tc : Thread Cert.KernelXaQDwIdeal.nD Cert.KernelXaQDwIdeal.τ).loc Cert.KernelXaQDwIdeal.main_arg1))
      ∧ r.2.sem = fun _ => 0)

def quiescent_ReferenceXaQDwIdeal [hReferenceXaQDwIdeal : Cert.ReferenceXaQDwIdeal.Facts] : Prop :=
  ∀ (m : (ℓ : Loc Cert.ReferenceXaQDwIdeal.nD Cert.ReferenceXaQDwIdeal.τ Cert.ReferenceXaQDwIdeal.sig) → Buf (Elt Ideal) ℓ) (g : Dev Cert.ReferenceXaQDwIdeal.nD → PrngReg), Pre_ReferenceXaQDwIdeal m →
    θ_run (Cert.ReferenceXaQDwIdeal.defs (F := Ideal)) (onTc (τ := Cert.ReferenceXaQDwIdeal.τ) (Cert.ReferenceXaQDwIdeal.main (F := Ideal))) ⟨m, fun _ => 0, g⟩ (fun r => (∀ c : Dev Cert.ReferenceXaQDwIdeal.nD,
      r.2.mem ((c.tc : Thread Cert.ReferenceXaQDwIdeal.nD Cert.ReferenceXaQDwIdeal.τ).loc Cert.ReferenceXaQDwIdeal.main_arg0) = m ((c.tc : Thread Cert.ReferenceXaQDwIdeal.nD Cert.ReferenceXaQDwIdeal.τ).loc Cert.ReferenceXaQDwIdeal.main_arg0)
      ∧ r.2.mem ((c.tc : Thread Cert.ReferenceXaQDwIdeal.nD Cert.ReferenceXaQDwIdeal.τ).loc Cert.ReferenceXaQDwIdeal.main_arg1) = m ((c.tc : Thread Cert.ReferenceXaQDwIdeal.nD Cert.ReferenceXaQDwIdeal.τ).loc Cert.ReferenceXaQDwIdeal.main_arg1))
      ∧ r.2.sem = fun _ => 0)

def quiescent_KernelXaQDx [hKernelXaQDx : Cert.KernelXaQDx.Facts] : Prop :=
  ∀ (m : (ℓ : Loc Cert.KernelXaQDx.nD Cert.KernelXaQDx.τ Cert.KernelXaQDx.sig) → Buf (Elt Bits) ℓ) (g : Dev Cert.KernelXaQDx.nD → PrngReg), Pre_KernelXaQDx m →
    θ_run (Cert.KernelXaQDx.defs (F := Bits)) (onTc (τ := Cert.KernelXaQDx.τ) (Cert.KernelXaQDx.main (F := Bits))) ⟨m, fun _ => 0, g⟩ (fun r => (∀ c : Dev Cert.KernelXaQDx.nD,
      r.2.mem ((c.tc : Thread Cert.KernelXaQDx.nD Cert.KernelXaQDx.τ).loc Cert.KernelXaQDx.main_arg0) = m ((c.tc : Thread Cert.KernelXaQDx.nD Cert.KernelXaQDx.τ).loc Cert.KernelXaQDx.main_arg0)
      ∧ r.2.mem ((c.tc : Thread Cert.KernelXaQDx.nD Cert.KernelXaQDx.τ).loc Cert.KernelXaQDx.main_arg1) = m ((c.tc : Thread Cert.KernelXaQDx.nD Cert.KernelXaQDx.τ).loc Cert.KernelXaQDx.main_arg1))
      ∧ r.2.sem = fun _ => 0)

def quiescent_KernelXaQDxIdeal [hKernelXaQDxIdeal : Cert.KernelXaQDxIdeal.Facts] : Prop :=
  ∀ (m : (ℓ : Loc Cert.KernelXaQDxIdeal.nD Cert.KernelXaQDxIdeal.τ Cert.KernelXaQDxIdeal.sig) → Buf (Elt Ideal) ℓ) (g : Dev Cert.KernelXaQDxIdeal.nD → PrngReg), Pre_KernelXaQDxIdeal m →
    θ_run (Cert.KernelXaQDxIdeal.defs (F := Ideal)) (onTc (τ := Cert.KernelXaQDxIdeal.τ) (Cert.KernelXaQDxIdeal.main (F := Ideal))) ⟨m, fun _ => 0, g⟩ (fun r => (∀ c : Dev Cert.KernelXaQDxIdeal.nD,
      r.2.mem ((c.tc : Thread Cert.KernelXaQDxIdeal.nD Cert.KernelXaQDxIdeal.τ).loc Cert.KernelXaQDxIdeal.main_arg0) = m ((c.tc : Thread Cert.KernelXaQDxIdeal.nD Cert.KernelXaQDxIdeal.τ).loc Cert.KernelXaQDxIdeal.main_arg0)
      ∧ r.2.mem ((c.tc : Thread Cert.KernelXaQDxIdeal.nD Cert.KernelXaQDxIdeal.τ).loc Cert.KernelXaQDxIdeal.main_arg1) = m ((c.tc : Thread Cert.KernelXaQDxIdeal.nD Cert.KernelXaQDxIdeal.τ).loc Cert.KernelXaQDxIdeal.main_arg1))
      ∧ r.2.sem = fun _ => 0)

def quiescent_ReferenceXaQDxIdeal [hReferenceXaQDxIdeal : Cert.ReferenceXaQDxIdeal.Facts] : Prop :=
  ∀ (m : (ℓ : Loc Cert.ReferenceXaQDxIdeal.nD Cert.ReferenceXaQDxIdeal.τ Cert.ReferenceXaQDxIdeal.sig) → Buf (Elt Ideal) ℓ) (g : Dev Cert.ReferenceXaQDxIdeal.nD → PrngReg), Pre_ReferenceXaQDxIdeal m →
    θ_run (Cert.ReferenceXaQDxIdeal.defs (F := Ideal)) (onTc (τ := Cert.ReferenceXaQDxIdeal.τ) (Cert.ReferenceXaQDxIdeal.main (F := Ideal))) ⟨m, fun _ => 0, g⟩ (fun r => (∀ c : Dev Cert.ReferenceXaQDxIdeal.nD,
      r.2.mem ((c.tc : Thread Cert.ReferenceXaQDxIdeal.nD Cert.ReferenceXaQDxIdeal.τ).loc Cert.ReferenceXaQDxIdeal.main_arg0) = m ((c.tc : Thread Cert.ReferenceXaQDxIdeal.nD Cert.ReferenceXaQDxIdeal.τ).loc Cert.ReferenceXaQDxIdeal.main_arg0)
      ∧ r.2.mem ((c.tc : Thread Cert.ReferenceXaQDxIdeal.nD Cert.ReferenceXaQDxIdeal.τ).loc Cert.ReferenceXaQDxIdeal.main_arg1) = m ((c.tc : Thread Cert.ReferenceXaQDxIdeal.nD Cert.ReferenceXaQDxIdeal.τ).loc Cert.ReferenceXaQDxIdeal.main_arg1))
      ∧ r.2.sem = fun _ => 0)

def quiescent_KernelXaO [hKernelXaO : Cert.KernelXaO.Facts] : Prop :=
  ∀ (m : (ℓ : Loc Cert.KernelXaO.nD Cert.KernelXaO.τ Cert.KernelXaO.sig) → Buf (Elt Bits) ℓ) (g : Dev Cert.KernelXaO.nD → PrngReg), Pre_KernelXaO m →
    θ_run (Cert.KernelXaO.defs (F := Bits)) (onTc (τ := Cert.KernelXaO.τ) (Cert.KernelXaO.main (F := Bits))) ⟨m, fun _ => 0, g⟩ (fun r => (∀ c : Dev Cert.KernelXaO.nD,
      r.2.mem ((c.tc : Thread Cert.KernelXaO.nD Cert.KernelXaO.τ).loc Cert.KernelXaO.main_arg0) = m ((c.tc : Thread Cert.KernelXaO.nD Cert.KernelXaO.τ).loc Cert.KernelXaO.main_arg0)
      ∧ r.2.mem ((c.tc : Thread Cert.KernelXaO.nD Cert.KernelXaO.τ).loc Cert.KernelXaO.main_arg1) = m ((c.tc : Thread Cert.KernelXaO.nD Cert.KernelXaO.τ).loc Cert.KernelXaO.main_arg1)
      ∧ r.2.mem ((c.tc : Thread Cert.KernelXaO.nD Cert.KernelXaO.τ).loc Cert.KernelXaO.main_arg2) = m ((c.tc : Thread Cert.KernelXaO.nD Cert.KernelXaO.τ).loc Cert.KernelXaO.main_arg2))
      ∧ r.2.sem = fun _ => 0)

def quiescent_KernelXaOIdeal [hKernelXaOIdeal : Cert.KernelXaOIdeal.Facts] : Prop :=
  ∀ (m : (ℓ : Loc Cert.KernelXaOIdeal.nD Cert.KernelXaOIdeal.τ Cert.KernelXaOIdeal.sig) → Buf (Elt Ideal) ℓ) (g : Dev Cert.KernelXaOIdeal.nD → PrngReg), Pre_KernelXaOIdeal m →
    θ_run (Cert.KernelXaOIdeal.defs (F := Ideal)) (onTc (τ := Cert.KernelXaOIdeal.τ) (Cert.KernelXaOIdeal.main (F := Ideal))) ⟨m, fun _ => 0, g⟩ (fun r => (∀ c : Dev Cert.KernelXaOIdeal.nD,
      r.2.mem ((c.tc : Thread Cert.KernelXaOIdeal.nD Cert.KernelXaOIdeal.τ).loc Cert.KernelXaOIdeal.main_arg0) = m ((c.tc : Thread Cert.KernelXaOIdeal.nD Cert.KernelXaOIdeal.τ).loc Cert.KernelXaOIdeal.main_arg0)
      ∧ r.2.mem ((c.tc : Thread Cert.KernelXaOIdeal.nD Cert.KernelXaOIdeal.τ).loc Cert.KernelXaOIdeal.main_arg1) = m ((c.tc : Thread Cert.KernelXaOIdeal.nD Cert.KernelXaOIdeal.τ).loc Cert.KernelXaOIdeal.main_arg1)
      ∧ r.2.mem ((c.tc : Thread Cert.KernelXaOIdeal.nD Cert.KernelXaOIdeal.τ).loc Cert.KernelXaOIdeal.main_arg2) = m ((c.tc : Thread Cert.KernelXaOIdeal.nD Cert.KernelXaOIdeal.τ).loc Cert.KernelXaOIdeal.main_arg2))
      ∧ r.2.sem = fun _ => 0)

def quiescent_ReferenceXaOIdeal [hReferenceXaOIdeal : Cert.ReferenceXaOIdeal.Facts] : Prop :=
  ∀ (m : (ℓ : Loc Cert.ReferenceXaOIdeal.nD Cert.ReferenceXaOIdeal.τ Cert.ReferenceXaOIdeal.sig) → Buf (Elt Ideal) ℓ) (g : Dev Cert.ReferenceXaOIdeal.nD → PrngReg), Pre_ReferenceXaOIdeal m →
    θ_run (Cert.ReferenceXaOIdeal.defs (F := Ideal)) (onTc (τ := Cert.ReferenceXaOIdeal.τ) (Cert.ReferenceXaOIdeal.main (F := Ideal))) ⟨m, fun _ => 0, g⟩ (fun r => (∀ c : Dev Cert.ReferenceXaOIdeal.nD,
      r.2.mem ((c.tc : Thread Cert.ReferenceXaOIdeal.nD Cert.ReferenceXaOIdeal.τ).loc Cert.ReferenceXaOIdeal.main_arg0) = m ((c.tc : Thread Cert.ReferenceXaOIdeal.nD Cert.ReferenceXaOIdeal.τ).loc Cert.ReferenceXaOIdeal.main_arg0)
      ∧ r.2.mem ((c.tc : Thread Cert.ReferenceXaOIdeal.nD Cert.ReferenceXaOIdeal.τ).loc Cert.ReferenceXaOIdeal.main_arg1) = m ((c.tc : Thread Cert.ReferenceXaOIdeal.nD Cert.ReferenceXaOIdeal.τ).loc Cert.ReferenceXaOIdeal.main_arg1)
      ∧ r.2.mem ((c.tc : Thread Cert.ReferenceXaOIdeal.nD Cert.ReferenceXaOIdeal.τ).loc Cert.ReferenceXaOIdeal.main_arg2) = m ((c.tc : Thread Cert.ReferenceXaOIdeal.nD Cert.ReferenceXaOIdeal.τ).loc Cert.ReferenceXaOIdeal.main_arg2))
      ∧ r.2.sem = fun _ => 0)

def quiescent_KernelXaODw [hKernelXaODw : Cert.KernelXaODw.Facts] : Prop :=
  ∀ (m : (ℓ : Loc Cert.KernelXaODw.nD Cert.KernelXaODw.τ Cert.KernelXaODw.sig) → Buf (Elt Bits) ℓ) (g : Dev Cert.KernelXaODw.nD → PrngReg), Pre_KernelXaODw m →
    θ_run (Cert.KernelXaODw.defs (F := Bits)) (onTc (τ := Cert.KernelXaODw.τ) (Cert.KernelXaODw.main (F := Bits))) ⟨m, fun _ => 0, g⟩ (fun r => (∀ c : Dev Cert.KernelXaODw.nD,
      r.2.mem ((c.tc : Thread Cert.KernelXaODw.nD Cert.KernelXaODw.τ).loc Cert.KernelXaODw.main_arg0) = m ((c.tc : Thread Cert.KernelXaODw.nD Cert.KernelXaODw.τ).loc Cert.KernelXaODw.main_arg0)
      ∧ r.2.mem ((c.tc : Thread Cert.KernelXaODw.nD Cert.KernelXaODw.τ).loc Cert.KernelXaODw.main_arg1) = m ((c.tc : Thread Cert.KernelXaODw.nD Cert.KernelXaODw.τ).loc Cert.KernelXaODw.main_arg1))
      ∧ r.2.sem = fun _ => 0)

def quiescent_KernelXaODwIdeal [hKernelXaODwIdeal : Cert.KernelXaODwIdeal.Facts] : Prop :=
  ∀ (m : (ℓ : Loc Cert.KernelXaODwIdeal.nD Cert.KernelXaODwIdeal.τ Cert.KernelXaODwIdeal.sig) → Buf (Elt Ideal) ℓ) (g : Dev Cert.KernelXaODwIdeal.nD → PrngReg), Pre_KernelXaODwIdeal m →
    θ_run (Cert.KernelXaODwIdeal.defs (F := Ideal)) (onTc (τ := Cert.KernelXaODwIdeal.τ) (Cert.KernelXaODwIdeal.main (F := Ideal))) ⟨m, fun _ => 0, g⟩ (fun r => (∀ c : Dev Cert.KernelXaODwIdeal.nD,
      r.2.mem ((c.tc : Thread Cert.KernelXaODwIdeal.nD Cert.KernelXaODwIdeal.τ).loc Cert.KernelXaODwIdeal.main_arg0) = m ((c.tc : Thread Cert.KernelXaODwIdeal.nD Cert.KernelXaODwIdeal.τ).loc Cert.KernelXaODwIdeal.main_arg0)
      ∧ r.2.mem ((c.tc : Thread Cert.KernelXaODwIdeal.nD Cert.KernelXaODwIdeal.τ).loc Cert.KernelXaODwIdeal.main_arg1) = m ((c.tc : Thread Cert.KernelXaODwIdeal.nD Cert.KernelXaODwIdeal.τ).loc Cert.KernelXaODwIdeal.main_arg1))
      ∧ r.2.sem = fun _ => 0)

def quiescent_ReferenceXaODwIdeal [hReferenceXaODwIdeal : Cert.ReferenceXaODwIdeal.Facts] : Prop :=
  ∀ (m : (ℓ : Loc Cert.ReferenceXaODwIdeal.nD Cert.ReferenceXaODwIdeal.τ Cert.ReferenceXaODwIdeal.sig) → Buf (Elt Ideal) ℓ) (g : Dev Cert.ReferenceXaODwIdeal.nD → PrngReg), Pre_ReferenceXaODwIdeal m →
    θ_run (Cert.ReferenceXaODwIdeal.defs (F := Ideal)) (onTc (τ := Cert.ReferenceXaODwIdeal.τ) (Cert.ReferenceXaODwIdeal.main (F := Ideal))) ⟨m, fun _ => 0, g⟩ (fun r => (∀ c : Dev Cert.ReferenceXaODwIdeal.nD,
      r.2.mem ((c.tc : Thread Cert.ReferenceXaODwIdeal.nD Cert.ReferenceXaODwIdeal.τ).loc Cert.ReferenceXaODwIdeal.main_arg0) = m ((c.tc : Thread Cert.ReferenceXaODwIdeal.nD Cert.ReferenceXaODwIdeal.τ).loc Cert.ReferenceXaODwIdeal.main_arg0)
      ∧ r.2.mem ((c.tc : Thread Cert.ReferenceXaODwIdeal.nD Cert.ReferenceXaODwIdeal.τ).loc Cert.ReferenceXaODwIdeal.main_arg1) = m ((c.tc : Thread Cert.ReferenceXaODwIdeal.nD Cert.ReferenceXaODwIdeal.τ).loc Cert.ReferenceXaODwIdeal.main_arg1))
      ∧ r.2.sem = fun _ => 0)

def quiescent_KernelXaODx [hKernelXaODx : Cert.KernelXaODx.Facts] : Prop :=
  ∀ (m : (ℓ : Loc Cert.KernelXaODx.nD Cert.KernelXaODx.τ Cert.KernelXaODx.sig) → Buf (Elt Bits) ℓ) (g : Dev Cert.KernelXaODx.nD → PrngReg), Pre_KernelXaODx m →
    θ_run (Cert.KernelXaODx.defs (F := Bits)) (onTc (τ := Cert.KernelXaODx.τ) (Cert.KernelXaODx.main (F := Bits))) ⟨m, fun _ => 0, g⟩ (fun r => (∀ c : Dev Cert.KernelXaODx.nD,
      r.2.mem ((c.tc : Thread Cert.KernelXaODx.nD Cert.KernelXaODx.τ).loc Cert.KernelXaODx.main_arg0) = m ((c.tc : Thread Cert.KernelXaODx.nD Cert.KernelXaODx.τ).loc Cert.KernelXaODx.main_arg0)
      ∧ r.2.mem ((c.tc : Thread Cert.KernelXaODx.nD Cert.KernelXaODx.τ).loc Cert.KernelXaODx.main_arg1) = m ((c.tc : Thread Cert.KernelXaODx.nD Cert.KernelXaODx.τ).loc Cert.KernelXaODx.main_arg1))
      ∧ r.2.sem = fun _ => 0)

def quiescent_KernelXaODxIdeal [hKernelXaODxIdeal : Cert.KernelXaODxIdeal.Facts] : Prop :=
  ∀ (m : (ℓ : Loc Cert.KernelXaODxIdeal.nD Cert.KernelXaODxIdeal.τ Cert.KernelXaODxIdeal.sig) → Buf (Elt Ideal) ℓ) (g : Dev Cert.KernelXaODxIdeal.nD → PrngReg), Pre_KernelXaODxIdeal m →
    θ_run (Cert.KernelXaODxIdeal.defs (F := Ideal)) (onTc (τ := Cert.KernelXaODxIdeal.τ) (Cert.KernelXaODxIdeal.main (F := Ideal))) ⟨m, fun _ => 0, g⟩ (fun r => (∀ c : Dev Cert.KernelXaODxIdeal.nD,
      r.2.mem ((c.tc : Thread Cert.KernelXaODxIdeal.nD Cert.KernelXaODxIdeal.τ).loc Cert.KernelXaODxIdeal.main_arg0) = m ((c.tc : Thread Cert.KernelXaODxIdeal.nD Cert.KernelXaODxIdeal.τ).loc Cert.KernelXaODxIdeal.main_arg0)
      ∧ r.2.mem ((c.tc : Thread Cert.KernelXaODxIdeal.nD Cert.KernelXaODxIdeal.τ).loc Cert.KernelXaODxIdeal.main_arg1) = m ((c.tc : Thread Cert.KernelXaODxIdeal.nD Cert.KernelXaODxIdeal.τ).loc Cert.KernelXaODxIdeal.main_arg1))
      ∧ r.2.sem = fun _ => 0)

def quiescent_ReferenceXaODxIdeal [hReferenceXaODxIdeal : Cert.ReferenceXaODxIdeal.Facts] : Prop :=
  ∀ (m : (ℓ : Loc Cert.ReferenceXaODxIdeal.nD Cert.ReferenceXaODxIdeal.τ Cert.ReferenceXaODxIdeal.sig) → Buf (Elt Ideal) ℓ) (g : Dev Cert.ReferenceXaODxIdeal.nD → PrngReg), Pre_ReferenceXaODxIdeal m →
    θ_run (Cert.ReferenceXaODxIdeal.defs (F := Ideal)) (onTc (τ := Cert.ReferenceXaODxIdeal.τ) (Cert.ReferenceXaODxIdeal.main (F := Ideal))) ⟨m, fun _ => 0, g⟩ (fun r => (∀ c : Dev Cert.ReferenceXaODxIdeal.nD,
      r.2.mem ((c.tc : Thread Cert.ReferenceXaODxIdeal.nD Cert.ReferenceXaODxIdeal.τ).loc Cert.ReferenceXaODxIdeal.main_arg0) = m ((c.tc : Thread Cert.ReferenceXaODxIdeal.nD Cert.ReferenceXaODxIdeal.τ).loc Cert.ReferenceXaODxIdeal.main_arg0)
      ∧ r.2.mem ((c.tc : Thread Cert.ReferenceXaODxIdeal.nD Cert.ReferenceXaODxIdeal.τ).loc Cert.ReferenceXaODxIdeal.main_arg1) = m ((c.tc : Thread Cert.ReferenceXaODxIdeal.nD Cert.ReferenceXaODxIdeal.τ).loc Cert.ReferenceXaODxIdeal.main_arg1))
      ∧ r.2.sem = fun _ => 0)

def quiescent_KernelFox [hKernelFox : Cert.KernelFox.Facts] : Prop :=
  ∀ (m : (ℓ : Loc Cert.KernelFox.nD Cert.KernelFox.τ Cert.KernelFox.sig) → Buf (Elt Bits) ℓ) (g : Dev Cert.KernelFox.nD → PrngReg), Pre_KernelFox m →
    θ_run (Cert.KernelFox.defs (F := Bits)) (onTc (τ := Cert.KernelFox.τ) (Cert.KernelFox.main (F := Bits))) ⟨m, fun _ => 0, g⟩ (fun r => (∀ c : Dev Cert.KernelFox.nD,
      r.2.mem ((c.tc : Thread Cert.KernelFox.nD Cert.KernelFox.τ).loc Cert.KernelFox.main_arg0) = m ((c.tc : Thread Cert.KernelFox.nD Cert.KernelFox.τ).loc Cert.KernelFox.main_arg0)
      ∧ r.2.mem ((c.tc : Thread Cert.KernelFox.nD Cert.KernelFox.τ).loc Cert.KernelFox.main_arg1) = m ((c.tc : Thread Cert.KernelFox.nD Cert.KernelFox.τ).loc Cert.KernelFox.main_arg1)
      ∧ r.2.mem ((c.tc : Thread Cert.KernelFox.nD Cert.KernelFox.τ).loc Cert.KernelFox.main_arg2) = m ((c.tc : Thread Cert.KernelFox.nD Cert.KernelFox.τ).loc Cert.KernelFox.main_arg2)
      ∧ r.2.mem ((c.tc : Thread Cert.KernelFox.nD Cert.KernelFox.τ).loc Cert.KernelFox.main_arg3) = m ((c.tc : Thread Cert.KernelFox.nD Cert.KernelFox.τ).loc Cert.KernelFox.main_arg3))
      ∧ r.2.sem = fun _ => 0)

def quiescent_KernelFoxIdeal [hKernelFoxIdeal : Cert.KernelFoxIdeal.Facts] : Prop :=
  ∀ (m : (ℓ : Loc Cert.KernelFoxIdeal.nD Cert.KernelFoxIdeal.τ Cert.KernelFoxIdeal.sig) → Buf (Elt Ideal) ℓ) (g : Dev Cert.KernelFoxIdeal.nD → PrngReg), Pre_KernelFoxIdeal m →
    θ_run (Cert.KernelFoxIdeal.defs (F := Ideal)) (onTc (τ := Cert.KernelFoxIdeal.τ) (Cert.KernelFoxIdeal.main (F := Ideal))) ⟨m, fun _ => 0, g⟩ (fun r => (∀ c : Dev Cert.KernelFoxIdeal.nD,
      r.2.mem ((c.tc : Thread Cert.KernelFoxIdeal.nD Cert.KernelFoxIdeal.τ).loc Cert.KernelFoxIdeal.main_arg0) = m ((c.tc : Thread Cert.KernelFoxIdeal.nD Cert.KernelFoxIdeal.τ).loc Cert.KernelFoxIdeal.main_arg0)
      ∧ r.2.mem ((c.tc : Thread Cert.KernelFoxIdeal.nD Cert.KernelFoxIdeal.τ).loc Cert.KernelFoxIdeal.main_arg1) = m ((c.tc : Thread Cert.KernelFoxIdeal.nD Cert.KernelFoxIdeal.τ).loc Cert.KernelFoxIdeal.main_arg1)
      ∧ r.2.mem ((c.tc : Thread Cert.KernelFoxIdeal.nD Cert.KernelFoxIdeal.τ).loc Cert.KernelFoxIdeal.main_arg2) = m ((c.tc : Thread Cert.KernelFoxIdeal.nD Cert.KernelFoxIdeal.τ).loc Cert.KernelFoxIdeal.main_arg2)
      ∧ r.2.mem ((c.tc : Thread Cert.KernelFoxIdeal.nD Cert.KernelFoxIdeal.τ).loc Cert.KernelFoxIdeal.main_arg3) = m ((c.tc : Thread Cert.KernelFoxIdeal.nD Cert.KernelFoxIdeal.τ).loc Cert.KernelFoxIdeal.main_arg3))
      ∧ r.2.sem = fun _ => 0)

def quiescent_KernelFoxIdeal_pre_finite_fox [hKernelFoxIdeal : Cert.KernelFoxIdeal.Facts] [hPre_finite_fox : Cert.Pre_finite_fox.Facts] : Prop :=
  ∀ (m : (ℓ : Loc Cert.KernelFoxIdeal.nD Cert.KernelFoxIdeal.τ Cert.KernelFoxIdeal.sig) → Buf (Elt Ideal) ℓ) (g : Dev Cert.KernelFoxIdeal.nD → PrngReg), Pre_KernelFoxIdeal_finite_fox m →
    θ_run (Cert.KernelFoxIdeal.defs (F := Ideal)) (onTc (τ := Cert.KernelFoxIdeal.τ) (Cert.KernelFoxIdeal.main (F := Ideal))) ⟨m, fun _ => 0, g⟩ (fun r => (∀ c : Dev Cert.KernelFoxIdeal.nD,
      r.2.mem ((c.tc : Thread Cert.KernelFoxIdeal.nD Cert.KernelFoxIdeal.τ).loc Cert.KernelFoxIdeal.main_arg0) = m ((c.tc : Thread Cert.KernelFoxIdeal.nD Cert.KernelFoxIdeal.τ).loc Cert.KernelFoxIdeal.main_arg0)
      ∧ r.2.mem ((c.tc : Thread Cert.KernelFoxIdeal.nD Cert.KernelFoxIdeal.τ).loc Cert.KernelFoxIdeal.main_arg1) = m ((c.tc : Thread Cert.KernelFoxIdeal.nD Cert.KernelFoxIdeal.τ).loc Cert.KernelFoxIdeal.main_arg1)
      ∧ r.2.mem ((c.tc : Thread Cert.KernelFoxIdeal.nD Cert.KernelFoxIdeal.τ).loc Cert.KernelFoxIdeal.main_arg2) = m ((c.tc : Thread Cert.KernelFoxIdeal.nD Cert.KernelFoxIdeal.τ).loc Cert.KernelFoxIdeal.main_arg2)
      ∧ r.2.mem ((c.tc : Thread Cert.KernelFoxIdeal.nD Cert.KernelFoxIdeal.τ).loc Cert.KernelFoxIdeal.main_arg3) = m ((c.tc : Thread Cert.KernelFoxIdeal.nD Cert.KernelFoxIdeal.τ).loc Cert.KernelFoxIdeal.main_arg3))
      ∧ r.2.sem = fun _ => 0)

def quiescent_ReferenceFoxIdeal [hReferenceFoxIdeal : Cert.ReferenceFoxIdeal.Facts] : Prop :=
  ∀ (m : (ℓ : Loc Cert.ReferenceFoxIdeal.nD Cert.ReferenceFoxIdeal.τ Cert.ReferenceFoxIdeal.sig) → Buf (Elt Ideal) ℓ) (g : Dev Cert.ReferenceFoxIdeal.nD → PrngReg), Pre_ReferenceFoxIdeal m →
    θ_run (Cert.ReferenceFoxIdeal.defs (F := Ideal)) (onTc (τ := Cert.ReferenceFoxIdeal.τ) (Cert.ReferenceFoxIdeal.main (F := Ideal))) ⟨m, fun _ => 0, g⟩ (fun r => (∀ c : Dev Cert.ReferenceFoxIdeal.nD,
      r.2.mem ((c.tc : Thread Cert.ReferenceFoxIdeal.nD Cert.ReferenceFoxIdeal.τ).loc Cert.ReferenceFoxIdeal.main_arg0) = m ((c.tc : Thread Cert.ReferenceFoxIdeal.nD Cert.ReferenceFoxIdeal.τ).loc Cert.ReferenceFoxIdeal.main_arg0)
      ∧ r.2.mem ((c.tc : Thread Cert.ReferenceFoxIdeal.nD Cert.ReferenceFoxIdeal.τ).loc Cert.ReferenceFoxIdeal.main_arg1) = m ((c.tc : Thread Cert.ReferenceFoxIdeal.nD Cert.ReferenceFoxIdeal.τ).loc Cert.ReferenceFoxIdeal.main_arg1)
      ∧ r.2.mem ((c.tc : Thread Cert.ReferenceFoxIdeal.nD Cert.ReferenceFoxIdeal.τ).loc Cert.ReferenceFoxIdeal.main_arg2) = m ((c.tc : Thread Cert.ReferenceFoxIdeal.nD Cert.ReferenceFoxIdeal.τ).loc Cert.ReferenceFoxIdeal.main_arg2)
      ∧ r.2.mem ((c.tc : Thread Cert.ReferenceFoxIdeal.nD Cert.ReferenceFoxIdeal.τ).loc Cert.ReferenceFoxIdeal.main_arg3) = m ((c.tc : Thread Cert.ReferenceFoxIdeal.nD Cert.ReferenceFoxIdeal.τ).loc Cert.ReferenceFoxIdeal.main_arg3))
      ∧ r.2.sem = fun _ => 0)

def quiescent_ReferenceFoxIdeal_pre_finite_fox [hReferenceFoxIdeal : Cert.ReferenceFoxIdeal.Facts] [hPre_finite_fox : Cert.Pre_finite_fox.Facts] : Prop :=
  ∀ (m : (ℓ : Loc Cert.ReferenceFoxIdeal.nD Cert.ReferenceFoxIdeal.τ Cert.ReferenceFoxIdeal.sig) → Buf (Elt Ideal) ℓ) (g : Dev Cert.ReferenceFoxIdeal.nD → PrngReg), Pre_ReferenceFoxIdeal_finite_fox m →
    θ_run (Cert.ReferenceFoxIdeal.defs (F := Ideal)) (onTc (τ := Cert.ReferenceFoxIdeal.τ) (Cert.ReferenceFoxIdeal.main (F := Ideal))) ⟨m, fun _ => 0, g⟩ (fun r => (∀ c : Dev Cert.ReferenceFoxIdeal.nD,
      r.2.mem ((c.tc : Thread Cert.ReferenceFoxIdeal.nD Cert.ReferenceFoxIdeal.τ).loc Cert.ReferenceFoxIdeal.main_arg0) = m ((c.tc : Thread Cert.ReferenceFoxIdeal.nD Cert.ReferenceFoxIdeal.τ).loc Cert.ReferenceFoxIdeal.main_arg0)
      ∧ r.2.mem ((c.tc : Thread Cert.ReferenceFoxIdeal.nD Cert.ReferenceFoxIdeal.τ).loc Cert.ReferenceFoxIdeal.main_arg1) = m ((c.tc : Thread Cert.ReferenceFoxIdeal.nD Cert.ReferenceFoxIdeal.τ).loc Cert.ReferenceFoxIdeal.main_arg1)
      ∧ r.2.mem ((c.tc : Thread Cert.ReferenceFoxIdeal.nD Cert.ReferenceFoxIdeal.τ).loc Cert.ReferenceFoxIdeal.main_arg2) = m ((c.tc : Thread Cert.ReferenceFoxIdeal.nD Cert.ReferenceFoxIdeal.τ).loc Cert.ReferenceFoxIdeal.main_arg2)
      ∧ r.2.mem ((c.tc : Thread Cert.ReferenceFoxIdeal.nD Cert.ReferenceFoxIdeal.τ).loc Cert.ReferenceFoxIdeal.main_arg3) = m ((c.tc : Thread Cert.ReferenceFoxIdeal.nD Cert.ReferenceFoxIdeal.τ).loc Cert.ReferenceFoxIdeal.main_arg3))
      ∧ r.2.sem = fun _ => 0)

def preserves_Kernel_KernelIdeal : Prop :=
  True

def algebraic_KernelIdeal_ReferenceIdeal_pre_finite_arguments [hKernelIdeal : Cert.KernelIdeal.Facts] [hReferenceIdeal : Cert.ReferenceIdeal.Facts] [hPre_finite_arguments : Cert.Pre_finite_arguments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_arguments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v53_1)) (v2 : (c : Dev Cert.KernelIdeal.nD) → Buf (Elt Ideal) ((c.tc : Thread Cert.KernelIdeal.nD Cert.KernelIdeal.τ).loc Cert.KernelIdeal.main_v53_2)) (v3 : (c : Dev Cert.KernelIdeal.nD) → Buf (Elt Ideal) ((c.tc : Thread Cert.KernelIdeal.nD Cert.KernelIdeal.τ).loc Cert.KernelIdeal.main_v53_3)) (v4 : (c : Dev Cert.KernelIdeal.nD) → Buf (Elt Ideal) ((c.tc : Thread Cert.KernelIdeal.nD Cert.KernelIdeal.τ).loc Cert.KernelIdeal.main_v53_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_v53_2) = v2 c
          ∧ r.2.mem ((c.tc : Thread Cert.KernelIdeal.nD Cert.KernelIdeal.τ).loc Cert.KernelIdeal.main_v53_3) = v3 c
          ∧ r.2.mem ((c.tc : Thread Cert.KernelIdeal.nD Cert.KernelIdeal.τ).loc Cert.KernelIdeal.main_v53_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v82) = v2 c
          ∧ r.2.mem ((c.tc : Thread Cert.ReferenceIdeal.nD Cert.ReferenceIdeal.τ).loc Cert.ReferenceIdeal.main_v81) = v3 c
          ∧ r.2.mem ((c.tc : Thread Cert.ReferenceIdeal.nD Cert.ReferenceIdeal.τ).loc Cert.ReferenceIdeal.main_v87) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelUpDw_KernelUpDwIdeal : Prop :=
  True

def algebraic_KernelUpDwIdeal_ReferenceUpDwIdeal [hKernelUpDwIdeal : Cert.KernelUpDwIdeal.Facts] [hReferenceUpDwIdeal : Cert.ReferenceUpDwIdeal.Facts] : Prop :=
  ∀ (m : (ℓ : Loc Cert.KernelUpDwIdeal.nD Cert.KernelUpDwIdeal.τ Cert.KernelUpDwIdeal.sig) → Buf (Elt Ideal) ℓ) (g : Dev Cert.KernelUpDwIdeal.nD → PrngReg)
    (m' : (ℓ : Loc Cert.ReferenceUpDwIdeal.nD Cert.ReferenceUpDwIdeal.τ Cert.ReferenceUpDwIdeal.sig) → Buf (Elt Ideal) ℓ) (g' : Dev Cert.ReferenceUpDwIdeal.nD → PrngReg), Pre_KernelUpDwIdeal m →
    (∀ c : Dev Cert.KernelUpDwIdeal.nD,
      m' ((c.tc : Thread Cert.ReferenceUpDwIdeal.nD Cert.ReferenceUpDwIdeal.τ).loc Cert.ReferenceUpDwIdeal.main_arg0) = m ((c.tc : Thread Cert.KernelUpDwIdeal.nD Cert.KernelUpDwIdeal.τ).loc Cert.KernelUpDwIdeal.main_arg0)
      ∧ m' ((c.tc : Thread Cert.ReferenceUpDwIdeal.nD Cert.ReferenceUpDwIdeal.τ).loc Cert.ReferenceUpDwIdeal.main_arg1) = m ((c.tc : Thread Cert.KernelUpDwIdeal.nD Cert.KernelUpDwIdeal.τ).loc Cert.KernelUpDwIdeal.main_arg1)) →
    ∃ (v0 : (c : Dev Cert.KernelUpDwIdeal.nD) → Buf (Elt Ideal) ((c.tc : Thread Cert.KernelUpDwIdeal.nD Cert.KernelUpDwIdeal.τ).loc Cert.KernelUpDwIdeal.main_v0)),
      θ_run (Cert.KernelUpDwIdeal.defs (F := Ideal)) (onTc (τ := Cert.KernelUpDwIdeal.τ) (Cert.KernelUpDwIdeal.main (F := Ideal))) ⟨m, fun _ => 0, g⟩ (fun r => ∀ c : Dev Cert.KernelUpDwIdeal.nD,
          r.2.mem ((c.tc : Thread Cert.KernelUpDwIdeal.nD Cert.KernelUpDwIdeal.τ).loc Cert.KernelUpDwIdeal.main_v0) = v0 c
          ∧ r.2.mem ((c.tc : Thread Cert.KernelUpDwIdeal.nD Cert.KernelUpDwIdeal.τ).loc Cert.KernelUpDwIdeal.main_arg0) = m ((c.tc : Thread Cert.KernelUpDwIdeal.nD Cert.KernelUpDwIdeal.τ).loc Cert.KernelUpDwIdeal.main_arg0)
          ∧ r.2.mem ((c.tc : Thread Cert.KernelUpDwIdeal.nD Cert.KernelUpDwIdeal.τ).loc Cert.KernelUpDwIdeal.main_arg1) = m ((c.tc : Thread Cert.KernelUpDwIdeal.nD Cert.KernelUpDwIdeal.τ).loc Cert.KernelUpDwIdeal.main_arg1))
      ∧ θ_run (Cert.ReferenceUpDwIdeal.defs (F := Ideal)) (onTc (τ := Cert.ReferenceUpDwIdeal.τ) (Cert.ReferenceUpDwIdeal.main (F := Ideal))) ⟨m', fun _ => 0, g'⟩ (fun r => ∀ c : Dev Cert.ReferenceUpDwIdeal.nD,
          r.2.mem ((c.tc : Thread Cert.ReferenceUpDwIdeal.nD Cert.ReferenceUpDwIdeal.τ).loc Cert.ReferenceUpDwIdeal.main_v6) = v0 c
          ∧ r.2.mem ((c.tc : Thread Cert.ReferenceUpDwIdeal.nD Cert.ReferenceUpDwIdeal.τ).loc Cert.ReferenceUpDwIdeal.main_arg0) = m' ((c.tc : Thread Cert.ReferenceUpDwIdeal.nD Cert.ReferenceUpDwIdeal.τ).loc Cert.ReferenceUpDwIdeal.main_arg0)
          ∧ r.2.mem ((c.tc : Thread Cert.ReferenceUpDwIdeal.nD Cert.ReferenceUpDwIdeal.τ).loc Cert.ReferenceUpDwIdeal.main_arg1) = m' ((c.tc : Thread Cert.ReferenceUpDwIdeal.nD Cert.ReferenceUpDwIdeal.τ).loc Cert.ReferenceUpDwIdeal.main_arg1))

def preserves_KernelUpDx_KernelUpDxIdeal : Prop :=
  True

def algebraic_KernelUpDxIdeal_ReferenceUpDxIdeal [hKernelUpDxIdeal : Cert.KernelUpDxIdeal.Facts] [hReferenceUpDxIdeal : Cert.ReferenceUpDxIdeal.Facts] : Prop :=
  ∀ (m : (ℓ : Loc Cert.KernelUpDxIdeal.nD Cert.KernelUpDxIdeal.τ Cert.KernelUpDxIdeal.sig) → Buf (Elt Ideal) ℓ) (g : Dev Cert.KernelUpDxIdeal.nD → PrngReg)
    (m' : (ℓ : Loc Cert.ReferenceUpDxIdeal.nD Cert.ReferenceUpDxIdeal.τ Cert.ReferenceUpDxIdeal.sig) → Buf (Elt Ideal) ℓ) (g' : Dev Cert.ReferenceUpDxIdeal.nD → PrngReg), Pre_KernelUpDxIdeal m →
    (∀ c : Dev Cert.KernelUpDxIdeal.nD,
      m' ((c.tc : Thread Cert.ReferenceUpDxIdeal.nD Cert.ReferenceUpDxIdeal.τ).loc Cert.ReferenceUpDxIdeal.main_arg0) = m ((c.tc : Thread Cert.KernelUpDxIdeal.nD Cert.KernelUpDxIdeal.τ).loc Cert.KernelUpDxIdeal.main_arg0)
      ∧ m' ((c.tc : Thread Cert.ReferenceUpDxIdeal.nD Cert.ReferenceUpDxIdeal.τ).loc Cert.ReferenceUpDxIdeal.main_arg1) = m ((c.tc : Thread Cert.KernelUpDxIdeal.nD Cert.KernelUpDxIdeal.τ).loc Cert.KernelUpDxIdeal.main_arg1)) →
    ∃ (v0 : (c : Dev Cert.KernelUpDxIdeal.nD) → Buf (Elt Ideal) ((c.tc : Thread Cert.KernelUpDxIdeal.nD Cert.KernelUpDxIdeal.τ).loc Cert.KernelUpDxIdeal.main_v0)),
      θ_run (Cert.KernelUpDxIdeal.defs (F := Ideal)) (onTc (τ := Cert.KernelUpDxIdeal.τ) (Cert.KernelUpDxIdeal.main (F := Ideal))) ⟨m, fun _ => 0, g⟩ (fun r => ∀ c : Dev Cert.KernelUpDxIdeal.nD,
          r.2.mem ((c.tc : Thread Cert.KernelUpDxIdeal.nD Cert.KernelUpDxIdeal.τ).loc Cert.KernelUpDxIdeal.main_v0) = v0 c
          ∧ r.2.mem ((c.tc : Thread Cert.KernelUpDxIdeal.nD Cert.KernelUpDxIdeal.τ).loc Cert.KernelUpDxIdeal.main_arg0) = m ((c.tc : Thread Cert.KernelUpDxIdeal.nD Cert.KernelUpDxIdeal.τ).loc Cert.KernelUpDxIdeal.main_arg0)
          ∧ r.2.mem ((c.tc : Thread Cert.KernelUpDxIdeal.nD Cert.KernelUpDxIdeal.τ).loc Cert.KernelUpDxIdeal.main_arg1) = m ((c.tc : Thread Cert.KernelUpDxIdeal.nD Cert.KernelUpDxIdeal.τ).loc Cert.KernelUpDxIdeal.main_arg1))
      ∧ θ_run (Cert.ReferenceUpDxIdeal.defs (F := Ideal)) (onTc (τ := Cert.ReferenceUpDxIdeal.τ) (Cert.ReferenceUpDxIdeal.main (F := Ideal))) ⟨m', fun _ => 0, g'⟩ (fun r => ∀ c : Dev Cert.ReferenceUpDxIdeal.nD,
          r.2.mem ((c.tc : Thread Cert.ReferenceUpDxIdeal.nD Cert.ReferenceUpDxIdeal.τ).loc Cert.ReferenceUpDxIdeal.main_v4) = v0 c
          ∧ r.2.mem ((c.tc : Thread Cert.ReferenceUpDxIdeal.nD Cert.ReferenceUpDxIdeal.τ).loc Cert.ReferenceUpDxIdeal.main_arg0) = m' ((c.tc : Thread Cert.ReferenceUpDxIdeal.nD Cert.ReferenceUpDxIdeal.τ).loc Cert.ReferenceUpDxIdeal.main_arg0)
          ∧ r.2.mem ((c.tc : Thread Cert.ReferenceUpDxIdeal.nD Cert.ReferenceUpDxIdeal.τ).loc Cert.ReferenceUpDxIdeal.main_arg1) = m' ((c.tc : Thread Cert.ReferenceUpDxIdeal.nD Cert.ReferenceUpDxIdeal.τ).loc Cert.ReferenceUpDxIdeal.main_arg1))

def preserves_KernelDownDw_KernelDownDwIdeal : Prop :=
  True

def algebraic_KernelDownDwIdeal_ReferenceDownDwIdeal [hKernelDownDwIdeal : Cert.KernelDownDwIdeal.Facts] [hReferenceDownDwIdeal : Cert.ReferenceDownDwIdeal.Facts] : Prop :=
  ∀ (m : (ℓ : Loc Cert.KernelDownDwIdeal.nD Cert.KernelDownDwIdeal.τ Cert.KernelDownDwIdeal.sig) → Buf (Elt Ideal) ℓ) (g : Dev Cert.KernelDownDwIdeal.nD → PrngReg)
    (m' : (ℓ : Loc Cert.ReferenceDownDwIdeal.nD Cert.ReferenceDownDwIdeal.τ Cert.ReferenceDownDwIdeal.sig) → Buf (Elt Ideal) ℓ) (g' : Dev Cert.ReferenceDownDwIdeal.nD → PrngReg), Pre_KernelDownDwIdeal m →
    (∀ c : Dev Cert.KernelDownDwIdeal.nD,
      m' ((c.tc : Thread Cert.ReferenceDownDwIdeal.nD Cert.ReferenceDownDwIdeal.τ).loc Cert.ReferenceDownDwIdeal.main_arg0) = m ((c.tc : Thread Cert.KernelDownDwIdeal.nD Cert.KernelDownDwIdeal.τ).loc Cert.KernelDownDwIdeal.main_arg0)
      ∧ m' ((c.tc : Thread Cert.ReferenceDownDwIdeal.nD Cert.ReferenceDownDwIdeal.τ).loc Cert.ReferenceDownDwIdeal.main_arg1) = m ((c.tc : Thread Cert.KernelDownDwIdeal.nD Cert.KernelDownDwIdeal.τ).loc Cert.KernelDownDwIdeal.main_arg1)) →
    ∃ (v0 : (c : Dev Cert.KernelDownDwIdeal.nD) → Buf (Elt Ideal) ((c.tc : Thread Cert.KernelDownDwIdeal.nD Cert.KernelDownDwIdeal.τ).loc Cert.KernelDownDwIdeal.main_v0)),
      θ_run (Cert.KernelDownDwIdeal.defs (F := Ideal)) (onTc (τ := Cert.KernelDownDwIdeal.τ) (Cert.KernelDownDwIdeal.main (F := Ideal))) ⟨m, fun _ => 0, g⟩ (fun r => ∀ c : Dev Cert.KernelDownDwIdeal.nD,
          r.2.mem ((c.tc : Thread Cert.KernelDownDwIdeal.nD Cert.KernelDownDwIdeal.τ).loc Cert.KernelDownDwIdeal.main_v0) = v0 c
          ∧ r.2.mem ((c.tc : Thread Cert.KernelDownDwIdeal.nD Cert.KernelDownDwIdeal.τ).loc Cert.KernelDownDwIdeal.main_arg0) = m ((c.tc : Thread Cert.KernelDownDwIdeal.nD Cert.KernelDownDwIdeal.τ).loc Cert.KernelDownDwIdeal.main_arg0)
          ∧ r.2.mem ((c.tc : Thread Cert.KernelDownDwIdeal.nD Cert.KernelDownDwIdeal.τ).loc Cert.KernelDownDwIdeal.main_arg1) = m ((c.tc : Thread Cert.KernelDownDwIdeal.nD Cert.KernelDownDwIdeal.τ).loc Cert.KernelDownDwIdeal.main_arg1))
      ∧ θ_run (Cert.ReferenceDownDwIdeal.defs (F := Ideal)) (onTc (τ := Cert.ReferenceDownDwIdeal.τ) (Cert.ReferenceDownDwIdeal.main (F := Ideal))) ⟨m', fun _ => 0, g'⟩ (fun r => ∀ c : Dev Cert.ReferenceDownDwIdeal.nD,
          r.2.mem ((c.tc : Thread Cert.ReferenceDownDwIdeal.nD Cert.ReferenceDownDwIdeal.τ).loc Cert.ReferenceDownDwIdeal.main_v5) = v0 c
          ∧ r.2.mem ((c.tc : Thread Cert.ReferenceDownDwIdeal.nD Cert.ReferenceDownDwIdeal.τ).loc Cert.ReferenceDownDwIdeal.main_arg0) = m' ((c.tc : Thread Cert.ReferenceDownDwIdeal.nD Cert.ReferenceDownDwIdeal.τ).loc Cert.ReferenceDownDwIdeal.main_arg0)
          ∧ r.2.mem ((c.tc : Thread Cert.ReferenceDownDwIdeal.nD Cert.ReferenceDownDwIdeal.τ).loc Cert.ReferenceDownDwIdeal.main_arg1) = m' ((c.tc : Thread Cert.ReferenceDownDwIdeal.nD Cert.ReferenceDownDwIdeal.τ).loc Cert.ReferenceDownDwIdeal.main_arg1))

def preserves_KernelDownDx_KernelDownDxIdeal : Prop :=
  True

def algebraic_KernelDownDxIdeal_ReferenceDownDxIdeal [hKernelDownDxIdeal : Cert.KernelDownDxIdeal.Facts] [hReferenceDownDxIdeal : Cert.ReferenceDownDxIdeal.Facts] : Prop :=
  ∀ (m : (ℓ : Loc Cert.KernelDownDxIdeal.nD Cert.KernelDownDxIdeal.τ Cert.KernelDownDxIdeal.sig) → Buf (Elt Ideal) ℓ) (g : Dev Cert.KernelDownDxIdeal.nD → PrngReg)
    (m' : (ℓ : Loc Cert.ReferenceDownDxIdeal.nD Cert.ReferenceDownDxIdeal.τ Cert.ReferenceDownDxIdeal.sig) → Buf (Elt Ideal) ℓ) (g' : Dev Cert.ReferenceDownDxIdeal.nD → PrngReg), Pre_KernelDownDxIdeal m →
    (∀ c : Dev Cert.KernelDownDxIdeal.nD,
      m' ((c.tc : Thread Cert.ReferenceDownDxIdeal.nD Cert.ReferenceDownDxIdeal.τ).loc Cert.ReferenceDownDxIdeal.main_arg0) = m ((c.tc : Thread Cert.KernelDownDxIdeal.nD Cert.KernelDownDxIdeal.τ).loc Cert.KernelDownDxIdeal.main_arg0)
      ∧ m' ((c.tc : Thread Cert.ReferenceDownDxIdeal.nD Cert.ReferenceDownDxIdeal.τ).loc Cert.ReferenceDownDxIdeal.main_arg1) = m ((c.tc : Thread Cert.KernelDownDxIdeal.nD Cert.KernelDownDxIdeal.τ).loc Cert.KernelDownDxIdeal.main_arg1)) →
    ∃ (v0 : (c : Dev Cert.KernelDownDxIdeal.nD) → Buf (Elt Ideal) ((c.tc : Thread Cert.KernelDownDxIdeal.nD Cert.KernelDownDxIdeal.τ).loc Cert.KernelDownDxIdeal.main_v0)),
      θ_run (Cert.KernelDownDxIdeal.defs (F := Ideal)) (onTc (τ := Cert.KernelDownDxIdeal.τ) (Cert.KernelDownDxIdeal.main (F := Ideal))) ⟨m, fun _ => 0, g⟩ (fun r => ∀ c : Dev Cert.KernelDownDxIdeal.nD,
          r.2.mem ((c.tc : Thread Cert.KernelDownDxIdeal.nD Cert.KernelDownDxIdeal.τ).loc Cert.KernelDownDxIdeal.main_v0) = v0 c
          ∧ r.2.mem ((c.tc : Thread Cert.KernelDownDxIdeal.nD Cert.KernelDownDxIdeal.τ).loc Cert.KernelDownDxIdeal.main_arg0) = m ((c.tc : Thread Cert.KernelDownDxIdeal.nD Cert.KernelDownDxIdeal.τ).loc Cert.KernelDownDxIdeal.main_arg0)
          ∧ r.2.mem ((c.tc : Thread Cert.KernelDownDxIdeal.nD Cert.KernelDownDxIdeal.τ).loc Cert.KernelDownDxIdeal.main_arg1) = m ((c.tc : Thread Cert.KernelDownDxIdeal.nD Cert.KernelDownDxIdeal.τ).loc Cert.KernelDownDxIdeal.main_arg1))
      ∧ θ_run (Cert.ReferenceDownDxIdeal.defs (F := Ideal)) (onTc (τ := Cert.ReferenceDownDxIdeal.τ) (Cert.ReferenceDownDxIdeal.main (F := Ideal))) ⟨m', fun _ => 0, g'⟩ (fun r => ∀ c : Dev Cert.ReferenceDownDxIdeal.nD,
          r.2.mem ((c.tc : Thread Cert.ReferenceDownDxIdeal.nD Cert.ReferenceDownDxIdeal.τ).loc Cert.ReferenceDownDxIdeal.main_v3) = v0 c
          ∧ r.2.mem ((c.tc : Thread Cert.ReferenceDownDxIdeal.nD Cert.ReferenceDownDxIdeal.τ).loc Cert.ReferenceDownDxIdeal.main_arg0) = m' ((c.tc : Thread Cert.ReferenceDownDxIdeal.nD Cert.ReferenceDownDxIdeal.τ).loc Cert.ReferenceDownDxIdeal.main_arg0)
          ∧ r.2.mem ((c.tc : Thread Cert.ReferenceDownDxIdeal.nD Cert.ReferenceDownDxIdeal.τ).loc Cert.ReferenceDownDxIdeal.main_arg1) = m' ((c.tc : Thread Cert.ReferenceDownDxIdeal.nD Cert.ReferenceDownDxIdeal.τ).loc Cert.ReferenceDownDxIdeal.main_arg1))

def preserves_KernelInDw_KernelInDwIdeal : Prop :=
  True

def algebraic_KernelInDwIdeal_ReferenceInDwIdeal [hKernelInDwIdeal : Cert.KernelInDwIdeal.Facts] [hReferenceInDwIdeal : Cert.ReferenceInDwIdeal.Facts] : Prop :=
  ∀ (m : (ℓ : Loc Cert.KernelInDwIdeal.nD Cert.KernelInDwIdeal.τ Cert.KernelInDwIdeal.sig) → Buf (Elt Ideal) ℓ) (g : Dev Cert.KernelInDwIdeal.nD → PrngReg)
    (m' : (ℓ : Loc Cert.ReferenceInDwIdeal.nD Cert.ReferenceInDwIdeal.τ Cert.ReferenceInDwIdeal.sig) → Buf (Elt Ideal) ℓ) (g' : Dev Cert.ReferenceInDwIdeal.nD → PrngReg), Pre_KernelInDwIdeal m →
    (∀ c : Dev Cert.KernelInDwIdeal.nD,
      m' ((c.tc : Thread Cert.ReferenceInDwIdeal.nD Cert.ReferenceInDwIdeal.τ).loc Cert.ReferenceInDwIdeal.main_arg0) = m ((c.tc : Thread Cert.KernelInDwIdeal.nD Cert.KernelInDwIdeal.τ).loc Cert.KernelInDwIdeal.main_arg0)
      ∧ m' ((c.tc : Thread Cert.ReferenceInDwIdeal.nD Cert.ReferenceInDwIdeal.τ).loc Cert.ReferenceInDwIdeal.main_arg1) = m ((c.tc : Thread Cert.KernelInDwIdeal.nD Cert.KernelInDwIdeal.τ).loc Cert.KernelInDwIdeal.main_arg1)) →
    ∃ (v0 : (c : Dev Cert.KernelInDwIdeal.nD) → Buf (Elt Ideal) ((c.tc : Thread Cert.KernelInDwIdeal.nD Cert.KernelInDwIdeal.τ).loc Cert.KernelInDwIdeal.main_v0)),
      θ_run (Cert.KernelInDwIdeal.defs (F := Ideal)) (onTc (τ := Cert.KernelInDwIdeal.τ) (Cert.KernelInDwIdeal.main (F := Ideal))) ⟨m, fun _ => 0, g⟩ (fun r => ∀ c : Dev Cert.KernelInDwIdeal.nD,
          r.2.mem ((c.tc : Thread Cert.KernelInDwIdeal.nD Cert.KernelInDwIdeal.τ).loc Cert.KernelInDwIdeal.main_v0) = v0 c
          ∧ r.2.mem ((c.tc : Thread Cert.KernelInDwIdeal.nD Cert.KernelInDwIdeal.τ).loc Cert.KernelInDwIdeal.main_arg0) = m ((c.tc : Thread Cert.KernelInDwIdeal.nD Cert.KernelInDwIdeal.τ).loc Cert.KernelInDwIdeal.main_arg0)
          ∧ r.2.mem ((c.tc : Thread Cert.KernelInDwIdeal.nD Cert.KernelInDwIdeal.τ).loc Cert.KernelInDwIdeal.main_arg1) = m ((c.tc : Thread Cert.KernelInDwIdeal.nD Cert.KernelInDwIdeal.τ).loc Cert.KernelInDwIdeal.main_arg1))
      ∧ θ_run (Cert.ReferenceInDwIdeal.defs (F := Ideal)) (onTc (τ := Cert.ReferenceInDwIdeal.τ) (Cert.ReferenceInDwIdeal.main (F := Ideal))) ⟨m', fun _ => 0, g'⟩ (fun r => ∀ c : Dev Cert.ReferenceInDwIdeal.nD,
          r.2.mem ((c.tc : Thread Cert.ReferenceInDwIdeal.nD Cert.ReferenceInDwIdeal.τ).loc Cert.ReferenceInDwIdeal.main_v6) = v0 c
          ∧ r.2.mem ((c.tc : Thread Cert.ReferenceInDwIdeal.nD Cert.ReferenceInDwIdeal.τ).loc Cert.ReferenceInDwIdeal.main_arg0) = m' ((c.tc : Thread Cert.ReferenceInDwIdeal.nD Cert.ReferenceInDwIdeal.τ).loc Cert.ReferenceInDwIdeal.main_arg0)
          ∧ r.2.mem ((c.tc : Thread Cert.ReferenceInDwIdeal.nD Cert.ReferenceInDwIdeal.τ).loc Cert.ReferenceInDwIdeal.main_arg1) = m' ((c.tc : Thread Cert.ReferenceInDwIdeal.nD Cert.ReferenceInDwIdeal.τ).loc Cert.ReferenceInDwIdeal.main_arg1))

def preserves_KernelInDx_KernelInDxIdeal : Prop :=
  True

def algebraic_KernelInDxIdeal_ReferenceInDxIdeal [hKernelInDxIdeal : Cert.KernelInDxIdeal.Facts] [hReferenceInDxIdeal : Cert.ReferenceInDxIdeal.Facts] : Prop :=
  ∀ (m : (ℓ : Loc Cert.KernelInDxIdeal.nD Cert.KernelInDxIdeal.τ Cert.KernelInDxIdeal.sig) → Buf (Elt Ideal) ℓ) (g : Dev Cert.KernelInDxIdeal.nD → PrngReg)
    (m' : (ℓ : Loc Cert.ReferenceInDxIdeal.nD Cert.ReferenceInDxIdeal.τ Cert.ReferenceInDxIdeal.sig) → Buf (Elt Ideal) ℓ) (g' : Dev Cert.ReferenceInDxIdeal.nD → PrngReg), Pre_KernelInDxIdeal m →
    (∀ c : Dev Cert.KernelInDxIdeal.nD,
      m' ((c.tc : Thread Cert.ReferenceInDxIdeal.nD Cert.ReferenceInDxIdeal.τ).loc Cert.ReferenceInDxIdeal.main_arg0) = m ((c.tc : Thread Cert.KernelInDxIdeal.nD Cert.KernelInDxIdeal.τ).loc Cert.KernelInDxIdeal.main_arg0)
      ∧ m' ((c.tc : Thread Cert.ReferenceInDxIdeal.nD Cert.ReferenceInDxIdeal.τ).loc Cert.ReferenceInDxIdeal.main_arg1) = m ((c.tc : Thread Cert.KernelInDxIdeal.nD Cert.KernelInDxIdeal.τ).loc Cert.KernelInDxIdeal.main_arg1)) →
    ∃ (v0 : (c : Dev Cert.KernelInDxIdeal.nD) → Buf (Elt Ideal) ((c.tc : Thread Cert.KernelInDxIdeal.nD Cert.KernelInDxIdeal.τ).loc Cert.KernelInDxIdeal.main_v0)),
      θ_run (Cert.KernelInDxIdeal.defs (F := Ideal)) (onTc (τ := Cert.KernelInDxIdeal.τ) (Cert.KernelInDxIdeal.main (F := Ideal))) ⟨m, fun _ => 0, g⟩ (fun r => ∀ c : Dev Cert.KernelInDxIdeal.nD,
          r.2.mem ((c.tc : Thread Cert.KernelInDxIdeal.nD Cert.KernelInDxIdeal.τ).loc Cert.KernelInDxIdeal.main_v0) = v0 c
          ∧ r.2.mem ((c.tc : Thread Cert.KernelInDxIdeal.nD Cert.KernelInDxIdeal.τ).loc Cert.KernelInDxIdeal.main_arg0) = m ((c.tc : Thread Cert.KernelInDxIdeal.nD Cert.KernelInDxIdeal.τ).loc Cert.KernelInDxIdeal.main_arg0)
          ∧ r.2.mem ((c.tc : Thread Cert.KernelInDxIdeal.nD Cert.KernelInDxIdeal.τ).loc Cert.KernelInDxIdeal.main_arg1) = m ((c.tc : Thread Cert.KernelInDxIdeal.nD Cert.KernelInDxIdeal.τ).loc Cert.KernelInDxIdeal.main_arg1))
      ∧ θ_run (Cert.ReferenceInDxIdeal.defs (F := Ideal)) (onTc (τ := Cert.ReferenceInDxIdeal.τ) (Cert.ReferenceInDxIdeal.main (F := Ideal))) ⟨m', fun _ => 0, g'⟩ (fun r => ∀ c : Dev Cert.ReferenceInDxIdeal.nD,
          r.2.mem ((c.tc : Thread Cert.ReferenceInDxIdeal.nD Cert.ReferenceInDxIdeal.τ).loc Cert.ReferenceInDxIdeal.main_v4) = v0 c
          ∧ r.2.mem ((c.tc : Thread Cert.ReferenceInDxIdeal.nD Cert.ReferenceInDxIdeal.τ).loc Cert.ReferenceInDxIdeal.main_arg0) = m' ((c.tc : Thread Cert.ReferenceInDxIdeal.nD Cert.ReferenceInDxIdeal.τ).loc Cert.ReferenceInDxIdeal.main_arg0)
          ∧ r.2.mem ((c.tc : Thread Cert.ReferenceInDxIdeal.nD Cert.ReferenceInDxIdeal.τ).loc Cert.ReferenceInDxIdeal.main_arg1) = m' ((c.tc : Thread Cert.ReferenceInDxIdeal.nD Cert.ReferenceInDxIdeal.τ).loc Cert.ReferenceInDxIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v2) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v2) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v3) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2))

def preserves_KernelOutDw_KernelOutDwIdeal : Prop :=
  True

def algebraic_KernelOutDwIdeal_ReferenceOutDwIdeal [hKernelOutDwIdeal : Cert.KernelOutDwIdeal.Facts] [hReferenceOutDwIdeal : Cert.ReferenceOutDwIdeal.Facts] : Prop :=
  ∀ (m : (ℓ : Loc Cert.KernelOutDwIdeal.nD Cert.KernelOutDwIdeal.τ Cert.KernelOutDwIdeal.sig) → Buf (Elt Ideal) ℓ) (g : Dev Cert.KernelOutDwIdeal.nD → PrngReg)
    (m' : (ℓ : Loc Cert.ReferenceOutDwIdeal.nD Cert.ReferenceOutDwIdeal.τ Cert.ReferenceOutDwIdeal.sig) → Buf (Elt Ideal) ℓ) (g' : Dev Cert.ReferenceOutDwIdeal.nD → PrngReg), Pre_KernelOutDwIdeal m →
    (∀ c : Dev Cert.KernelOutDwIdeal.nD,
      m' ((c.tc : Thread Cert.ReferenceOutDwIdeal.nD Cert.ReferenceOutDwIdeal.τ).loc Cert.ReferenceOutDwIdeal.main_arg0) = m ((c.tc : Thread Cert.KernelOutDwIdeal.nD Cert.KernelOutDwIdeal.τ).loc Cert.KernelOutDwIdeal.main_arg0)
      ∧ m' ((c.tc : Thread Cert.ReferenceOutDwIdeal.nD Cert.ReferenceOutDwIdeal.τ).loc Cert.ReferenceOutDwIdeal.main_arg1) = m ((c.tc : Thread Cert.KernelOutDwIdeal.nD Cert.KernelOutDwIdeal.τ).loc Cert.KernelOutDwIdeal.main_arg1)) →
    ∃ (v0 : (c : Dev Cert.KernelOutDwIdeal.nD) → Buf (Elt Ideal) ((c.tc : Thread Cert.KernelOutDwIdeal.nD Cert.KernelOutDwIdeal.τ).loc Cert.KernelOutDwIdeal.main_v0)),
      θ_run (Cert.KernelOutDwIdeal.defs (F := Ideal)) (onTc (τ := Cert.KernelOutDwIdeal.τ) (Cert.KernelOutDwIdeal.main (F := Ideal))) ⟨m, fun _ => 0, g⟩ (fun r => ∀ c : Dev Cert.KernelOutDwIdeal.nD,
          r.2.mem ((c.tc : Thread Cert.KernelOutDwIdeal.nD Cert.KernelOutDwIdeal.τ).loc Cert.KernelOutDwIdeal.main_v0) = v0 c
          ∧ r.2.mem ((c.tc : Thread Cert.KernelOutDwIdeal.nD Cert.KernelOutDwIdeal.τ).loc Cert.KernelOutDwIdeal.main_arg0) = m ((c.tc : Thread Cert.KernelOutDwIdeal.nD Cert.KernelOutDwIdeal.τ).loc Cert.KernelOutDwIdeal.main_arg0)
          ∧ r.2.mem ((c.tc : Thread Cert.KernelOutDwIdeal.nD Cert.KernelOutDwIdeal.τ).loc Cert.KernelOutDwIdeal.main_arg1) = m ((c.tc : Thread Cert.KernelOutDwIdeal.nD Cert.KernelOutDwIdeal.τ).loc Cert.KernelOutDwIdeal.main_arg1))
      ∧ θ_run (Cert.ReferenceOutDwIdeal.defs (F := Ideal)) (onTc (τ := Cert.ReferenceOutDwIdeal.τ) (Cert.ReferenceOutDwIdeal.main (F := Ideal))) ⟨m', fun _ => 0, g'⟩ (fun r => ∀ c : Dev Cert.ReferenceOutDwIdeal.nD,
          r.2.mem ((c.tc : Thread Cert.ReferenceOutDwIdeal.nD Cert.ReferenceOutDwIdeal.τ).loc Cert.ReferenceOutDwIdeal.main_v5) = v0 c
          ∧ r.2.mem ((c.tc : Thread Cert.ReferenceOutDwIdeal.nD Cert.ReferenceOutDwIdeal.τ).loc Cert.ReferenceOutDwIdeal.main_arg0) = m' ((c.tc : Thread Cert.ReferenceOutDwIdeal.nD Cert.ReferenceOutDwIdeal.τ).loc Cert.ReferenceOutDwIdeal.main_arg0)
          ∧ r.2.mem ((c.tc : Thread Cert.ReferenceOutDwIdeal.nD Cert.ReferenceOutDwIdeal.τ).loc Cert.ReferenceOutDwIdeal.main_arg1) = m' ((c.tc : Thread Cert.ReferenceOutDwIdeal.nD Cert.ReferenceOutDwIdeal.τ).loc Cert.ReferenceOutDwIdeal.main_arg1))

def preserves_KernelOutDx_KernelOutDxIdeal : Prop :=
  True

def algebraic_KernelOutDxIdeal_ReferenceOutDxIdeal [hKernelOutDxIdeal : Cert.KernelOutDxIdeal.Facts] [hReferenceOutDxIdeal : Cert.ReferenceOutDxIdeal.Facts] : Prop :=
  ∀ (m : (ℓ : Loc Cert.KernelOutDxIdeal.nD Cert.KernelOutDxIdeal.τ Cert.KernelOutDxIdeal.sig) → Buf (Elt Ideal) ℓ) (g : Dev Cert.KernelOutDxIdeal.nD → PrngReg)
    (m' : (ℓ : Loc Cert.ReferenceOutDxIdeal.nD Cert.ReferenceOutDxIdeal.τ Cert.ReferenceOutDxIdeal.sig) → Buf (Elt Ideal) ℓ) (g' : Dev Cert.ReferenceOutDxIdeal.nD → PrngReg), Pre_KernelOutDxIdeal m →
    (∀ c : Dev Cert.KernelOutDxIdeal.nD,
      m' ((c.tc : Thread Cert.ReferenceOutDxIdeal.nD Cert.ReferenceOutDxIdeal.τ).loc Cert.ReferenceOutDxIdeal.main_arg0) = m ((c.tc : Thread Cert.KernelOutDxIdeal.nD Cert.KernelOutDxIdeal.τ).loc Cert.KernelOutDxIdeal.main_arg0)
      ∧ m' ((c.tc : Thread Cert.ReferenceOutDxIdeal.nD Cert.ReferenceOutDxIdeal.τ).loc Cert.ReferenceOutDxIdeal.main_arg1) = m ((c.tc : Thread Cert.KernelOutDxIdeal.nD Cert.KernelOutDxIdeal.τ).loc Cert.KernelOutDxIdeal.main_arg1)) →
    ∃ (v0 : (c : Dev Cert.KernelOutDxIdeal.nD) → Buf (Elt Ideal) ((c.tc : Thread Cert.KernelOutDxIdeal.nD Cert.KernelOutDxIdeal.τ).loc Cert.KernelOutDxIdeal.main_v0)),
      θ_run (Cert.KernelOutDxIdeal.defs (F := Ideal)) (onTc (τ := Cert.KernelOutDxIdeal.τ) (Cert.KernelOutDxIdeal.main (F := Ideal))) ⟨m, fun _ => 0, g⟩ (fun r => ∀ c : Dev Cert.KernelOutDxIdeal.nD,
          r.2.mem ((c.tc : Thread Cert.KernelOutDxIdeal.nD Cert.KernelOutDxIdeal.τ).loc Cert.KernelOutDxIdeal.main_v0) = v0 c
          ∧ r.2.mem ((c.tc : Thread Cert.KernelOutDxIdeal.nD Cert.KernelOutDxIdeal.τ).loc Cert.KernelOutDxIdeal.main_arg0) = m ((c.tc : Thread Cert.KernelOutDxIdeal.nD Cert.KernelOutDxIdeal.τ).loc Cert.KernelOutDxIdeal.main_arg0)
          ∧ r.2.mem ((c.tc : Thread Cert.KernelOutDxIdeal.nD Cert.KernelOutDxIdeal.τ).loc Cert.KernelOutDxIdeal.main_arg1) = m ((c.tc : Thread Cert.KernelOutDxIdeal.nD Cert.KernelOutDxIdeal.τ).loc Cert.KernelOutDxIdeal.main_arg1))
      ∧ θ_run (Cert.ReferenceOutDxIdeal.defs (F := Ideal)) (onTc (τ := Cert.ReferenceOutDxIdeal.τ) (Cert.ReferenceOutDxIdeal.main (F := Ideal))) ⟨m', fun _ => 0, g'⟩ (fun r => ∀ c : Dev Cert.ReferenceOutDxIdeal.nD,
          r.2.mem ((c.tc : Thread Cert.ReferenceOutDxIdeal.nD Cert.ReferenceOutDxIdeal.τ).loc Cert.ReferenceOutDxIdeal.main_v3) = v0 c
          ∧ r.2.mem ((c.tc : Thread Cert.ReferenceOutDxIdeal.nD Cert.ReferenceOutDxIdeal.τ).loc Cert.ReferenceOutDxIdeal.main_arg0) = m' ((c.tc : Thread Cert.ReferenceOutDxIdeal.nD Cert.ReferenceOutDxIdeal.τ).loc Cert.ReferenceOutDxIdeal.main_arg0)
          ∧ r.2.mem ((c.tc : Thread Cert.ReferenceOutDxIdeal.nD Cert.ReferenceOutDxIdeal.τ).loc Cert.ReferenceOutDxIdeal.main_arg1) = m' ((c.tc : Thread Cert.ReferenceOutDxIdeal.nD Cert.ReferenceOutDxIdeal.τ).loc Cert.ReferenceOutDxIdeal.main_arg1))

def preserves_KernelBranchDw_KernelBranchDwIdeal : Prop :=
  True

def algebraic_KernelBranchDwIdeal_ReferenceBranchDwIdeal [hKernelBranchDwIdeal : Cert.KernelBranchDwIdeal.Facts] [hReferenceBranchDwIdeal : Cert.ReferenceBranchDwIdeal.Facts] : Prop :=
  ∀ (m : (ℓ : Loc Cert.KernelBranchDwIdeal.nD Cert.KernelBranchDwIdeal.τ Cert.KernelBranchDwIdeal.sig) → Buf (Elt Ideal) ℓ) (g : Dev Cert.KernelBranchDwIdeal.nD → PrngReg)
    (m' : (ℓ : Loc Cert.ReferenceBranchDwIdeal.nD Cert.ReferenceBranchDwIdeal.τ Cert.ReferenceBranchDwIdeal.sig) → Buf (Elt Ideal) ℓ) (g' : Dev Cert.ReferenceBranchDwIdeal.nD → PrngReg), Pre_KernelBranchDwIdeal m →
    (∀ c : Dev Cert.KernelBranchDwIdeal.nD,
      m' ((c.tc : Thread Cert.ReferenceBranchDwIdeal.nD Cert.ReferenceBranchDwIdeal.τ).loc Cert.ReferenceBranchDwIdeal.main_arg0) = m ((c.tc : Thread Cert.KernelBranchDwIdeal.nD Cert.KernelBranchDwIdeal.τ).loc Cert.KernelBranchDwIdeal.main_arg0)
      ∧ m' ((c.tc : Thread Cert.ReferenceBranchDwIdeal.nD Cert.ReferenceBranchDwIdeal.τ).loc Cert.ReferenceBranchDwIdeal.main_arg1) = m ((c.tc : Thread Cert.KernelBranchDwIdeal.nD Cert.KernelBranchDwIdeal.τ).loc Cert.KernelBranchDwIdeal.main_arg1)) →
    ∃ (v0 : (c : Dev Cert.KernelBranchDwIdeal.nD) → Buf (Elt Ideal) ((c.tc : Thread Cert.KernelBranchDwIdeal.nD Cert.KernelBranchDwIdeal.τ).loc Cert.KernelBranchDwIdeal.main_v0)),
      θ_run (Cert.KernelBranchDwIdeal.defs (F := Ideal)) (onTc (τ := Cert.KernelBranchDwIdeal.τ) (Cert.KernelBranchDwIdeal.main (F := Ideal))) ⟨m, fun _ => 0, g⟩ (fun r => ∀ c : Dev Cert.KernelBranchDwIdeal.nD,
          r.2.mem ((c.tc : Thread Cert.KernelBranchDwIdeal.nD Cert.KernelBranchDwIdeal.τ).loc Cert.KernelBranchDwIdeal.main_v0) = v0 c
          ∧ r.2.mem ((c.tc : Thread Cert.KernelBranchDwIdeal.nD Cert.KernelBranchDwIdeal.τ).loc Cert.KernelBranchDwIdeal.main_arg0) = m ((c.tc : Thread Cert.KernelBranchDwIdeal.nD Cert.KernelBranchDwIdeal.τ).loc Cert.KernelBranchDwIdeal.main_arg0)
          ∧ r.2.mem ((c.tc : Thread Cert.KernelBranchDwIdeal.nD Cert.KernelBranchDwIdeal.τ).loc Cert.KernelBranchDwIdeal.main_arg1) = m ((c.tc : Thread Cert.KernelBranchDwIdeal.nD Cert.KernelBranchDwIdeal.τ).loc Cert.KernelBranchDwIdeal.main_arg1))
      ∧ θ_run (Cert.ReferenceBranchDwIdeal.defs (F := Ideal)) (onTc (τ := Cert.ReferenceBranchDwIdeal.τ) (Cert.ReferenceBranchDwIdeal.main (F := Ideal))) ⟨m', fun _ => 0, g'⟩ (fun r => ∀ c : Dev Cert.ReferenceBranchDwIdeal.nD,
          r.2.mem ((c.tc : Thread Cert.ReferenceBranchDwIdeal.nD Cert.ReferenceBranchDwIdeal.τ).loc Cert.ReferenceBranchDwIdeal.main_v4) = v0 c
          ∧ r.2.mem ((c.tc : Thread Cert.ReferenceBranchDwIdeal.nD Cert.ReferenceBranchDwIdeal.τ).loc Cert.ReferenceBranchDwIdeal.main_arg0) = m' ((c.tc : Thread Cert.ReferenceBranchDwIdeal.nD Cert.ReferenceBranchDwIdeal.τ).loc Cert.ReferenceBranchDwIdeal.main_arg0)
          ∧ r.2.mem ((c.tc : Thread Cert.ReferenceBranchDwIdeal.nD Cert.ReferenceBranchDwIdeal.τ).loc Cert.ReferenceBranchDwIdeal.main_arg1) = m' ((c.tc : Thread Cert.ReferenceBranchDwIdeal.nD Cert.ReferenceBranchDwIdeal.τ).loc Cert.ReferenceBranchDwIdeal.main_arg1))

def preserves_KernelBranchDx_KernelBranchDxIdeal : Prop :=
  True

def algebraic_KernelBranchDxIdeal_ReferenceBranchDxIdeal [hKernelBranchDxIdeal : Cert.KernelBranchDxIdeal.Facts] [hReferenceBranchDxIdeal : Cert.ReferenceBranchDxIdeal.Facts] : Prop :=
  ∀ (m : (ℓ : Loc Cert.KernelBranchDxIdeal.nD Cert.KernelBranchDxIdeal.τ Cert.KernelBranchDxIdeal.sig) → Buf (Elt Ideal) ℓ) (g : Dev Cert.KernelBranchDxIdeal.nD → PrngReg)
    (m' : (ℓ : Loc Cert.ReferenceBranchDxIdeal.nD Cert.ReferenceBranchDxIdeal.τ Cert.ReferenceBranchDxIdeal.sig) → Buf (Elt Ideal) ℓ) (g' : Dev Cert.ReferenceBranchDxIdeal.nD → PrngReg), Pre_KernelBranchDxIdeal m →
    (∀ c : Dev Cert.KernelBranchDxIdeal.nD,
      m' ((c.tc : Thread Cert.ReferenceBranchDxIdeal.nD Cert.ReferenceBranchDxIdeal.τ).loc Cert.ReferenceBranchDxIdeal.main_arg0) = m ((c.tc : Thread Cert.KernelBranchDxIdeal.nD Cert.KernelBranchDxIdeal.τ).loc Cert.KernelBranchDxIdeal.main_arg0)
      ∧ m' ((c.tc : Thread Cert.ReferenceBranchDxIdeal.nD Cert.ReferenceBranchDxIdeal.τ).loc Cert.ReferenceBranchDxIdeal.main_arg1) = m ((c.tc : Thread Cert.KernelBranchDxIdeal.nD Cert.KernelBranchDxIdeal.τ).loc Cert.KernelBranchDxIdeal.main_arg1)) →
    ∃ (v0 : (c : Dev Cert.KernelBranchDxIdeal.nD) → Buf (Elt Ideal) ((c.tc : Thread Cert.KernelBranchDxIdeal.nD Cert.KernelBranchDxIdeal.τ).loc Cert.KernelBranchDxIdeal.main_v0)),
      θ_run (Cert.KernelBranchDxIdeal.defs (F := Ideal)) (onTc (τ := Cert.KernelBranchDxIdeal.τ) (Cert.KernelBranchDxIdeal.main (F := Ideal))) ⟨m, fun _ => 0, g⟩ (fun r => ∀ c : Dev Cert.KernelBranchDxIdeal.nD,
          r.2.mem ((c.tc : Thread Cert.KernelBranchDxIdeal.nD Cert.KernelBranchDxIdeal.τ).loc Cert.KernelBranchDxIdeal.main_v0) = v0 c
          ∧ r.2.mem ((c.tc : Thread Cert.KernelBranchDxIdeal.nD Cert.KernelBranchDxIdeal.τ).loc Cert.KernelBranchDxIdeal.main_arg0) = m ((c.tc : Thread Cert.KernelBranchDxIdeal.nD Cert.KernelBranchDxIdeal.τ).loc Cert.KernelBranchDxIdeal.main_arg0)
          ∧ r.2.mem ((c.tc : Thread Cert.KernelBranchDxIdeal.nD Cert.KernelBranchDxIdeal.τ).loc Cert.KernelBranchDxIdeal.main_arg1) = m ((c.tc : Thread Cert.KernelBranchDxIdeal.nD Cert.KernelBranchDxIdeal.τ).loc Cert.KernelBranchDxIdeal.main_arg1))
      ∧ θ_run (Cert.ReferenceBranchDxIdeal.defs (F := Ideal)) (onTc (τ := Cert.ReferenceBranchDxIdeal.τ) (Cert.ReferenceBranchDxIdeal.main (F := Ideal))) ⟨m', fun _ => 0, g'⟩ (fun r => ∀ c : Dev Cert.ReferenceBranchDxIdeal.nD,
          r.2.mem ((c.tc : Thread Cert.ReferenceBranchDxIdeal.nD Cert.ReferenceBranchDxIdeal.τ).loc Cert.ReferenceBranchDxIdeal.main_v3) = v0 c
          ∧ r.2.mem ((c.tc : Thread Cert.ReferenceBranchDxIdeal.nD Cert.ReferenceBranchDxIdeal.τ).loc Cert.ReferenceBranchDxIdeal.main_arg0) = m' ((c.tc : Thread Cert.ReferenceBranchDxIdeal.nD Cert.ReferenceBranchDxIdeal.τ).loc Cert.ReferenceBranchDxIdeal.main_arg0)
          ∧ r.2.mem ((c.tc : Thread Cert.ReferenceBranchDxIdeal.nD Cert.ReferenceBranchDxIdeal.τ).loc Cert.ReferenceBranchDxIdeal.main_arg1) = m' ((c.tc : Thread Cert.ReferenceBranchDxIdeal.nD Cert.ReferenceBranchDxIdeal.τ).loc Cert.ReferenceBranchDxIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)
      ∧ m' ((c.tc : Thread Cert.ReferenceOutIdeal.nD Cert.ReferenceOutIdeal.τ).loc Cert.ReferenceOutIdeal.main_arg2) = m ((c.tc : Thread Cert.KernelOutIdeal.nD Cert.KernelOutIdeal.τ).loc Cert.KernelOutIdeal.main_arg2)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1)
          ∧ r.2.mem ((c.tc : Thread Cert.KernelOutIdeal.nD Cert.KernelOutIdeal.τ).loc Cert.KernelOutIdeal.main_arg2) = m ((c.tc : Thread Cert.KernelOutIdeal.nD Cert.KernelOutIdeal.τ).loc Cert.KernelOutIdeal.main_arg2))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v3) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1)
          ∧ r.2.mem ((c.tc : Thread Cert.ReferenceOutIdeal.nD Cert.ReferenceOutIdeal.τ).loc Cert.ReferenceOutIdeal.main_arg2) = m' ((c.tc : Thread Cert.ReferenceOutIdeal.nD Cert.ReferenceOutIdeal.τ).loc Cert.ReferenceOutIdeal.main_arg2))

def preserves_KernelBranch_KernelBranchIdeal : Prop :=
  True

def algebraic_KernelBranchIdeal_ReferenceBranchIdeal [hKernelBranchIdeal : Cert.KernelBranchIdeal.Facts] [hReferenceBranchIdeal : Cert.ReferenceBranchIdeal.Facts] : Prop :=
  ∀ (m : (ℓ : Loc Cert.KernelBranchIdeal.nD Cert.KernelBranchIdeal.τ Cert.KernelBranchIdeal.sig) → Buf (Elt Ideal) ℓ) (g : Dev Cert.KernelBranchIdeal.nD → PrngReg)
    (m' : (ℓ : Loc Cert.ReferenceBranchIdeal.nD Cert.ReferenceBranchIdeal.τ Cert.ReferenceBranchIdeal.sig) → Buf (Elt Ideal) ℓ) (g' : Dev Cert.ReferenceBranchIdeal.nD → PrngReg), Pre_KernelBranchIdeal m →
    (∀ c : Dev Cert.KernelBranchIdeal.nD,
      m' ((c.tc : Thread Cert.ReferenceBranchIdeal.nD Cert.ReferenceBranchIdeal.τ).loc Cert.ReferenceBranchIdeal.main_arg0) = m ((c.tc : Thread Cert.KernelBranchIdeal.nD Cert.KernelBranchIdeal.τ).loc Cert.KernelBranchIdeal.main_arg0)
      ∧ m' ((c.tc : Thread Cert.ReferenceBranchIdeal.nD Cert.ReferenceBranchIdeal.τ).loc Cert.ReferenceBranchIdeal.main_arg1) = m ((c.tc : Thread Cert.KernelBranchIdeal.nD Cert.KernelBranchIdeal.τ).loc Cert.KernelBranchIdeal.main_arg1)) →
    ∃ (v0 : (c : Dev Cert.KernelBranchIdeal.nD) → Buf (Elt Ideal) ((c.tc : Thread Cert.KernelBranchIdeal.nD Cert.KernelBranchIdeal.τ).loc Cert.KernelBranchIdeal.main_v0)),
      θ_run (Cert.KernelBranchIdeal.defs (F := Ideal)) (onTc (τ := Cert.KernelBranchIdeal.τ) (Cert.KernelBranchIdeal.main (F := Ideal))) ⟨m, fun _ => 0, g⟩ (fun r => ∀ c : Dev Cert.KernelBranchIdeal.nD,
          r.2.mem ((c.tc : Thread Cert.KernelBranchIdeal.nD Cert.KernelBranchIdeal.τ).loc Cert.KernelBranchIdeal.main_v0) = v0 c
          ∧ r.2.mem ((c.tc : Thread Cert.KernelBranchIdeal.nD Cert.KernelBranchIdeal.τ).loc Cert.KernelBranchIdeal.main_arg0) = m ((c.tc : Thread Cert.KernelBranchIdeal.nD Cert.KernelBranchIdeal.τ).loc Cert.KernelBranchIdeal.main_arg0)
          ∧ r.2.mem ((c.tc : Thread Cert.KernelBranchIdeal.nD Cert.KernelBranchIdeal.τ).loc Cert.KernelBranchIdeal.main_arg1) = m ((c.tc : Thread Cert.KernelBranchIdeal.nD Cert.KernelBranchIdeal.τ).loc Cert.KernelBranchIdeal.main_arg1))
      ∧ θ_run (Cert.ReferenceBranchIdeal.defs (F := Ideal)) (onTc (τ := Cert.ReferenceBranchIdeal.τ) (Cert.ReferenceBranchIdeal.main (F := Ideal))) ⟨m', fun _ => 0, g'⟩ (fun r => ∀ c : Dev Cert.ReferenceBranchIdeal.nD,
          r.2.mem ((c.tc : Thread Cert.ReferenceBranchIdeal.nD Cert.ReferenceBranchIdeal.τ).loc Cert.ReferenceBranchIdeal.main_v1) = v0 c
          ∧ r.2.mem ((c.tc : Thread Cert.ReferenceBranchIdeal.nD Cert.ReferenceBranchIdeal.τ).loc Cert.ReferenceBranchIdeal.main_arg0) = m' ((c.tc : Thread Cert.ReferenceBranchIdeal.nD Cert.ReferenceBranchIdeal.τ).loc Cert.ReferenceBranchIdeal.main_arg0)
          ∧ r.2.mem ((c.tc : Thread Cert.ReferenceBranchIdeal.nD Cert.ReferenceBranchIdeal.τ).loc Cert.ReferenceBranchIdeal.main_arg1) = m' ((c.tc : Thread Cert.ReferenceBranchIdeal.nD Cert.ReferenceBranchIdeal.τ).loc Cert.ReferenceBranchIdeal.main_arg1))

def preserves_KernelXaQ_KernelXaQIdeal : Prop :=
  True

def algebraic_KernelXaQIdeal_ReferenceXaQIdeal [hKernelXaQIdeal : Cert.KernelXaQIdeal.Facts] [hReferenceXaQIdeal : Cert.ReferenceXaQIdeal.Facts] : Prop :=
  ∀ (m : (ℓ : Loc Cert.KernelXaQIdeal.nD Cert.KernelXaQIdeal.τ Cert.KernelXaQIdeal.sig) → Buf (Elt Ideal) ℓ) (g : Dev Cert.KernelXaQIdeal.nD → PrngReg)
    (m' : (ℓ : Loc Cert.ReferenceXaQIdeal.nD Cert.ReferenceXaQIdeal.τ Cert.ReferenceXaQIdeal.sig) → Buf (Elt Ideal) ℓ) (g' : Dev Cert.ReferenceXaQIdeal.nD → PrngReg), Pre_KernelXaQIdeal m →
    (∀ c : Dev Cert.KernelXaQIdeal.nD,
      m' ((c.tc : Thread Cert.ReferenceXaQIdeal.nD Cert.ReferenceXaQIdeal.τ).loc Cert.ReferenceXaQIdeal.main_arg0) = m ((c.tc : Thread Cert.KernelXaQIdeal.nD Cert.KernelXaQIdeal.τ).loc Cert.KernelXaQIdeal.main_arg0)
      ∧ m' ((c.tc : Thread Cert.ReferenceXaQIdeal.nD Cert.ReferenceXaQIdeal.τ).loc Cert.ReferenceXaQIdeal.main_arg1) = m ((c.tc : Thread Cert.KernelXaQIdeal.nD Cert.KernelXaQIdeal.τ).loc Cert.KernelXaQIdeal.main_arg1)) →
    ∃ (v0 : (c : Dev Cert.KernelXaQIdeal.nD) → Buf (Elt Ideal) ((c.tc : Thread Cert.KernelXaQIdeal.nD Cert.KernelXaQIdeal.τ).loc Cert.KernelXaQIdeal.main_v0)),
      θ_run (Cert.KernelXaQIdeal.defs (F := Ideal)) (onTc (τ := Cert.KernelXaQIdeal.τ) (Cert.KernelXaQIdeal.main (F := Ideal))) ⟨m, fun _ => 0, g⟩ (fun r => ∀ c : Dev Cert.KernelXaQIdeal.nD,
          r.2.mem ((c.tc : Thread Cert.KernelXaQIdeal.nD Cert.KernelXaQIdeal.τ).loc Cert.KernelXaQIdeal.main_v0) = v0 c
          ∧ r.2.mem ((c.tc : Thread Cert.KernelXaQIdeal.nD Cert.KernelXaQIdeal.τ).loc Cert.KernelXaQIdeal.main_arg0) = m ((c.tc : Thread Cert.KernelXaQIdeal.nD Cert.KernelXaQIdeal.τ).loc Cert.KernelXaQIdeal.main_arg0)
          ∧ r.2.mem ((c.tc : Thread Cert.KernelXaQIdeal.nD Cert.KernelXaQIdeal.τ).loc Cert.KernelXaQIdeal.main_arg1) = m ((c.tc : Thread Cert.KernelXaQIdeal.nD Cert.KernelXaQIdeal.τ).loc Cert.KernelXaQIdeal.main_arg1))
      ∧ θ_run (Cert.ReferenceXaQIdeal.defs (F := Ideal)) (onTc (τ := Cert.ReferenceXaQIdeal.τ) (Cert.ReferenceXaQIdeal.main (F := Ideal))) ⟨m', fun _ => 0, g'⟩ (fun r => ∀ c : Dev Cert.ReferenceXaQIdeal.nD,
          r.2.mem ((c.tc : Thread Cert.ReferenceXaQIdeal.nD Cert.ReferenceXaQIdeal.τ).loc Cert.ReferenceXaQIdeal.main_v2) = v0 c
          ∧ r.2.mem ((c.tc : Thread Cert.ReferenceXaQIdeal.nD Cert.ReferenceXaQIdeal.τ).loc Cert.ReferenceXaQIdeal.main_arg0) = m' ((c.tc : Thread Cert.ReferenceXaQIdeal.nD Cert.ReferenceXaQIdeal.τ).loc Cert.ReferenceXaQIdeal.main_arg0)
          ∧ r.2.mem ((c.tc : Thread Cert.ReferenceXaQIdeal.nD Cert.ReferenceXaQIdeal.τ).loc Cert.ReferenceXaQIdeal.main_arg1) = m' ((c.tc : Thread Cert.ReferenceXaQIdeal.nD Cert.ReferenceXaQIdeal.τ).loc Cert.ReferenceXaQIdeal.main_arg1))

def preserves_KernelXaQDw_KernelXaQDwIdeal : Prop :=
  True

def algebraic_KernelXaQDwIdeal_ReferenceXaQDwIdeal [hKernelXaQDwIdeal : Cert.KernelXaQDwIdeal.Facts] [hReferenceXaQDwIdeal : Cert.ReferenceXaQDwIdeal.Facts] : Prop :=
  ∀ (m : (ℓ : Loc Cert.KernelXaQDwIdeal.nD Cert.KernelXaQDwIdeal.τ Cert.KernelXaQDwIdeal.sig) → Buf (Elt Ideal) ℓ) (g : Dev Cert.KernelXaQDwIdeal.nD → PrngReg)
    (m' : (ℓ : Loc Cert.ReferenceXaQDwIdeal.nD Cert.ReferenceXaQDwIdeal.τ Cert.ReferenceXaQDwIdeal.sig) → Buf (Elt Ideal) ℓ) (g' : Dev Cert.ReferenceXaQDwIdeal.nD → PrngReg), Pre_KernelXaQDwIdeal m →
    (∀ c : Dev Cert.KernelXaQDwIdeal.nD,
      m' ((c.tc : Thread Cert.ReferenceXaQDwIdeal.nD Cert.ReferenceXaQDwIdeal.τ).loc Cert.ReferenceXaQDwIdeal.main_arg0) = m ((c.tc : Thread Cert.KernelXaQDwIdeal.nD Cert.KernelXaQDwIdeal.τ).loc Cert.KernelXaQDwIdeal.main_arg0)
      ∧ m' ((c.tc : Thread Cert.ReferenceXaQDwIdeal.nD Cert.ReferenceXaQDwIdeal.τ).loc Cert.ReferenceXaQDwIdeal.main_arg1) = m ((c.tc : Thread Cert.KernelXaQDwIdeal.nD Cert.KernelXaQDwIdeal.τ).loc Cert.KernelXaQDwIdeal.main_arg1)) →
    ∃ (v0 : (c : Dev Cert.KernelXaQDwIdeal.nD) → Buf (Elt Ideal) ((c.tc : Thread Cert.KernelXaQDwIdeal.nD Cert.KernelXaQDwIdeal.τ).loc Cert.KernelXaQDwIdeal.main_v0)),
      θ_run (Cert.KernelXaQDwIdeal.defs (F := Ideal)) (onTc (τ := Cert.KernelXaQDwIdeal.τ) (Cert.KernelXaQDwIdeal.main (F := Ideal))) ⟨m, fun _ => 0, g⟩ (fun r => ∀ c : Dev Cert.KernelXaQDwIdeal.nD,
          r.2.mem ((c.tc : Thread Cert.KernelXaQDwIdeal.nD Cert.KernelXaQDwIdeal.τ).loc Cert.KernelXaQDwIdeal.main_v0) = v0 c
          ∧ r.2.mem ((c.tc : Thread Cert.KernelXaQDwIdeal.nD Cert.KernelXaQDwIdeal.τ).loc Cert.KernelXaQDwIdeal.main_arg0) = m ((c.tc : Thread Cert.KernelXaQDwIdeal.nD Cert.KernelXaQDwIdeal.τ).loc Cert.KernelXaQDwIdeal.main_arg0)
          ∧ r.2.mem ((c.tc : Thread Cert.KernelXaQDwIdeal.nD Cert.KernelXaQDwIdeal.τ).loc Cert.KernelXaQDwIdeal.main_arg1) = m ((c.tc : Thread Cert.KernelXaQDwIdeal.nD Cert.KernelXaQDwIdeal.τ).loc Cert.KernelXaQDwIdeal.main_arg1))
      ∧ θ_run (Cert.ReferenceXaQDwIdeal.defs (F := Ideal)) (onTc (τ := Cert.ReferenceXaQDwIdeal.τ) (Cert.ReferenceXaQDwIdeal.main (F := Ideal))) ⟨m', fun _ => 0, g'⟩ (fun r => ∀ c : Dev Cert.ReferenceXaQDwIdeal.nD,
          r.2.mem ((c.tc : Thread Cert.ReferenceXaQDwIdeal.nD Cert.ReferenceXaQDwIdeal.τ).loc Cert.ReferenceXaQDwIdeal.main_v5) = v0 c
          ∧ r.2.mem ((c.tc : Thread Cert.ReferenceXaQDwIdeal.nD Cert.ReferenceXaQDwIdeal.τ).loc Cert.ReferenceXaQDwIdeal.main_arg0) = m' ((c.tc : Thread Cert.ReferenceXaQDwIdeal.nD Cert.ReferenceXaQDwIdeal.τ).loc Cert.ReferenceXaQDwIdeal.main_arg0)
          ∧ r.2.mem ((c.tc : Thread Cert.ReferenceXaQDwIdeal.nD Cert.ReferenceXaQDwIdeal.τ).loc Cert.ReferenceXaQDwIdeal.main_arg1) = m' ((c.tc : Thread Cert.ReferenceXaQDwIdeal.nD Cert.ReferenceXaQDwIdeal.τ).loc Cert.ReferenceXaQDwIdeal.main_arg1))

def preserves_KernelXaQDx_KernelXaQDxIdeal : Prop :=
  True

def algebraic_KernelXaQDxIdeal_ReferenceXaQDxIdeal [hKernelXaQDxIdeal : Cert.KernelXaQDxIdeal.Facts] [hReferenceXaQDxIdeal : Cert.ReferenceXaQDxIdeal.Facts] : Prop :=
  ∀ (m : (ℓ : Loc Cert.KernelXaQDxIdeal.nD Cert.KernelXaQDxIdeal.τ Cert.KernelXaQDxIdeal.sig) → Buf (Elt Ideal) ℓ) (g : Dev Cert.KernelXaQDxIdeal.nD → PrngReg)
    (m' : (ℓ : Loc Cert.ReferenceXaQDxIdeal.nD Cert.ReferenceXaQDxIdeal.τ Cert.ReferenceXaQDxIdeal.sig) → Buf (Elt Ideal) ℓ) (g' : Dev Cert.ReferenceXaQDxIdeal.nD → PrngReg), Pre_KernelXaQDxIdeal m →
    (∀ c : Dev Cert.KernelXaQDxIdeal.nD,
      m' ((c.tc : Thread Cert.ReferenceXaQDxIdeal.nD Cert.ReferenceXaQDxIdeal.τ).loc Cert.ReferenceXaQDxIdeal.main_arg0) = m ((c.tc : Thread Cert.KernelXaQDxIdeal.nD Cert.KernelXaQDxIdeal.τ).loc Cert.KernelXaQDxIdeal.main_arg0)
      ∧ m' ((c.tc : Thread Cert.ReferenceXaQDxIdeal.nD Cert.ReferenceXaQDxIdeal.τ).loc Cert.ReferenceXaQDxIdeal.main_arg1) = m ((c.tc : Thread Cert.KernelXaQDxIdeal.nD Cert.KernelXaQDxIdeal.τ).loc Cert.KernelXaQDxIdeal.main_arg1)) →
    ∃ (v0 : (c : Dev Cert.KernelXaQDxIdeal.nD) → Buf (Elt Ideal) ((c.tc : Thread Cert.KernelXaQDxIdeal.nD Cert.KernelXaQDxIdeal.τ).loc Cert.KernelXaQDxIdeal.main_v0)),
      θ_run (Cert.KernelXaQDxIdeal.defs (F := Ideal)) (onTc (τ := Cert.KernelXaQDxIdeal.τ) (Cert.KernelXaQDxIdeal.main (F := Ideal))) ⟨m, fun _ => 0, g⟩ (fun r => ∀ c : Dev Cert.KernelXaQDxIdeal.nD,
          r.2.mem ((c.tc : Thread Cert.KernelXaQDxIdeal.nD Cert.KernelXaQDxIdeal.τ).loc Cert.KernelXaQDxIdeal.main_v0) = v0 c
          ∧ r.2.mem ((c.tc : Thread Cert.KernelXaQDxIdeal.nD Cert.KernelXaQDxIdeal.τ).loc Cert.KernelXaQDxIdeal.main_arg0) = m ((c.tc : Thread Cert.KernelXaQDxIdeal.nD Cert.KernelXaQDxIdeal.τ).loc Cert.KernelXaQDxIdeal.main_arg0)
          ∧ r.2.mem ((c.tc : Thread Cert.KernelXaQDxIdeal.nD Cert.KernelXaQDxIdeal.τ).loc Cert.KernelXaQDxIdeal.main_arg1) = m ((c.tc : Thread Cert.KernelXaQDxIdeal.nD Cert.KernelXaQDxIdeal.τ).loc Cert.KernelXaQDxIdeal.main_arg1))
      ∧ θ_run (Cert.ReferenceXaQDxIdeal.defs (F := Ideal)) (onTc (τ := Cert.ReferenceXaQDxIdeal.τ) (Cert.ReferenceXaQDxIdeal.main (F := Ideal))) ⟨m', fun _ => 0, g'⟩ (fun r => ∀ c : Dev Cert.ReferenceXaQDxIdeal.nD,
          r.2.mem ((c.tc : Thread Cert.ReferenceXaQDxIdeal.nD Cert.ReferenceXaQDxIdeal.τ).loc Cert.ReferenceXaQDxIdeal.main_v3) = v0 c
          ∧ r.2.mem ((c.tc : Thread Cert.ReferenceXaQDxIdeal.nD Cert.ReferenceXaQDxIdeal.τ).loc Cert.ReferenceXaQDxIdeal.main_arg0) = m' ((c.tc : Thread Cert.ReferenceXaQDxIdeal.nD Cert.ReferenceXaQDxIdeal.τ).loc Cert.ReferenceXaQDxIdeal.main_arg0)
          ∧ r.2.mem ((c.tc : Thread Cert.ReferenceXaQDxIdeal.nD Cert.ReferenceXaQDxIdeal.τ).loc Cert.ReferenceXaQDxIdeal.main_arg1) = m' ((c.tc : Thread Cert.ReferenceXaQDxIdeal.nD Cert.ReferenceXaQDxIdeal.τ).loc Cert.ReferenceXaQDxIdeal.main_arg1))

def preserves_KernelXaO_KernelXaOIdeal : Prop :=
  True

def algebraic_KernelXaOIdeal_ReferenceXaOIdeal [hKernelXaOIdeal : Cert.KernelXaOIdeal.Facts] [hReferenceXaOIdeal : Cert.ReferenceXaOIdeal.Facts] : Prop :=
  ∀ (m : (ℓ : Loc Cert.KernelXaOIdeal.nD Cert.KernelXaOIdeal.τ Cert.KernelXaOIdeal.sig) → Buf (Elt Ideal) ℓ) (g : Dev Cert.KernelXaOIdeal.nD → PrngReg)
    (m' : (ℓ : Loc Cert.ReferenceXaOIdeal.nD Cert.ReferenceXaOIdeal.τ Cert.ReferenceXaOIdeal.sig) → Buf (Elt Ideal) ℓ) (g' : Dev Cert.ReferenceXaOIdeal.nD → PrngReg), Pre_KernelXaOIdeal m →
    (∀ c : Dev Cert.KernelXaOIdeal.nD,
      m' ((c.tc : Thread Cert.ReferenceXaOIdeal.nD Cert.ReferenceXaOIdeal.τ).loc Cert.ReferenceXaOIdeal.main_arg0) = m ((c.tc : Thread Cert.KernelXaOIdeal.nD Cert.KernelXaOIdeal.τ).loc Cert.KernelXaOIdeal.main_arg0)
      ∧ m' ((c.tc : Thread Cert.ReferenceXaOIdeal.nD Cert.ReferenceXaOIdeal.τ).loc Cert.ReferenceXaOIdeal.main_arg1) = m ((c.tc : Thread Cert.KernelXaOIdeal.nD Cert.KernelXaOIdeal.τ).loc Cert.KernelXaOIdeal.main_arg1)
      ∧ m' ((c.tc : Thread Cert.ReferenceXaOIdeal.nD Cert.ReferenceXaOIdeal.τ).loc Cert.ReferenceXaOIdeal.main_arg2) = m ((c.tc : Thread Cert.KernelXaOIdeal.nD Cert.KernelXaOIdeal.τ).loc Cert.KernelXaOIdeal.main_arg2)) →
    ∃ (v0 : (c : Dev Cert.KernelXaOIdeal.nD) → Buf (Elt Ideal) ((c.tc : Thread Cert.KernelXaOIdeal.nD Cert.KernelXaOIdeal.τ).loc Cert.KernelXaOIdeal.main_v0)),
      θ_run (Cert.KernelXaOIdeal.defs (F := Ideal)) (onTc (τ := Cert.KernelXaOIdeal.τ) (Cert.KernelXaOIdeal.main (F := Ideal))) ⟨m, fun _ => 0, g⟩ (fun r => ∀ c : Dev Cert.KernelXaOIdeal.nD,
          r.2.mem ((c.tc : Thread Cert.KernelXaOIdeal.nD Cert.KernelXaOIdeal.τ).loc Cert.KernelXaOIdeal.main_v0) = v0 c
          ∧ r.2.mem ((c.tc : Thread Cert.KernelXaOIdeal.nD Cert.KernelXaOIdeal.τ).loc Cert.KernelXaOIdeal.main_arg0) = m ((c.tc : Thread Cert.KernelXaOIdeal.nD Cert.KernelXaOIdeal.τ).loc Cert.KernelXaOIdeal.main_arg0)
          ∧ r.2.mem ((c.tc : Thread Cert.KernelXaOIdeal.nD Cert.KernelXaOIdeal.τ).loc Cert.KernelXaOIdeal.main_arg1) = m ((c.tc : Thread Cert.KernelXaOIdeal.nD Cert.KernelXaOIdeal.τ).loc Cert.KernelXaOIdeal.main_arg1)
          ∧ r.2.mem ((c.tc : Thread Cert.KernelXaOIdeal.nD Cert.KernelXaOIdeal.τ).loc Cert.KernelXaOIdeal.main_arg2) = m ((c.tc : Thread Cert.KernelXaOIdeal.nD Cert.KernelXaOIdeal.τ).loc Cert.KernelXaOIdeal.main_arg2))
      ∧ θ_run (Cert.ReferenceXaOIdeal.defs (F := Ideal)) (onTc (τ := Cert.ReferenceXaOIdeal.τ) (Cert.ReferenceXaOIdeal.main (F := Ideal))) ⟨m', fun _ => 0, g'⟩ (fun r => ∀ c : Dev Cert.ReferenceXaOIdeal.nD,
          r.2.mem ((c.tc : Thread Cert.ReferenceXaOIdeal.nD Cert.ReferenceXaOIdeal.τ).loc Cert.ReferenceXaOIdeal.main_v2) = v0 c
          ∧ r.2.mem ((c.tc : Thread Cert.ReferenceXaOIdeal.nD Cert.ReferenceXaOIdeal.τ).loc Cert.ReferenceXaOIdeal.main_arg0) = m' ((c.tc : Thread Cert.ReferenceXaOIdeal.nD Cert.ReferenceXaOIdeal.τ).loc Cert.ReferenceXaOIdeal.main_arg0)
          ∧ r.2.mem ((c.tc : Thread Cert.ReferenceXaOIdeal.nD Cert.ReferenceXaOIdeal.τ).loc Cert.ReferenceXaOIdeal.main_arg1) = m' ((c.tc : Thread Cert.ReferenceXaOIdeal.nD Cert.ReferenceXaOIdeal.τ).loc Cert.ReferenceXaOIdeal.main_arg1)
          ∧ r.2.mem ((c.tc : Thread Cert.ReferenceXaOIdeal.nD Cert.ReferenceXaOIdeal.τ).loc Cert.ReferenceXaOIdeal.main_arg2) = m' ((c.tc : Thread Cert.ReferenceXaOIdeal.nD Cert.ReferenceXaOIdeal.τ).loc Cert.ReferenceXaOIdeal.main_arg2))

def preserves_KernelXaODw_KernelXaODwIdeal : Prop :=
  True

def algebraic_KernelXaODwIdeal_ReferenceXaODwIdeal [hKernelXaODwIdeal : Cert.KernelXaODwIdeal.Facts] [hReferenceXaODwIdeal : Cert.ReferenceXaODwIdeal.Facts] : Prop :=
  ∀ (m : (ℓ : Loc Cert.KernelXaODwIdeal.nD Cert.KernelXaODwIdeal.τ Cert.KernelXaODwIdeal.sig) → Buf (Elt Ideal) ℓ) (g : Dev Cert.KernelXaODwIdeal.nD → PrngReg)
    (m' : (ℓ : Loc Cert.ReferenceXaODwIdeal.nD Cert.ReferenceXaODwIdeal.τ Cert.ReferenceXaODwIdeal.sig) → Buf (Elt Ideal) ℓ) (g' : Dev Cert.ReferenceXaODwIdeal.nD → PrngReg), Pre_KernelXaODwIdeal m →
    (∀ c : Dev Cert.KernelXaODwIdeal.nD,
      m' ((c.tc : Thread Cert.ReferenceXaODwIdeal.nD Cert.ReferenceXaODwIdeal.τ).loc Cert.ReferenceXaODwIdeal.main_arg0) = m ((c.tc : Thread Cert.KernelXaODwIdeal.nD Cert.KernelXaODwIdeal.τ).loc Cert.KernelXaODwIdeal.main_arg0)
      ∧ m' ((c.tc : Thread Cert.ReferenceXaODwIdeal.nD Cert.ReferenceXaODwIdeal.τ).loc Cert.ReferenceXaODwIdeal.main_arg1) = m ((c.tc : Thread Cert.KernelXaODwIdeal.nD Cert.KernelXaODwIdeal.τ).loc Cert.KernelXaODwIdeal.main_arg1)) →
    ∃ (v0 : (c : Dev Cert.KernelXaODwIdeal.nD) → Buf (Elt Ideal) ((c.tc : Thread Cert.KernelXaODwIdeal.nD Cert.KernelXaODwIdeal.τ).loc Cert.KernelXaODwIdeal.main_v0)),
      θ_run (Cert.KernelXaODwIdeal.defs (F := Ideal)) (onTc (τ := Cert.KernelXaODwIdeal.τ) (Cert.KernelXaODwIdeal.main (F := Ideal))) ⟨m, fun _ => 0, g⟩ (fun r => ∀ c : Dev Cert.KernelXaODwIdeal.nD,
          r.2.mem ((c.tc : Thread Cert.KernelXaODwIdeal.nD Cert.KernelXaODwIdeal.τ).loc Cert.KernelXaODwIdeal.main_v0) = v0 c
          ∧ r.2.mem ((c.tc : Thread Cert.KernelXaODwIdeal.nD Cert.KernelXaODwIdeal.τ).loc Cert.KernelXaODwIdeal.main_arg0) = m ((c.tc : Thread Cert.KernelXaODwIdeal.nD Cert.KernelXaODwIdeal.τ).loc Cert.KernelXaODwIdeal.main_arg0)
          ∧ r.2.mem ((c.tc : Thread Cert.KernelXaODwIdeal.nD Cert.KernelXaODwIdeal.τ).loc Cert.KernelXaODwIdeal.main_arg1) = m ((c.tc : Thread Cert.KernelXaODwIdeal.nD Cert.KernelXaODwIdeal.τ).loc Cert.KernelXaODwIdeal.main_arg1))
      ∧ θ_run (Cert.ReferenceXaODwIdeal.defs (F := Ideal)) (onTc (τ := Cert.ReferenceXaODwIdeal.τ) (Cert.ReferenceXaODwIdeal.main (F := Ideal))) ⟨m', fun _ => 0, g'⟩ (fun r => ∀ c : Dev Cert.ReferenceXaODwIdeal.nD,
          r.2.mem ((c.tc : Thread Cert.ReferenceXaODwIdeal.nD Cert.ReferenceXaODwIdeal.τ).loc Cert.ReferenceXaODwIdeal.main_v4) = v0 c
          ∧ r.2.mem ((c.tc : Thread Cert.ReferenceXaODwIdeal.nD Cert.ReferenceXaODwIdeal.τ).loc Cert.ReferenceXaODwIdeal.main_arg0) = m' ((c.tc : Thread Cert.ReferenceXaODwIdeal.nD Cert.ReferenceXaODwIdeal.τ).loc Cert.ReferenceXaODwIdeal.main_arg0)
          ∧ r.2.mem ((c.tc : Thread Cert.ReferenceXaODwIdeal.nD Cert.ReferenceXaODwIdeal.τ).loc Cert.ReferenceXaODwIdeal.main_arg1) = m' ((c.tc : Thread Cert.ReferenceXaODwIdeal.nD Cert.ReferenceXaODwIdeal.τ).loc Cert.ReferenceXaODwIdeal.main_arg1))

def preserves_KernelXaODx_KernelXaODxIdeal : Prop :=
  True

def algebraic_KernelXaODxIdeal_ReferenceXaODxIdeal [hKernelXaODxIdeal : Cert.KernelXaODxIdeal.Facts] [hReferenceXaODxIdeal : Cert.ReferenceXaODxIdeal.Facts] : Prop :=
  ∀ (m : (ℓ : Loc Cert.KernelXaODxIdeal.nD Cert.KernelXaODxIdeal.τ Cert.KernelXaODxIdeal.sig) → Buf (Elt Ideal) ℓ) (g : Dev Cert.KernelXaODxIdeal.nD → PrngReg)
    (m' : (ℓ : Loc Cert.ReferenceXaODxIdeal.nD Cert.ReferenceXaODxIdeal.τ Cert.ReferenceXaODxIdeal.sig) → Buf (Elt Ideal) ℓ) (g' : Dev Cert.ReferenceXaODxIdeal.nD → PrngReg), Pre_KernelXaODxIdeal m →
    (∀ c : Dev Cert.KernelXaODxIdeal.nD,
      m' ((c.tc : Thread Cert.ReferenceXaODxIdeal.nD Cert.ReferenceXaODxIdeal.τ).loc Cert.ReferenceXaODxIdeal.main_arg0) = m ((c.tc : Thread Cert.KernelXaODxIdeal.nD Cert.KernelXaODxIdeal.τ).loc Cert.KernelXaODxIdeal.main_arg0)
      ∧ m' ((c.tc : Thread Cert.ReferenceXaODxIdeal.nD Cert.ReferenceXaODxIdeal.τ).loc Cert.ReferenceXaODxIdeal.main_arg1) = m ((c.tc : Thread Cert.KernelXaODxIdeal.nD Cert.KernelXaODxIdeal.τ).loc Cert.KernelXaODxIdeal.main_arg1)) →
    ∃ (v0 : (c : Dev Cert.KernelXaODxIdeal.nD) → Buf (Elt Ideal) ((c.tc : Thread Cert.KernelXaODxIdeal.nD Cert.KernelXaODxIdeal.τ).loc Cert.KernelXaODxIdeal.main_v0)),
      θ_run (Cert.KernelXaODxIdeal.defs (F := Ideal)) (onTc (τ := Cert.KernelXaODxIdeal.τ) (Cert.KernelXaODxIdeal.main (F := Ideal))) ⟨m, fun _ => 0, g⟩ (fun r => ∀ c : Dev Cert.KernelXaODxIdeal.nD,
          r.2.mem ((c.tc : Thread Cert.KernelXaODxIdeal.nD Cert.KernelXaODxIdeal.τ).loc Cert.KernelXaODxIdeal.main_v0) = v0 c
          ∧ r.2.mem ((c.tc : Thread Cert.KernelXaODxIdeal.nD Cert.KernelXaODxIdeal.τ).loc Cert.KernelXaODxIdeal.main_arg0) = m ((c.tc : Thread Cert.KernelXaODxIdeal.nD Cert.KernelXaODxIdeal.τ).loc Cert.KernelXaODxIdeal.main_arg0)
          ∧ r.2.mem ((c.tc : Thread Cert.KernelXaODxIdeal.nD Cert.KernelXaODxIdeal.τ).loc Cert.KernelXaODxIdeal.main_arg1) = m ((c.tc : Thread Cert.KernelXaODxIdeal.nD Cert.KernelXaODxIdeal.τ).loc Cert.KernelXaODxIdeal.main_arg1))
      ∧ θ_run (Cert.ReferenceXaODxIdeal.defs (F := Ideal)) (onTc (τ := Cert.ReferenceXaODxIdeal.τ) (Cert.ReferenceXaODxIdeal.main (F := Ideal))) ⟨m', fun _ => 0, g'⟩ (fun r => ∀ c : Dev Cert.ReferenceXaODxIdeal.nD,
          r.2.mem ((c.tc : Thread Cert.ReferenceXaODxIdeal.nD Cert.ReferenceXaODxIdeal.τ).loc Cert.ReferenceXaODxIdeal.main_v3) = v0 c
          ∧ r.2.mem ((c.tc : Thread Cert.ReferenceXaODxIdeal.nD Cert.ReferenceXaODxIdeal.τ).loc Cert.ReferenceXaODxIdeal.main_arg0) = m' ((c.tc : Thread Cert.ReferenceXaODxIdeal.nD Cert.ReferenceXaODxIdeal.τ).loc Cert.ReferenceXaODxIdeal.main_arg0)
          ∧ r.2.mem ((c.tc : Thread Cert.ReferenceXaODxIdeal.nD Cert.ReferenceXaODxIdeal.τ).loc Cert.ReferenceXaODxIdeal.main_arg1) = m' ((c.tc : Thread Cert.ReferenceXaODxIdeal.nD Cert.ReferenceXaODxIdeal.τ).loc Cert.ReferenceXaODxIdeal.main_arg1))

def preserves_KernelFox_KernelFoxIdeal : Prop :=
  True

def algebraic_KernelFoxIdeal_ReferenceFoxIdeal_pre_finite_fox [hKernelFoxIdeal : Cert.KernelFoxIdeal.Facts] [hReferenceFoxIdeal : Cert.ReferenceFoxIdeal.Facts] [hPre_finite_fox : Cert.Pre_finite_fox.Facts] : Prop :=
  ∀ (m : (ℓ : Loc Cert.KernelFoxIdeal.nD Cert.KernelFoxIdeal.τ Cert.KernelFoxIdeal.sig) → Buf (Elt Ideal) ℓ) (g : Dev Cert.KernelFoxIdeal.nD → PrngReg)
    (m' : (ℓ : Loc Cert.ReferenceFoxIdeal.nD Cert.ReferenceFoxIdeal.τ Cert.ReferenceFoxIdeal.sig) → Buf (Elt Ideal) ℓ) (g' : Dev Cert.ReferenceFoxIdeal.nD → PrngReg), Pre_KernelFoxIdeal_finite_fox m →
    (∀ c : Dev Cert.KernelFoxIdeal.nD,
      m' ((c.tc : Thread Cert.ReferenceFoxIdeal.nD Cert.ReferenceFoxIdeal.τ).loc Cert.ReferenceFoxIdeal.main_arg0) = m ((c.tc : Thread Cert.KernelFoxIdeal.nD Cert.KernelFoxIdeal.τ).loc Cert.KernelFoxIdeal.main_arg0)
      ∧ m' ((c.tc : Thread Cert.ReferenceFoxIdeal.nD Cert.ReferenceFoxIdeal.τ).loc Cert.ReferenceFoxIdeal.main_arg1) = m ((c.tc : Thread Cert.KernelFoxIdeal.nD Cert.KernelFoxIdeal.τ).loc Cert.KernelFoxIdeal.main_arg1)
      ∧ m' ((c.tc : Thread Cert.ReferenceFoxIdeal.nD Cert.ReferenceFoxIdeal.τ).loc Cert.ReferenceFoxIdeal.main_arg2) = m ((c.tc : Thread Cert.KernelFoxIdeal.nD Cert.KernelFoxIdeal.τ).loc Cert.KernelFoxIdeal.main_arg2)
      ∧ m' ((c.tc : Thread Cert.ReferenceFoxIdeal.nD Cert.ReferenceFoxIdeal.τ).loc Cert.ReferenceFoxIdeal.main_arg3) = m ((c.tc : Thread Cert.KernelFoxIdeal.nD Cert.KernelFoxIdeal.τ).loc Cert.KernelFoxIdeal.main_arg3)) →
    ∃ (v0 : (c : Dev Cert.KernelFoxIdeal.nD) → Buf (Elt Ideal) ((c.tc : Thread Cert.KernelFoxIdeal.nD Cert.KernelFoxIdeal.τ).loc Cert.KernelFoxIdeal.main_v5_0)) (v1 : (c : Dev Cert.KernelFoxIdeal.nD) → Buf (Elt Ideal) ((c.tc : Thread Cert.KernelFoxIdeal.nD Cert.KernelFoxIdeal.τ).loc Cert.KernelFoxIdeal.main_v5_1)),
      θ_run (Cert.KernelFoxIdeal.defs (F := Ideal)) (onTc (τ := Cert.KernelFoxIdeal.τ) (Cert.KernelFoxIdeal.main (F := Ideal))) ⟨m, fun _ => 0, g⟩ (fun r => ∀ c : Dev Cert.KernelFoxIdeal.nD,
          r.2.mem ((c.tc : Thread Cert.KernelFoxIdeal.nD Cert.KernelFoxIdeal.τ).loc Cert.KernelFoxIdeal.main_v5_0) = v0 c
          ∧ r.2.mem ((c.tc : Thread Cert.KernelFoxIdeal.nD Cert.KernelFoxIdeal.τ).loc Cert.KernelFoxIdeal.main_v5_1) = v1 c
          ∧ r.2.mem ((c.tc : Thread Cert.KernelFoxIdeal.nD Cert.KernelFoxIdeal.τ).loc Cert.KernelFoxIdeal.main_arg0) = m ((c.tc : Thread Cert.KernelFoxIdeal.nD Cert.KernelFoxIdeal.τ).loc Cert.KernelFoxIdeal.main_arg0)
          ∧ r.2.mem ((c.tc : Thread Cert.KernelFoxIdeal.nD Cert.KernelFoxIdeal.τ).loc Cert.KernelFoxIdeal.main_arg1) = m ((c.tc : Thread Cert.KernelFoxIdeal.nD Cert.KernelFoxIdeal.τ).loc Cert.KernelFoxIdeal.main_arg1)
          ∧ r.2.mem ((c.tc : Thread Cert.KernelFoxIdeal.nD Cert.KernelFoxIdeal.τ).loc Cert.KernelFoxIdeal.main_arg2) = m ((c.tc : Thread Cert.KernelFoxIdeal.nD Cert.KernelFoxIdeal.τ).loc Cert.KernelFoxIdeal.main_arg2)
          ∧ r.2.mem ((c.tc : Thread Cert.KernelFoxIdeal.nD Cert.KernelFoxIdeal.τ).loc Cert.KernelFoxIdeal.main_arg3) = m ((c.tc : Thread Cert.KernelFoxIdeal.nD Cert.KernelFoxIdeal.τ).loc Cert.KernelFoxIdeal.main_arg3))
      ∧ θ_run (Cert.ReferenceFoxIdeal.defs (F := Ideal)) (onTc (τ := Cert.ReferenceFoxIdeal.τ) (Cert.ReferenceFoxIdeal.main (F := Ideal))) ⟨m', fun _ => 0, g'⟩ (fun r => ∀ c : Dev Cert.ReferenceFoxIdeal.nD,
          r.2.mem ((c.tc : Thread Cert.ReferenceFoxIdeal.nD Cert.ReferenceFoxIdeal.τ).loc Cert.ReferenceFoxIdeal.main_v31) = v0 c
          ∧ r.2.mem ((c.tc : Thread Cert.ReferenceFoxIdeal.nD Cert.ReferenceFoxIdeal.τ).loc Cert.ReferenceFoxIdeal.main_v42) = v1 c
          ∧ r.2.mem ((c.tc : Thread Cert.ReferenceFoxIdeal.nD Cert.ReferenceFoxIdeal.τ).loc Cert.ReferenceFoxIdeal.main_arg0) = m' ((c.tc : Thread Cert.ReferenceFoxIdeal.nD Cert.ReferenceFoxIdeal.τ).loc Cert.ReferenceFoxIdeal.main_arg0)
          ∧ r.2.mem ((c.tc : Thread Cert.ReferenceFoxIdeal.nD Cert.ReferenceFoxIdeal.τ).loc Cert.ReferenceFoxIdeal.main_arg1) = m' ((c.tc : Thread Cert.ReferenceFoxIdeal.nD Cert.ReferenceFoxIdeal.τ).loc Cert.ReferenceFoxIdeal.main_arg1)
          ∧ r.2.mem ((c.tc : Thread Cert.ReferenceFoxIdeal.nD Cert.ReferenceFoxIdeal.τ).loc Cert.ReferenceFoxIdeal.main_arg2) = m' ((c.tc : Thread Cert.ReferenceFoxIdeal.nD Cert.ReferenceFoxIdeal.τ).loc Cert.ReferenceFoxIdeal.main_arg2)
          ∧ r.2.mem ((c.tc : Thread Cert.ReferenceFoxIdeal.nD Cert.ReferenceFoxIdeal.τ).loc Cert.ReferenceFoxIdeal.main_arg3) = m' ((c.tc : Thread Cert.ReferenceFoxIdeal.nD Cert.ReferenceFoxIdeal.τ).loc Cert.ReferenceFoxIdeal.main_arg3))

def Claim : Prop :=
  ∃ (hKernel : Cert.Kernel.Facts) (hKernelIdeal : Cert.KernelIdeal.Facts) (hReferenceIdeal : Cert.ReferenceIdeal.Facts) (hKernelUpDw : Cert.KernelUpDw.Facts) (hKernelUpDwIdeal : Cert.KernelUpDwIdeal.Facts) (hReferenceUpDwIdeal : Cert.ReferenceUpDwIdeal.Facts) (hKernelUpDx : Cert.KernelUpDx.Facts) (hKernelUpDxIdeal : Cert.KernelUpDxIdeal.Facts) (hReferenceUpDxIdeal : Cert.ReferenceUpDxIdeal.Facts) (hKernelDownDw : Cert.KernelDownDw.Facts) (hKernelDownDwIdeal : Cert.KernelDownDwIdeal.Facts) (hReferenceDownDwIdeal : Cert.ReferenceDownDwIdeal.Facts) (hKernelDownDx : Cert.KernelDownDx.Facts) (hKernelDownDxIdeal : Cert.KernelDownDxIdeal.Facts) (hReferenceDownDxIdeal : Cert.ReferenceDownDxIdeal.Facts) (hKernelInDw : Cert.KernelInDw.Facts) (hKernelInDwIdeal : Cert.KernelInDwIdeal.Facts) (hReferenceInDwIdeal : Cert.ReferenceInDwIdeal.Facts) (hKernelInDx : Cert.KernelInDx.Facts) (hKernelInDxIdeal : Cert.KernelInDxIdeal.Facts) (hReferenceInDxIdeal : Cert.ReferenceInDxIdeal.Facts) (hKernelIn : Cert.KernelIn.Facts) (hKernelInIdeal : Cert.KernelInIdeal.Facts) (hReferenceInIdeal : Cert.ReferenceInIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelOutDw : Cert.KernelOutDw.Facts) (hKernelOutDwIdeal : Cert.KernelOutDwIdeal.Facts) (hReferenceOutDwIdeal : Cert.ReferenceOutDwIdeal.Facts) (hKernelOutDx : Cert.KernelOutDx.Facts) (hKernelOutDxIdeal : Cert.KernelOutDxIdeal.Facts) (hReferenceOutDxIdeal : Cert.ReferenceOutDxIdeal.Facts) (hKernelBranchDw : Cert.KernelBranchDw.Facts) (hKernelBranchDwIdeal : Cert.KernelBranchDwIdeal.Facts) (hReferenceBranchDwIdeal : Cert.ReferenceBranchDwIdeal.Facts) (hKernelBranchDx : Cert.KernelBranchDx.Facts) (hKernelBranchDxIdeal : Cert.KernelBranchDxIdeal.Facts) (hReferenceBranchDxIdeal : Cert.ReferenceBranchDxIdeal.Facts) (hKernelOut : Cert.KernelOut.Facts) (hKernelOutIdeal : Cert.KernelOutIdeal.Facts) (hReferenceOutIdeal : Cert.ReferenceOutIdeal.Facts) (hKernelBranch : Cert.KernelBranch.Facts) (hKernelBranchIdeal : Cert.KernelBranchIdeal.Facts) (hReferenceBranchIdeal : Cert.ReferenceBranchIdeal.Facts) (hKernelXaQ : Cert.KernelXaQ.Facts) (hKernelXaQIdeal : Cert.KernelXaQIdeal.Facts) (hReferenceXaQIdeal : Cert.ReferenceXaQIdeal.Facts) (hKernelXaQDw : Cert.KernelXaQDw.Facts) (hKernelXaQDwIdeal : Cert.KernelXaQDwIdeal.Facts) (hReferenceXaQDwIdeal : Cert.ReferenceXaQDwIdeal.Facts) (hKernelXaQDx : Cert.KernelXaQDx.Facts) (hKernelXaQDxIdeal : Cert.KernelXaQDxIdeal.Facts) (hReferenceXaQDxIdeal : Cert.ReferenceXaQDxIdeal.Facts) (hKernelXaO : Cert.KernelXaO.Facts) (hKernelXaOIdeal : Cert.KernelXaOIdeal.Facts) (hReferenceXaOIdeal : Cert.ReferenceXaOIdeal.Facts) (hKernelXaODw : Cert.KernelXaODw.Facts) (hKernelXaODwIdeal : Cert.KernelXaODwIdeal.Facts) (hReferenceXaODwIdeal : Cert.ReferenceXaODwIdeal.Facts) (hKernelXaODx : Cert.KernelXaODx.Facts) (hKernelXaODxIdeal : Cert.KernelXaODxIdeal.Facts) (hReferenceXaODxIdeal : Cert.ReferenceXaODxIdeal.Facts) (hKernelFox : Cert.KernelFox.Facts) (hKernelFoxIdeal : Cert.KernelFoxIdeal.Facts) (hReferenceFoxIdeal : Cert.ReferenceFoxIdeal.Facts) (hPre_finite_arguments : Cert.Pre_finite_arguments.Facts) (hPre_finite_fox : Cert.Pre_finite_fox.Facts),
    quiescent_Kernel (hKernel := hKernel)
    ∧ quiescent_KernelIdeal (hKernelIdeal := hKernelIdeal)
    ∧ quiescent_KernelIdeal_pre_finite_arguments (hKernelIdeal := hKernelIdeal) (hPre_finite_arguments := hPre_finite_arguments)
    ∧ quiescent_ReferenceIdeal (hReferenceIdeal := hReferenceIdeal)
    ∧ quiescent_ReferenceIdeal_pre_finite_arguments (hReferenceIdeal := hReferenceIdeal) (hPre_finite_arguments := hPre_finite_arguments)
    ∧ quiescent_KernelUpDw (hKernelUpDw := hKernelUpDw)
    ∧ quiescent_KernelUpDwIdeal (hKernelUpDwIdeal := hKernelUpDwIdeal)
    ∧ quiescent_ReferenceUpDwIdeal (hReferenceUpDwIdeal := hReferenceUpDwIdeal)
    ∧ quiescent_KernelUpDx (hKernelUpDx := hKernelUpDx)
    ∧ quiescent_KernelUpDxIdeal (hKernelUpDxIdeal := hKernelUpDxIdeal)
    ∧ quiescent_ReferenceUpDxIdeal (hReferenceUpDxIdeal := hReferenceUpDxIdeal)
    ∧ quiescent_KernelDownDw (hKernelDownDw := hKernelDownDw)
    ∧ quiescent_KernelDownDwIdeal (hKernelDownDwIdeal := hKernelDownDwIdeal)
    ∧ quiescent_ReferenceDownDwIdeal (hReferenceDownDwIdeal := hReferenceDownDwIdeal)
    ∧ quiescent_KernelDownDx (hKernelDownDx := hKernelDownDx)
    ∧ quiescent_KernelDownDxIdeal (hKernelDownDxIdeal := hKernelDownDxIdeal)
    ∧ quiescent_ReferenceDownDxIdeal (hReferenceDownDxIdeal := hReferenceDownDxIdeal)
    ∧ quiescent_KernelInDw (hKernelInDw := hKernelInDw)
    ∧ quiescent_KernelInDwIdeal (hKernelInDwIdeal := hKernelInDwIdeal)
    ∧ quiescent_ReferenceInDwIdeal (hReferenceInDwIdeal := hReferenceInDwIdeal)
    ∧ quiescent_KernelInDx (hKernelInDx := hKernelInDx)
    ∧ quiescent_KernelInDxIdeal (hKernelInDxIdeal := hKernelInDxIdeal)
    ∧ quiescent_ReferenceInDxIdeal (hReferenceInDxIdeal := hReferenceInDxIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelOutDw (hKernelOutDw := hKernelOutDw)
    ∧ quiescent_KernelOutDwIdeal (hKernelOutDwIdeal := hKernelOutDwIdeal)
    ∧ quiescent_ReferenceOutDwIdeal (hReferenceOutDwIdeal := hReferenceOutDwIdeal)
    ∧ quiescent_KernelOutDx (hKernelOutDx := hKernelOutDx)
    ∧ quiescent_KernelOutDxIdeal (hKernelOutDxIdeal := hKernelOutDxIdeal)
    ∧ quiescent_ReferenceOutDxIdeal (hReferenceOutDxIdeal := hReferenceOutDxIdeal)
    ∧ quiescent_KernelBranchDw (hKernelBranchDw := hKernelBranchDw)
    ∧ quiescent_KernelBranchDwIdeal (hKernelBranchDwIdeal := hKernelBranchDwIdeal)
    ∧ quiescent_ReferenceBranchDwIdeal (hReferenceBranchDwIdeal := hReferenceBranchDwIdeal)
    ∧ quiescent_KernelBranchDx (hKernelBranchDx := hKernelBranchDx)
    ∧ quiescent_KernelBranchDxIdeal (hKernelBranchDxIdeal := hKernelBranchDxIdeal)
    ∧ quiescent_ReferenceBranchDxIdeal (hReferenceBranchDxIdeal := hReferenceBranchDxIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelBranch (hKernelBranch := hKernelBranch)
    ∧ quiescent_KernelBranchIdeal (hKernelBranchIdeal := hKernelBranchIdeal)
    ∧ quiescent_ReferenceBranchIdeal (hReferenceBranchIdeal := hReferenceBranchIdeal)
    ∧ quiescent_KernelXaQ (hKernelXaQ := hKernelXaQ)
    ∧ quiescent_KernelXaQIdeal (hKernelXaQIdeal := hKernelXaQIdeal)
    ∧ quiescent_ReferenceXaQIdeal (hReferenceXaQIdeal := hReferenceXaQIdeal)
    ∧ quiescent_KernelXaQDw (hKernelXaQDw := hKernelXaQDw)
    ∧ quiescent_KernelXaQDwIdeal (hKernelXaQDwIdeal := hKernelXaQDwIdeal)
    ∧ quiescent_ReferenceXaQDwIdeal (hReferenceXaQDwIdeal := hReferenceXaQDwIdeal)
    ∧ quiescent_KernelXaQDx (hKernelXaQDx := hKernelXaQDx)
    ∧ quiescent_KernelXaQDxIdeal (hKernelXaQDxIdeal := hKernelXaQDxIdeal)
    ∧ quiescent_ReferenceXaQDxIdeal (hReferenceXaQDxIdeal := hReferenceXaQDxIdeal)
    ∧ quiescent_KernelXaO (hKernelXaO := hKernelXaO)
    ∧ quiescent_KernelXaOIdeal (hKernelXaOIdeal := hKernelXaOIdeal)
    ∧ quiescent_ReferenceXaOIdeal (hReferenceXaOIdeal := hReferenceXaOIdeal)
    ∧ quiescent_KernelXaODw (hKernelXaODw := hKernelXaODw)
    ∧ quiescent_KernelXaODwIdeal (hKernelXaODwIdeal := hKernelXaODwIdeal)
    ∧ quiescent_ReferenceXaODwIdeal (hReferenceXaODwIdeal := hReferenceXaODwIdeal)
    ∧ quiescent_KernelXaODx (hKernelXaODx := hKernelXaODx)
    ∧ quiescent_KernelXaODxIdeal (hKernelXaODxIdeal := hKernelXaODxIdeal)
    ∧ quiescent_ReferenceXaODxIdeal (hReferenceXaODxIdeal := hReferenceXaODxIdeal)
    ∧ quiescent_KernelFox (hKernelFox := hKernelFox)
    ∧ quiescent_KernelFoxIdeal (hKernelFoxIdeal := hKernelFoxIdeal)
    ∧ quiescent_KernelFoxIdeal_pre_finite_fox (hKernelFoxIdeal := hKernelFoxIdeal) (hPre_finite_fox := hPre_finite_fox)
    ∧ quiescent_ReferenceFoxIdeal (hReferenceFoxIdeal := hReferenceFoxIdeal)
    ∧ quiescent_ReferenceFoxIdeal_pre_finite_fox (hReferenceFoxIdeal := hReferenceFoxIdeal) (hPre_finite_fox := hPre_finite_fox)
    ∧ preserves_Kernel_KernelIdeal
    ∧ algebraic_KernelIdeal_ReferenceIdeal_pre_finite_arguments (hKernelIdeal := hKernelIdeal) (hReferenceIdeal := hReferenceIdeal) (hPre_finite_arguments := hPre_finite_arguments)
    ∧ preserves_KernelUpDw_KernelUpDwIdeal
    ∧ algebraic_KernelUpDwIdeal_ReferenceUpDwIdeal (hKernelUpDwIdeal := hKernelUpDwIdeal) (hReferenceUpDwIdeal := hReferenceUpDwIdeal)
    ∧ preserves_KernelUpDx_KernelUpDxIdeal
    ∧ algebraic_KernelUpDxIdeal_ReferenceUpDxIdeal (hKernelUpDxIdeal := hKernelUpDxIdeal) (hReferenceUpDxIdeal := hReferenceUpDxIdeal)
    ∧ preserves_KernelDownDw_KernelDownDwIdeal
    ∧ algebraic_KernelDownDwIdeal_ReferenceDownDwIdeal (hKernelDownDwIdeal := hKernelDownDwIdeal) (hReferenceDownDwIdeal := hReferenceDownDwIdeal)
    ∧ preserves_KernelDownDx_KernelDownDxIdeal
    ∧ algebraic_KernelDownDxIdeal_ReferenceDownDxIdeal (hKernelDownDxIdeal := hKernelDownDxIdeal) (hReferenceDownDxIdeal := hReferenceDownDxIdeal)
    ∧ preserves_KernelInDw_KernelInDwIdeal
    ∧ algebraic_KernelInDwIdeal_ReferenceInDwIdeal (hKernelInDwIdeal := hKernelInDwIdeal) (hReferenceInDwIdeal := hReferenceInDwIdeal)
    ∧ preserves_KernelInDx_KernelInDxIdeal
    ∧ algebraic_KernelInDxIdeal_ReferenceInDxIdeal (hKernelInDxIdeal := hKernelInDxIdeal) (hReferenceInDxIdeal := hReferenceInDxIdeal)
    ∧ preserves_KernelIn_KernelInIdeal
    ∧ algebraic_KernelInIdeal_ReferenceInIdeal (hKernelInIdeal := hKernelInIdeal) (hReferenceInIdeal := hReferenceInIdeal)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelOutDw_KernelOutDwIdeal
    ∧ algebraic_KernelOutDwIdeal_ReferenceOutDwIdeal (hKernelOutDwIdeal := hKernelOutDwIdeal) (hReferenceOutDwIdeal := hReferenceOutDwIdeal)
    ∧ preserves_KernelOutDx_KernelOutDxIdeal
    ∧ algebraic_KernelOutDxIdeal_ReferenceOutDxIdeal (hKernelOutDxIdeal := hKernelOutDxIdeal) (hReferenceOutDxIdeal := hReferenceOutDxIdeal)
    ∧ preserves_KernelBranchDw_KernelBranchDwIdeal
    ∧ algebraic_KernelBranchDwIdeal_ReferenceBranchDwIdeal (hKernelBranchDwIdeal := hKernelBranchDwIdeal) (hReferenceBranchDwIdeal := hReferenceBranchDwIdeal)
    ∧ preserves_KernelBranchDx_KernelBranchDxIdeal
    ∧ algebraic_KernelBranchDxIdeal_ReferenceBranchDxIdeal (hKernelBranchDxIdeal := hKernelBranchDxIdeal) (hReferenceBranchDxIdeal := hReferenceBranchDxIdeal)
    ∧ preserves_KernelOut_KernelOutIdeal
    ∧ algebraic_KernelOutIdeal_ReferenceOutIdeal (hKernelOutIdeal := hKernelOutIdeal) (hReferenceOutIdeal := hReferenceOutIdeal)
    ∧ preserves_KernelBranch_KernelBranchIdeal
    ∧ algebraic_KernelBranchIdeal_ReferenceBranchIdeal (hKernelBranchIdeal := hKernelBranchIdeal) (hReferenceBranchIdeal := hReferenceBranchIdeal)
    ∧ preserves_KernelXaQ_KernelXaQIdeal
    ∧ algebraic_KernelXaQIdeal_ReferenceXaQIdeal (hKernelXaQIdeal := hKernelXaQIdeal) (hReferenceXaQIdeal := hReferenceXaQIdeal)
    ∧ preserves_KernelXaQDw_KernelXaQDwIdeal
    ∧ algebraic_KernelXaQDwIdeal_ReferenceXaQDwIdeal (hKernelXaQDwIdeal := hKernelXaQDwIdeal) (hReferenceXaQDwIdeal := hReferenceXaQDwIdeal)
    ∧ preserves_KernelXaQDx_KernelXaQDxIdeal
    ∧ algebraic_KernelXaQDxIdeal_ReferenceXaQDxIdeal (hKernelXaQDxIdeal := hKernelXaQDxIdeal) (hReferenceXaQDxIdeal := hReferenceXaQDxIdeal)
    ∧ preserves_KernelXaO_KernelXaOIdeal
    ∧ algebraic_KernelXaOIdeal_ReferenceXaOIdeal (hKernelXaOIdeal := hKernelXaOIdeal) (hReferenceXaOIdeal := hReferenceXaOIdeal)
    ∧ preserves_KernelXaODw_KernelXaODwIdeal
    ∧ algebraic_KernelXaODwIdeal_ReferenceXaODwIdeal (hKernelXaODwIdeal := hKernelXaODwIdeal) (hReferenceXaODwIdeal := hReferenceXaODwIdeal)
    ∧ preserves_KernelXaODx_KernelXaODxIdeal
    ∧ algebraic_KernelXaODxIdeal_ReferenceXaODxIdeal (hKernelXaODxIdeal := hKernelXaODxIdeal) (hReferenceXaODxIdeal := hReferenceXaODxIdeal)
    ∧ preserves_KernelFox_KernelFoxIdeal
    ∧ algebraic_KernelFoxIdeal_ReferenceFoxIdeal_pre_finite_fox (hKernelFoxIdeal := hKernelFoxIdeal) (hReferenceFoxIdeal := hReferenceFoxIdeal) (hPre_finite_fox := hPre_finite_fox)
-- ==== Pre_finite_arguments.lean ====
abbrev S8192x1024 : Shape := ⟨2, ![8192, 1024]⟩
abbrev S8192x8 : Shape := ⟨2, ![8192, 8]⟩
abbrev S_ : Shape := ⟨0, ![]⟩

class Facts : Prop where
  bcast_S_S8192x1024 : S_.BroadcastsInDim S8192x1024 (![] : Fin 0 → Fin S8192x1024.rank)
  bcast_S_S8192x8 : S_.BroadcastsInDim S8192x8 (![] : Fin 0 → Fin S8192x8.rank)

variable [Facts]

def fn {F : FTy → Type} [FloatOps F] (main_arg0 : FVec F S8192x1024 .f32) (main_arg1 : FVec F S8192x1024 .f32) (main_arg2 : FVec F S8192x1024 .f32) (main_arg3 : FVec F S8192x8 .f32) (main_arg4 : FVec F S8192x1024 .f32) : IVec S8192x1024 1 × IVec S8192x1024 1 × IVec S8192x1024 1 × IVec S8192x8 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x8 .f32 := Host.absf main_arg3
  let main_cst_2 : FVec F S_ .f32 := constant S_ .f32 0x7F800000#32
  let main_v10 : FVec F S8192x8 .f32 := broadcastInDim S8192x8 ![] bcast_S_S8192x8 main_cst_2
  let main_v11 : IVec S8192x8 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_finite_fox.lean ====
abbrev S8192x1024 : Shape := ⟨2, ![8192, 1024]⟩
abbrev S8192x8 : Shape := ⟨2, ![8192, 8]⟩
abbrev S_ : Shape := ⟨0, ![]⟩

class Facts : Prop where
  bcast_S_S8192x1024 : S_.BroadcastsInDim S8192x1024 (![] : Fin 0 → Fin S8192x1024.rank)
  bcast_S_S8192x8 : S_.BroadcastsInDim S8192x8 (![] : Fin 0 → Fin S8192x8.rank)

variable [Facts]

def fn {F : FTy → Type} [FloatOps F] (main_arg0 : FVec F S8192x1024 .f32) (main_arg1 : FVec F S8192x1024 .f32) (main_arg2 : FVec F S8192x1024 .f32) (main_arg3 : FVec F S8192x8 .f32) : IVec S8192x1024 1 × IVec S8192x1024 1 × IVec S8192x1024 1 × IVec S8192x8 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_v6 : FVec F S8192x1024 .f32 := Host.absf main_arg2
  let main_cst_1 : FVec F S_ .f32 := constant S_ .f32 0x7F800000#32
  let main_v7 : FVec F S8192x1024 .f32 := broadcastInDim S8192x1024 ![] bcast_S_S8192x1024 main_cst_1
  let main_v8 : IVec S8192x1024 1 := cmpf .olt main_v6 main_v7
  let main_v9 : FVec F S8192x8 .f32 := Host.absf main_arg3
  let main_cst_2 : FVec F S_ .f32 := constant S_ .f32 0x7F800000#32
  let main_v10 : FVec F S8192x8 .f32 := broadcastInDim S8192x8 ![] bcast_S_S8192x8 main_cst_2
  let main_v11 : IVec S8192x8 1 := cmpf .olt main_v9 main_v10
  (main_v2, main_v5, main_v8, main_v11)
-- ==== Kernel.lean ====
abbrev S8192x1024 : Shape := ⟨2, ![8192, 1024]⟩
abbrev S8192x8 : Shape := ⟨2, ![8192, 8]⟩
abbrev S8x8192 : Shape := ⟨2, ![8, 8192]⟩
abbrev S8192x8x128 : Shape := ⟨3, ![8192, 8, 128]⟩
abbrev S8192 : Shape := ⟨1, ![8192]⟩
abbrev S8x8192x8192 : Shape := ⟨3, ![8, 8192, 8192]⟩
abbrev S8x8192x1 : Shape := ⟨3, ![8, 8192, 1]⟩
abbrev S8x1x8192 : Shape := ⟨3, ![8, 1, 8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S8x128x8192 : Shape := ⟨3, ![8, 128, 8192]⟩
abbrev S8192x128 : Shape := ⟨2, ![8192, 128]⟩
abbrev S1024x128 : Shape := ⟨2, ![1024, 128]⟩
abbrev S1x1024x1 : Shape := ⟨3, ![1, 1024, 1]⟩
abbrev S1x1x8192 : Shape := ⟨3, ![1, 1, 8192]⟩
abbrev S1024x1 : Shape := ⟨2, ![1024, 1]⟩
abbrev S1024x1024 : Shape := ⟨2, ![1024, 1024]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 73
  | .vmem => 24
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x8, .f32⟩
  | .hbm, ⟨4, _⟩ => ⟨S8192x1024, .f32⟩
  | .hbm, ⟨5, _⟩ => ⟨S8x8192, .f32⟩
  | .hbm, ⟨6, _⟩ => ⟨S8192x8x128, .f32⟩
  | .hbm, ⟨7, _⟩ => ⟨S8192x8x128, .f32⟩
  | .hbm, ⟨8, _⟩ => ⟨S8192x8x128, .f32⟩
  | .hbm, ⟨9, _⟩ => ⟨S8x8192, .f32⟩
  | .hbm, ⟨10, _⟩ => ⟨S8192, .i32⟩
  | .hbm, ⟨11, _⟩ => ⟨S8x8192x8192, .f32⟩
  | .hbm, ⟨12, _⟩ => ⟨S8x8192x1, .f32⟩
  | .hbm, ⟨13, _⟩ => ⟨S8x8192x8192, .f32⟩
  | .hbm, ⟨14, _⟩ => ⟨S8x8192x8192, .f32⟩
  | .hbm, ⟨15, _⟩ => ⟨S8x1x8192, .f32⟩
  | .hbm, ⟨16, _⟩ => ⟨S8x8192x8192, .f32⟩
  | .hbm, ⟨17, _⟩ => ⟨S8x8192x8192, .f32⟩
  | .hbm, ⟨18, _⟩ => ⟨S1x8192, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S_, .f32⟩
  | .hbm, ⟨24, _⟩ => ⟨S_, .f32⟩
  | .hbm, ⟨25, _⟩ => ⟨S8x8192x8192, .i1⟩
  | .hbm, ⟨26, _⟩ => ⟨S8x8192x8192, .f32⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S_, .f32⟩
  | .hbm, ⟨31, _⟩ => ⟨S8x8192, .f32⟩
  | .hbm, ⟨32, _⟩ => ⟨S8x8192, .f32⟩
  | .hbm, ⟨33, _⟩ => ⟨S8x8192x1, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S_, .f32⟩
  | .hbm, ⟨38, _⟩ => ⟨S8x8192, .f32⟩
  | .hbm, ⟨39, _⟩ => ⟨S8x8192x1, .f32⟩
  | .hbm, ⟨40, _⟩ => ⟨S8x8192x8192, .f32⟩
  | .hbm, ⟨41, _⟩ => ⟨S8x8192x8192, .f32⟩
  | .hbm, ⟨42, _⟩ => ⟨S8x128x8192, .f32⟩
  | .hbm, ⟨43, _⟩ => ⟨S8192x8x128, .f32⟩
  | .hbm, ⟨44, _⟩ => ⟨S8192x1024, .f32⟩
  | .hbm, ⟨45, _⟩ => ⟨S_, .f32⟩
  | .hbm, ⟨46, _⟩ => ⟨S8x8192, .f32⟩
  | .hbm, ⟨47, _⟩ => ⟨S8x8192x1, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S_, .f32⟩
  | .hbm, ⟨52, _⟩ => ⟨S8x8192, .f32⟩
  | .hbm, ⟨53, _⟩ => ⟨S8x8192, .f32⟩
  | .hbm, ⟨54, _⟩ => ⟨S8x8192, .f32⟩
  | .hbm, ⟨55, _⟩ => ⟨S8x8192, .f32⟩
  | .hbm, ⟨56, _⟩ => ⟨S8x1x8192, .f32⟩
  | .hbm, ⟨57, _⟩ => ⟨S8192x1024, .f32⟩
  | .hbm, ⟨58, _⟩ => ⟨S8192x8x128, .f32⟩
  | .hbm, ⟨59, _⟩ => ⟨S_, .f32⟩
  | .hbm, ⟨60, _⟩ => ⟨S8192x8, .f32⟩
  | .hbm, ⟨61, _⟩ => ⟨S8x8192, .f32⟩
  | .hbm, ⟨62, _⟩ => ⟨S8x1x8192, .f32⟩
  | .hbm, ⟨63, _⟩ => ⟨S8192x1024, .bf16⟩
  | .hbm, ⟨64, _⟩ => ⟨S8192x1024, .bf16⟩
  | .hbm, ⟨65, _⟩ => ⟨S8192x1024, .bf16⟩
  | .hbm, ⟨66, _⟩ => ⟨S8192x1024, .bf16⟩
  | .hbm, ⟨67, _⟩ => ⟨S8x8192x1, .f32⟩
  | .hbm, ⟨68, _⟩ => ⟨S8192x1024, .f32⟩
  | .hbm, ⟨69, _⟩ => ⟨S8x1x8192, .f32⟩
  | .hbm, ⟨70, _⟩ => ⟨S8192x1024, .f32⟩
  | .hbm, ⟨71, _⟩ => ⟨S8192x1024, .f32⟩
  | .hbm, ⟨72, _⟩ => ⟨S8x8192x1, .f32⟩
  | .local _ .vmem, ⟨0, _⟩ => ⟨S8192x128, .bf16⟩
  | .local _ .vmem, ⟨1, _⟩ => ⟨S8192x128, .bf16⟩
  | .local _ .vmem, ⟨2, _⟩ => ⟨S8192x128, .bf16⟩
  | .local _ .vmem, ⟨3, _⟩ => ⟨S8192x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1x1024x1, .f32⟩
  | .local _ .vmem, ⟨9, _⟩ => ⟨S1x1024x1, .f32⟩
  | .local _ .vmem, ⟨10, _⟩ => ⟨S1x1x8192, .f32⟩
  | .local _ .vmem, ⟨11, _⟩ => ⟨S1x1x8192, .f32⟩
  | .local _ .vmem, ⟨12, _⟩ => ⟨S1x1x8192, .f32⟩
  | .local _ .vmem, ⟨13, _⟩ => ⟨S1x1x8192, .f32⟩
  | .local _ .vmem, ⟨14, _⟩ => ⟨S8192x128, .f32⟩
  | .local _ .vmem, ⟨15, _⟩ => ⟨S8192x128, .f32⟩
  | .local _ .vmem, ⟨16, _⟩ => ⟨S1x1x8192, .f32⟩
  | .local _ .vmem, ⟨17, _⟩ => ⟨S1x1x8192, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x128, .f32⟩
  | .local _ .vmem, ⟨22, _⟩ => ⟨S1x1024x1, .f32⟩
  | .local _ .vmem, ⟨23, _⟩ => ⟨S1x1024x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53_0 : Ref sig .tc := ⟨.hbm, 68, rfl⟩
abbrev main_v53_1 : Ref sig .tc := ⟨.hbm, 69, rfl⟩
abbrev main_v53_2 : Ref sig .tc := ⟨.hbm, 70, rfl⟩
abbrev main_v53_3 : Ref sig .tc := ⟨.hbm, 71, rfl⟩
abbrev main_v53_4 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v12 : BitVec 32 := Scalar.muli arg1 c1024_i32
  v12
def k0_off1 (i : grid0.Coords) : Fin 2 → Nat :=
  let arg1 : BitVec 32 := BitVec.ofNat 32 (i 1).val
  let c1024_i32 : BitVec 32 := 1024#32
  let v12 : BitVec 32 := Scalar.muli arg1 c1024_i32
  let v13 : BitVec 32 := v12
  let v14 : Index := Scalar.indexCast v13
  let c0_9 : Index := 0#32
  ![v14.toNat, 0]
def k0_off2 (i : grid0.Coords) : Fin 3 → Nat :=
  let c0_12 : Index := 0#32
  let c0_13 : Index := 0#32
  let arg1 : BitVec 32 := BitVec.ofNat 32 (i 1).val
  let c1024_i32 : BitVec 32 := 1024#32
  let v12 : BitVec 32 := Scalar.muli arg1 c1024_i32
  let v13 : BitVec 32 := v12
  let v23 : Index := Scalar.indexCast v13
  ![0, 0, v23.toNat]
@[reducible] def k0_t1_loop (i : grid0.Coords) : Scf.Loop 32 :=
  let arg1 : BitVec 32 := BitVec.ofNat 32 (i 1).val
  let c1_i32 : BitVec 32 := 1#32
  let v67 : BitVec 32 := Scalar.addi arg1 c1_i32
  let c8_i32 : BitVec 32 := 8#32
  let v68 : BitVec 32 := Scalar.subi c8_i32 v67
  let c1_i32_29 : BitVec 32 := 1#32
  let v70 : BitVec 32 := Scalar.divsi v68 c1_i32_29
  let v71 : BitVec 32 := Scalar.muli v70 c1_i32_29
  let v72 : BitVec 32 := Scalar.addi v67 v71
  let c1_i32_30 : BitVec 32 := 1#32
  ⟨v67, v72, c1_i32_30⟩
def k0_mult2 (i : grid0.Coords) (k0_t1 : Fin (k0_t1_loop i).trips) : BitVec 32 :=
  let arg1 : BitVec 32 := BitVec.ofNat 32 (i 1).val
  let c1_i32 : BitVec 32 := 1#32
  let v67 : BitVec 32 := Scalar.addi arg1 c1_i32
  let c1_i32_30 : BitVec 32 := 1#32
  let arg14 : BitVec 32 := Scf.iv v67 c1_i32_30 k0_t1
  let c1024_i32_39 : BitVec 32 := 1024#32
  let v80 : BitVec 32 := Scalar.muli arg14 c1024_i32_39
  v80
def k0_off3 (i : grid0.Coords) (k0_t1 : Fin (k0_t1_loop i).trips) : Fin 2 → Nat :=
  let arg1 : BitVec 32 := BitVec.ofNat 32 (i 1).val
  let c1_i32 : BitVec 32 := 1#32
  let v67 : BitVec 32 := Scalar.addi arg1 c1_i32
  let c1_i32_30 : BitVec 32 := 1#32
  let arg14 : BitVec 32 := Scf.iv v67 c1_i32_30 k0_t1
  let c1024_i32_39 : BitVec 32 := 1024#32
  let v80 : BitVec 32 := Scalar.muli arg14 c1024_i32_39
  let v81 : BitVec 32 := v80
  let v82 : Index := Scalar.indexCast v81
  let c0_40 : Index := 0#32
  ![v82.toNat, 0]
def k0_off4 (i : grid0.Coords) (k0_t1 : Fin (k0_t1_loop i).trips) : Fin 3 → Nat :=
  let c0_43 : Index := 0#32
  let c0_44 : Index := 0#32
  let arg1 : BitVec 32 := BitVec.ofNat 32 (i 1).val
  let c1_i32 : BitVec 32 := 1#32
  let v67 : BitVec 32 := Scalar.addi arg1 c1_i32
  let c1_i32_30 : BitVec 32 := 1#32
  let arg14 : BitVec 32 := Scf.iv v67 c1_i32_30 k0_t1
  let c1024_i32_39 : BitVec 32 := 1024#32
  let v80 : BitVec 32 := Scalar.muli arg14 c1024_i32_39
  let v81 : BitVec 32 := v80
  let v91 : Index := Scalar.indexCast v81
  ![0, 0, v91.toNat]
@[reducible] def k0_t2_loop (i : grid0.Coords) : Scf.Loop 32 :=
  let arg1 : BitVec 32 := BitVec.ofNat 32 (i 1).val
  let c1_i32 : BitVec 32 := 1#32
  let v67 : BitVec 32 := Scalar.addi arg1 c1_i32
  let c8_i32 : BitVec 32 := 8#32
  let v68 : BitVec 32 := Scalar.subi c8_i32 v67
  let c1_i32_29 : BitVec 32 := 1#32
  let v70 : BitVec 32 := Scalar.divsi v68 c1_i32_29
  let v71 : BitVec 32 := Scalar.muli v70 c1_i32_29
  let v72 : BitVec 32 := Scalar.addi v67 v71
  let v69 : BitVec 32 := Scalar.addi v67 v68
  let c1_i32_31 : BitVec 32 := 1#32
  ⟨v72, v69, c1_i32_31⟩
def k0_mult3 (i : grid0.Coords) (k0_t2 : Fin (k0_t2_loop i).trips) : BitVec 32 :=
  let arg1 : BitVec 32 := BitVec.ofNat 32 (i 1).val
  let c1_i32 : BitVec 32 := 1#32
  let v67 : BitVec 32 := Scalar.addi arg1 c1_i32
  let c8_i32 : BitVec 32 := 8#32
  let v68 : BitVec 32 := Scalar.subi c8_i32 v67
  let c1_i32_29 : BitVec 32 := 1#32
  let v70 : BitVec 32 := Scalar.divsi v68 c1_i32_29
  let v71 : BitVec 32 := Scalar.muli v70 c1_i32_29
  let v72 : BitVec 32 := Scalar.addi v67 v71
  let c1_i32_31 : BitVec 32 := 1#32
  let arg14 : BitVec 32 := Scf.iv v72 c1_i32_31 k0_t2
  let c1024_i32_39 : BitVec 32 := 1024#32
  let v80 : BitVec 32 := Scalar.muli arg14 c1024_i32_39
  v80
def k0_off5 (i : grid0.Coords) (k0_t2 : Fin (k0_t2_loop i).trips) : Fin 2 → Nat :=
  let arg1 : BitVec 32 := BitVec.ofNat 32 (i 1).val
  let c1_i32 : BitVec 32 := 1#32
  let v67 : BitVec 32 := Scalar.addi arg1 c1_i32
  let c8_i32 : BitVec 32 := 8#32
  let v68 : BitVec 32 := Scalar.subi c8_i32 v67
  let c1_i32_29 : BitVec 32 := 1#32
  let v70 : BitVec 32 := Scalar.divsi v68 c1_i32_29
  let v71 : BitVec 32 := Scalar.muli v70 c1_i32_29
  let v72 : BitVec 32 := Scalar.addi v67 v71
  let c1_i32_31 : BitVec 32 := 1#32
  let arg14 : BitVec 32 := Scf.iv v72 c1_i32_31 k0_t2
  let c1024_i32_39 : BitVec 32 := 1024#32
  let v80 : BitVec 32 := Scalar.muli arg14 c1024_i32_39
  let v81 : BitVec 32 := v80
  let v82 : Index := Scalar.indexCast v81
  let c0_40 : Index := 0#32
  ![v82.toNat, 0]
def k0_off6 (i : grid0.Coords) (k0_t2 : Fin (k0_t2_loop i).trips) : Fin 3 → Nat :=
  let c0_43 : Index := 0#32
  let c0_44 : Index := 0#32
  let arg1 : BitVec 32 := BitVec.ofNat 32 (i 1).val
  let c1_i32 : BitVec 32 := 1#32
  let v67 : BitVec 32 := Scalar.addi arg1 c1_i32
  let c8_i32 : BitVec 32 := 8#32
  let v68 : BitVec 32 := Scalar.subi c8_i32 v67
  let c1_i32_29 : BitVec 32 := 1#32
  let v70 : BitVec 32 := Scalar.divsi v68 c1_i32_29
  let v71 : BitVec 32 := Scalar.muli v70 c1_i32_29
  let v72 : BitVec 32 := Scalar.addi v67 v71
  let c1_i32_31 : BitVec 32 := 1#32
  let arg14 : BitVec 32 := Scf.iv v72 c1_i32_31 k0_t2
  let c1024_i32_39 : BitVec 32 := 1024#32
  let v80 : BitVec 32 := Scalar.muli arg14 c1024_i32_39
  let v81 : BitVec 32 := v80
  let v91 : Index := Scalar.indexCast v81
  ![0, 0, v91.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x8192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S8192x1024 : Shape := ⟨2, ![8192, 1024]⟩
abbrev S8192x8 : Shape := ⟨2, ![8192, 8]⟩
abbrev S8192x8x128 : Shape := ⟨3, ![8192, 8, 128]⟩
abbrev S8192 : Shape := ⟨1, ![8192]⟩
abbrev S8x8192x8192 : Shape := ⟨3, ![8, 8192, 8192]⟩
abbrev S8x8192 : Shape := ⟨2, ![8, 8192]⟩
abbrev S8x8192x1 : Shape := ⟨3, ![8, 8192, 1]⟩
abbrev S8x1x8192 : Shape := ⟨3, ![8, 1, 8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S8x128x8192 : Shape := ⟨3, ![8, 128, 8192]⟩
abbrev S8x8192x128 : Shape := ⟨3, ![8, 8192, 128]⟩

abbrev nBuf : Space → Nat
  | .hbm => 117
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x8, .f32⟩
  | .hbm, ⟨4, _⟩ => ⟨S8192x1024, .f32⟩
  | .hbm, ⟨5, _⟩ => ⟨S8192x8x128, .f32⟩
  | .hbm, ⟨6, _⟩ => ⟨S8192x8x128, .f32⟩
  | .hbm, ⟨7, _⟩ => ⟨S8192x8x128, .f32⟩
  | .hbm, ⟨8, _⟩ => ⟨S8192, .i32⟩
  | .hbm, ⟨9, _⟩ => ⟨S8x8192x8192, .f32⟩
  | .hbm, ⟨10, _⟩ => ⟨S8x8192, .f32⟩
  | .hbm, ⟨11, _⟩ => ⟨S8x8192x1, .f32⟩
  | .hbm, ⟨12, _⟩ => ⟨S8x8192x8192, .f32⟩
  | .hbm, ⟨13, _⟩ => ⟨S8x8192x8192, .f32⟩
  | .hbm, ⟨14, _⟩ => ⟨S8x8192, .f32⟩
  | .hbm, ⟨15, _⟩ => ⟨S8x1x8192, .f32⟩
  | .hbm, ⟨16, _⟩ => ⟨S8x8192x8192, .f32⟩
  | .hbm, ⟨17, _⟩ => ⟨S8x8192x8192, .f32⟩
  | .hbm, ⟨18, _⟩ => ⟨S1x8192, .i32⟩
  | .hbm, ⟨19, _⟩ => ⟨S8192x1, .i32⟩
  | .hbm, ⟨20, _⟩ => ⟨S8192x8192, .i32⟩
  | .hbm, ⟨21, _⟩ => ⟨S8192x8192, .i32⟩
  | .hbm, ⟨22, _⟩ => ⟨S8192x8192, .i1⟩
  | .hbm, ⟨23, _⟩ => ⟨S_, .f32⟩
  | .hbm, ⟨24, _⟩ => ⟨S_, .f32⟩
  | .hbm, ⟨25, _⟩ => ⟨S8x8192x8192, .i1⟩
  | .hbm, ⟨26, _⟩ => ⟨S8x8192x8192, .f32⟩
  | .hbm, ⟨27, _⟩ => ⟨S8x8192x8192, .f32⟩
  | .hbm, ⟨28, _⟩ => ⟨S_, .f32⟩
  | .hbm, ⟨29, _⟩ => ⟨S8x8192x8192, .f32⟩
  | .hbm, ⟨30, _⟩ => ⟨S_, .f32⟩
  | .hbm, ⟨31, _⟩ => ⟨S8x8192, .f32⟩
  | .hbm, ⟨32, _⟩ => ⟨S8x8192x1, .f32⟩
  | .hbm, ⟨33, _⟩ => ⟨S8x8192x8192, .f32⟩
  | .hbm, ⟨34, _⟩ => ⟨S8x8192x8192, .i1⟩
  | .hbm, ⟨35, _⟩ => ⟨S8x8192x8192, .f32⟩
  | .hbm, ⟨36, _⟩ => ⟨S_, .f32⟩
  | .hbm, ⟨37, _⟩ => ⟨S8x8192, .f32⟩
  | .hbm, ⟨38, _⟩ => ⟨S_, .f32⟩
  | .hbm, ⟨39, _⟩ => ⟨S8x8192, .f32⟩
  | .hbm, ⟨40, _⟩ => ⟨S8x8192, .f32⟩
  | .hbm, ⟨41, _⟩ => ⟨S_, .f32⟩
  | .hbm, ⟨42, _⟩ => ⟨S8x8192, .f32⟩
  | .hbm, ⟨43, _⟩ => ⟨S8x8192, .i1⟩
  | .hbm, ⟨44, _⟩ => ⟨S_, .f32⟩
  | .hbm, ⟨45, _⟩ => ⟨S8x8192, .f32⟩
  | .hbm, ⟨46, _⟩ => ⟨S8x8192, .i1⟩
  | .hbm, ⟨47, _⟩ => ⟨S_, .f32⟩
  | .hbm, ⟨48, _⟩ => ⟨S8x8192, .f32⟩
  | .hbm, ⟨49, _⟩ => ⟨S_, .f32⟩
  | .hbm, ⟨50, _⟩ => ⟨S8x8192, .f32⟩
  | .hbm, ⟨51, _⟩ => ⟨S_, .f32⟩
  | .hbm, ⟨52, _⟩ => ⟨S8x8192, .f32⟩
  | .hbm, ⟨53, _⟩ => ⟨S8x8192, .f32⟩
  | .hbm, ⟨54, _⟩ => ⟨S8x8192, .f32⟩
  | .hbm, ⟨55, _⟩ => ⟨S8x8192x1, .f32⟩
  | .hbm, ⟨56, _⟩ => ⟨S8x8192x8192, .f32⟩
  | .hbm, ⟨57, _⟩ => ⟨S8x8192x8192, .f32⟩
  | .hbm, ⟨58, _⟩ => ⟨S8x8192x8192, .f32⟩
  | .hbm, ⟨59, _⟩ => ⟨S_, .f32⟩
  | .hbm, ⟨60, _⟩ => ⟨S8x8192, .f32⟩
  | .hbm, ⟨61, _⟩ => ⟨S8x8192x1, .f32⟩
  | .hbm, ⟨62, _⟩ => ⟨S8x8192x8192, .f32⟩
  | .hbm, ⟨63, _⟩ => ⟨S8x8192x8192, .f32⟩
  | .hbm, ⟨64, _⟩ => ⟨S8x8192x1, .f32⟩
  | .hbm, ⟨65, _⟩ => ⟨S_, .f32⟩
  | .hbm, ⟨66, _⟩ => ⟨S8x8192x1, .f32⟩
  | .hbm, ⟨67, _⟩ => ⟨S8x8192x1, .f32⟩
  | .hbm, ⟨68, _⟩ => ⟨S8x128x8192, .f32⟩
  | .hbm, ⟨69, _⟩ => ⟨S8192x8x128, .f32⟩
  | .hbm, ⟨70, _⟩ => ⟨S8192x1024, .f32⟩
  | .hbm, ⟨71, _⟩ => ⟨S8192x8x128, .f32⟩
  | .hbm, ⟨72, _⟩ => ⟨S8x128x8192, .f32⟩
  | .hbm, ⟨73, _⟩ => ⟨S8x8192x8192, .f32⟩
  | .hbm, ⟨74, _⟩ => ⟨S8x128x8192, .f32⟩
  | .hbm, ⟨75, _⟩ => ⟨S8192x8x128, .f32⟩
  | .hbm, ⟨76, _⟩ => ⟨S8x8192x8192, .f32⟩
  | .hbm, ⟨77, _⟩ => ⟨S8x8192x8192, .f32⟩
  | .hbm, ⟨78, _⟩ => ⟨S8x8192x8192, .f32⟩
  | .hbm, ⟨79, _⟩ => ⟨S_, .f32⟩
  | .hbm, ⟨80, _⟩ => ⟨S8x8192, .f32⟩
  | .hbm, ⟨81, _⟩ => ⟨S8x8192x1, .f32⟩
  | .hbm, ⟨82, _⟩ => ⟨S8x8192x1, .f32⟩
  | .hbm, ⟨83, _⟩ => ⟨S8x8192x8192, .f32⟩
  | .hbm, ⟨84, _⟩ => ⟨S8x8192x8192, .f32⟩
  | .hbm, ⟨85, _⟩ => ⟨S_, .f32⟩
  | .hbm, ⟨86, _⟩ => ⟨S8x8192, .f32⟩
  | .hbm, ⟨87, _⟩ => ⟨S8x8192x8192, .f32⟩
  | .hbm, ⟨88, _⟩ => ⟨S8x8192x8192, .f32⟩
  | .hbm, ⟨89, _⟩ => ⟨S8x8192x8192, .f32⟩
  | .hbm, ⟨90, _⟩ => ⟨S_, .f32⟩
  | .hbm, ⟨91, _⟩ => ⟨S8x8192x8192, .f32⟩
  | .hbm, ⟨92, _⟩ => ⟨S8x8192x8192, .f32⟩
  | .hbm, ⟨93, _⟩ => ⟨S8x8192x8192, .f32⟩
  | .hbm, ⟨94, _⟩ => ⟨S_, .f32⟩
  | .hbm, ⟨95, _⟩ => ⟨S8x8192, .f32⟩
  | .hbm, ⟨96, _⟩ => ⟨S8x1x8192, .f32⟩
  | .hbm, ⟨97, _⟩ => ⟨S_, .f32⟩
  | .hbm, ⟨98, _⟩ => ⟨S8x8192, .f32⟩
  | .hbm, ⟨99, _⟩ => ⟨S8192x8, .f32⟩
  | .hbm, ⟨100, _⟩ => ⟨S_, .f32⟩
  | .hbm, ⟨101, _⟩ => ⟨S8x8192, .f32⟩
  | .hbm, ⟨102, _⟩ => ⟨S8x8192x1, .f32⟩
  | .hbm, ⟨103, _⟩ => ⟨S_, .f32⟩
  | .hbm, ⟨104, _⟩ => ⟨S8x8192, .f32⟩
  | .hbm, ⟨105, _⟩ => ⟨S8192x8, .f32⟩
  | .hbm, ⟨106, _⟩ => ⟨S8x8192x128, .f32⟩
  | .hbm, ⟨107, _⟩ => ⟨S8192x8x128, .f32⟩
  | .hbm, ⟨108, _⟩ => ⟨S8x8192x128, .f32⟩
  | .hbm, ⟨109, _⟩ => ⟨S8192x8x128, .f32⟩
  | .hbm, ⟨110, _⟩ => ⟨S8192x1024, .f32⟩
  | .hbm, ⟨111, _⟩ => ⟨S8192x1024, .f32⟩
  | .hbm, ⟨112, _⟩ => ⟨S8192x1024, .f32⟩
  | .hbm, ⟨113, _⟩ => ⟨S8x8192, .f32⟩
  | .hbm, ⟨114, _⟩ => ⟨S8x1x8192, .f32⟩
  | .hbm, ⟨115, _⟩ => ⟨S8x8192, .f32⟩
  | .hbm, ⟨116, _⟩ => ⟨S8x8192x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst : Ref sig .tc := ⟨.hbm, 23, rfl⟩
abbrev main_call0_v0 : Ref sig .tc := ⟨.hbm, 24, rfl⟩
abbrev main_v18_1 : Ref sig .tc := ⟨.hbm, 25, rfl⟩
abbrev main_call0_v2 : Ref sig .tc := ⟨.hbm, 26, rfl⟩
abbrev main_v18_0 : Ref sig .tc := ⟨.hbm, 27, rfl⟩
abbrev main_call0_cst : Ref sig .tc := ⟨.hbm, 28, rfl⟩
abbrev main_v18_2 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_8 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_10 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call1_cst : Ref sig .tc := ⟨.hbm, 90, rfl⟩
abbrev main_call1_v0 : Ref sig .tc := ⟨.hbm, 91, rfl⟩
abbrev main_v67 : Ref sig .tc := ⟨.hbm, 92, rfl⟩
abbrev main_v68 : Ref sig .tc := ⟨.hbm, 93, rfl⟩
abbrev main_cst_12 : Ref sig .tc := ⟨.hbm, 94, rfl⟩
abbrev main_v69 : Ref sig .tc := ⟨.hbm, 95, rfl⟩
abbrev main_v70 : Ref sig .tc := ⟨.hbm, 96, rfl⟩
abbrev main_cst_13 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩

abbrev nD : Nat := 1
abbrev τ : Topo := Topo.v7x

variable {F : FTy → Type} [FloatOps F]
-- ==== KernelUpDw.lean ====
abbrev S8192x2048 : Shape := ⟨2, ![8192, 2048]⟩
abbrev S8192x11264 : Shape := ⟨2, ![8192, 11264]⟩
abbrev S2048x11264 : Shape := ⟨2, ![2048, 11264]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S2048x11264, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpDwIdeal.lean ====
abbrev S8192x2048 : Shape := ⟨2, ![8192, 2048]⟩
abbrev S8192x11264 : Shape := ⟨2, ![8192, 11264]⟩
abbrev S_ : Shape := ⟨0, ![]⟩
abbrev S2048x11264 : Shape := ⟨2, ![2048, 11264]⟩
abbrev S11264x2048 : Shape := ⟨2, ![11264, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x11264, .bf16⟩
  | .hbm, ⟨2, _⟩ => ⟨S8192x2048, .f32⟩
  | .hbm, ⟨3, _⟩ => ⟨S8192x11264, .f32⟩
  | .hbm, ⟨4, _⟩ => ⟨S_, .f32⟩
  | .hbm, ⟨5, _⟩ => ⟨S2048x11264, .f32⟩
  | .hbm, ⟨6, _⟩ => ⟨S8192x11264, .f32⟩
  | .hbm, ⟨7, _⟩ => ⟨S11264x2048, .f32⟩
  | .hbm, ⟨8, _⟩ => ⟨S2048x11264, .f32⟩
  | .hbm, ⟨9, _⟩ => ⟨S2048x11264, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelUpDx.lean ====
abbrev S2048x11264 : Shape := ⟨2, ![2048, 11264]⟩
abbrev S8192x11264 : Shape := ⟨2, ![8192, 11264]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x11264, .bf16⟩
  | .hbm, ⟨1, _⟩ => ⟨S8192x11264, .bf16⟩
  | .hbm, ⟨2, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpDxIdeal.lean ====
abbrev S2048x11264 : Shape := ⟨2, ![2048, 11264]⟩
abbrev S8192x11264 : Shape := ⟨2, ![8192, 11264]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x11264, .bf16⟩
  | .hbm, ⟨1, _⟩ => ⟨S8192x11264, .bf16⟩
  | .hbm, ⟨2, _⟩ => ⟨S2048x11264, .f32⟩
  | .hbm, ⟨3, _⟩ => ⟨S8192x11264, .f32⟩
  | .hbm, ⟨4, _⟩ => ⟨S_, .f32⟩
  | .hbm, ⟨5, _⟩ => ⟨S8192x2048, .f32⟩
  | .hbm, ⟨6, _⟩ => ⟨S8192x11264, .f32⟩
  | .hbm, ⟨7, _⟩ => ⟨S8192x2048, .f32⟩
  | _, _ => ⟨S2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelDownDw.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .f32⟩
  | .local _ .vmem, ⟨3, _⟩ => ⟨S2048x512, .f32⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownDwIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .f32⟩
  | .hbm, ⟨2, _⟩ => ⟨S8192x5632, .f32⟩
  | .hbm, ⟨3, _⟩ => ⟨S_, .f32⟩
  | .hbm, ⟨4, _⟩ => ⟨S5632x2048, .f32⟩
  | .hbm, ⟨5, _⟩ => ⟨S8192x2048, .f32⟩
  | .hbm, ⟨6, _⟩ => ⟨S2048x5632, .f32⟩
  | .hbm, ⟨7, _⟩ => ⟨S5632x2048, .f32⟩
  | .hbm, ⟨8, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelDownDx.lean ====
abbrev S5632x2048 : Shape := ⟨2, ![5632, 2048]⟩
abbrev S8192x2048 : Shape := ⟨2, ![8192, 2048]⟩
abbrev S8192x5632 : Shape := ⟨2, ![8192, 5632]⟩
abbrev S512x2048 : Shape := ⟨2, ![512, 2048]⟩
abbrev S1408x2048 : Shape := ⟨2, ![1408, 2048]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S5632x2048, .bf16⟩
  | .hbm, ⟨1, _⟩ => ⟨S8192x2048, .f32⟩
  | .hbm, ⟨2, _⟩ => ⟨S8192x5632, .f32⟩
  | .local _ .vmem, ⟨0, _⟩ => ⟨S512x2048, .f32⟩
  | .local _ .vmem, ⟨1, _⟩ => ⟨S512x2048, .f32⟩
  | .local _ .vmem, ⟨2, _⟩ => ⟨S1408x2048, .bf16⟩
  | .local _ .vmem, ⟨3, _⟩ => ⟨S1408x2048, .bf16⟩
  | .local _ .vmem, ⟨4, _⟩ => ⟨S512x1408, .f32⟩
  | .local _ .vmem, ⟨5, _⟩ => ⟨S512x1408, .f32⟩
  | _, _ => ⟨S5632x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownDxIdeal.lean ====
abbrev S5632x2048 : Shape := ⟨2, ![5632, 2048]⟩
abbrev S8192x2048 : Shape := ⟨2, ![8192, 2048]⟩
abbrev S_ : Shape := ⟨0, ![]⟩
abbrev S8192x5632 : Shape := ⟨2, ![8192, 5632]⟩

abbrev nBuf : Space → Nat
  | .hbm => 7
  | .vmem => 0
  | .smem => 0
  | _ => 0

abbrev bufTy : (tb : Table) → Fin (tcTables nBuf tb) → BufTy
  | .hbm, ⟨0, _⟩ => ⟨S5632x2048, .bf16⟩
  | .hbm, ⟨1, _⟩ => ⟨S8192x2048, .f32⟩
  | .hbm, ⟨2, _⟩ => ⟨S5632x2048, .f32⟩
  | .hbm, ⟨3, _⟩ => ⟨S_, .f32⟩
  | .hbm, ⟨4, _⟩ => ⟨S8192x5632, .f32⟩
  | .hbm, ⟨5, _⟩ => ⟨S8192x2048, .f32⟩
  | .hbm, ⟨6, _⟩ => ⟨S8192x5632, .f32⟩
  | _, _ => ⟨S5632x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelInDw.lean ====
abbrev S8192x2048 : Shape := ⟨2, ![8192, 2048]⟩
abbrev S8192x15488 : Shape := ⟨2, ![8192, 15488]⟩
abbrev S2048x15488 : Shape := ⟨2, ![2048, 15488]⟩
abbrev S2048x512 : Shape := ⟨2, ![2048, 512]⟩
abbrev S2048x1408 : Shape := ⟨2, ![2048, 1408]⟩
abbrev S512x1408 : Shape := ⟨2, ![512, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x15488, .bf16⟩
  | .hbm, ⟨2, _⟩ => ⟨S2048x15488, .bf16⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInDwIdeal.lean ====
abbrev S8192x2048 : Shape := ⟨2, ![8192, 2048]⟩
abbrev S8192x15488 : Shape := ⟨2, ![8192, 15488]⟩
abbrev S_ : Shape := ⟨0, ![]⟩
abbrev S2048x15488 : Shape := ⟨2, ![2048, 15488]⟩
abbrev S15488x2048 : Shape := ⟨2, ![15488, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x15488, .bf16⟩
  | .hbm, ⟨2, _⟩ => ⟨S8192x2048, .f32⟩
  | .hbm, ⟨3, _⟩ => ⟨S8192x15488, .f32⟩
  | .hbm, ⟨4, _⟩ => ⟨S_, .f32⟩
  | .hbm, ⟨5, _⟩ => ⟨S2048x15488, .f32⟩
  | .hbm, ⟨6, _⟩ => ⟨S8192x15488, .f32⟩
  | .hbm, ⟨7, _⟩ => ⟨S15488x2048, .f32⟩
  | .hbm, ⟨8, _⟩ => ⟨S2048x15488, .f32⟩
  | .hbm, ⟨9, _⟩ => ⟨S2048x15488, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== KernelInDx.lean ====
abbrev S2048x15488 : Shape := ⟨2, ![2048, 15488]⟩
abbrev S8192x15488 : Shape := ⟨2, ![8192, 15488]⟩
abbrev S8192x2048 : Shape := ⟨2, ![8192, 2048]⟩
abbrev S512x1408 : Shape := ⟨2, ![512, 1408]⟩
abbrev S2048x1408 : Shape := ⟨2, ![2048, 1408]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2048x15488, .bf16⟩
  | .hbm, ⟨1, _⟩ => ⟨S8192x15488, .bf16⟩
  | .hbm, ⟨2, _⟩ => ⟨S8192x2048, .f32⟩
  | .local _ .vmem, ⟨0, _⟩ => ⟨S512x1408, .bf16⟩
  | .local _ .vmem, ⟨1, _⟩ => ⟨S512x1408, .bf16⟩
  | .local _ .vmem, ⟨2, _⟩ => ⟨S2048x1408, .bf16⟩
  | .local _ .vmem, ⟨3, _⟩ => ⟨S2048x1408, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S2048x15488, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 1, 11], ![false, false, false]⟩

def k0_cond3 (i : grid0.Coords) : BitVec 1 :=
  let arg2 : BitVec 32 := BitVec.ofNat 32 (i 2).val
  let c10_i32 : BitVec 32 := 10#32
  let v9 : BitVec 1 := Scalar.cmpi .eq arg2 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInDxIdeal.lean ====
abbrev S2048x15488 : Shape := ⟨2, ![2048, 15488]⟩
abbrev S8192x15488 : Shape := ⟨2, ![8192, 15488]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x15488, .bf16⟩
  | .hbm, ⟨1, _⟩ => ⟨S8192x15488, .bf16⟩
  | .hbm, ⟨2, _⟩ => ⟨S2048x15488, .f32⟩
  | .hbm, ⟨3, _⟩ => ⟨S8192x15488, .f32⟩
  | .hbm, ⟨4, _⟩ => ⟨S_, .f32⟩
  | .hbm, ⟨5, _⟩ => ⟨S8192x2048, .f32⟩
  | .hbm, ⟨6, _⟩ => ⟨S8192x15488, .f32⟩
  | .hbm, ⟨7, _⟩ => ⟨S8192x2048, .f32⟩
  | _, _ => ⟨S2048x15488, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelIn.lean ====
abbrev S8192x2048 : Shape := ⟨2, ![8192, 2048]⟩
abbrev S2048x15488 : Shape := ⟨2, ![2048, 15488]⟩
abbrev S8192x15488 : Shape := ⟨2, ![8192, 15488]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x15488, .bf16⟩
  | .hbm, ⟨2, _⟩ => ⟨S8192x15488, .f32⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceInIdeal.lean ====
abbrev S8192x2048 : Shape := ⟨2, ![8192, 2048]⟩
abbrev S2048x15488 : Shape := ⟨2, ![2048, 15488]⟩
abbrev S8192x15488 : Shape := ⟨2, ![8192, 15488]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x15488, .bf16⟩
  | .hbm, ⟨2, _⟩ => ⟨S8192x2048, .f32⟩
  | .hbm, ⟨3, _⟩ => ⟨S2048x15488, .f32⟩
  | .hbm, ⟨4, _⟩ => ⟨S8192x15488, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelUp.lean ====
abbrev S8192x2048 : Shape := ⟨2, ![8192, 2048]⟩
abbrev S2048x11264 : Shape := ⟨2, ![2048, 11264]⟩
abbrev S8192x11264 : Shape := ⟨2, ![8192, 11264]⟩
abbrev S1024x2048 : Shape := ⟨2, ![1024, 2048]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x11264, .f32⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpIdeal.lean ====
abbrev S8192x2048 : Shape := ⟨2, ![8192, 2048]⟩
abbrev S2048x11264 : Shape := ⟨2, ![2048, 11264]⟩
abbrev S8192x11264 : Shape := ⟨2, ![8192, 11264]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x11264, .bf16⟩
  | .hbm, ⟨2, _⟩ => ⟨S8192x2048, .f32⟩
  | .hbm, ⟨3, _⟩ => ⟨S2048x11264, .f32⟩
  | .hbm, ⟨4, _⟩ => ⟨S8192x11264, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelDown.lean ====
abbrev S8192x5632 : Shape := ⟨2, ![8192, 5632]⟩
abbrev S5632x2048 : Shape := ⟨2, ![5632, 2048]⟩
abbrev S8192x2048 : Shape := ⟨2, ![8192, 2048]⟩
abbrev S512x2816 : Shape := ⟨2, ![512, 2816]⟩
abbrev S2816x1024 : Shape := ⟨2, ![2816, 1024]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S2816x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceDownIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelOutDw.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutDwIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S8192x2048, .f32⟩
  | .hbm, ⟨3, _⟩ => ⟨S_, .f32⟩
  | .hbm, ⟨4, _⟩ => ⟨S2048x2048, .f32⟩
  | .hbm, ⟨5, _⟩ => ⟨S8192x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelOutDx.lean ====
abbrev S2048x2048 : Shape := ⟨2, ![2048, 2048]⟩
abbrev S8192x2048 : Shape := ⟨2, ![8192, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .f32⟩
  | .hbm, ⟨2, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceOutDxIdeal.lean ====
abbrev S2048x2048 : Shape := ⟨2, ![2048, 2048]⟩
abbrev S8192x2048 : Shape := ⟨2, ![8192, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S8192x2048, .f32⟩
  | .hbm, ⟨2, _⟩ => ⟨S2048x2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelBranchDw.lean ====
abbrev S8192x1024 : Shape := ⟨2, ![8192, 1024]⟩
abbrev S8192x2048 : Shape := ⟨2, ![8192, 2048]⟩
abbrev S1024x2048 : Shape := ⟨2, ![1024, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S1024x2048, .bf16⟩
  | .local _ .vmem, ⟨0, _⟩ => ⟨S2048x512, .f32⟩
  | .local _ .vmem, ⟨1, _⟩ => ⟨S2048x512, .f32⟩
  | .local _ .vmem, ⟨2, _⟩ => ⟨S2048x1024, .f32⟩
  | .local _ .vmem, ⟨3, _⟩ => ⟨S2048x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceBranchDwIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelBranchDx.lean ====
abbrev S1024x2048 : Shape := ⟨2, ![1024, 2048]⟩
abbrev S8192x2048 : Shape := ⟨2, ![8192, 2048]⟩
abbrev S8192x1024 : Shape := ⟨2, ![8192, 1024]⟩
abbrev S2048x2048 : Shape := ⟨2, ![2048, 2048]⟩
abbrev S256x2048 : Shape := ⟨2, ![256, 2048]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S1024x2048, .bf16⟩
  | .hbm, ⟨1, _⟩ => ⟨S8192x2048, .f32⟩
  | .hbm, ⟨2, _⟩ => ⟨S8192x1024, .f32⟩
  | .local _ .vmem, ⟨0, _⟩ => ⟨S2048x2048, .f32⟩
  | .local _ .vmem, ⟨1, _⟩ => ⟨S2048x2048, .f32⟩
  | .local _ .vmem, ⟨2, _⟩ => ⟨S256x2048, .bf16⟩
  | .local _ .vmem, ⟨3, _⟩ => ⟨S256x2048, .bf16⟩
  | .local _ .vmem, ⟨4, _⟩ => ⟨S2048x256, .f32⟩
  | .local _ .vmem, ⟨5, _⟩ => ⟨S2048x256, .f32⟩
  | _, _ => ⟨S1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceBranchDxIdeal.lean ====
abbrev S1024x2048 : Shape := ⟨2, ![1024, 2048]⟩
abbrev S8192x2048 : Shape := ⟨2, ![8192, 2048]⟩
abbrev S_ : Shape := ⟨0, ![]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S1024x2048, .bf16⟩
  | .hbm, ⟨1, _⟩ => ⟨S8192x2048, .f32⟩
  | .hbm, ⟨2, _⟩ => ⟨S1024x2048, .f32⟩
  | .hbm, ⟨3, _⟩ => ⟨S_, .f32⟩
  | .hbm, ⟨4, _⟩ => ⟨S8192x1024, .f32⟩
  | .hbm, ⟨5, _⟩ => ⟨S8192x2048, .f32⟩
  | .hbm, ⟨6, _⟩ => ⟨S8192x1024, .f32⟩
  | _, _ => ⟨S1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelOut.lean ====
abbrev S8192x2048 : Shape := ⟨2, ![8192, 2048]⟩
abbrev S2048x2048 : Shape := ⟨2, ![2048, 2048]⟩
abbrev S2048x512 : Shape := ⟨2, ![2048, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceOutIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelBranch.lean ====
abbrev S8192x1024 : Shape := ⟨2, ![8192, 1024]⟩
abbrev S1024x2048 : Shape := ⟨2, ![1024, 2048]⟩
abbrev S8192x2048 : Shape := ⟨2, ![8192, 2048]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2048, .bf16⟩
  | .hbm, ⟨2, _⟩ => ⟨S8192x2048, .f32⟩
  | .local _ .vmem, ⟨0, _⟩ => ⟨S2048x1024, .f32⟩
  | .local _ .vmem, ⟨1, _⟩ => ⟨S2048x1024, .f32⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceBranchIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .bf16⟩
  | .hbm, ⟨2, _⟩ => ⟨S1024x2048, .f32⟩
  | .hbm, ⟨3, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== KernelXaQ.lean ====
abbrev S8192x2048 : Shape := ⟨2, ![8192, 2048]⟩
abbrev S2048x512 : Shape := ⟨2, ![2048, 512]⟩
abbrev S8192x512 : Shape := ⟨2, ![8192, 512]⟩
abbrev S2048x2048 : Shape := ⟨2, ![2048, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S2048x512, .bf16⟩
  | .hbm, ⟨2, _⟩ => ⟨S8192x512, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .f32⟩
  | .local _ .vmem, ⟨4, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceXaQIdeal.lean ====
abbrev S8192x2048 : Shape := ⟨2, ![8192, 2048]⟩
abbrev S2048x512 : Shape := ⟨2, ![2048, 512]⟩
abbrev S8192x512 : Shape := ⟨2, ![8192, 512]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x512, .bf16⟩
  | .hbm, ⟨2, _⟩ => ⟨S8192x2048, .f32⟩
  | .hbm, ⟨3, _⟩ => ⟨S2048x512, .f32⟩
  | .hbm, ⟨4, _⟩ => ⟨S8192x512, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelXaQDw.lean ====
abbrev S8192x2048 : Shape := ⟨2, ![8192, 2048]⟩
abbrev S8192x512 : Shape := ⟨2, ![8192, 512]⟩
abbrev S2048x512 : Shape := ⟨2, ![2048, 512]⟩
abbrev S2048x2048 : Shape := ⟨2, ![2048, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x512, .f32⟩
  | .hbm, ⟨2, _⟩ => ⟨S2048x512, .bf16⟩
  | .local _ .vmem, ⟨0, _⟩ => ⟨S2048x2048, .bf16⟩
  | .local _ .vmem, ⟨1, _⟩ => ⟨S2048x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .bf16⟩
  | .local _ .vmem, ⟨5, _⟩ => ⟨S2048x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceXaQDwIdeal.lean ====
abbrev S8192x2048 : Shape := ⟨2, ![8192, 2048]⟩
abbrev S8192x512 : Shape := ⟨2, ![8192, 512]⟩
abbrev S_ : Shape := ⟨0, ![]⟩
abbrev S2048x512 : Shape := ⟨2, ![2048, 512]⟩
abbrev S512x2048 : Shape := ⟨2, ![512, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x512, .f32⟩
  | .hbm, ⟨2, _⟩ => ⟨S8192x2048, .f32⟩
  | .hbm, ⟨3, _⟩ => ⟨S_, .f32⟩
  | .hbm, ⟨4, _⟩ => ⟨S2048x512, .f32⟩
  | .hbm, ⟨5, _⟩ => ⟨S8192x512, .f32⟩
  | .hbm, ⟨6, _⟩ => ⟨S512x2048, .f32⟩
  | .hbm, ⟨7, _⟩ => ⟨S2048x512, .f32⟩
  | .hbm, ⟨8, _⟩ => ⟨S2048x512, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelXaQDx.lean ====
abbrev S2048x512 : Shape := ⟨2, ![2048, 512]⟩
abbrev S8192x512 : Shape := ⟨2, ![8192, 512]⟩
abbrev S8192x2048 : Shape := ⟨2, ![8192, 2048]⟩
abbrev S1024x512 : Shape := ⟨2, ![1024, 512]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S8192x512, .f32⟩
  | .hbm, ⟨2, _⟩ => ⟨S8192x2048, .f32⟩
  | .local _ .vmem, ⟨0, _⟩ => ⟨S2048x512, .f32⟩
  | .local _ .vmem, ⟨1, _⟩ => ⟨S2048x512, .f32⟩
  | .local _ .vmem, ⟨2, _⟩ => ⟨S1024x512, .bf16⟩
  | .local _ .vmem, ⟨3, _⟩ => ⟨S1024x512, .bf16⟩
  | .local _ .vmem, ⟨4, _⟩ => ⟨S2048x1024, .f32⟩
  | .local _ .vmem, ⟨5, _⟩ => ⟨S2048x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceXaQDxIdeal.lean ====
abbrev S2048x512 : Shape := ⟨2, ![2048, 512]⟩
abbrev S8192x512 : Shape := ⟨2, ![8192, 512]⟩
abbrev S_ : Shape := ⟨0, ![]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S8192x512, .f32⟩
  | .hbm, ⟨2, _⟩ => ⟨S2048x512, .f32⟩
  | .hbm, ⟨3, _⟩ => ⟨S_, .f32⟩
  | .hbm, ⟨4, _⟩ => ⟨S8192x2048, .f32⟩
  | .hbm, ⟨5, _⟩ => ⟨S8192x512, .f32⟩
  | .hbm, ⟨6, _⟩ => ⟨S8192x2048, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelXaO.lean ====
abbrev S8192x512 : Shape := ⟨2, ![8192, 512]⟩
abbrev S512x2048 : Shape := ⟨2, ![512, 2048]⟩
abbrev S8192x2048 : Shape := ⟨2, ![8192, 2048]⟩
abbrev S2048x512 : Shape := ⟨2, ![2048, 512]⟩
abbrev S512x512 : Shape := ⟨2, ![512, 512]⟩

abbrev nBuf : Space → Nat
  | .hbm => 4
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S512x2048, .bf16⟩
  | .hbm, ⟨2, _⟩ => ⟨S8192x2048, .f32⟩
  | .hbm, ⟨3, _⟩ => ⟨S8192x2048, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S512x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceXaOIdeal.lean ====
abbrev S8192x512 : Shape := ⟨2, ![8192, 512]⟩
abbrev S512x2048 : Shape := ⟨2, ![512, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x2048, .bf16⟩
  | .hbm, ⟨2, _⟩ => ⟨S8192x2048, .f32⟩
  | .hbm, ⟨3, _⟩ => ⟨S512x2048, .f32⟩
  | .hbm, ⟨4, _⟩ => ⟨S8192x2048, .f32⟩
  | .hbm, ⟨5, _⟩ => ⟨S8192x2048, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== KernelXaODw.lean ====
abbrev S8192x512 : Shape := ⟨2, ![8192, 512]⟩
abbrev S8192x2048 : Shape := ⟨2, ![8192, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S512x2048, .bf16⟩
  | .local _ .vmem, ⟨0, _⟩ => ⟨S2048x512, .f32⟩
  | .local _ .vmem, ⟨1, _⟩ => ⟨S2048x512, .f32⟩
  | .local _ .vmem, ⟨2, _⟩ => ⟨S2048x1024, .f32⟩
  | .local _ .vmem, ⟨3, _⟩ => ⟨S2048x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceXaODwIdeal.lean ====
abbrev S8192x512 : Shape := ⟨2, ![8192, 512]⟩
abbrev S8192x2048 : Shape := ⟨2, ![8192, 2048]⟩
abbrev S_ : Shape := ⟨0, ![]⟩
abbrev S512x2048 : Shape := ⟨2, ![512, 2048]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x2048, .f32⟩
  | .hbm, ⟨2, _⟩ => ⟨S_, .f32⟩
  | .hbm, ⟨3, _⟩ => ⟨S512x2048, .f32⟩
  | .hbm, ⟨4, _⟩ => ⟨S8192x2048, .f32⟩
  | .hbm, ⟨5, _⟩ => ⟨S2048x512, .f32⟩
  | .hbm, ⟨6, _⟩ => ⟨S512x2048, .f32⟩
  | .hbm, ⟨7, _⟩ => ⟨S512x2048, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KernelXaODx.lean ====
abbrev S512x2048 : Shape := ⟨2, ![512, 2048]⟩
abbrev S8192x2048 : Shape := ⟨2, ![8192, 2048]⟩
abbrev S8192x512 : Shape := ⟨2, ![8192, 512]⟩
abbrev S2048x2048 : Shape := ⟨2, ![2048, 2048]⟩
abbrev S256x2048 : Shape := ⟨2, ![256, 2048]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S512x2048, .bf16⟩
  | .hbm, ⟨1, _⟩ => ⟨S8192x2048, .f32⟩
  | .hbm, ⟨2, _⟩ => ⟨S8192x512, .f32⟩
  | .local _ .vmem, ⟨0, _⟩ => ⟨S2048x2048, .f32⟩
  | .local _ .vmem, ⟨1, _⟩ => ⟨S2048x2048, .f32⟩
  | .local _ .vmem, ⟨2, _⟩ => ⟨S256x2048, .bf16⟩
  | .local _ .vmem, ⟨3, _⟩ => ⟨S256x2048, .bf16⟩
  | .local _ .vmem, ⟨4, _⟩ => ⟨S2048x256, .f32⟩
  | .local _ .vmem, ⟨5, _⟩ => ⟨S2048x256, .f32⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceXaODxIdeal.lean ====
abbrev S512x2048 : Shape := ⟨2, ![512, 2048]⟩
abbrev S8192x2048 : Shape := ⟨2, ![8192, 2048]⟩
abbrev S_ : Shape := ⟨0, ![]⟩
abbrev S8192x512 : Shape := ⟨2, ![8192, 512]⟩

abbrev nBuf : Space → Nat
  | .hbm => 7
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S8192x2048, .f32⟩
  | .hbm, ⟨2, _⟩ => ⟨S512x2048, .f32⟩
  | .hbm, ⟨3, _⟩ => ⟨S_, .f32⟩
  | .hbm, ⟨4, _⟩ => ⟨S8192x512, .f32⟩
  | .hbm, ⟨5, _⟩ => ⟨S8192x2048, .f32⟩
  | .hbm, ⟨6, _⟩ => ⟨S8192x512, .f32⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelFox.lean ====
abbrev S8192x1024 : Shape := ⟨2, ![8192, 1024]⟩
abbrev S8192x8 : Shape := ⟨2, ![8192, 8]⟩
abbrev S8x8192 : Shape := ⟨2, ![8, 8192]⟩
abbrev S8x1x8192 : Shape := ⟨3, ![8, 1, 8192]⟩
abbrev S8x8192x1 : Shape := ⟨3, ![8, 8192, 1]⟩
abbrev S1024x128 : Shape := ⟨2, ![1024, 128]⟩
abbrev S8192x128 : Shape := ⟨2, ![8192, 128]⟩
abbrev S1x1x8192 : Shape := ⟨3, ![1, 1, 8192]⟩
abbrev S1x1024x1 : Shape := ⟨3, ![1, 1024, 1]⟩
abbrev S1024x1 : Shape := ⟨2, ![1024, 1]⟩
abbrev S1024x1024 : Shape := ⟨2, ![1024, 1024]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 11
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x8, .f32⟩
  | .hbm, ⟨4, _⟩ => ⟨S8192x1024, .bf16⟩
  | .hbm, ⟨5, _⟩ => ⟨S8192x1024, .bf16⟩
  | .hbm, ⟨6, _⟩ => ⟨S8192x1024, .bf16⟩
  | .hbm, ⟨7, _⟩ => ⟨S8x8192, .f32⟩
  | .hbm, ⟨8, _⟩ => ⟨S8x1x8192, .f32⟩
  | .hbm, ⟨9, _⟩ => ⟨S8192x1024, .f32⟩
  | .hbm, ⟨10, _⟩ => ⟨S8x8192x1, .f32⟩
  | .local _ .vmem, ⟨0, _⟩ => ⟨S1024x128, .bf16⟩
  | .local _ .vmem, ⟨1, _⟩ => ⟨S1024x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S1x1x8192, .f32⟩
  | .local _ .vmem, ⟨7, _⟩ => ⟨S1x1x8192, .f32⟩
  | .local _ .vmem, ⟨8, _⟩ => ⟨S1024x128, .f32⟩
  | .local _ .vmem, ⟨9, _⟩ => ⟨S1024x128, .f32⟩
  | .local _ .vmem, ⟨10, _⟩ => ⟨S1x1024x1, .f32⟩
  | .local _ .vmem, ⟨11, _⟩ => ⟨S1x1024x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_3 : BitVec 32 := 1#32
  ⟨c0_i32, v9, c1_i32_3⟩
def k0_mult1 (i : grid0.Coords) (k0_t1 : Fin (k0_t1_loop i).trips) : BitVec 32 :=
  let c0_i32 : BitVec 32 := 0#32
  let c1_i32_3 : BitVec 32 := 1#32
  let arg8 : BitVec 32 := Scf.iv c0_i32 c1_i32_3 k0_t1
  let c1024_i32_19 : BitVec 32 := 1024#32
  let v56 : BitVec 32 := Scalar.muli arg8 c1024_i32_19
  v56
def k0_off1 (i : grid0.Coords) (k0_t1 : Fin (k0_t1_loop i).trips) : Fin 2 → Nat :=
  let c0_i32 : BitVec 32 := 0#32
  let c1_i32_3 : BitVec 32 := 1#32
  let arg8 : BitVec 32 := Scf.iv c0_i32 c1_i32_3 k0_t1
  let c1024_i32_19 : BitVec 32 := 1024#32
  let v56 : BitVec 32 := Scalar.muli arg8 c1024_i32_19
  let v57 : BitVec 32 := v56
  let v58 : Index := Scalar.indexCast v57
  let c0_20 : Index := 0#32
  ![v58.toNat, 0]
def k0_off2 (i : grid0.Coords) (k0_t1 : Fin (k0_t1_loop i).trips) : Fin 3 → Nat :=
  let c0_23 : Index := 0#32
  let c0_24 : Index := 0#32
  let c0_i32 : BitVec 32 := 0#32
  let c1_i32_3 : BitVec 32 := 1#32
  let arg8 : BitVec 32 := Scf.iv c0_i32 c1_i32_3 k0_t1
  let c1024_i32_19 : BitVec 32 := 1024#32
  let v56 : BitVec 32 := Scalar.muli arg8 c1024_i32_19
  let v57 : BitVec 32 := v56
  let v65 : Index := Scalar.indexCast v57
  ![0, 0, v65.toNat]
@[reducible] def k0_t2_loop (i : grid0.Coords) : Scf.Loop 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let v6 : BitVec 32 := Scalar.addi c0_i32 v5
  let c1_i32_4 : BitVec 32 := 1#32
  ⟨v9, v6, c1_i32_4⟩
def k0_mult2 (i : grid0.Coords) (k0_t2 : Fin (k0_t2_loop i).trips) : BitVec 32 :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  let arg8 : BitVec 32 := Scf.iv v9 c1_i32_4 k0_t2
  let c1024_i32_19 : BitVec 32 := 1024#32
  let v56 : BitVec 32 := Scalar.muli arg8 c1024_i32_19
  v56
def k0_off3 (i : grid0.Coords) (k0_t2 : Fin (k0_t2_loop i).trips) : Fin 2 → Nat :=
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  let arg8 : BitVec 32 := Scf.iv v9 c1_i32_4 k0_t2
  let c1024_i32_19 : BitVec 32 := 1024#32
  let v56 : BitVec 32 := Scalar.muli arg8 c1024_i32_19
  let v57 : BitVec 32 := v56
  let v58 : Index := Scalar.indexCast v57
  let c0_20 : Index := 0#32
  ![v58.toNat, 0]
def k0_off4 (i : grid0.Coords) (k0_t2 : Fin (k0_t2_loop i).trips) : Fin 3 → Nat :=
  let c0_23 : Index := 0#32
  let c0_24 : Index := 0#32
  let c0_i32 : BitVec 32 := 0#32
  let arg1 : BitVec 32 := BitVec.ofNat 32 (i 1).val
  let v5 : BitVec 32 := Scalar.subi arg1 c0_i32
  let c1_i32 : BitVec 32 := 1#32
  let v7 : BitVec 32 := Scalar.divsi v5 c1_i32
  let v8 : BitVec 32 := Scalar.muli v7 c1_i32
  let v9 : BitVec 32 := Scalar.addi c0_i32 v8
  let c1_i32_4 : BitVec 32 := 1#32
  let arg8 : BitVec 32 := Scf.iv v9 c1_i32_4 k0_t2
  let c1024_i32_19 : BitVec 32 := 1024#32
  let v56 : BitVec 32 := Scalar.muli arg8 c1024_i32_19
  let v57 : BitVec 32 := v56
  let v65 : Index := Scalar.indexCast v57
  ![0, 0, v65.toNat]
def k0_mult3 (i : grid0.Coords) : BitVec 32 :=
  let arg1 : BitVec 32 := BitVec.ofNat 32 (i 1).val
  let c1024_i32 : BitVec 32 := 1024#32
  let v12 : BitVec 32 := Scalar.muli arg1 c1024_i32
  v12
def k0_off5 (i : grid0.Coords) : Fin 2 → Nat :=
  let arg1 : BitVec 32 := BitVec.ofNat 32 (i 1).val
  let c1024_i32 : BitVec 32 := 1024#32
  let v12 : BitVec 32 := Scalar.muli arg1 c1024_i32
  let v13 : BitVec 32 := v12
  let v14 : Index := Scalar.indexCast v13
  let c0_5 : Index := 0#32
  ![v14.toNat, 0]
def k0_off6 (i : grid0.Coords) : Fin 3 → Nat :=
  let c0_8 : Index := 0#32
  let c0_9 : Index := 0#32
  let arg1 : BitVec 32 := BitVec.ofNat 32 (i 1).val
  let c1024_i32 : BitVec 32 := 1024#32
  let v12 : BitVec 32 := Scalar.muli arg1 c1024_i32
  let v13 : BitVec 32 := v12
  let v21 : Index := Scalar.indexCast v13
  ![0, 0, v21.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceFoxIdeal.lean ====
abbrev S8192x1024 : Shape := ⟨2, ![8192, 1024]⟩
abbrev S8192x8 : Shape := ⟨2, ![8192, 8]⟩
abbrev S8192x8x128 : Shape := ⟨3, ![8192, 8, 128]⟩
abbrev S8x8192 : Shape := ⟨2, ![8, 8192]⟩
abbrev S8192 : Shape := ⟨1, ![8192]⟩
abbrev S8x8192x8192 : Shape := ⟨3, ![8, 8192, 8192]⟩
abbrev S8x8192x1 : Shape := ⟨3, ![8, 8192, 1]⟩
abbrev S8x1x8192 : Shape := ⟨3, ![8, 1, 8192]⟩
abbrev S1x8192 : Shape := ⟨2, ![1, 8192]⟩
abbrev S8192x1 : Shape := ⟨2, ![8192, 1]⟩
abbrev S8192x8192 : Shape := ⟨2, ![8192, 8192]⟩
abbrev S_ : Shape := ⟨0, ![]⟩
abbrev S8x128x8192 : Shape := ⟨3, ![8, 128, 8192]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x8, .f32⟩
  | .hbm, ⟨4, _⟩ => ⟨S8192x8x128, .f32⟩
  | .hbm, ⟨5, _⟩ => ⟨S8192x8x128, .f32⟩
  | .hbm, ⟨6, _⟩ => ⟨S8192x8x128, .f32⟩
  | .hbm, ⟨7, _⟩ => ⟨S8x8192, .f32⟩
  | .hbm, ⟨8, _⟩ => ⟨S8192, .i32⟩
  | .hbm, ⟨9, _⟩ => ⟨S8x8192x8192, .f32⟩
  | .hbm, ⟨10, _⟩ => ⟨S8x8192x1, .f32⟩
  | .hbm, ⟨11, _⟩ => ⟨S8x8192x8192, .f32⟩
  | .hbm, ⟨12, _⟩ => ⟨S8x8192x8192, .f32⟩
  | .hbm, ⟨13, _⟩ => ⟨S8x1x8192, .f32⟩
  | .hbm, ⟨14, _⟩ => ⟨S8x8192x8192, .f32⟩
  | .hbm, ⟨15, _⟩ => ⟨S8x8192x8192, .f32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8x8192x8192, .i1⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192, .f32⟩
  | .hbm, ⟨28, _⟩ => ⟨S_, .f32⟩
  | .hbm, ⟨29, _⟩ => ⟨S8x8192, .f32⟩
  | .hbm, ⟨30, _⟩ => ⟨S8x8192, .f32⟩
  | .hbm, ⟨31, _⟩ => ⟨S8x8192x1, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S_, .f32⟩
  | .hbm, ⟨36, _⟩ => ⟨S8x8192, .f32⟩
  | .hbm, ⟨37, _⟩ => ⟨S8x8192x1, .f32⟩
  | .hbm, ⟨38, _⟩ => ⟨S8x8192x8192, .f32⟩
  | .hbm, ⟨39, _⟩ => ⟨S8x8192x8192, .f32⟩
  | .hbm, ⟨40, _⟩ => ⟨S8x128x8192, .f32⟩
  | .hbm, ⟨41, _⟩ => ⟨S8192x8x128, .f32⟩
  | .hbm, ⟨42, _⟩ => ⟨S8192x1024, .f32⟩
  | .hbm, ⟨43, _⟩ => ⟨S_, .f32⟩
  | .hbm, ⟨44, _⟩ => ⟨S8x8192, .f32⟩
  | .hbm, ⟨45, _⟩ => ⟨S8x8192x1, .f32⟩
  | .hbm, ⟨46, _⟩ => ⟨S8x8192x8192, .f32⟩
  | .hbm, ⟨47, _⟩ => ⟨S8x8192x8192, .f32⟩
  | .hbm, ⟨48, _⟩ => ⟨S8x8192x8192, .f32⟩
  | .hbm, ⟨49, _⟩ => ⟨S_, .f32⟩
  | .hbm, ⟨50, _⟩ => ⟨S8x8192, .f32⟩
  | .hbm, ⟨51, _⟩ => ⟨S8x8192, .f32⟩
  | .hbm, ⟨52, _⟩ => ⟨S8x8192, .f32⟩
  | .hbm, ⟨53, _⟩ => ⟨S8x8192, .f32⟩
  | .hbm, ⟨54, _⟩ => ⟨S8x8192, .f32⟩
  | .hbm, ⟨55, _⟩ => ⟨S8x8192x1, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Proof.Products.lean ====
/- Products of matrices, and a sum over an axis that is gone through in equal parts. -/
module

public import Idealize.ShloMosaic.Lib.Pointwise
public import Idealize.ShloMosaic.Lib.Pipeline.ValueKit
public import Idealize.ShloMosaic.Lib.Pipeline.ReadBack
public import Idealize.ShloMosaic.Lib.Quiescent
public import Idealize.ShloMosaic.Adequacy

@[expose] public section

noncomputable section

namespace Cert.Prod

open Idealize.ShloMosaic Idealize.SL.Sem

section
variable {nD : ℕ} {τ : Topo} {sig : RefSig} {Val : EltTy → Type} {Λ : Labels}

/-- A run of a program without semaphores that keeps its arguments is a frame. -/
theorem quiet {d : Defs nD τ sig Val Λ} {p : (c : Thread nD τ) → Prog (TpuEff nD τ sig Val Λ c.2) PUnit} {s : MemSt nD τ sig Val}
    {A B : PUnit × MemSt nD τ sig Val → Dev nD → Prop} (h : θ_run d p s fun r => ∀ c, A r c ∧ B r c) (none : sig.nSem + sig.nDmaSem = 0) :
    θ_run d p s fun r => (∀ c, B r c) ∧ r.2.sem = fun _ => 0 :=
  (θ_run d p s).mono (fun r h => ⟨fun c => (h c).2, sem_eq_zero_of_no_sems none r.2⟩) h

/-- A run's result by another name. -/
theorem named {d : Defs nD τ sig Val Λ} {p : (c : Thread nD τ) → Prog (TpuEff nD τ sig Val Λ c.2) PUnit} {s : MemSt nD τ sig Val}
    {ℓ : Dev nD → Loc nD τ sig} {v w : (c : Dev nD) → Buf Val (ℓ c)} {B : PUnit × MemSt nD τ sig Val → Dev nD → Prop}
    (h : θ_run d p s fun r => ∀ c, r.2.mem (ℓ c) = v c ∧ B r c) (e : ∀ c, v c = w c) :
    θ_run d p s fun r => ∀ c, r.2.mem (ℓ c) = w c ∧ B r c :=
  (θ_run d p s).mono (fun r h c => ⟨(h c).1.trans (e c), (h c).2⟩) h
end

/-- Rows by columns. -/
def nn {M N K : ℕ} (x : (⟨2, ![M, K]⟩ : Shape).Idx → EReal) (y : (⟨2, ![K, N]⟩ : Shape).Idx → EReal) (i : (⟨2, ![M, N]⟩ : Shape).Idx) : EReal :=
  ∑ k : Fin K, x (ix2 (i 0) k) * y (ix2 k (i 1))

/-- Rows by rows. -/
def nt {M N K : ℕ} (x : (⟨2, ![M, K]⟩ : Shape).Idx → EReal) (y : (⟨2, ![N, K]⟩ : Shape).Idx → EReal) (i : (⟨2, ![M, N]⟩ : Shape).Idx) : EReal :=
  ∑ k : Fin K, x (ix2 (i 0) k) * y (ix2 (i 1) k)

/-- Columns by columns. -/
def tn {M N K : ℕ} (x : (⟨2, ![K, M]⟩ : Shape).Idx → EReal) (y : (⟨2, ![K, N]⟩ : Shape).Idx → EReal) (i : (⟨2, ![M, N]⟩ : Shape).Idx) : EReal :=
  ∑ k : Fin K, x (ix2 k (i 0)) * y (ix2 k (i 1))

/-- With the factors the other way round. -/
theorem tn_comm {M N K : ℕ} (x : (⟨2, ![K, M]⟩ : Shape).Idx → EReal) (y : (⟨2, ![K, N]⟩ : Shape).Idx → EReal) (i : (⟨2, ![M, N]⟩ : Shape).Idx) :
    tn x y i = ∑ k : Fin K, y (ix2 k (i 1)) * x (ix2 k (i 0)) :=
  Finset.sum_congr rfl fun _ _ => mul_comm _ _

/-- A value set at the first point of every run of `J` points and added to at the others is, at the run's last point, the sum over
the whole axis when the run's points go through the axis part by part. -/
theorem runs {N J n L : ℕ} [NeZero J] {ι : Type} (f : (t : ℕ) → t < N → ι → EReal) (a : Fin N → ι → Fin n → EReal)
    (first : ∀ t : Fin N, t.val % J = 0 → ∀ i, f t.val t.isLt i = ∑ k, a t i k)
    (later : ∀ t : Fin N, ¬t.val % J = 0 → ∀ i, f t.val t.isLt i = f (t.val - 1) (Nat.lt_of_le_of_lt (Nat.sub_le _ _) t.isLt) i + ∑ k, a t i k)
    (t : Fin N) (last : t.val % J = J - 1) (i : ι) (g : Fin L → EReal) (size : L = J * n)
    (parts : ∀ (s : Fin J) (k : Fin n) (p : J * (t.val / J) + s.val < N) (l : s.val * n + k.val < L), a ⟨J * (t.val / J) + s.val, p⟩ i k = g ⟨s.val * n + k.val, l⟩) :
    f t.val t.isLt i = ∑ l, g l := by
  rw [Pipeline.eq_sum_fin_of_reset_step_apply_of_flush f J (fun _ => 0) (fun t i => ∑ k, a t i k)
    (fun t h i => (first t h i).trans (zero_add _).symm) later t last i, zero_add]
  exact Fin.sum_mul_add_congr (fun s k l => parts s k _ l) size

end Cert.Prod

end
-- ==== Proof.UpDw.lean ====
/- The gradient of the feed-forward layer's first weight. -/
module

public import proofs.«01_k».proof.Defs
public import proofs.«01_k».proof.Proof.Gen.KernelUpDwIdeal.Value
public import proofs.«01_k».proof.Proof.Gen.ReferenceUpDwIdeal.Run
public import proofs.«01_k».proof.Proof.Products
public import Idealize.ShloMosaic.Adequacy

@[expose] public section

set_option maxRecDepth 16384

noncomputable section

namespace Cert.KernelUpDwIdeal.Prod

open Idealize.ShloMosaic Idealize.ShloMosaic.TcCoe Idealize.SL.Sem Pipeline Cert.Prod
open Cert.KernelUpDwIdeal Cert.KernelUpDwIdeal.Gen Cert.KernelUpDwIdeal.Value

variable (m : (ℓ : Loc nD τ sig) → Buf (Elt Ideal) ℓ) (c : Dev nD)

theorem pay1 (x : Vec Ideal S2048x1024 .bf16) (y : Vec Ideal S2048x1024 .bf16) (j : S1024x1024.Idx) : k0_pay1 (F := Ideal) x y j = tn x y j := by
  pointwise [k0_pay1, tn]

theorem pay2 (x : Vec Ideal S2048x1024 .bf16) (y : Vec Ideal S2048x1024 .bf16) (j : S1024x1024.Idx) : k0_pay2 (F := Ideal) x y j = tn x y j := by
  pointwise [k0_pay2, pay1]

theorem pay3 (x : Vec Ideal S2048x1024 .bf16) (y : Vec Ideal S2048x1024 .bf16) (v : Vec Ideal S1024x1024 .f32) (j : S1024x1024.Idx) :
    k0_pay3 (F := Ideal) x y v j = v j + tn x y j := by
  pointwise [k0_pay3, pay1]

theorem pay4 (v : Vec Ideal S1024x1024 .f32) : k0_pay4 (F := Ideal) v = v := by
  funext j
  pointwise [k0_pay4]

theorem later (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j
      + tn (K := 2048) (iblk m c 0 t) (iblk m c 1 t) j := by
  by_cases h3 : t.val % 4 = 3
  · rw [outsAt0_C m c t h (by omega) h3]
    frame_out
    rw [read_unread_whole, pay3]
  · rw [outsAt0_B m c t h (by omega) h3]
    frame_out
    rw [read_unread_whole, pay3]

theorem idx : ∀ t : Fin cfg0.N, win0_0.index t = ![t.val % 4, t.val / 44] ∧ win0_1.index t = ![t.val % 4, t.val / 4 % 11]
    ∧ win0_2.index t = ![t.val / 44, t.val / 4 % 11] := by decide +kernel

theorem final : (dats m 0 c).arrAt 2 cfg0.N = tn (V m c main_arg0) (V m c main_arg1) := by
  refine (dats m 0 c).arrAt_eq_of_covers 2 _ (by decide +kernel) fun t hf y => ?_
  have h3 := (flush0_2 t).mp hf
  obtain ⟨-, -, i2⟩ := idx t
  blk_simp [i2]
  have e : (outsAt0 m c t.val t.isLt).1 = (outsAt0 m c t.val t.isLt).2 := by
    rw [outsAt0_C m c t (by omega) (by omega) h3]
    frame_out
    exact pay4 _
  rw [after0_2, e]
  refine runs (fun n h => (outsAt0 m c n h).2) _ (fun t h j => ?_) (later m c) t h3 y _ rfl fun s k p l => ?_
  · rw [outsAt0_A m c t h (by omega) (by omega)]
    frame_out
    exact pay2 _ _ j
  · obtain ⟨i0, i1, -⟩ := idx ⟨4 * (t.val / 4) + s.val, p⟩
    congr 1
    · blk_ext [iblk, i0, i2]
    · blk_ext [iblk, i1, i2]

theorem ref (x : Vec Ideal S8192x2048 .bf16) (y : Vec Ideal S8192x11264 .bf16) :
    truncf (F := Ideal) .bf16 (transpose Cert.ReferenceUpDwIdeal.S2048x11264 [1, 0]
      (Host.dotGeneral (F := Ideal) Cert.ReferenceUpDwIdeal.dot_S8192x11264_S8192x2048_S11264x2048_0_0_1_1_n_n none
        (extf .f32 y Cert.ReferenceUpDwIdeal.Gen.bitsLt_bf16_f32) (extf .f32 x Cert.ReferenceUpDwIdeal.Gen.bitsLt_bf16_f32))
      Cert.ReferenceUpDwIdeal.Gen.transposes_S11264x2048_S2048x11264_1_0) Cert.ReferenceUpDwIdeal.Gen.bitsLt_bf16_f32 = tn x y := by
  funext i
  pointwise [tn_comm]

end Cert.KernelUpDwIdeal.Prod

end
-- ==== Proof.UpDx.lean ====
/- The gradient of the feed-forward layer's input. -/
module

public import proofs.«01_k».proof.Defs
public import proofs.«01_k».proof.Proof.Gen.KernelUpDxIdeal.Value
public import proofs.«01_k».proof.Proof.Gen.ReferenceUpDxIdeal.Run
public import proofs.«01_k».proof.Proof.Products
public import Idealize.ShloMosaic.Adequacy

@[expose] public section

set_option maxRecDepth 16384

noncomputable section

namespace Cert.KernelUpDxIdeal.Prod

open Idealize.ShloMosaic Idealize.ShloMosaic.TcCoe Idealize.SL.Sem Pipeline Cert.Prod
open Cert.KernelUpDxIdeal Cert.KernelUpDxIdeal.Gen Cert.KernelUpDxIdeal.Value

variable (m : (ℓ : Loc nD τ sig) → Buf (Elt Ideal) ℓ) (c : Dev nD)

theorem pay1 (x : Vec Ideal S1024x2816 .bf16) (y : Vec Ideal S1024x2816 .bf16) (j : S1024x1024.Idx) : k0_pay1 (F := Ideal) x y j = nt x y j := by
  pointwise [k0_pay1, nt]

theorem pay2 (x : Vec Ideal S1024x2816 .bf16) (y : Vec Ideal S1024x2816 .bf16) (j : S1024x1024.Idx) : k0_pay2 (F := Ideal) x y j = nt x y j := by
  pointwise [k0_pay2, pay1]

theorem pay3 (x : Vec Ideal S1024x2816 .bf16) (y : Vec Ideal S1024x2816 .bf16) (v : Vec Ideal S1024x1024 .f32) (j : S1024x1024.Idx) :
    k0_pay3 (F := Ideal) x y v j = v j + nt x y j := by
  pointwise [k0_pay3, pay1]

theorem later (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j
      + nt (K := 2816) (iblk m c 0 t) (iblk m c 1 t) j := by
  by_cases h3 : t.val % 4 = 3
  · rw [outsAt0_C m c t h (by omega) h3]
    frame_out
    rw [read_unread_whole, pay3]
  · rw [outsAt0_B m c t h (by omega) h3]
    frame_out
    rw [read_unread_whole, pay3]

theorem idx : ∀ t : Fin cfg0.N, win0_0.index t = ![t.val / 8, t.val % 4] ∧ win0_1.index t = ![t.val / 4 % 2, t.val % 4]
    ∧ win0_2.index t = ![t.val / 8, t.val / 4 % 2] := by decide +kernel

theorem final : (dats m 0 c).arrAt 2 cfg0.N = nt (V m c main_arg1) (V m c main_arg0) := by
  refine (dats m 0 c).arrAt_eq_of_covers 2 _ (by decide +kernel) fun t hf y => ?_
  have h3 := (flush0_2 t).mp hf
  obtain ⟨-, -, i2⟩ := idx t
  blk_simp [i2]
  have e : (outsAt0 m c t.val t.isLt).1 = (outsAt0 m c t.val t.isLt).2 := by
    rw [outsAt0_C m c t (by omega) (by omega) h3]
    frame_out
  rw [after0_2, e]
  refine runs (fun n h => (outsAt0 m c n h).2) _ (fun t h j => ?_)
    (later m c) t h3 y _ rfl fun s k p l => ?_
  · rw [outsAt0_A m c t h (by omega) (by omega)]
    frame_out
    exact pay2 _ _ j
  · obtain ⟨i0, i1, -⟩ := idx ⟨4 * (t.val / 4) + s.val, p⟩
    congr 1
    · blk_ext [iblk, i0, i2]
    · blk_ext [iblk, i1, i2]

theorem ref (x : Vec Ideal S8192x11264 .bf16) (y : Vec Ideal S2048x11264 .bf16) :
    Host.dotGeneral (F := Ideal) Cert.ReferenceUpDxIdeal.dot_S8192x11264_S2048x11264_S8192x2048_1_1_0_0_n_n none
      (extf .f32 x Cert.ReferenceUpDxIdeal.Gen.bitsLt_bf16_f32) (extf .f32 y Cert.ReferenceUpDxIdeal.Gen.bitsLt_bf16_f32) = nt x y := by
  funext i
  pointwise [nt]

end Cert.KernelUpDxIdeal.Prod

end
-- ==== Proof.DownDw.lean ====
/- The gradient of the feed-forward layer's second weight. -/
module

public import proofs.«01_k».proof.Defs
public import proofs.«01_k».proof.Proof.Gen.KernelDownDwIdeal.Value
public import proofs.«01_k».proof.Proof.Gen.ReferenceDownDwIdeal.Run
public import proofs.«01_k».proof.Proof.Products
public import Idealize.ShloMosaic.Adequacy

@[expose] public section

set_option maxRecDepth 16384

noncomputable section

namespace Cert.KernelDownDwIdeal.Prod

open Idealize.ShloMosaic Idealize.ShloMosaic.TcCoe Idealize.SL.Sem Pipeline Cert.Prod
open Cert.KernelDownDwIdeal Cert.KernelDownDwIdeal.Gen Cert.KernelDownDwIdeal.Value

variable (m : (ℓ : Loc nD τ sig) → Buf (Elt Ideal) ℓ) (c : Dev nD)

theorem pay1 (x : Vec Ideal S2048x1408 .bf16) (y : Vec Ideal S2048x512 .f32) (j : S1408x512.Idx) : k0_pay1 (F := Ideal) x y j = tn x y j := by
  pointwise [k0_pay1, tn]

theorem pay2 (x : Vec Ideal S2048x1408 .bf16) (y : Vec Ideal S2048x512 .f32) (j : S1408x512.Idx) : k0_pay2 (F := Ideal) x y j = tn x y j := by
  pointwise [k0_pay2, pay1]

theorem pay3 (x : Vec Ideal S2048x1408 .bf16) (y : Vec Ideal S2048x512 .f32) (v : Vec Ideal S1408x512 .f32) (j : S1408x512.Idx) :
    k0_pay3 (F := Ideal) x y v j = v j + tn x y j := by
  pointwise [k0_pay3, pay1]

theorem pay4 (v : Vec Ideal S1408x512 .f32) : k0_pay4 (F := Ideal) v = v := by
  funext j
  pointwise [k0_pay4]

theorem later (t : Fin cfg0.N) (h : ¬t.val % 4 = 0) (j : S1408x512.Idx) :
    (outsAt0 m c t.val t.isLt).2 j = (outsAt0 m c (t.val - 1) (Nat.lt_of_le_of_lt (Nat.sub_le _ _) t.isLt)).2 j
      + tn (K := 2048) (iblk m c 0 t) (iblk m c 1 t) j := by
  by_cases h3 : t.val % 4 = 3
  · rw [outsAt0_C m c t h (by omega) h3]
    frame_out
    rw [read_unread_whole, pay3]
  · rw [outsAt0_B m c t h (by omega) h3]
    frame_out
    rw [read_unread_whole, pay3]

theorem idx : ∀ t : Fin cfg0.N, win0_0.index t = ![t.val % 4, t.val / 16] ∧ win0_1.index t = ![t.val % 4, t.val / 4 % 4]
    ∧ win0_2.index t = ![t.val / 16, t.val / 4 % 4] := by decide +kernel

theorem final : (dats m 0 c).arrAt 2 cfg0.N = tn (V m c main_arg0) (V m c main_arg1) := by
  refine (dats m 0 c).arrAt_eq_of_covers 2 _ (by decide +kernel) fun t hf y => ?_
  have h3 := (flush0_2 t).mp hf
  obtain ⟨-, -, i2⟩ := idx t
  blk_simp [i2]
  have e : (outsAt0 m c t.val t.isLt).1 = (outsAt0 m c t.val t.isLt).2 := by
    rw [outsAt0_C m c t (by omega) (by omega) h3]
    frame_out
    exact pay4 _
  rw [after0_2, e]
  refine runs (fun n h => (outsAt0 m c n h).2) _ (fun t h j => ?_) (later m c) t h3 y _ rfl fun s k p l => ?_
  · rw [outsAt0_A m c t h (by omega) (by omega)]
    frame_out
    exact pay2 _ _ j
  · obtain ⟨i0, i1, -⟩ := idx ⟨4 * (t.val / 4) + s.val, p⟩
    congr 1
    · blk_ext [iblk, i0, i2]
    · blk_ext [iblk, i1, i2]

theorem ref (x : Vec Ideal S8192x5632 .bf16) (y : FVec Ideal S8192x2048 .f32) :
    truncf (F := Ideal) .bf16 (transpose Cert.ReferenceDownDwIdeal.S5632x2048 [1, 0]
      (Host.dotGeneral (F := Ideal) Cert.ReferenceDownDwIdeal.dot_S8192x2048_S8192x5632_S2048x5632_0_0_1_1_n_n none
        y (extf .f32 x Cert.ReferenceDownDwIdeal.Gen.bitsLt_bf16_f32))
      Cert.ReferenceDownDwIdeal.Gen.transposes_S2048x5632_S5632x2048_1_0) Cert.ReferenceDownDwIdeal.Gen.bitsLt_bf16_f32 = tn x y := by
  funext i
  pointwise [tn_comm]

end Cert.KernelDownDwIdeal.Prod

end
-- ==== Proof.DownDx.lean ====
/- The gradient of the second feed-forward product's left factor. -/
module

public import proofs.«01_k».proof.Defs
public import proofs.«01_k».proof.Proof.Gen.KernelDownDxIdeal.Value
public import proofs.«01_k».proof.Proof.Gen.ReferenceDownDxIdeal.Run
public import proofs.«01_k».proof.Proof.Products
public import Idealize.ShloMosaic.Adequacy

@[expose] public section

set_option maxRecDepth 16384

noncomputable section

namespace Cert.KernelDownDxIdeal.Prod

open Idealize.ShloMosaic Idealize.ShloMosaic.TcCoe Idealize.SL.Sem Cert.Prod
open Cert.KernelDownDxIdeal Cert.KernelDownDxIdeal.Gen Cert.KernelDownDxIdeal.Value

variable (m : (ℓ : Loc nD τ sig) → Buf (Elt Ideal) ℓ) (c : Dev nD)

theorem pay1 (x : Vec Ideal S512x2048 .f32) (y : Vec Ideal S1408x2048 .bf16) (j : S512x1408.Idx) : k0_pay1 (F := Ideal) x y j = nt x y j := by
  pointwise [k0_pay1, nt]

theorem idx : ∀ t : Fin cfg0.N, win0_0.index t = ![t.val / 4, 0] ∧ win0_1.index t = ![t.val % 4, 0]
    ∧ win0_2.index t = ![t.val / 4, t.val % 4] := by decide +kernel

theorem final : (dats m 0 c).arrAt 2 cfg0.N = nt (V m c main_arg1) (V m c main_arg0) := by
  refine (dats m 0 c).arrAt_eq_of_covers 2 _ (by decide +kernel) fun t hf y => ?_
  obtain ⟨i0, i1, i2⟩ := idx t
  blk_simp [i2]
  rw [after0_2]
  frame_out
  refine (pay1 _ _ y).trans (Finset.sum_congr rfl fun k _ => ?_)
  congr 1
  · blk_ext [iblk, i0, i2]
  · blk_ext [iblk, i1, i2]

theorem ref (x : FVec Ideal S8192x2048 .f32) (y : Vec Ideal S5632x2048 .bf16) :
    Host.dotGeneral (F := Ideal) Cert.ReferenceDownDxIdeal.dot_S8192x2048_S5632x2048_S8192x5632_1_1_0_0_n_n none
      x (extf .f32 y Cert.ReferenceDownDxIdeal.Gen.bitsLt_bf16_f32) = nt x y := by
  funext i
  pointwise [nt]

end Cert.KernelDownDxIdeal.Prod

end
-- ==== Proof.InDw.lean ====
/- The gradient of the combined projection's weight. -/
module

public import proofs.«01_k».proof.Defs
public import proofs.«01_k».proof.Proof.Gen.KernelInDwIdeal.Value
public import proofs.«01_k».proof.Proof.Gen.ReferenceInDwIdeal.Run
public import proofs.«01_k».proof.Proof.Products
public import Idealize.ShloMosaic.Adequacy

@[expose] public section

set_option maxRecDepth 16384

noncomputable section

namespace Cert.KernelInDwIdeal.Prod

open Idealize.ShloMosaic Idealize.ShloMosaic.TcCoe Idealize.SL.Sem Pipeline Cert.Prod
open Cert.KernelInDwIdeal Cert.KernelInDwIdeal.Gen Cert.KernelInDwIdeal.Value

variable (m : (ℓ : Loc nD τ sig) → Buf (Elt Ideal) ℓ) (c : Dev nD)

theorem pay1 (x : Vec Ideal S2048x512 .bf16) (y : Vec Ideal S2048x1408 .bf16) (j : S512x1408.Idx) : k0_pay1 (F := Ideal) x y j = tn x y j := by
  pointwise [k0_pay1, tn]

theorem pay2 (x : Vec Ideal S2048x512 .bf16) (y : Vec Ideal S2048x1408 .bf16) (j : S512x1408.Idx) : k0_pay2 (F := Ideal) x y j = tn x y j := by
  pointwise [k0_pay2, pay1]

theorem pay3 (x : Vec Ideal S2048x512 .bf16) (y : Vec Ideal S2048x1408 .bf16) (v : Vec Ideal S512x1408 .f32) (j : S512x1408.Idx) :
    k0_pay3 (F := Ideal) x y v j = v j + tn x y j := by
  pointwise [k0_pay3, pay1]

theorem pay4 (v : Vec Ideal S512x1408 .f32) : k0_pay4 (F := Ideal) v = v := by
  funext j
  pointwise [k0_pay4]

theorem later (t : Fin cfg0.N) (h : ¬t.val % 4 = 0) (j : S512x1408.Idx) :
    (outsAt0 m c t.val t.isLt).2 j = (outsAt0 m c (t.val - 1) (Nat.lt_of_le_of_lt (Nat.sub_le _ _) t.isLt)).2 j
      + tn (K := 2048) (iblk m c 0 t) (iblk m c 1 t) j := by
  by_cases h3 : t.val % 4 = 3
  · rw [outsAt0_C m c t h (by omega) h3]
    frame_out
    rw [read_unread_whole, pay3]
  · rw [outsAt0_B m c t h (by omega) h3]
    frame_out
    rw [read_unread_whole, pay3]

theorem idx : ∀ t : Fin cfg0.N, win0_0.index t = ![t.val % 4, t.val / 44] ∧ win0_1.index t = ![t.val % 4, t.val / 4 % 11]
    ∧ win0_2.index t = ![t.val / 44, t.val / 4 % 11] := by decide +kernel

theorem final : (dats m 0 c).arrAt 2 cfg0.N = tn (V m c main_arg0) (V m c main_arg1) := by
  refine (dats m 0 c).arrAt_eq_of_covers 2 _ (by decide +kernel) fun t hf y => ?_
  have h3 := (flush0_2 t).mp hf
  obtain ⟨-, -, i2⟩ := idx t
  blk_simp [i2]
  have e : (outsAt0 m c t.val t.isLt).1 = (outsAt0 m c t.val t.isLt).2 := by
    rw [outsAt0_C m c t (by omega) (by omega) h3]
    frame_out
    exact pay4 _
  rw [after0_2, e]
  refine runs (fun n h => (outsAt0 m c n h).2) _ (fun t h j => ?_) (later m c) t h3 y _ rfl fun s k p l => ?_
  · rw [outsAt0_A m c t h (by omega) (by omega)]
    frame_out
    exact pay2 _ _ j
  · obtain ⟨i0, i1, -⟩ := idx ⟨4 * (t.val / 4) + s.val, p⟩
    congr 1
    · blk_ext [iblk, i0, i2]
    · blk_ext [iblk, i1, i2]

theorem ref (x : Vec Ideal S8192x2048 .bf16) (y : Vec Ideal S8192x15488 .bf16) :
    truncf (F := Ideal) .bf16 (transpose Cert.ReferenceInDwIdeal.S2048x15488 [1, 0]
      (Host.dotGeneral (F := Ideal) Cert.ReferenceInDwIdeal.dot_S8192x15488_S8192x2048_S15488x2048_0_0_1_1_n_n none
        (extf .f32 y Cert.ReferenceInDwIdeal.Gen.bitsLt_bf16_f32) (extf .f32 x Cert.ReferenceInDwIdeal.Gen.bitsLt_bf16_f32))
      Cert.ReferenceInDwIdeal.Gen.transposes_S15488x2048_S2048x15488_1_0) Cert.ReferenceInDwIdeal.Gen.bitsLt_bf16_f32 = tn x y := by
  funext i
  pointwise [tn_comm]

end Cert.KernelInDwIdeal.Prod

end
-- ==== Proof.InDx.lean ====
/- The gradient of the combined projection's input. -/
module

public import proofs.«01_k».proof.Defs
public import proofs.«01_k».proof.Proof.Gen.KernelInDxIdeal.Value
public import proofs.«01_k».proof.Proof.Gen.ReferenceInDxIdeal.Run
public import proofs.«01_k».proof.Proof.Products
public import Idealize.ShloMosaic.Adequacy

@[expose] public section

set_option maxRecDepth 16384

noncomputable section

namespace Cert.KernelInDxIdeal.Prod

open Idealize.ShloMosaic Idealize.ShloMosaic.TcCoe Idealize.SL.Sem Pipeline Cert.Prod
open Cert.KernelInDxIdeal Cert.KernelInDxIdeal.Gen Cert.KernelInDxIdeal.Value

variable (m : (ℓ : Loc nD τ sig) → Buf (Elt Ideal) ℓ) (c : Dev nD)

theorem pay1 (x : Vec Ideal S512x1408 .bf16) (y : Vec Ideal S2048x1408 .bf16) (j : S512x2048.Idx) : k0_pay1 (F := Ideal) x y j = nt x y j := by
  pointwise [k0_pay1, nt]

theorem pay2 (x : Vec Ideal S512x1408 .bf16) (y : Vec Ideal S2048x1408 .bf16) (j : S512x2048.Idx) : k0_pay2 (F := Ideal) x y j = nt x y j := by
  pointwise [k0_pay2, pay1]

theorem pay3 (x : Vec Ideal S512x1408 .bf16) (y : Vec Ideal S2048x1408 .bf16) (v : Vec Ideal S512x2048 .f32) (j : S512x2048.Idx) :
    k0_pay3 (F := Ideal) x y v j = v j + nt x y j := by
  pointwise [k0_pay3, pay1]

theorem later (t : Fin cfg0.N) (h : ¬t.val % 11 = 0) (j : S512x2048.Idx) :
    (outsAt0 m c t.val t.isLt).2 j = (outsAt0 m c (t.val - 1) (Nat.lt_of_le_of_lt (Nat.sub_le _ _) t.isLt)).2 j
      + nt (K := 1408) (iblk m c 0 t) (iblk m c 1 t) j := by
  by_cases h3 : t.val % 11 = 10
  · rw [outsAt0_C m c t h (by omega) h3]
    frame_out
    rw [read_unread_whole, pay3]
  · rw [outsAt0_B m c t h (by omega) h3]
    frame_out
    rw [read_unread_whole, pay3]

theorem idx : ∀ t : Fin cfg0.N, win0_0.index t = ![t.val / 11, t.val % 11] ∧ win0_1.index t = ![0, t.val % 11]
    ∧ win0_2.index t = ![t.val / 11, 0] := by decide +kernel

theorem final : (dats m 0 c).arrAt 2 cfg0.N = nt (V m c main_arg1) (V m c main_arg0) := by
  refine (dats m 0 c).arrAt_eq_of_covers 2 _ (by decide +kernel) fun t hf y => ?_
  have h3 := (flush0_2 t).mp hf
  obtain ⟨-, -, i2⟩ := idx t
  blk_simp [i2]
  have e : (outsAt0 m c t.val t.isLt).1 = (outsAt0 m c t.val t.isLt).2 := by
    rw [outsAt0_C m c t (by omega) (by omega) h3]
    frame_out
  rw [after0_2, e]
  refine runs (fun n h => (outsAt0 m c n h).2) _ (fun t h j => ?_) (later m c) t h3 y _ rfl fun s k p l => ?_
  · rw [outsAt0_A m c t h (by omega) (by omega)]
    frame_out
    exact pay2 _ _ j
  · obtain ⟨i0, i1, -⟩ := idx ⟨11 * (t.val / 11) + s.val, p⟩
    congr 1
    · blk_ext [iblk, i0, i2]
    · blk_ext [iblk, i1, i2]

theorem ref (x : Vec Ideal S8192x15488 .bf16) (y : Vec Ideal S2048x15488 .bf16) :
    Host.dotGeneral (F := Ideal) Cert.ReferenceInDxIdeal.dot_S8192x15488_S2048x15488_S8192x2048_1_1_0_0_n_n none
      (extf .f32 x Cert.ReferenceInDxIdeal.Gen.bitsLt_bf16_f32) (extf .f32 y Cert.ReferenceInDxIdeal.Gen.bitsLt_bf16_f32) = nt x y := by
  funext i
  pointwise [nt]

end Cert.KernelInDxIdeal.Prod

end
-- ==== Proof.In.lean ====
/- The combined projection. -/
module

public import proofs.«01_k».proof.Defs
public import proofs.«01_k».proof.Proof.Gen.KernelInIdeal.Value
public import proofs.«01_k».proof.Proof.Gen.ReferenceInIdeal.Run
public import proofs.«01_k».proof.Proof.Products
public import Idealize.ShloMosaic.Adequacy

@[expose] public section

set_option maxRecDepth 16384

noncomputable section

namespace Cert.KernelInIdeal.Prod

open Idealize.ShloMosaic Idealize.ShloMosaic.TcCoe Idealize.SL.Sem Cert.Prod
open Cert.KernelInIdeal Cert.KernelInIdeal.Gen Cert.KernelInIdeal.Value

variable (m : (ℓ : Loc nD τ sig) → Buf (Elt Ideal) ℓ) (c : Dev nD)

theorem pay1 (x : Vec Ideal S1024x2048 .bf16) (y : Vec Ideal S2048x1408 .bf16) (j : S1024x1408.Idx) : k0_pay1 (F := Ideal) x y j = nn x y j := by
  pointwise [k0_pay1, nn]

theorem idx : ∀ t : Fin cfg0.N, win0_0.index t = ![t.val / 11, 0] ∧ win0_1.index t = ![0, t.val % 11]
    ∧ win0_2.index t = ![t.val / 11, t.val % 11] := by decide +kernel

theorem final : (dats m 0 c).arrAt 2 cfg0.N = nn (V m c main_arg0) (V m c main_arg1) := by
  refine (dats m 0 c).arrAt_eq_of_covers 2 _ (by decide +kernel) fun t hf y => ?_
  obtain ⟨i0, i1, i2⟩ := idx t
  blk_simp [i2]
  rw [after0_2]
  frame_out
  refine (pay1 _ _ y).trans (Finset.sum_congr rfl fun k _ => ?_)
  congr 1
  · blk_ext [iblk, i0, i2]
  · blk_ext [iblk, i1, i2]

theorem ref (x : Vec Ideal S8192x2048 .bf16) (y : Vec Ideal S2048x15488 .bf16) :
    Host.dotGeneral (F := Ideal) Cert.ReferenceInIdeal.dot_S8192x2048_S2048x15488_S8192x15488_1_0_0_1_n_n none
      (extf .f32 x Cert.ReferenceInIdeal.Gen.bitsLt_bf16_f32) (extf .f32 y Cert.ReferenceInIdeal.Gen.bitsLt_bf16_f32) = nn x y := by
  funext i
  pointwise [nn]

end Cert.KernelInIdeal.Prod

end
-- ==== Proof.Up.lean ====
/- The feed-forward layer's first product. -/
module

public import proofs.«01_k».proof.Defs
public import proofs.«01_k».proof.Proof.Gen.KernelUpIdeal.Value
public import proofs.«01_k».proof.Proof.Gen.ReferenceUpIdeal.Run
public import proofs.«01_k».proof.Proof.Products
public import Idealize.ShloMosaic.Adequacy

@[expose] public section

set_option maxRecDepth 16384

noncomputable section

namespace Cert.KernelUpIdeal.Prod

open Idealize.ShloMosaic Idealize.ShloMosaic.TcCoe Idealize.SL.Sem Cert.Prod
open Cert.KernelUpIdeal Cert.KernelUpIdeal.Gen Cert.KernelUpIdeal.Value

variable (m : (ℓ : Loc nD τ sig) → Buf (Elt Ideal) ℓ) (c : Dev nD)

theorem pay1 (x : Vec Ideal S1024x2048 .bf16) (y : Vec Ideal S2048x1408 .bf16) (j : S1024x1408.Idx) : k0_pay1 (F := Ideal) x y j = nn x y j := by
  pointwise [k0_pay1, nn]

theorem idx : ∀ t : Fin cfg0.N, win0_0.index t = ![t.val / 8, 0] ∧ win0_1.index t = ![0, t.val % 8]
    ∧ win0_2.index t = ![t.val / 8, t.val % 8] := by decide +kernel

theorem final : (dats m 0 c).arrAt 2 cfg0.N = nn (V m c main_arg0) (V m c main_arg1) := by
  refine (dats m 0 c).arrAt_eq_of_covers 2 _ (by decide +kernel) fun t hf y => ?_
  obtain ⟨i0, i1, i2⟩ := idx t
  blk_simp [i2]
  rw [after0_2]
  frame_out
  refine (pay1 _ _ y).trans (Finset.sum_congr rfl fun k _ => ?_)
  congr 1
  · blk_ext [iblk, i0, i2]
  · blk_ext [iblk, i1, i2]

theorem ref (x : Vec Ideal S8192x2048 .bf16) (y : Vec Ideal S2048x11264 .bf16) :
    Host.dotGeneral (F := Ideal) Cert.ReferenceUpIdeal.dot_S8192x2048_S2048x11264_S8192x11264_1_0_0_1_n_n none
      (extf .f32 x Cert.ReferenceUpIdeal.Gen.bitsLt_bf16_f32) (extf .f32 y Cert.ReferenceUpIdeal.Gen.bitsLt_bf16_f32) = nn x y := by
  funext i
  pointwise [nn]

end Cert.KernelUpIdeal.Prod

end
-- ==== Proof.Down.lean ====
/- The feed-forward layer's second product, added to what came in. -/
module

public import proofs.«01_k».proof.Defs
public import proofs.«01_k».proof.Proof.Gen.KernelDownIdeal.Value
public import proofs.«01_k».proof.Proof.Gen.ReferenceDownIdeal.Run
public import proofs.«01_k».proof.Proof.Products
public import Idealize.ShloMosaic.Adequacy

@[expose] public section

set_option maxRecDepth 16384

noncomputable section

namespace Cert.KernelDownIdeal.Prod

open Idealize.ShloMosaic Idealize.ShloMosaic.TcCoe Idealize.SL.Sem Pipeline Cert.Prod
open Cert.KernelDownIdeal Cert.KernelDownIdeal.Gen Cert.KernelDownIdeal.Value

variable (m : (ℓ : Loc nD τ sig) → Buf (Elt Ideal) ℓ) (c : Dev nD)

theorem pay1 (x : Vec Ideal S512x2816 .bf16) (y : Vec Ideal S2816x1024 .bf16) (j : S512x1024.Idx) : k0_pay1 (F := Ideal) x y j = nn x y j := by
  pointwise [k0_pay1, nn]

theorem pay2 (x : Vec Ideal S512x2816 .bf16) (y : Vec Ideal S2816x1024 .bf16) (j : S512x1024.Idx) : k0_pay2 (F := Ideal) x y j = nn x y j := by
  pointwise [k0_pay2, pay1]

theorem pay3 (x : Vec Ideal S512x2816 .bf16) (y : Vec Ideal S2816x1024 .bf16) (v : Vec Ideal S512x1024 .f32) (j : S512x1024.Idx) :
    k0_pay3 (F := Ideal) x y v j = v j + nn x y j := by
  pointwise [k0_pay3, pay1]

theorem pay4 (v w : Vec Ideal S512x1024 .f32) (j : S512x1024.Idx) : k0_pay4 (F := Ideal) v w j = v j + w j := by
  pointwise [k0_pay4]

theorem idx : ∀ t : Fin cfg0.N, win0_0.index t = ![t.val / 4, t.val % 2] ∧ win0_1.index t = ![t.val % 2, t.val / 2 % 2]
    ∧ win0_2.index t = ![t.val / 4, t.val / 2 % 2] ∧ win0_3.index t = ![t.val / 4, t.val / 2 % 2] := by decide +kernel

/-- The sum of what came in and the product. -/
def total (x : Vec Ideal S8192x5632 .bf16) (y : Vec Ideal S5632x2048 .bf16) (z : Vec Ideal S8192x2048 .f32) (i : S8192x2048.Idx) : EReal := nn x y i + z i

theorem later (t : Fin cfg0.N) (h : ¬t.val % 2 = 0) (j : S512x1024.Idx) :
    (outsAt0 m c t.val t.isLt).2 j = (outsAt0 m c (t.val - 1) (Nat.lt_of_le_of_lt (Nat.sub_le _ _) t.isLt)).2 j
      + nn (K := 2816) (iblk m c 0 t) (iblk m c 1 t) j := by
  rw [outsAt0_B m c t h (by omega) (by omega)]
  frame_out
  rw [read_unread_whole, pay3]

theorem last (t : Fin cfg0.N) (h : t.val % 2 = 1) (j : S512x1024.Idx) :
    (outsAt0 m c t.val t.isLt).1 j = (outsAt0 m c t.val t.isLt).2 j + iblk m c 2 t j := by
  rw [outsAt0_B m c t (by omega) h h]
  frame_out
  rw [pay4]

theorem final : (dats m 0 c).arrAt 3 cfg0.N = total (V m c main_arg0) (V m c main_arg1) (V m c main_arg2) := by
  refine (dats m 0 c).arrAt_eq_of_covers 3 _ (by decide +kernel) fun t hf y => ?_
  have h3 := (flush0_3 t).mp hf
  obtain ⟨-, -, i2, i3⟩ := idx t
  blk_simp [i3]
  rw [after0_3, last m c t h3]
  refine congrArg₂ (· + ·) ?_ ?_
  · refine runs (fun n h => (outsAt0 m c n h).2) _ (fun t h j => ?_) (later m c) t h3 y _ rfl fun s k p l => ?_
    · rw [outsAt0_A m c t h (by omega) (by omega)]
      frame_out
      exact pay2 _ _ j
    · obtain ⟨i0, i1, -⟩ := idx ⟨2 * (t.val / 2) + s.val, p⟩
      congr 1
      · blk_ext [iblk, i0, i3]
      · blk_ext [iblk, i1, i3]
  · blk_ext [iblk, i2, i3]

theorem ref (x : Vec Ideal S8192x5632 .bf16) (y : Vec Ideal S5632x2048 .bf16) (z : Vec Ideal S8192x2048 .f32) :
    addf (F := Ideal) z (Host.dotGeneral (F := Ideal) Cert.ReferenceDownIdeal.dot_S8192x5632_S5632x2048_S8192x2048_1_0_0_1_n_n none
      (extf .f32 x Cert.ReferenceDownIdeal.Gen.bitsLt_bf16_f32) (extf .f32 y Cert.ReferenceDownIdeal.Gen.bitsLt_bf16_f32)) = total x y z := by
  funext i
  rw [total, add_comm]
  pointwise [nn]

end Cert.KernelDownIdeal.Prod

end
-- ==== Proof.OutDw.lean ====
/- The gradient of the output projection's weight. -/
module

public import proofs.«01_k».proof.Defs
public import proofs.«01_k».proof.Proof.Gen.KernelOutDwIdeal.Value
public import proofs.«01_k».proof.Proof.Gen.ReferenceOutDwIdeal.Run
public import proofs.«01_k».proof.Proof.Products
public import Idealize.ShloMosaic.Adequacy

@[expose] public section

set_option maxRecDepth 16384

noncomputable section

namespace Cert.KernelOutDwIdeal.Prod

open Idealize.ShloMosaic Idealize.ShloMosaic.TcCoe Idealize.SL.Sem Pipeline Cert.Prod
open Cert.KernelOutDwIdeal Cert.KernelOutDwIdeal.Gen Cert.KernelOutDwIdeal.Value

variable (m : (ℓ : Loc nD τ sig) → Buf (Elt Ideal) ℓ) (c : Dev nD)

theorem pay1 (x : Vec Ideal S2048x1024 .bf16) (y : Vec Ideal S2048x1024 .f32) (j : S1024x1024.Idx) : k0_pay1 (F := Ideal) x y j = tn x y j := by
  pointwise [k0_pay1, tn]

theorem pay2 (x : Vec Ideal S2048x1024 .bf16) (y : Vec Ideal S2048x1024 .f32) (j : S1024x1024.Idx) : k0_pay2 (F := Ideal) x y j = tn x y j := by
  pointwise [k0_pay2, pay1]

theorem pay3 (x : Vec Ideal S2048x1024 .bf16) (y : Vec Ideal S2048x1024 .f32) (v : Vec Ideal S1024x1024 .f32) (j : S1024x1024.Idx) :
    k0_pay3 (F := Ideal) x y v j = v j + tn x y j := by
  pointwise [k0_pay3, pay1]

theorem pay4 (v : Vec Ideal S1024x1024 .f32) : k0_pay4 (F := Ideal) v = v := by
  funext j
  pointwise [k0_pay4]

theorem later (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j
      + tn (K := 2048) (iblk m c 0 t) (iblk m c 1 t) j := by
  by_cases h3 : t.val % 4 = 3
  · rw [outsAt0_C m c t h (by omega) h3]
    frame_out
    rw [read_unread_whole, pay3]
  · rw [outsAt0_B m c t h (by omega) h3]
    frame_out
    rw [read_unread_whole, pay3]

theorem idx : ∀ t : Fin cfg0.N, win0_0.index t = ![t.val % 4, t.val / 8] ∧ win0_1.index t = ![t.val % 4, t.val / 4 % 2]
    ∧ win0_2.index t = ![t.val / 8, t.val / 4 % 2] := by decide +kernel

theorem final : (dats m 0 c).arrAt 2 cfg0.N = tn (V m c main_arg0) (V m c main_arg1) := by
  refine (dats m 0 c).arrAt_eq_of_covers 2 _ (by decide +kernel) fun t hf y => ?_
  have h3 := (flush0_2 t).mp hf
  obtain ⟨-, -, i2⟩ := idx t
  blk_simp [i2]
  have e : (outsAt0 m c t.val t.isLt).1 = (outsAt0 m c t.val t.isLt).2 := by
    rw [outsAt0_C m c t (by omega) (by omega) h3]
    frame_out
    exact pay4 _
  rw [after0_2, e]
  refine runs (fun n h => (outsAt0 m c n h).2) _ (fun t h j => ?_) (later m c) t h3 y _ rfl fun s k p l => ?_
  · rw [outsAt0_A m c t h (by omega) (by omega)]
    frame_out
    exact pay2 _ _ j
  · obtain ⟨i0, i1, -⟩ := idx ⟨4 * (t.val / 4) + s.val, p⟩
    congr 1
    · blk_ext [iblk, i0, i2]
    · blk_ext [iblk, i1, i2]

theorem ref (x : Vec Ideal S8192x2048 .bf16) (y : FVec Ideal S8192x2048 .f32) :
    truncf (F := Ideal) .bf16 (transpose Cert.ReferenceOutDwIdeal.S2048x2048 [1, 0]
      (Host.dotGeneral (F := Ideal) Cert.ReferenceOutDwIdeal.dot_S8192x2048_S8192x2048_S2048x2048_0_0_1_1_n_n none
        y (extf .f32 x Cert.ReferenceOutDwIdeal.Gen.bitsLt_bf16_f32))
      Cert.ReferenceOutDwIdeal.Gen.transposes_S2048x2048_S2048x2048_1_0) Cert.ReferenceOutDwIdeal.Gen.bitsLt_bf16_f32 = tn x y := by
  funext i
  pointwise [tn_comm]

end Cert.KernelOutDwIdeal.Prod

end
-- ==== Proof.OutDx.lean ====
/- The gradient of the output projection's input. -/
module

public import proofs.«01_k».proof.Defs
public import proofs.«01_k».proof.Proof.Gen.KernelOutDxIdeal.Value
public import proofs.«01_k».proof.Proof.Gen.ReferenceOutDxIdeal.Run
public import proofs.«01_k».proof.Proof.Products
public import Idealize.ShloMosaic.Adequacy

@[expose] public section

set_option maxRecDepth 16384

noncomputable section

namespace Cert.KernelOutDxIdeal.Prod

open Idealize.ShloMosaic Idealize.ShloMosaic.TcCoe Idealize.SL.Sem Pipeline Cert.Prod
open Cert.KernelOutDxIdeal Cert.KernelOutDxIdeal.Gen Cert.KernelOutDxIdeal.Value

variable (m : (ℓ : Loc nD τ sig) → Buf (Elt Ideal) ℓ) (c : Dev nD)

theorem pay (x : Vec Ideal S1024x2048 .f32) (y : Vec Ideal S1024x2048 .bf16) (j : S1024x1024.Idx) : k0_pay1 (F := Ideal) x y j = nt x y j := by
  pointwise [k0_pay1, nt]

theorem idx : ∀ t : Fin cfg0.N, win0_0.index t = ![t.val / 2, 0] ∧ win0_1.index t = ![t.val % 2, 0]
    ∧ win0_2.index t = ![t.val / 2, t.val % 2] := by decide +kernel

theorem final : (dats m 0 c).arrAt 2 cfg0.N = nt (V m c main_arg1) (V m c main_arg0) := by
  refine (dats m 0 c).arrAt_eq_of_covers 2 _ (by decide +kernel) fun t hf y => ?_
  obtain ⟨i0, i1, i2⟩ := idx t
  blk_simp [i2]
  rw [after0_2]
  frame_out
  refine (pay _ _ y).trans (Finset.sum_congr rfl fun k _ => ?_)
  congr 1
  · blk_ext [iblk, i0, i2]
  · blk_ext [iblk, i1, i2]

theorem ref (x : FVec Ideal S8192x2048 .f32) (y : Vec Ideal S2048x2048 .bf16) :
    Host.dotGeneral (F := Ideal) Cert.ReferenceOutDxIdeal.dot_S8192x2048_S2048x2048_S8192x2048_1_1_0_0_n_n none
      x (extf .f32 y Cert.ReferenceOutDxIdeal.Gen.bitsLt_bf16_f32) = nt x y := by
  funext i
  pointwise [nt]

end Cert.KernelOutDxIdeal.Prod

end
-- ==== Proof.BranchDw.lean ====
/- The gradient of one branch's weight. -/
module

public import proofs.«01_k».proof.Defs
public import proofs.«01_k».proof.Proof.Gen.KernelBranchDwIdeal.Value
public import proofs.«01_k».proof.Proof.Gen.ReferenceBranchDwIdeal.Run
public import proofs.«01_k».proof.Proof.Products
public import Idealize.ShloMosaic.Adequacy

@[expose] public section

set_option maxRecDepth 16384

noncomputable section

namespace Cert.KernelBranchDwIdeal.Prod

open Idealize.ShloMosaic Idealize.ShloMosaic.TcCoe Idealize.SL.Sem Pipeline Cert.Prod
open Cert.KernelBranchDwIdeal Cert.KernelBranchDwIdeal.Gen Cert.KernelBranchDwIdeal.Value

variable (m : (ℓ : Loc nD τ sig) → Buf (Elt Ideal) ℓ) (c : Dev nD)

theorem pay1 (x : Vec Ideal S2048x512 .f32) (y : Vec Ideal S2048x1024 .f32) (j : S512x1024.Idx) : k0_pay1 (F := Ideal) x y j = tn x y j := by
  pointwise [k0_pay1, tn]

theorem pay2 (x : Vec Ideal S2048x512 .f32) (y : Vec Ideal S2048x1024 .f32) (j : S512x1024.Idx) : k0_pay2 (F := Ideal) x y j = tn x y j := by
  pointwise [k0_pay2, pay1]

theorem pay3 (x : Vec Ideal S2048x512 .f32) (y : Vec Ideal S2048x1024 .f32) (v : Vec Ideal S512x1024 .f32) (j : S512x1024.Idx) :
    k0_pay3 (F := Ideal) x y v j = v j + tn x y j := by
  pointwise [k0_pay3, pay1]

theorem pay4 (v : Vec Ideal S512x1024 .f32) : k0_pay4 (F := Ideal) v = v := by
  funext j
  pointwise [k0_pay4]

theorem later (t : Fin cfg0.N) (h : ¬t.val % 4 = 0) (j : S512x1024.Idx) :
    (outsAt0 m c t.val t.isLt).2 j = (outsAt0 m c (t.val - 1) (Nat.lt_of_le_of_lt (Nat.sub_le _ _) t.isLt)).2 j
      + tn (K := 2048) (iblk m c 0 t) (iblk m c 1 t) j := by
  by_cases h3 : t.val % 4 = 3
  · rw [outsAt0_C m c t h (by omega) h3]
    frame_out
    rw [read_unread_whole, pay3]
  · rw [outsAt0_B m c t h (by omega) h3]
    frame_out
    rw [read_unread_whole, pay3]

theorem idx : ∀ t : Fin cfg0.N, win0_0.index t = ![t.val % 4, t.val / 8] ∧ win0_1.index t = ![t.val % 4, t.val / 4 % 2]
    ∧ win0_2.index t = ![t.val / 8, t.val / 4 % 2] := by decide +kernel

theorem final : (dats m 0 c).arrAt 2 cfg0.N = tn (V m c main_arg0) (V m c main_arg1) := by
  refine (dats m 0 c).arrAt_eq_of_covers 2 _ (by decide +kernel) fun t hf y => ?_
  have h3 := (flush0_2 t).mp hf
  obtain ⟨-, -, i2⟩ := idx t
  blk_simp [i2]
  have e : (outsAt0 m c t.val t.isLt).1 = (outsAt0 m c t.val t.isLt).2 := by
    rw [outsAt0_C m c t (by omega) (by omega) h3]
    frame_out
    exact pay4 _
  rw [after0_2, e]
  refine runs (fun n h => (outsAt0 m c n h).2) _ (fun t h j => ?_) (later m c) t h3 y _ rfl fun s k p l => ?_
  · rw [outsAt0_A m c t h (by omega) (by omega)]
    frame_out
    exact pay2 _ _ j
  · obtain ⟨i0, i1, -⟩ := idx ⟨4 * (t.val / 4) + s.val, p⟩
    congr 1
    · blk_ext [iblk, i0, i2]
    · blk_ext [iblk, i1, i2]

theorem ref (x : FVec Ideal S8192x1024 .f32) (y : FVec Ideal S8192x2048 .f32) :
    truncf (F := Ideal) .bf16 (transpose Cert.ReferenceBranchDwIdeal.S1024x2048 [1, 0]
      (Host.dotGeneral (F := Ideal) Cert.ReferenceBranchDwIdeal.dot_S8192x2048_S8192x1024_S2048x1024_0_0_1_1_n_n none y x)
      Cert.ReferenceBranchDwIdeal.Gen.transposes_S2048x1024_S1024x2048_1_0) Cert.ReferenceBranchDwIdeal.Gen.bitsLt_bf16_f32 = tn x y := by
  funext i
  pointwise [tn_comm]

end Cert.KernelBranchDwIdeal.Prod

end
-- ==== Proof.BranchDx.lean ====
/- The gradient of one branch. -/
module

public import proofs.«01_k».proof.Defs
public import proofs.«01_k».proof.Proof.Gen.KernelBranchDxIdeal.Value
public import proofs.«01_k».proof.Proof.Gen.ReferenceBranchDxIdeal.Run
public import proofs.«01_k».proof.Proof.Products
public import Idealize.ShloMosaic.Adequacy

@[expose] public section

set_option maxRecDepth 16384

noncomputable section

namespace Cert.KernelBranchDxIdeal.Prod

open Idealize.ShloMosaic Idealize.ShloMosaic.TcCoe Idealize.SL.Sem Pipeline Cert.Prod
open Cert.KernelBranchDxIdeal Cert.KernelBranchDxIdeal.Gen Cert.KernelBranchDxIdeal.Value

variable (m : (ℓ : Loc nD τ sig) → Buf (Elt Ideal) ℓ) (c : Dev nD)

theorem pay (x : Vec Ideal S2048x2048 .f32) (y : Vec Ideal S256x2048 .bf16) (j : S2048x256.Idx) : k0_pay1 (F := Ideal) x y j = nt x y j := by
  pointwise [k0_pay1, nt]

theorem idx : ∀ t : Fin cfg0.N, win0_0.index t = ![t.val / 4, 0] ∧ win0_1.index t = ![t.val % 4, 0]
    ∧ win0_2.index t = ![t.val / 4, t.val % 4] := by decide +kernel

theorem final : (dats m 0 c).arrAt 2 cfg0.N = nt (V m c main_arg1) (V m c main_arg0) := by
  refine (dats m 0 c).arrAt_eq_of_covers 2 _ (by decide +kernel) fun t hf y => ?_
  obtain ⟨i0, i1, i2⟩ := idx t
  blk_simp [i2]
  rw [after0_2]
  frame_out
  refine (pay _ _ y).trans (Finset.sum_congr rfl fun k _ => ?_)
  congr 1
  · blk_ext [iblk, i0, i2]
  · blk_ext [iblk, i1, i2]

theorem ref (x : FVec Ideal S8192x2048 .f32) (y : Vec Ideal S1024x2048 .bf16) :
    Host.dotGeneral (F := Ideal) Cert.ReferenceBranchDxIdeal.dot_S8192x2048_S1024x2048_S8192x1024_1_1_0_0_n_n none
      x (extf .f32 y Cert.ReferenceBranchDxIdeal.Gen.bitsLt_bf16_f32) = nt x y := by
  funext i
  pointwise [nt]

end Cert.KernelBranchDxIdeal.Prod

end
-- ==== Proof.Out.lean ====
/- The output projection, added to what came in. -/
module

public import proofs.«01_k».proof.Defs
public import proofs.«01_k».proof.Proof.Gen.KernelOutIdeal.Value
public import proofs.«01_k».proof.Proof.Gen.ReferenceOutIdeal.Run
public import proofs.«01_k».proof.Proof.Products
public import Idealize.ShloMosaic.Adequacy

@[expose] public section

set_option maxRecDepth 16384

noncomputable section

namespace Cert.KernelOutIdeal.Prod

open Idealize.ShloMosaic Idealize.ShloMosaic.TcCoe Idealize.SL.Sem Pipeline Cert.Prod
open Cert.KernelOutIdeal Cert.KernelOutIdeal.Gen Cert.KernelOutIdeal.Value

variable (m : (ℓ : Loc nD τ sig) → Buf (Elt Ideal) ℓ) (c : Dev nD)

theorem pay (x : Vec Ideal S2048x2048 .bf16) (y : Vec Ideal S2048x512 .bf16) (z : Vec Ideal S2048x512 .f32) (j : S2048x512.Idx) :
    k0_pay1 (F := Ideal) x y z j = nn x y j + z j := by
  pointwise [k0_pay1, nn]

theorem idx : ∀ t : Fin cfg0.N, win0_0.index t = ![t.val / 4, 0] ∧ win0_1.index t = ![0, t.val % 4]
    ∧ win0_2.index t = ![t.val / 4, t.val % 4] ∧ win0_3.index t = ![t.val / 4, t.val % 4] := by decide +kernel

/-- The sum of what came in and the product. -/
def total (x : Vec Ideal S8192x2048 .bf16) (y : Vec Ideal S2048x2048 .bf16) (z : Vec Ideal S8192x2048 .f32) (i : S8192x2048.Idx) : EReal := nn x y i + z i

theorem final : (dats m 0 c).arrAt 3 cfg0.N = total (V m c main_arg0) (V m c main_arg1) (V m c main_arg2) := by
  refine (dats m 0 c).arrAt_eq_of_covers 3 _ (by decide +kernel) fun t hf y => ?_
  obtain ⟨i0, i1, i2, i3⟩ := idx t
  blk_simp [i3]
  rw [after0_3]
  frame_out
  refine (pay _ _ _ y).trans (congrArg₂ (· + ·) (Finset.sum_congr rfl fun k _ => ?_) ?_)
  · congr 1
    · blk_ext [iblk, i0, i3]
    · blk_ext [iblk, i1, i3]
  · blk_ext [iblk, i2, i3]

theorem ref (x : Vec Ideal S8192x2048 .bf16) (y : Vec Ideal S2048x2048 .bf16) (z : Vec Ideal S8192x2048 .f32) :
    addf (F := Ideal) z (Host.dotGeneral (F := Ideal) Cert.ReferenceOutIdeal.dot_S8192x2048_S2048x2048_S8192x2048_1_0_0_1_n_n none
      (extf .f32 x Cert.ReferenceOutIdeal.Gen.bitsLt_bf16_f32) (extf .f32 y Cert.ReferenceOutIdeal.Gen.bitsLt_bf16_f32)) = total x y z := by
  funext i
  rw [total, add_comm]
  pointwise [nn]

end Cert.KernelOutIdeal.Prod

end
-- ==== Proof.Branch.lean ====
/- One branch's product with its weight. -/
module

public import proofs.«01_k».proof.Defs
public import proofs.«01_k».proof.Proof.Gen.KernelBranchIdeal.Value
public import proofs.«01_k».proof.Proof.Gen.ReferenceBranchIdeal.Run
public import proofs.«01_k».proof.Proof.Products
public import Idealize.ShloMosaic.Adequacy

@[expose] public section

set_option maxRecDepth 16384

noncomputable section

namespace Cert.KernelBranchIdeal.Prod

open Idealize.ShloMosaic Idealize.ShloMosaic.TcCoe Idealize.SL.Sem Pipeline Cert.Prod
open Cert.KernelBranchIdeal Cert.KernelBranchIdeal.Gen Cert.KernelBranchIdeal.Value

variable (m : (ℓ : Loc nD τ sig) → Buf (Elt Ideal) ℓ) (c : Dev nD)

theorem pay (x : Vec Ideal S2048x1024 .f32) (y : Vec Ideal S1024x512 .bf16) (j : S2048x512.Idx) : k0_pay1 (F := Ideal) x y j = nn x y j := by
  pointwise [k0_pay1, nn]

theorem idx : ∀ t : Fin cfg0.N, win0_0.index t = ![t.val / 4, 0] ∧ win0_1.index t = ![0, t.val % 4]
    ∧ win0_2.index t = ![t.val / 4, t.val % 4] := by decide +kernel

theorem final : (dats m 0 c).arrAt 2 cfg0.N = nn (V m c main_arg0) (V m c main_arg1) := by
  refine (dats m 0 c).arrAt_eq_of_covers 2 _ (by decide +kernel) fun t hf y => ?_
  obtain ⟨i0, i1, i2⟩ := idx t
  blk_simp [i2]
  rw [after0_2]
  frame_out
  refine (pay _ _ y).trans (Finset.sum_congr rfl fun k _ => ?_)
  congr 1
  · blk_ext [iblk, i0, i2]
  · blk_ext [iblk, i1, i2]

theorem ref (x : FVec Ideal S8192x1024 .f32) (y : Vec Ideal S1024x2048 .bf16) :
    Host.dotGeneral (F := Ideal) Cert.ReferenceBranchIdeal.dot_S8192x1024_S1024x2048_S8192x2048_1_0_0_1_n_n none
      x (extf .f32 y Cert.ReferenceBranchIdeal.Gen.bitsLt_bf16_f32) = nn x y := by
  funext i
  pointwise [nn]

end Cert.KernelBranchIdeal.Prod

end
-- ==== Proof.XaQ.lean ====
/- The cross-attention's product with its query weight. One block has all the columns. -/
module

public import proofs.«01_k».proof.Defs
public import proofs.«01_k».proof.Proof.Gen.KernelXaQIdeal.Value
public import proofs.«01_k».proof.Proof.Gen.ReferenceXaQIdeal.Run
public import proofs.«01_k».proof.Proof.Products

@[expose] public section

set_option maxRecDepth 16384

noncomputable section

namespace Cert.KernelXaQIdeal.Prod

open Idealize.ShloMosaic Idealize.ShloMosaic.TcCoe Idealize.SL.Sem Pipeline Cert.Prod
open Cert.KernelXaQIdeal Cert.KernelXaQIdeal.Gen Cert.KernelXaQIdeal.Value

variable (m : (ℓ : Loc nD τ sig) → Buf (Elt Ideal) ℓ) (c : Dev nD)

theorem pay (x : Vec Ideal S2048x2048 .bf16) (y : Vec Ideal S2048x512 .bf16) (j : S2048x512.Idx) : k0_pay1 (F := Ideal) x y j = nn x y j := by
  pointwise [k0_pay1, nn]

theorem idx : ∀ t : Fin cfg0.N, win0_0.index t = ![t.val, 0] ∧ win0_1.index t = ![0, 0] ∧ win0_2.index t = ![t.val, 0] := by decide +kernel

theorem final : (dats m 0 c).arrAt 2 cfg0.N = nn (V m c main_arg0) (V m c main_arg1) := by
  refine (dats m 0 c).arrAt_eq_of_covers 2 _ (by decide +kernel) fun t hf y => ?_
  obtain ⟨i0, i1, i2⟩ := idx t
  blk_simp [i2]
  rw [after0_2]
  frame_out
  refine (pay _ _ y).trans (Finset.sum_congr rfl fun k _ => ?_)
  congr 1
  · blk_ext [iblk, i0, i2]
  · blk_ext [iblk, i1, i2]

theorem ref (x : Vec Ideal S8192x2048 .bf16) (y : Vec Ideal S2048x512 .bf16) :
    Host.dotGeneral (F := Ideal) Cert.ReferenceXaQIdeal.dot_S8192x2048_S2048x512_S8192x512_1_0_0_1_n_n none
      (extf .f32 x Cert.ReferenceXaQIdeal.Gen.bitsLt_bf16_f32) (extf .f32 y Cert.ReferenceXaQIdeal.Gen.bitsLt_bf16_f32) = nn x y := by
  funext i
  pointwise [nn]

end Cert.KernelXaQIdeal.Prod

end
-- ==== Proof.XaQDw.lean ====
/- The gradient of the cross-attention's query weight, one block that every grid point adds to. -/
module

public import proofs.«01_k».proof.Defs
public import proofs.«01_k».proof.Proof.Gen.KernelXaQDwIdeal.Value
public import proofs.«01_k».proof.Proof.Gen.ReferenceXaQDwIdeal.Run
public import proofs.«01_k».proof.Proof.Products

@[expose] public section

set_option maxRecDepth 16384

noncomputable section

namespace Cert.KernelXaQDwIdeal.Prod

open Idealize.ShloMosaic Idealize.ShloMosaic.TcCoe Idealize.SL.Sem Pipeline Cert.Prod
open Cert.KernelXaQDwIdeal Cert.KernelXaQDwIdeal.Gen Cert.KernelXaQDwIdeal.Value

variable (m : (ℓ : Loc nD τ sig) → Buf (Elt Ideal) ℓ) (c : Dev nD)

theorem pay1 (x : Vec Ideal S2048x2048 .bf16) (y : Vec Ideal S2048x512 .f32) (j : S2048x512.Idx) : k0_pay1 (F := Ideal) x y j = tn x y j := by
  pointwise [k0_pay1, tn]

theorem pay2 (x : Vec Ideal S2048x2048 .bf16) (y : Vec Ideal S2048x512 .f32) (j : S2048x512.Idx) : k0_pay2 (F := Ideal) x y j = tn x y j := by
  pointwise [k0_pay2, pay1]

theorem pay3 (x : Vec Ideal S2048x2048 .bf16) (y : Vec Ideal S2048x512 .f32) (v : Vec Ideal S2048x512 .f32) (j : S2048x512.Idx) :
    k0_pay3 (F := Ideal) x y v j = v j + tn x y j := by
  pointwise [k0_pay3, pay1]

theorem pay4 (v : Vec Ideal S2048x512 .f32) : k0_pay4 (F := Ideal) v = v := by
  funext j
  pointwise [k0_pay4]

theorem later (t : Fin cfg0.N) (h : ¬t.val % 4 = 0) (j : S2048x512.Idx) :
    (outsAt0 m c t.val t.isLt).2 j = (outsAt0 m c (t.val - 1) (Nat.lt_of_le_of_lt (Nat.sub_le _ _) t.isLt)).2 j
      + tn (K := 2048) (iblk m c 0 t) (iblk m c 1 t) j := by
  by_cases h3 : t.val % 4 = 3
  · rw [outsAt0_C m c t h (by omega) h3]
    frame_out
    rw [read_unread_whole, pay3]
  · rw [outsAt0_B m c t h (by omega) h3]
    frame_out
    rw [read_unread_whole, pay3]

theorem idx : ∀ t : Fin cfg0.N, win0_0.index t = ![t.val % 4, 0] ∧ win0_1.index t = ![t.val % 4, 0] ∧ win0_2.index t = ![0, 0] := by decide +kernel

theorem final : (dats m 0 c).arrAt 2 cfg0.N = tn (V m c main_arg0) (V m c main_arg1) := by
  refine (dats m 0 c).arrAt_eq_of_covers 2 _ (by decide +kernel) fun t hf y => ?_
  have h3 := (flush0_2 t).mp hf
  obtain ⟨-, -, i2⟩ := idx t
  blk_simp [i2]
  have e : (outsAt0 m c t.val t.isLt).1 = (outsAt0 m c t.val t.isLt).2 := by
    rw [outsAt0_C m c t (by omega) (by omega) h3]
    frame_out
    exact pay4 _
  rw [after0_2, e]
  refine runs (fun n h => (outsAt0 m c n h).2) _ (fun t h j => ?_) (later m c) t h3 y _ rfl fun s k p l => ?_
  · have four : t.val < 4 := t.isLt
    rw [outsAt0_A m c t h (by omega) (by omega)]
    frame_out
    exact pay2 _ _ j
  · obtain ⟨i0, i1, -⟩ := idx ⟨4 * (t.val / 4) + s.val, p⟩
    congr 1
    · blk_ext [iblk, i0, i2]
    · blk_ext [iblk, i1, i2]

theorem ref (x : Vec Ideal S8192x2048 .bf16) (y : FVec Ideal S8192x512 .f32) :
    truncf (F := Ideal) .bf16 (transpose Cert.ReferenceXaQDwIdeal.S2048x512 [1, 0]
      (Host.dotGeneral (F := Ideal) Cert.ReferenceXaQDwIdeal.dot_S8192x512_S8192x2048_S512x2048_0_0_1_1_n_n none
        y (extf .f32 x Cert.ReferenceXaQDwIdeal.Gen.bitsLt_bf16_f32))
      Cert.ReferenceXaQDwIdeal.Gen.transposes_S512x2048_S2048x512_1_0) Cert.ReferenceXaQDwIdeal.Gen.bitsLt_bf16_f32 = tn x y := by
  funext i
  pointwise [tn_comm]

end Cert.KernelXaQDwIdeal.Prod

end
-- ==== Proof.XaQDx.lean ====
/- The gradient of what the cross-attention's query weight is multiplied with. -/
module

public import proofs.«01_k».proof.Defs
public import proofs.«01_k».proof.Proof.Gen.KernelXaQDxIdeal.Value
public import proofs.«01_k».proof.Proof.Gen.ReferenceXaQDxIdeal.Run
public import proofs.«01_k».proof.Proof.Products

@[expose] public section

set_option maxRecDepth 16384

noncomputable section

namespace Cert.KernelXaQDxIdeal.Prod

open Idealize.ShloMosaic Idealize.ShloMosaic.TcCoe Idealize.SL.Sem Pipeline Cert.Prod
open Cert.KernelXaQDxIdeal Cert.KernelXaQDxIdeal.Gen Cert.KernelXaQDxIdeal.Value

variable (m : (ℓ : Loc nD τ sig) → Buf (Elt Ideal) ℓ) (c : Dev nD)

theorem pay (x : Vec Ideal S2048x512 .f32) (y : Vec Ideal S1024x512 .bf16) (j : S2048x1024.Idx) : k0_pay1 (F := Ideal) x y j = nt x y j := by
  pointwise [k0_pay1, nt]

theorem idx : ∀ t : Fin cfg0.N, win0_0.index t = ![t.val / 2, 0] ∧ win0_1.index t = ![t.val % 2, 0]
    ∧ win0_2.index t = ![t.val / 2, t.val % 2] := by decide +kernel

theorem final : (dats m 0 c).arrAt 2 cfg0.N = nt (V m c main_arg1) (V m c main_arg0) := by
  refine (dats m 0 c).arrAt_eq_of_covers 2 _ (by decide +kernel) fun t hf y => ?_
  obtain ⟨i0, i1, i2⟩ := idx t
  blk_simp [i2]
  rw [after0_2]
  frame_out
  refine (pay _ _ y).trans (Finset.sum_congr rfl fun k _ => ?_)
  congr 1
  · blk_ext [iblk, i0, i2]
  · blk_ext [iblk, i1, i2]

theorem ref (x : FVec Ideal S8192x512 .f32) (y : Vec Ideal S2048x512 .bf16) :
    Host.dotGeneral (F := Ideal) Cert.ReferenceXaQDxIdeal.dot_S8192x512_S2048x512_S8192x2048_1_1_0_0_n_n none
      x (extf .f32 y Cert.ReferenceXaQDxIdeal.Gen.bitsLt_bf16_f32) = nt x y := by
  funext i
  pointwise [nt]

end Cert.KernelXaQDxIdeal.Prod

end
-- ==== Proof.XaO.lean ====
/- The cross-attention's product with its output weight, added to what came in. -/
module

public import proofs.«01_k».proof.Defs
public import proofs.«01_k».proof.Proof.Gen.KernelXaOIdeal.Value
public import proofs.«01_k».proof.Proof.Gen.ReferenceXaOIdeal.Run
public import proofs.«01_k».proof.Proof.Products

@[expose] public section

set_option maxRecDepth 16384

noncomputable section

namespace Cert.KernelXaOIdeal.Prod

open Idealize.ShloMosaic Idealize.ShloMosaic.TcCoe Idealize.SL.Sem Pipeline Cert.Prod
open Cert.KernelXaOIdeal Cert.KernelXaOIdeal.Gen Cert.KernelXaOIdeal.Value

variable (m : (ℓ : Loc nD τ sig) → Buf (Elt Ideal) ℓ) (c : Dev nD)

theorem pay (x : Vec Ideal S2048x512 .f32) (y : Vec Ideal S512x512 .bf16) (z : Vec Ideal S2048x512 .f32) (j : S2048x512.Idx) :
    k0_pay1 (F := Ideal) x y z j = nn x y j + z j := by
  pointwise [k0_pay1, nn]

theorem idx : ∀ t : Fin cfg0.N, win0_0.index t = ![t.val / 4, 0] ∧ win0_1.index t = ![0, t.val % 4]
    ∧ win0_2.index t = ![t.val / 4, t.val % 4] ∧ win0_3.index t = ![t.val / 4, t.val % 4] := by decide +kernel

/-- The product and what came in. -/
def total (x : Vec Ideal S8192x512 .f32) (y : Vec Ideal S512x2048 .bf16) (z : Vec Ideal S8192x2048 .f32) (i : S8192x2048.Idx) : EReal := nn x y i + z i

theorem final : (dats m 0 c).arrAt 3 cfg0.N = total (V m c main_arg0) (V m c main_arg1) (V m c main_arg2) := by
  refine (dats m 0 c).arrAt_eq_of_covers 3 _ (by decide +kernel) fun t hf y => ?_
  obtain ⟨i0, i1, i2, i3⟩ := idx t
  blk_simp [i3]
  rw [after0_3]
  frame_out
  refine (pay _ _ _ y).trans (congrArg₂ (· + ·) (Finset.sum_congr rfl fun k _ => ?_) ?_)
  · congr 1
    · blk_ext [iblk, i0, i3]
    · blk_ext [iblk, i1, i3]
  · blk_ext [iblk, i2, i3]

theorem ref (x : FVec Ideal S8192x512 .f32) (y : Vec Ideal S512x2048 .bf16) (z : Vec Ideal S8192x2048 .f32) :
    addf (F := Ideal) z (Host.dotGeneral (F := Ideal) Cert.ReferenceXaOIdeal.dot_S8192x512_S512x2048_S8192x2048_1_0_0_1_n_n none
      x (extf .f32 y Cert.ReferenceXaOIdeal.Gen.bitsLt_bf16_f32)) = total x y z := by
  funext i
  rw [total, add_comm]
  pointwise [nn]

end Cert.KernelXaOIdeal.Prod

end
-- ==== Proof.XaODw.lean ====
/- The gradient of the cross-attention's output weight, two blocks of its columns one after the other. -/
module

public import proofs.«01_k».proof.Defs
public import proofs.«01_k».proof.Proof.Gen.KernelXaODwIdeal.Value
public import proofs.«01_k».proof.Proof.Gen.ReferenceXaODwIdeal.Run
public import proofs.«01_k».proof.Proof.Products

@[expose] public section

set_option maxRecDepth 16384

noncomputable section

namespace Cert.KernelXaODwIdeal.Prod

open Idealize.ShloMosaic Idealize.ShloMosaic.TcCoe Idealize.SL.Sem Pipeline Cert.Prod
open Cert.KernelXaODwIdeal Cert.KernelXaODwIdeal.Gen Cert.KernelXaODwIdeal.Value

variable (m : (ℓ : Loc nD τ sig) → Buf (Elt Ideal) ℓ) (c : Dev nD)

theorem pay1 (x : Vec Ideal S2048x512 .f32) (y : Vec Ideal S2048x1024 .f32) (j : S512x1024.Idx) : k0_pay1 (F := Ideal) x y j = tn x y j := by
  pointwise [k0_pay1, tn]

theorem pay2 (x : Vec Ideal S2048x512 .f32) (y : Vec Ideal S2048x1024 .f32) (j : S512x1024.Idx) : k0_pay2 (F := Ideal) x y j = tn x y j := by
  pointwise [k0_pay2, pay1]

theorem pay3 (x : Vec Ideal S2048x512 .f32) (y : Vec Ideal S2048x1024 .f32) (v : Vec Ideal S512x1024 .f32) (j : S512x1024.Idx) :
    k0_pay3 (F := Ideal) x y v j = v j + tn x y j := by
  pointwise [k0_pay3, pay1]

theorem pay4 (v : Vec Ideal S512x1024 .f32) : k0_pay4 (F := Ideal) v = v := by
  funext j
  pointwise [k0_pay4]

theorem later (t : Fin cfg0.N) (h : ¬t.val % 4 = 0) (j : S512x1024.Idx) :
    (outsAt0 m c t.val t.isLt).2 j = (outsAt0 m c (t.val - 1) (Nat.lt_of_le_of_lt (Nat.sub_le _ _) t.isLt)).2 j
      + tn (K := 2048) (iblk m c 0 t) (iblk m c 1 t) j := by
  by_cases h3 : t.val % 4 = 3
  · rw [outsAt0_C m c t h (by omega) h3]
    frame_out
    rw [read_unread_whole, pay3]
  · rw [outsAt0_B m c t h (by omega) h3]
    frame_out
    rw [read_unread_whole, pay3]

theorem idx : ∀ t : Fin cfg0.N, win0_0.index t = ![t.val % 4, 0] ∧ win0_1.index t = ![t.val % 4, t.val / 4]
    ∧ win0_2.index t = ![0, t.val / 4] := by decide +kernel

theorem final : (dats m 0 c).arrAt 2 cfg0.N = tn (V m c main_arg0) (V m c main_arg1) := by
  refine (dats m 0 c).arrAt_eq_of_covers 2 _ (by decide +kernel) fun t hf y => ?_
  have h3 := (flush0_2 t).mp hf
  obtain ⟨-, -, i2⟩ := idx t
  blk_simp [i2]
  have e : (outsAt0 m c t.val t.isLt).1 = (outsAt0 m c t.val t.isLt).2 := by
    rw [outsAt0_C m c t (by omega) (by omega) h3]
    frame_out
    exact pay4 _
  rw [after0_2, e]
  refine runs (fun n h => (outsAt0 m c n h).2) _ (fun t h j => ?_) (later m c) t h3 y _ rfl fun s k p l => ?_
  · rw [outsAt0_A m c t h (by omega) (by omega)]
    frame_out
    exact pay2 _ _ j
  · obtain ⟨i0, i1, -⟩ := idx ⟨4 * (t.val / 4) + s.val, p⟩
    congr 1
    · blk_ext [iblk, i0, i2]
    · blk_ext [iblk, i1, i2]

theorem ref (x : FVec Ideal S8192x512 .f32) (y : FVec Ideal S8192x2048 .f32) :
    truncf (F := Ideal) .bf16 (transpose Cert.ReferenceXaODwIdeal.S512x2048 [1, 0]
      (Host.dotGeneral (F := Ideal) Cert.ReferenceXaODwIdeal.dot_S8192x2048_S8192x512_S2048x512_0_0_1_1_n_n none y x)
      Cert.ReferenceXaODwIdeal.Gen.transposes_S2048x512_S512x2048_1_0) Cert.ReferenceXaODwIdeal.Gen.bitsLt_bf16_f32 = tn x y := by
  funext i
  pointwise [tn_comm]

end Cert.KernelXaODwIdeal.Prod

end
-- ==== Proof.XaODx.lean ====
/- The gradient of what the cross-attention's output weight is multiplied with. -/
module

public import proofs.«01_k».proof.Defs
public import proofs.«01_k».proof.Proof.Gen.KernelXaODxIdeal.Value
public import proofs.«01_k».proof.Proof.Gen.ReferenceXaODxIdeal.Run
public import proofs.«01_k».proof.Proof.Products

@[expose] public section

set_option maxRecDepth 16384

noncomputable section

namespace Cert.KernelXaODxIdeal.Prod

open Idealize.ShloMosaic Idealize.ShloMosaic.TcCoe Idealize.SL.Sem Pipeline Cert.Prod
open Cert.KernelXaODxIdeal Cert.KernelXaODxIdeal.Gen Cert.KernelXaODxIdeal.Value

variable (m : (ℓ : Loc nD τ sig) → Buf (Elt Ideal) ℓ) (c : Dev nD)

theorem pay (x : Vec Ideal S2048x2048 .f32) (y : Vec Ideal S256x2048 .bf16) (j : S2048x256.Idx) : k0_pay1 (F := Ideal) x y j = nt x y j := by
  pointwise [k0_pay1, nt]

theorem idx : ∀ t : Fin cfg0.N, win0_0.index t = ![t.val / 2, 0] ∧ win0_1.index t = ![t.val % 2, 0]
    ∧ win0_2.index t = ![t.val / 2, t.val % 2] := by decide +kernel

theorem final : (dats m 0 c).arrAt 2 cfg0.N = nt (V m c main_arg1) (V m c main_arg0) := by
  refine (dats m 0 c).arrAt_eq_of_covers 2 _ (by decide +kernel) fun t hf y => ?_
  obtain ⟨i0, i1, i2⟩ := idx t
  blk_simp [i2]
  rw [after0_2]
  frame_out
  refine (pay _ _ y).trans (Finset.sum_congr rfl fun k _ => ?_)
  congr 1
  · blk_ext [iblk, i0, i2]
  · blk_ext [iblk, i1, i2]

theorem ref (x : FVec Ideal S8192x2048 .f32) (y : Vec Ideal S512x2048 .bf16) :
    Host.dotGeneral (F := Ideal) Cert.ReferenceXaODxIdeal.dot_S8192x2048_S512x2048_S8192x512_1_1_0_0_n_n none
      x (extf .f32 y Cert.ReferenceXaODxIdeal.Gen.bitsLt_bf16_f32) = nt x y := by
  funext i
  pointwise [nt]

end Cert.KernelXaODxIdeal.Prod

end
-- ==== Proof.Calls.lean ====
/- The products' calls against their references: each call's final array, by `final`, is the product that `ref` finds in the
   reference's result. -/
module

public import proofs.«01_k».proof.Proof.UpDw
public import proofs.«01_k».proof.Proof.UpDx
public import proofs.«01_k».proof.Proof.DownDw
public import proofs.«01_k».proof.Proof.DownDx
public import proofs.«01_k».proof.Proof.InDw
public import proofs.«01_k».proof.Proof.InDx
public import proofs.«01_k».proof.Proof.In
public import proofs.«01_k».proof.Proof.Up
public import proofs.«01_k».proof.Proof.Down
public import proofs.«01_k».proof.Proof.OutDw
public import proofs.«01_k».proof.Proof.OutDx
public import proofs.«01_k».proof.Proof.BranchDw
public import proofs.«01_k».proof.Proof.BranchDx
public import proofs.«01_k».proof.Proof.Out
public import proofs.«01_k».proof.Proof.Branch
public import proofs.«01_k».proof.Proof.XaQ
public import proofs.«01_k».proof.Proof.XaQDw
public import proofs.«01_k».proof.Proof.XaQDx
public import proofs.«01_k».proof.Proof.XaO
public import proofs.«01_k».proof.Proof.XaODw
public import proofs.«01_k».proof.Proof.XaODx

@[expose] public section

set_option maxRecDepth 16384

noncomputable section

namespace Cert.Prod

open Idealize.ShloMosaic Idealize.ShloMosaic.TcCoe Idealize.SL.Sem

theorem up_dw : Cert.algebraic_KernelUpDwIdeal_ReferenceUpDwIdeal := fun m g m' g' _ ha =>
  ⟨_, Cert.KernelUpDwIdeal.Value.run_blocks m g, named (Cert.ReferenceUpDwIdeal.Value.run m' g') fun c => by
    rw [(ha c).1, (ha c).2, Cert.KernelUpDwIdeal.Prod.final]; exact Cert.KernelUpDwIdeal.Prod.ref _ _⟩

theorem up_dx : Cert.algebraic_KernelUpDxIdeal_ReferenceUpDxIdeal := fun m g m' g' _ ha =>
  ⟨_, Cert.KernelUpDxIdeal.Value.run_blocks m g, named (Cert.ReferenceUpDxIdeal.Value.run m' g') fun c => by
    rw [(ha c).1, (ha c).2, Cert.KernelUpDxIdeal.Prod.final]; exact Cert.KernelUpDxIdeal.Prod.ref _ _⟩

theorem down_dw : Cert.algebraic_KernelDownDwIdeal_ReferenceDownDwIdeal := fun m g m' g' _ ha =>
  ⟨_, Cert.KernelDownDwIdeal.Value.run_blocks m g, named (Cert.ReferenceDownDwIdeal.Value.run m' g') fun c => by
    rw [(ha c).1, (ha c).2, Cert.KernelDownDwIdeal.Prod.final]; exact Cert.KernelDownDwIdeal.Prod.ref _ _⟩

theorem down_dx : Cert.algebraic_KernelDownDxIdeal_ReferenceDownDxIdeal := fun m g m' g' _ ha =>
  ⟨_, Cert.KernelDownDxIdeal.Value.run_blocks m g, named (Cert.ReferenceDownDxIdeal.Value.run m' g') fun c => by
    rw [(ha c).1, (ha c).2, Cert.KernelDownDxIdeal.Prod.final]; exact Cert.KernelDownDxIdeal.Prod.ref _ _⟩

theorem in_dw : Cert.algebraic_KernelInDwIdeal_ReferenceInDwIdeal := fun m g m' g' _ ha =>
  ⟨_, Cert.KernelInDwIdeal.Value.run_blocks m g, named (Cert.ReferenceInDwIdeal.Value.run m' g') fun c => by
    rw [(ha c).1, (ha c).2, Cert.KernelInDwIdeal.Prod.final]; exact Cert.KernelInDwIdeal.Prod.ref _ _⟩

theorem in_dx : Cert.algebraic_KernelInDxIdeal_ReferenceInDxIdeal := fun m g m' g' _ ha =>
  ⟨_, Cert.KernelInDxIdeal.Value.run_blocks m g, named (Cert.ReferenceInDxIdeal.Value.run m' g') fun c => by
    rw [(ha c).1, (ha c).2, Cert.KernelInDxIdeal.Prod.final]; exact Cert.KernelInDxIdeal.Prod.ref _ _⟩

theorem out_dw : Cert.algebraic_KernelOutDwIdeal_ReferenceOutDwIdeal := fun m g m' g' _ ha =>
  ⟨_, Cert.KernelOutDwIdeal.Value.run_blocks m g, named (Cert.ReferenceOutDwIdeal.Value.run m' g') fun c => by
    rw [(ha c).1, (ha c).2, Cert.KernelOutDwIdeal.Prod.final]; exact Cert.KernelOutDwIdeal.Prod.ref _ _⟩

theorem out_dx : Cert.algebraic_KernelOutDxIdeal_ReferenceOutDxIdeal := fun m g m' g' _ ha =>
  ⟨_, Cert.KernelOutDxIdeal.Value.run_blocks m g, named (Cert.ReferenceOutDxIdeal.Value.run m' g') fun c => by
    rw [(ha c).1, (ha c).2, Cert.KernelOutDxIdeal.Prod.final]; exact Cert.KernelOutDxIdeal.Prod.ref _ _⟩

theorem branch_dw : Cert.algebraic_KernelBranchDwIdeal_ReferenceBranchDwIdeal := fun m g m' g' _ ha =>
  ⟨_, Cert.KernelBranchDwIdeal.Value.run_blocks m g, named (Cert.ReferenceBranchDwIdeal.Value.run m' g') fun c => by
    rw [(ha c).1, (ha c).2, Cert.KernelBranchDwIdeal.Prod.final]; exact Cert.KernelBranchDwIdeal.Prod.ref _ _⟩

theorem branch_dx : Cert.algebraic_KernelBranchDxIdeal_ReferenceBranchDxIdeal := fun m g m' g' _ ha =>
  ⟨_, Cert.KernelBranchDxIdeal.Value.run_blocks m g, named (Cert.ReferenceBranchDxIdeal.Value.run m' g') fun c => by
    rw [(ha c).1, (ha c).2, Cert.KernelBranchDxIdeal.Prod.final]; exact Cert.KernelBranchDxIdeal.Prod.ref _ _⟩

theorem in_fwd : Cert.algebraic_KernelInIdeal_ReferenceInIdeal := fun m g m' g' _ ha =>
  ⟨_, Cert.KernelInIdeal.Value.run_blocks m g, named (Cert.ReferenceInIdeal.Value.run m' g') fun c => by
    rw [(ha c).1, (ha c).2, Cert.KernelInIdeal.Prod.final]; exact Cert.KernelInIdeal.Prod.ref _ _⟩

theorem up_fwd : Cert.algebraic_KernelUpIdeal_ReferenceUpIdeal := fun m g m' g' _ ha =>
  ⟨_, Cert.KernelUpIdeal.Value.run_blocks m g, named (Cert.ReferenceUpIdeal.Value.run m' g') fun c => by
    rw [(ha c).1, (ha c).2, Cert.KernelUpIdeal.Prod.final]; exact Cert.KernelUpIdeal.Prod.ref _ _⟩

theorem branch_fwd : Cert.algebraic_KernelBranchIdeal_ReferenceBranchIdeal := fun m g m' g' _ ha =>
  ⟨_, Cert.KernelBranchIdeal.Value.run_blocks m g, named (Cert.ReferenceBranchIdeal.Value.run m' g') fun c => by
    rw [(ha c).1, (ha c).2, Cert.KernelBranchIdeal.Prod.final]; exact Cert.KernelBranchIdeal.Prod.ref _ _⟩

theorem down_fwd : Cert.algebraic_KernelDownIdeal_ReferenceDownIdeal := fun m g m' g' _ ha =>
  ⟨_, Cert.KernelDownIdeal.Value.run_blocks m g, named (Cert.ReferenceDownIdeal.Value.run m' g') fun c => by
    rw [(ha c).1, (ha c).2.1, (ha c).2.2, Cert.KernelDownIdeal.Prod.final]; exact Cert.KernelDownIdeal.Prod.ref _ _ _⟩

theorem out_fwd : Cert.algebraic_KernelOutIdeal_ReferenceOutIdeal := fun m g m' g' _ ha =>
  ⟨_, Cert.KernelOutIdeal.Value.run_blocks m g, named (Cert.ReferenceOutIdeal.Value.run m' g') fun c => by
    rw [(ha c).1, (ha c).2.1, (ha c).2.2, Cert.KernelOutIdeal.Prod.final]; exact Cert.KernelOutIdeal.Prod.ref _ _ _⟩

theorem xa_q : Cert.algebraic_KernelXaQIdeal_ReferenceXaQIdeal := fun m g m' g' _ ha =>
  ⟨_, Cert.KernelXaQIdeal.Value.run_blocks m g, named (Cert.ReferenceXaQIdeal.Value.run m' g') fun c => by
    rw [(ha c).1, (ha c).2, Cert.KernelXaQIdeal.Prod.final]; exact Cert.KernelXaQIdeal.Prod.ref _ _⟩

theorem xa_q_dw : Cert.algebraic_KernelXaQDwIdeal_ReferenceXaQDwIdeal := fun m g m' g' _ ha =>
  ⟨_, Cert.KernelXaQDwIdeal.Value.run_blocks m g, named (Cert.ReferenceXaQDwIdeal.Value.run m' g') fun c => by
    rw [(ha c).1, (ha c).2, Cert.KernelXaQDwIdeal.Prod.final]; exact Cert.KernelXaQDwIdeal.Prod.ref _ _⟩

theorem xa_q_dx : Cert.algebraic_KernelXaQDxIdeal_ReferenceXaQDxIdeal := fun m g m' g' _ ha =>
  ⟨_, Cert.KernelXaQDxIdeal.Value.run_blocks m g, named (Cert.ReferenceXaQDxIdeal.Value.run m' g') fun c => by
    rw [(ha c).1, (ha c).2, Cert.KernelXaQDxIdeal.Prod.final]; exact Cert.KernelXaQDxIdeal.Prod.ref _ _⟩

theorem xa_o : Cert.algebraic_KernelXaOIdeal_ReferenceXaOIdeal := fun m g m' g' _ ha =>
  ⟨_, Cert.KernelXaOIdeal.Value.run_blocks m g, named (Cert.ReferenceXaOIdeal.Value.run m' g') fun c => by
    rw [(ha c).1, (ha c).2.1, (ha c).2.2, Cert.KernelXaOIdeal.Prod.final]; exact Cert.KernelXaOIdeal.Prod.ref _ _ _⟩

theorem xa_o_dw : Cert.algebraic_KernelXaODwIdeal_ReferenceXaODwIdeal := fun m g m' g' _ ha =>
  ⟨_, Cert.KernelXaODwIdeal.Value.run_blocks m g, named (Cert.ReferenceXaODwIdeal.Value.run m' g') fun c => by
    rw [(ha c).1, (ha c).2, Cert.KernelXaODwIdeal.Prod.final]; exact Cert.KernelXaODwIdeal.Prod.ref _ _⟩

theorem xa_o_dx : Cert.algebraic_KernelXaODxIdeal_ReferenceXaODxIdeal := fun m g m' g' _ ha =>
  ⟨_, Cert.KernelXaODxIdeal.Value.run_blocks m g, named (Cert.ReferenceXaODxIdeal.Value.run m' g') fun c => by
    rw [(ha c).1, (ha c).2, Cert.KernelXaODxIdeal.Prod.final]; exact Cert.KernelXaODxIdeal.Prod.ref _ _⟩

end Cert.Prod

end
-- ==== Proof.State.lean ====
/- What one grid point of the attention's backward region computes, as functions of the blocks it is given: the point keeps
   the gradients of its own key block (`acc`) and adds to the head's rows of the query gradient (`dq`) and to the query side's
   gradient of the gates (`dfq`), one query block after another, the diagonal block first. -/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Fox

open Idealize.ShloMosaic Idealize.ShloMosaic.TcCoe Idealize.ShloMosaic.Tactic
open Idealize.ShloMosaic.VecWindow
open Cert.KernelIdeal.Facts₀

variable {F : FTy → Type} [FloatOps F]

/-- What a point carries: the key block's three gradients, and the head's two query-side gradients. -/
structure St (F : FTy → Type) [FloatOps F] where
  acc : FVec F S1024x128 .f32 × FVec F S1024x128 .f32 × FVec F S1024x1 .f32
  dq : Vec F S8192x128 .f32
  dfq : Vec F S1x1x8192 .f32

/-- The blocks a point is given: the head's queries and output gradients, the point's keys, values and gates, the head's
    row of `lse` and its row of `delta`. -/
structure Inp (F : FTy → Type) [FloatOps F] where
  q : Vec F S8192x128 .bf16
  d : Vec F S8192x128 .bf16
  k : Vec F S1024x128 .bf16
  v : Vec F S1024x128 .bf16
  f : Vec F S1x1024x1 .f32
  l : Vec F S1x1x8192 .f32
  e : Vec F S1x1x8192 .f32

/-- After the diagonal block, from the query-side gradients found. -/
def diag (i : grid0.Coords) (x : Inp F) (dq : Vec F S8192x128 .f32) (dfq : Vec F S1x1x8192 .f32) : St F :=
  let qb : Vec F S1024x128 .bf16 := window x.q (k0_off1 i) S1024x128.size (k0_off1_inb i)
  let db : Vec F S1024x128 .bf16 := window x.d (k0_off1 i) S1024x128.size (k0_off1_inb i)
  let lb : Vec F S1x1x1024 .f32 := window x.l (k0_off2 i) S1x1x1024.size (k0_off2_inb i)
  let eb : Vec F S1x1x1024 .f32 := window x.e (k0_off2 i) S1x1x1024.size (k0_off2_inb i)
  let p : FVec F S1024x1024 .f32 := Gen.k0_pay27 x.k x.f qb lb
  { acc := (Gen.k0_pay33 (Gen.k0_pay21 x.v) Gen.k0_pay23 (Gen.k0_pay25 qb) (Gen.k0_pay26 db) p eb,
      Gen.k0_pay28 x.k x.f qb db lb,
      Gen.k0_pay30 (Gen.k0_pay21 x.v) Gen.k0_pay24 (Gen.k0_pay26 db) p eb)
    dq := put dq (k0_off1 i) S1024x128.size (Gen.k0_pay34 (Gen.k0_pay20 x.k) (Gen.k0_pay21 x.v) (Gen.k0_pay26 db) p eb
      (window dq (k0_off1 i) S1024x128.size (k0_off1_inb i)))
    dfq := put dfq (k0_off2 i) S1x1x1024.size (Gen.k0_pay31 (Gen.k0_pay21 x.v) (Gen.k0_pay26 db) p eb
      (window dfq (k0_off2 i) S1x1x1024.size (k0_off2_inb i))) }

/-- One further query block. -/
def step (i : grid0.Coords) (x : Inp F) (t : Fin (k0_t1_loop i).trips) (s : St F) : St F :=
  let qb : Vec F S1024x128 .bf16 := window x.q (k0_off3 i t) S1024x128.size (k0_off3_inb i t)
  let db : Vec F S1024x128 .bf16 := window x.d (k0_off3 i t) S1024x128.size (k0_off3_inb i t)
  let lb : Vec F S1x1x1024 .f32 := window x.l (k0_off4 i t) S1x1x1024.size (k0_off4_inb i t)
  let eb : Vec F S1x1x1024 .f32 := window x.e (k0_off4 i t) S1x1x1024.size (k0_off4_inb i t)
  let k := Gen.k0_pay20 x.k
  let v := Gen.k0_pay21 x.v
  let f := Gen.k0_pay22 x.f
  { acc := (Gen.k0_pay35 s.acc.1 (Gen.k0_pay2 qb) (Gen.k0_pay9 k v f qb db lb eb) (constant S1024x128 .f32 0x00000000#32),
      Gen.k0_pay5 k f s.acc.2.1 qb db lb,
      Gen.k0_pay7 k v f s.acc.2.2 qb db lb eb)
    dq := put s.dq (k0_off3 i t) S1024x128.size (Gen.k0_pay36 k (Gen.k0_pay9 k v f qb db lb eb)
      (window s.dq (k0_off3 i t) S1024x128.size (k0_off3_inb i t)))
    dfq := put s.dfq (k0_off4 i t) S1x1x1024.size (Gen.k0_pay8 k v f qb db lb eb
      (window s.dfq (k0_off4 i t) S1x1x1024.size (k0_off4_inb i t))) }

/-- After the diagonal block and `n` further ones. -/
def upTo (i : grid0.Coords) (x : Inp F) (dq : Vec F S8192x128 .f32) (dfq : Vec F S1x1x8192 .f32) : ℕ → St F
  | 0 => diag i x dq dfq
  | n + 1 => if h : n < (k0_t1_loop i).trips then step i x ⟨n, h⟩ (upTo i x dq dfq n) else upTo i x dq dfq n

theorem upTo_succ (i : grid0.Coords) (x : Inp F) (dq : Vec F S8192x128 .f32) (dfq : Vec F S1x1x8192 .f32)
    (t : Fin (k0_t1_loop i).trips) : upTo i x dq dfq (t.val + 1) = step i x t (upTo i x dq dfq t.val) := by
  rw [upTo.eq_2]; exact dif_pos t.isLt

/-- What the whole point leaves. -/
def point (i : grid0.Coords) (x : Inp F) (dq : Vec F S8192x128 .f32) (dfq : Vec F S1x1x8192 .f32) : St F :=
  upTo i x dq dfq (k0_t1_loop i).trips

end Cert.KernelIdeal.Fox

end
-- ==== Proof.Run.lean ====
/- One grid point of the attention's backward region, run: the body on whole staging buffers leaves what `point` says. -/
module

public import proofs.«01_k».proof.Proof.State
public import Idealize.ShloMosaic.Lib.WholeRead

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow
open Cert.KernelIdeal.Facts₀

variable {F : FTy → Type} [FloatOps F]

local notation "𝕄" => MT nD τ sig Unit (Elt F) ℕ (UR sig nD τ) ℕ

section
variable {s : Shape} {e : EltTy} {m : Memref sig .tc .vmem s e}

/-- A store into a whole buffer held at `X`, read as a function of `X`. -/
theorem writes_put (h : m.IsWhole) (X : s.Idx → Elt F e) {off size : Fin s.rank → ℕ} (inb : ∀ a, off a + size a ≤ s.size a)
    (w : (Rect.unit off size inb).shape.Idx → Elt F e) :
    m.view.writes (Elt F) (h.unread X) [⟨Rect.unit off size inb, w⟩] = h.unread (put X off size w) :=
  h.eq_unread (by rw [View.read_writes_cons_put m.view _ inb w [] rfl, View.writes_nil, h.read_unread])

/-- The same, after other stores that left `X`. -/
theorem writes_cons_put (h : m.IsWhole) (f : m.view.ty.Contents (Elt F)) (L : List (View.Piece (Elt F) s e)) {X : s.Idx → Elt F e}
    (hX : m.view.writes (Elt F) f L = h.unread X) {off size : Fin s.rank → ℕ} (inb : ∀ a, off a + size a ≤ s.size a)
    (w : (Rect.unit off size inb).shape.Idx → Elt F e) :
    m.view.writes (Elt F) f (⟨Rect.unit off size inb, w⟩ :: L) = h.unread (put X off size w) :=
  h.eq_unread (by rw [View.read_writes_cons_put m.view _ inb w L rfl, hX, h.read_unread])

/-- A load from a whole buffer held at `X` is a window of `X`. -/
theorem load_window (h : m.IsWhole) (X : s.Idx → Elt F e) {off size : Fin s.rank → ℕ} (inb : ∀ a, off a + size a ≤ s.size a) :
    m.view.readAt (Elt F) (Rect.unit off size inb).toLoadRect (h.unread X) = window X off size inb := by
  rw [View.readAt_unit m.view _ inb rfl inb, h.read_unread]

/-- A whole store leaves its payload. -/
theorem writes_full (h : m.IsWhole) (f : m.view.ty.Contents (Elt F)) {off : Fin s.rank → ℕ} (inb : ∀ a, off a + s.size a ≤ s.size a)
    (w : (Rect.unit off s.size inb).shape.Idx → Elt F e) :
    m.view.writes (Elt F) f [⟨Rect.unit off s.size inb, w⟩] = h.unread w :=
  h.eq_unread (View.read_writes_full m.view f inb w [])

/-- A load of the whole buffer reads `X`. -/
theorem load_full (h : m.IsWhole) (X : s.Idx → Elt F e) {off : Fin s.rank → ℕ} (inb : ∀ a, off a + s.size a ≤ s.size a) :
    m.view.readAt (Elt F) (Rect.unit off s.size inb).toLoadRect (h.unread X) = X := by
  rw [View.readAt_full, h.read_unread]
end

/-- A window of the keys' (or values') own sizes is the block. -/
theorem window_kv {α : Type} (x : S1024x128.Idx → α) (inb : ∀ a, (![0, 0] : Fin 2 → ℕ) a + (![1024, 128] : Fin 2 → ℕ) a ≤ S1024x128.size a) :
    (window x ![0, 0] ![1024, 128] inb : S1024x128.Idx → α) = x := by
  funext y
  refine congrArg x (funext fun a => Fin.ext ?_)
  show (![0, 0] : Fin 2 → ℕ) a + 1 * (y a).val = (y a).val
  fin_cases a <;> simp

/-- A window of the gates' own sizes is the block. -/
theorem window_f {α : Type} (x : S1x1024x1.Idx → α) (inb : ∀ a, (![0, 0, 0] : Fin 3 → ℕ) a + (![1, 1024, 1] : Fin 3 → ℕ) a ≤ S1x1024x1.size a) :
    (window x ![0, 0, 0] ![1, 1024, 1] inb : S1x1024x1.Idx → α) = x := by
  funext y
  refine congrArg x (funext fun a => Fin.ext ?_)
  show (![0, 0, 0] : Fin 3 → ℕ) a + 1 * (y a).val = (y a).val
  fin_cases a <;> simp

/-- Before trip `n` of the loop over the later query blocks: the head's blocks unmoved, the two query-side gradients as
    `upTo` says, the carried values too. -/
abbrev inv (c : Dev nD) (i : grid0.Coords) (x : Inp F) (dq : Vec F S8192x128 .f32) (dfq : Vec F S1x1x8192 .f32)
    (arg2 : Memref sig .tc .vmem S8192x128 .bf16) (harg2 : arg2.IsWhole) (arg3 : Memref sig .tc .vmem S8192x128 .bf16) (harg3 : arg3.IsWhole)
    (arg7 : Memref sig .tc .vmem S1x1x8192 .f32) (harg7 : arg7.IsWhole) (arg8 : Memref sig .tc .vmem S1x1x8192 .f32) (harg8 : arg8.IsWhole)
    (arg9 : Memref sig .tc .vmem S8192x128 .f32) (harg9 : arg9.IsWhole) (arg10 : Memref sig .tc .vmem S1x1x8192 .f32) (harg10 : arg10.IsWhole)
    (n : ℕ) (acc : FVec F S1024x128 .f32 × FVec F S1024x128 .f32 × FVec F S1024x1 .f32) : sProp 𝕄 :=
  iprop((arg2.view.loc (c : Thread nD τ) ↦[arg2.view.set]{fullShare} harg2.unread x.q)
    ∗ (arg3.view.loc (c : Thread nD τ) ↦[arg3.view.set]{fullShare} harg3.unread x.d)
    ∗ (arg7.view.loc (c : Thread nD τ) ↦[arg7.view.set]{fullShare} harg7.unread x.l)
    ∗ (arg8.view.loc (c : Thread nD τ) ↦[arg8.view.set]{fullShare} harg8.unread x.e)
    ∗ (arg9.view.loc (c : Thread nD τ) ↦[arg9.view.set]{fullShare} harg9.unread (upTo i x dq dfq n).dq)
    ∗ (arg10.view.loc (c : Thread nD τ) ↦[arg10.view.set]{fullShare} harg10.unread (upTo i x dq dfq n).dfq)
    ∗ ⌜acc = (upTo i x dq dfq n).acc⌝)

set_option maxHeartbeats 1000000 in
/-- One trip. -/
theorem trip (c : Dev nD) (i : grid0.Coords) (x : Inp F) (dq : Vec F S8192x128 .f32) (dfq : Vec F S1x1x8192 .f32)
  (arg2 : Memref sig .tc .vmem S8192x128 .bf16) (harg2 : arg2.IsWhole)
  (arg3 : Memref sig .tc .vmem S8192x128 .bf16) (harg3 : arg3.IsWhole)
  (arg4 : Memref sig .tc .vmem S1024x128 .bf16) (harg4 : arg4.IsWhole)
  (arg5 : Memref sig .tc .vmem S1024x128 .bf16) (harg5 : arg5.IsWhole)
  (arg6 : Memref sig .tc .vmem S1x1024x1 .f32) (harg6 : arg6.IsWhole)
  (arg7 : Memref sig .tc .vmem S1x1x8192 .f32) (harg7 : arg7.IsWhole)
  (arg8 : Memref sig .tc .vmem S1x1x8192 .f32) (harg8 : arg8.IsWhole)
  (arg9 : Memref sig .tc .vmem S8192x128 .f32) (harg9 : arg9.IsWhole)
  (arg10 : Memref sig .tc .vmem S1x1x8192 .f32) (harg10 : arg10.IsWhole)
  (arg11 : Memref sig .tc .vmem S1024x128 .f32) (harg11 : arg11.IsWhole)
  (arg12 : Memref sig .tc .vmem S1024x128 .f32) (harg12 : arg12.IsWhole)
  (arg13 : Memref sig .tc .vmem S1x1024x1 .f32) (harg13 : arg13.IsWhole)
  (arg1 : BitVec 32) (v9 : FVec F S1024x128 .f32) (v11 : FVec F S1024x1 .f32) (v13 : BitVec 32) (v16 : FVec F S1024x128 .bf16) (v19 : FVec F S1024x128 .bf16) (v33 : FVec F S1024x1024 .f32) (v36 : FVec F S1024x128 .f32) (v67 : BitVec 32)
  (E : Set ℕ) (t : Fin (k0_t1_loop i).trips) (acc : FVec F S1024x128 .f32 × FVec F S1024x128 .f32 × FVec F S1024x1 .f32) :
  inv c i x dq dfq arg2 harg2 arg3 harg3 arg7 harg7 arg8 harg8 arg9 harg9 arg10 harg10 t.val acc
    ⊢ wp frame (wpE (defs₀ (F := F)) Variants.none (c : Thread nD τ) none) E
      (Gen.k0_t1_body (F := F) i arg2 harg2 arg3 harg3 arg4 harg4 arg5 harg5 arg6 harg6 arg7 harg7 arg8 harg8 arg9 harg9 arg10 harg10 arg11 harg11 arg12 harg12 arg13 harg13 arg1 (Gen.k0_pay20 x.k) (Gen.k0_pay21 x.v) (Gen.k0_pay22 x.f) v9 v11 v13 v16 v19 v33 v36 v67 t acc)
      (inv c i x dq dfq arg2 harg2 arg3 harg3 arg7 harg7 arg8 harg8 arg9 harg9 arg10 harg10 (t.val + 1)) := by
  unfold Gen.k0_t1_body
  simp only [Gen.k0_part1_eq_skeleton]
  iintro ⟨H2, H3, H7, H8, H9, H10, %hacc⟩
  subst hacc
  sl_exec
  sl_step
  unfold trip.sl.r_3 trip.sl.r trip.sl.r_1 trip.sl.r_2 trip.sl.cst_55
  simp only [load_window]
  rw [writes_put harg9 (upTo i x dq dfq t.val).dq (k0_off3_inb i t), writes_put harg10 (upTo i x dq dfq t.val).dfq (k0_off4_inb i t)]
  simp only [inv, upTo_succ]
  isplitl [H2]; · iexact H2
  isplitl [H3]; · iexact H3
  isplitl [H7]; · iexact H7
  isplitl [H8]; · iexact H8
  isplitl [H9]; · iexact H9
  isplitl [H10]; · iexact H10
  ipureintro; rfl

/-- The point is the head's first: the condition of the body's `if`. -/
abbrev cond0 (i : grid0.Coords) : Prop := (Scalar.cmpi .ne (Scalar.extui (Scalar.cmpi .eq (BitVec.ofNat 32 (i 1).val) 0#32)) 0#32) = 1#1

/-- The loop's remainder has no trip: the step is one. -/
theorem trips2 (i : grid0.Coords) : (k0_t2_loop i).trips = 0 :=
  (by decide +kernel : ∀ j : Fin (grid0.bound 1), (Scf.trips (Scalar.addi (Scalar.addi (BitVec.ofNat 32 j.val) 1#32) (Scalar.muli (Scalar.divsi (Scalar.subi 8#32 (Scalar.addi (BitVec.ofNat 32 j.val) 1#32)) 1#32) 1#32)) (Scalar.addi (Scalar.addi (BitVec.ofNat 32 j.val) 1#32) (Scalar.subi 8#32 (Scalar.addi (BitVec.ofNat 32 j.val) 1#32))) 1#32) = 0) (i 1)
end Cert.KernelIdeal.Fox

end
-- ==== Proof.RunA.lean ====
/- One grid point of the attention's backward region, run: a point that is the head's first. -/
module

public import proofs.«01_k».proof.Proof.Run

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow
open Cert.KernelIdeal.Facts₀

variable {F : FTy → Type} [FloatOps F]

local notation "𝕄" => MT nD τ sig Unit (Elt F) ℕ (UR sig nD τ) ℕ

set_option maxHeartbeats 1000000 in
/-- A point that is the head's first, which zeroes the query-side gradients first. -/
theorem runA (c : Dev nD) (i : grid0.Coords) (x : Inp F) (hc : cond0 i)
  (arg2 : Memref sig .tc .vmem S8192x128 .bf16) (harg2 : arg2.IsWhole)
  (arg3 : Memref sig .tc .vmem S8192x128 .bf16) (harg3 : arg3.IsWhole)
  (arg4 : Memref sig .tc .vmem S1024x128 .bf16) (harg4 : arg4.IsWhole)
  (arg5 : Memref sig .tc .vmem S1024x128 .bf16) (harg5 : arg5.IsWhole)
  (arg6 : Memref sig .tc .vmem S1x1024x1 .f32) (harg6 : arg6.IsWhole)
  (arg7 : Memref sig .tc .vmem S1x1x8192 .f32) (harg7 : arg7.IsWhole)
  (arg8 : Memref sig .tc .vmem S1x1x8192 .f32) (harg8 : arg8.IsWhole)
  (arg9 : Memref sig .tc .vmem S8192x128 .f32) (harg9 : arg9.IsWhole)
  (arg10 : Memref sig .tc .vmem S1x1x8192 .f32) (harg10 : arg10.IsWhole)
  (arg11 : Memref sig .tc .vmem S1024x128 .f32) (harg11 : arg11.IsWhole)
  (arg12 : Memref sig .tc .vmem S1024x128 .f32) (harg12 : arg12.IsWhole)
  (arg13 : Memref sig .tc .vmem S1x1024x1 .f32) (harg13 : arg13.IsWhole) :
    ∀ (E : Set ℕ) (K : PUnit → sProp 𝕄),
      iprop(owns (c : Thread nD τ) arg2 fullShare x.q
        ∗ owns (c : Thread nD τ) arg3 fullShare x.d
        ∗ owns (c : Thread nD τ) arg4 fullShare x.k
        ∗ owns (c : Thread nD τ) arg5 fullShare x.v
        ∗ owns (c : Thread nD τ) arg6 fullShare x.f
        ∗ owns (c : Thread nD τ) arg7 fullShare x.l
        ∗ owns (c : Thread nD τ) arg8 fullShare x.e
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (iprop(owns (c : Thread nD τ) arg2 fullShare x.q
        ∗ owns (c : Thread nD τ) arg3 fullShare x.d
        ∗ owns (c : Thread nD τ) arg4 fullShare x.k
        ∗ owns (c : Thread nD τ) arg5 fullShare x.v
        ∗ owns (c : Thread nD τ) arg6 fullShare x.f
        ∗ owns (c : Thread nD τ) arg7 fullShare x.l
        ∗ owns (c : Thread nD τ) arg8 fullShare x.e
        ∗ owns (c : Thread nD τ) arg9 fullShare (point i x Gen.k0_pay18 Gen.k0_pay19).dq
        ∗ owns (c : Thread nD τ) arg10 fullShare (point i x Gen.k0_pay18 Gen.k0_pay19).dfq
        ∗ owns (c : Thread nD τ) arg11 fullShare (point i x Gen.k0_pay18 Gen.k0_pay19).acc.1
        ∗ owns (c : Thread nD τ) arg12 fullShare (point i x Gen.k0_pay18 Gen.k0_pay19).acc.2.1
        ∗ owns (c : Thread nD τ) arg13 fullShare (Gen.k0_pay1 (point i x Gen.k0_pay18 Gen.k0_pay19).acc.2.2)) -∗ K ⟨⟩))
      ⊢ wp frame (wpE (defs₀ (F := F)) Variants.none c none) E (cc0_fox_attn_b i arg2 harg2 arg3 harg3 arg4 harg4 arg5 harg5 arg6 harg6 arg7 harg7 arg8 harg8 arg9 harg9 arg10 harg10 arg11 harg11 arg12 harg12 arg13 harg13) K := by
  intro E K
  simp only [Gen.cc0_fox_attn_b_eq_skeleton]; unfold Gen.cc0_fox_attn_b_skel
  simp only [Gen.k0_part3_eq_skeleton, Gen.k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  have h2 := trips2 i
  sl_exec (disch := first | sl_exact hc)
  unfold runA.sl.r runA.sl.r_1 runA.sl.r_2 runA.sl.r_3 runA.sl.r_4 runA.sl.r_5 runA.sl.r_6
  simp only [load_window, load_full, window_kv, window_f]
  have e7 : arg9.view.writes (Elt F) arg9.view.junk runA.sl.H7_1 = harg9.unread Gen.k0_pay18 := writes_full harg9 _ _ _
  have e8 : arg10.view.writes (Elt F) arg10.view.junk runA.sl.H8_1 = harg10.unread Gen.k0_pay19 := writes_full harg10 _ _ _
  simp only [e7, e8, load_window]
  rw [writes_cons_put harg9 _ _ e7 (k0_off1_inb i), writes_cons_put harg10 _ _ e8 (k0_off2_inb i)]
  sl_for (inv c i x Gen.k0_pay18 Gen.k0_pay19 arg2 harg2 arg3 harg3 arg7 harg7 arg8 harg8 arg9 harg9 arg10 harg10) $$ [H0 H1 H5 H6 H7 H8]
  case region =>
    intro t acc
    unfold runA.sl.prog.body_1
    exact trip c i x Gen.k0_pay18 Gen.k0_pay19 arg2 harg2 arg3 harg3 arg4 harg4 arg5 harg5 arg6 harg6 arg7 harg7 arg8 harg8 arg9 harg9 arg10 harg10 arg11 harg11 arg12 harg12 arg13 harg13 _ _ _ _ _ _ _ _ _ E t acc
  · isplitl [H0]; · iexact H0
    isplitl [H1]; · iexact H1
    isplitl [H5]; · iexact H5
    isplitl [H6]; · iexact H6
    isplitl [H7]; · iexact H7
    isplitl [H8]; · iexact H8
    ipureintro; rfl
  iintro %acc ⟨H0, H1, H5, H6, H7, H8, %hacc⟩
  subst hacc
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; exact View.read_writes_full arg11.view _ _ _ []
  isplitl [H10]
  · iexists _; isplitr; swap; · iexact H10
    ipureintro; exact View.read_writes_full arg12.view _ _ _ []
  iexists _; isplitr; swap; · iexact H11
  ipureintro; exact View.read_writes_full arg13.view _ _ _ []

end Cert.KernelIdeal.Fox

end
-- ==== Proof.RunB.lean ====
/- One grid point of the attention's backward region, run: a point that is not the head's first. -/
module

public import proofs.«01_k».proof.Proof.Run

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.VecWindow
open Cert.KernelIdeal.Facts₀

variable {F : FTy → Type} [FloatOps F]

local notation "𝕄" => MT nD τ sig Unit (Elt F) ℕ (UR sig nD τ) ℕ

set_option maxHeartbeats 1000000 in
/-- A point that is not the head's first: it finds the query-side gradients of the one before. -/
theorem runB (c : Dev nD) (i : grid0.Coords) (x : Inp F) (dq : Vec F S8192x128 .f32) (dfq : Vec F S1x1x8192 .f32) (hc : ¬ cond0 i)
  (arg2 : Memref sig .tc .vmem S8192x128 .bf16) (harg2 : arg2.IsWhole)
  (arg3 : Memref sig .tc .vmem S8192x128 .bf16) (harg3 : arg3.IsWhole)
  (arg4 : Memref sig .tc .vmem S1024x128 .bf16) (harg4 : arg4.IsWhole)
  (arg5 : Memref sig .tc .vmem S1024x128 .bf16) (harg5 : arg5.IsWhole)
  (arg6 : Memref sig .tc .vmem S1x1024x1 .f32) (harg6 : arg6.IsWhole)
  (arg7 : Memref sig .tc .vmem S1x1x8192 .f32) (harg7 : arg7.IsWhole)
  (arg8 : Memref sig .tc .vmem S1x1x8192 .f32) (harg8 : arg8.IsWhole)
  (arg9 : Memref sig .tc .vmem S8192x128 .f32) (harg9 : arg9.IsWhole)
  (arg10 : Memref sig .tc .vmem S1x1x8192 .f32) (harg10 : arg10.IsWhole)
  (arg11 : Memref sig .tc .vmem S1024x128 .f32) (harg11 : arg11.IsWhole)
  (arg12 : Memref sig .tc .vmem S1024x128 .f32) (harg12 : arg12.IsWhole)
  (arg13 : Memref sig .tc .vmem S1x1024x1 .f32) (harg13 : arg13.IsWhole) :
    ∀ (E : Set ℕ) (K : PUnit → sProp 𝕄),
      iprop(owns (c : Thread nD τ) arg2 fullShare x.q
        ∗ owns (c : Thread nD τ) arg3 fullShare x.d
        ∗ owns (c : Thread nD τ) arg4 fullShare x.k
        ∗ owns (c : Thread nD τ) arg5 fullShare x.v
        ∗ owns (c : Thread nD τ) arg6 fullShare x.f
        ∗ owns (c : Thread nD τ) arg7 fullShare x.l
        ∗ owns (c : Thread nD τ) arg8 fullShare x.e
        ∗ owns (c : Thread nD τ) arg9 fullShare dq
        ∗ owns (c : Thread nD τ) arg10 fullShare dfq
        ∗ (∃ d, owns (c : Thread nD τ) arg11 fullShare d)
        ∗ (∃ d, owns (c : Thread nD τ) arg12 fullShare d)
        ∗ (∃ d, owns (c : Thread nD τ) arg13 fullShare d)
        ∗ (iprop(owns (c : Thread nD τ) arg2 fullShare x.q
        ∗ owns (c : Thread nD τ) arg3 fullShare x.d
        ∗ owns (c : Thread nD τ) arg4 fullShare x.k
        ∗ owns (c : Thread nD τ) arg5 fullShare x.v
        ∗ owns (c : Thread nD τ) arg6 fullShare x.f
        ∗ owns (c : Thread nD τ) arg7 fullShare x.l
        ∗ owns (c : Thread nD τ) arg8 fullShare x.e
        ∗ owns (c : Thread nD τ) arg9 fullShare (point i x dq dfq).dq
        ∗ owns (c : Thread nD τ) arg10 fullShare (point i x dq dfq).dfq
        ∗ owns (c : Thread nD τ) arg11 fullShare (point i x dq dfq).acc.1
        ∗ owns (c : Thread nD τ) arg12 fullShare (point i x dq dfq).acc.2.1
        ∗ owns (c : Thread nD τ) arg13 fullShare (Gen.k0_pay1 (point i x dq dfq).acc.2.2)) -∗ K ⟨⟩))
      ⊢ wp frame (wpE (defs₀ (F := F)) Variants.none c none) E (cc0_fox_attn_b i arg2 harg2 arg3 harg3 arg4 harg4 arg5 harg5 arg6 harg6 arg7 harg7 arg8 harg8 arg9 harg9 arg10 harg10 arg11 harg11 arg12 harg12 arg13 harg13) K := by
  intro E K
  simp only [Gen.cc0_fox_attn_b_eq_skeleton]; unfold Gen.cc0_fox_attn_b_skel
  simp only [Gen.k0_part3_eq_skeleton, Gen.k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  have h2 := trips2 i
  sl_exec (disch := first | sl_exact hc)
  unfold runB.sl.r runB.sl.r_1 runB.sl.r_2 runB.sl.r_3 runB.sl.r_4 runB.sl.r_5 runB.sl.r_6
  simp only [load_window, load_full, window_kv, window_f]
  rw [writes_put harg9 dq (k0_off1_inb i), writes_put harg10 dfq (k0_off2_inb i)]
  sl_for (inv c i x dq dfq arg2 harg2 arg3 harg3 arg7 harg7 arg8 harg8 arg9 harg9 arg10 harg10) $$ [H0 H1 H5 H6 H7 H8]
  case region =>
    intro t acc
    unfold runB.sl.prog.body_1
    exact trip c i x dq dfq arg2 harg2 arg3 harg3 arg4 harg4 arg5 harg5 arg6 harg6 arg7 harg7 arg8 harg8 arg9 harg9 arg10 harg10 arg11 harg11 arg12 harg12 arg13 harg13 _ _ _ _ _ _ _ _ _ E t acc
  · isplitl [H0]; · iexact H0
    isplitl [H1]; · iexact H1
    isplitl [H5]; · iexact H5
    isplitl [H6]; · iexact H6
    isplitl [H7]; · iexact H7
    isplitl [H8]; · iexact H8
    ipureintro; rfl
  iintro %acc ⟨H0, H1, H5, H6, H7, H8, %hacc⟩
  subst hacc
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; swap; · iexact H7
    ipureintro; exact harg9.read_unread _
  isplitl [H8]
  · iexists _; isplitr; swap; · iexact H8
    ipureintro; exact harg10.read_unread _
  isplitl [H9]
  · iexists _; isplitr; swap; · iexact H9
    ipureintro; exact View.read_writes_full arg11.view _ _ _ []
  isplitl [H10]
  · iexists _; isplitr; swap; · iexact H10
    ipureintro; exact View.read_writes_full arg12.view _ _ _ []
  iexists _; isplitr; swap; · iexact H11
  ipureintro; exact View.read_writes_full arg13.view _ _ _ []

end Cert.KernelIdeal.Fox

end
-- ==== Proof.Region.lean ====
/- The backward region's run: what each window's staging buffer holds after every grid point, the body's obligation there, and
   the run of the whole program to the arrays' final contents. -/
module

public import proofs.«01_k».proof.Proof.RunA
public import proofs.«01_k».proof.Proof.RunB
public import Idealize.ShloMosaic.Adequacy
public import Idealize.ShloMosaic.Lib.Claim

@[expose] public section

set_option maxRecDepth 16384

noncomputable section

namespace Cert.KernelIdeal.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The head's first points: those ≡ 0 (mod 8). -/
theorem cond0_iff (t : Fin cfg0.N) : cond0 (grid0.coords t) ↔ t.val % 8 = 0 := by
  have ht : t.val < 64 := Nat.lt_of_lt_of_eq t.isLt N_0
  have e1 : (grid0.coords t 1).val = t.val / 1 % 8 := Pipeline.Grid.coords_val t 1 (by decide) rfl
  simp only [cond0, e1]
  word_cmp

/-- The blocks point `t` is given. -/
def inp (c : Dev nD) (t : Fin cfg0.N) : Inp F where
  q := iblk m c 0 t
  d := iblk m c 1 t
  k := iblk m c 2 t
  v := iblk m c 3 t
  f := iblk m c 4 t
  l := iblk m c 5 t
  e := iblk m c 6 t

/-- What the points up to `n` leave. -/
def stAt (c : Dev nD) : (n : ℕ) → n < cfg0.N → St F
  | 0, h => point (grid0.coords ⟨0, h⟩) (inp m c ⟨0, h⟩) k0_pay18 k0_pay19
  | n + 1, h =>
    if (n + 1) % 8 = 0 then point (grid0.coords ⟨n + 1, h⟩) (inp m c ⟨n + 1, h⟩) k0_pay18 k0_pay19
    else point (grid0.coords ⟨n + 1, h⟩) (inp m c ⟨n + 1, h⟩) (stAt c n (Nat.lt_of_succ_lt h)).dq (stAt c n (Nat.lt_of_succ_lt h)).dfq

theorem stAt_first (c : Dev nD) (t : Fin cfg0.N) (h : t.val % 8 = 0) :
    stAt m c t.val t.isLt = point (grid0.coords t) (inp m c t) k0_pay18 k0_pay19 := by
  obtain ⟨n, hn⟩ := t
  cases n with
  | zero => rfl
  | succ n => exact if_pos h

theorem stAt_later (c : Dev nD) (t : Fin cfg0.N) (h : ¬ t.val % 8 = 0) (h' : t.val - 1 < cfg0.N) :
    stAt m c t.val t.isLt = point (grid0.coords t) (inp m c t) (stAt m c (t.val - 1) h').dq (stAt m c (t.val - 1) h').dfq := by
  obtain ⟨n, hn⟩ := t
  cases n with
  | zero => exact absurd rfl h
  | succ n => exact if_neg h

/-- The proof data: the inputs' buffers at their blocks, the outputs' at what the points leave. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (stAt m c t.val t.isLt).dq
    | ⟨8, _⟩ => (stAt m c t.val t.isLt).dfq
    | ⟨9, _⟩ => (stAt m c t.val t.isLt).acc.1
    | ⟨10, _⟩ => (stAt m c t.val t.isLt).acc.2.1
    | ⟨11, _⟩ => k0_pay1 (stAt m c t.val t.isLt).acc.2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (stAt m c t.val t.isLt).dq := by dsimp only [dats]
theorem after_8 (c : Dev nD) (t : Fin cfg0.N) : (dats m 0 c).after 8 t = (stAt m c t.val t.isLt).dfq := by dsimp only [dats]
theorem after_9 (c : Dev nD) (t : Fin cfg0.N) : (dats m 0 c).after 9 t = (stAt m c t.val t.isLt).acc.1 := by dsimp only [dats]
theorem after_10 (c : Dev nD) (t : Fin cfg0.N) : (dats m 0 c).after 10 t = (stAt m c t.val t.isLt).acc.2.1 := by dsimp only [dats]
theorem after_11 (c : Dev nD) (t : Fin cfg0.N) : (dats m 0 c).after 11 t = k0_pay1 (stAt m c t.val t.isLt).acc.2.2 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (h : ¬ t.val % 8 = 0) (h' : t.val - 1 < cfg0.N) (d) :
    (dats m 0 c).before 7 t d = (stAt m c (t.val - 1) h').dq := by
  have e := (dats m 0 c).before_out_kept 7 rfl t (fun h0 => h (by omega))
    (by
      refine Bool.eq_false_iff.mpr fun hf => ?_
      have := (flush0_7 _).mp hf
      have e : (⟨t.val - 1, Nat.lt_of_le_of_lt (Nat.sub_le _ _) t.isLt⟩ : Fin cfg0.N).val = t.val - 1 := rfl
      omega)
    (fun _ => rfl) (fun _ _ => rfl) d
  rw [e, after_7]
theorem before_8 (c : Dev nD) (t : Fin cfg0.N) (h : ¬ t.val % 8 = 0) (h' : t.val - 1 < cfg0.N) (d) :
    (dats m 0 c).before 8 t d = (stAt m c (t.val - 1) h').dfq := by
  have e := (dats m 0 c).before_out_kept 8 rfl t (fun h0 => h (by omega))
    (by
      refine Bool.eq_false_iff.mpr fun hf => ?_
      have := (flush0_8 _).mp hf
      have e : (⟨t.val - 1, Nat.lt_of_le_of_lt (Nat.sub_le _ _) t.isLt⟩ : Fin cfg0.N).val = t.val - 1 := rfl
      omega)
    (fun _ => rfl) (fun _ _ => rfl) d
  rw [e, after_8]
/-- Window 0's staging memref at point `t`, and that it is whole. -/
abbrev ms0 (t : Fin cfg0.N) : Memref sig .tc .vmem S8192x128 .bf16 := win0_0.stage (cfg0.slots t 0)
abbrev hs0 (t : Fin cfg0.N) : (ms0 t).IsWhole := hstage0_0 ((cfg0.slots t 0).cast nbuf0_0)
/-- Window 1's staging memref at point `t`, and that it is whole. -/
abbrev ms1 (t : Fin cfg0.N) : Memref sig .tc .vmem S8192x128 .bf16 := win0_1.stage (cfg0.slots t 1)
abbrev hs1 (t : Fin cfg0.N) : (ms1 t).IsWhole := hstage0_1 ((cfg0.slots t 1).cast nbuf0_1)
/-- Window 2's staging memref at point `t`, and that it is whole. -/
abbrev ms2 (t : Fin cfg0.N) : Memref sig .tc .vmem S1024x128 .bf16 := win0_2.stage (cfg0.slots t 2)
abbrev hs2 (t : Fin cfg0.N) : (ms2 t).IsWhole := hstage0_2 ((cfg0.slots t 2).cast nbuf0_2)
/-- Window 3's staging memref at point `t`, and that it is whole. -/
abbrev ms3 (t : Fin cfg0.N) : Memref sig .tc .vmem S1024x128 .bf16 := win0_3.stage (cfg0.slots t 3)
abbrev hs3 (t : Fin cfg0.N) : (ms3 t).IsWhole := hstage0_3 ((cfg0.slots t 3).cast nbuf0_3)
/-- Window 4's staging memref at point `t`, and that it is whole. -/
abbrev ms4 (t : Fin cfg0.N) : Memref sig .tc .vmem S1x1024x1 .f32 := win0_4.stage (cfg0.slots t 4)
abbrev hs4 (t : Fin cfg0.N) : (ms4 t).IsWhole := hstage0_4 ((cfg0.slots t 4).cast nbuf0_4)
/-- Window 5's staging memref at point `t`, and that it is whole. -/
abbrev ms5 (t : Fin cfg0.N) : Memref sig .tc .vmem S1x1x8192 .f32 := win0_5.stage (cfg0.slots t 5)
abbrev hs5 (t : Fin cfg0.N) : (ms5 t).IsWhole := hstage0_5 ((cfg0.slots t 5).cast nbuf0_5)
/-- Window 6's staging memref at point `t`, and that it is whole. -/
abbrev ms6 (t : Fin cfg0.N) : Memref sig .tc .vmem S1x1x8192 .f32 := win0_6.stage (cfg0.slots t 6)
abbrev hs6 (t : Fin cfg0.N) : (ms6 t).IsWhole := hstage0_6 ((cfg0.slots t 6).cast nbuf0_6)
/-- Window 7's staging memref at point `t`, and that it is whole. -/
abbrev ms7 (t : Fin cfg0.N) : Memref sig .tc .vmem S8192x128 .f32 := win0_7.stage (cfg0.slots t 7)
abbrev hs7 (t : Fin cfg0.N) : (ms7 t).IsWhole := hstage0_7 ((cfg0.slots t 7).cast nbuf0_7)
/-- Window 8's staging memref at point `t`, and that it is whole. -/
abbrev ms8 (t : Fin cfg0.N) : Memref sig .tc .vmem S1x1x8192 .f32 := win0_8.stage (cfg0.slots t 8)
abbrev hs8 (t : Fin cfg0.N) : (ms8 t).IsWhole := hstage0_8 ((cfg0.slots t 8).cast nbuf0_8)
/-- Window 9's staging memref at point `t`, and that it is whole. -/
abbrev ms9 (t : Fin cfg0.N) : Memref sig .tc .vmem S1024x128 .f32 := win0_9.stage (cfg0.slots t 9)
abbrev hs9 (t : Fin cfg0.N) : (ms9 t).IsWhole := hstage0_9 ((cfg0.slots t 9).cast nbuf0_9)
/-- Window 10's staging memref at point `t`, and that it is whole. -/
abbrev ms10 (t : Fin cfg0.N) : Memref sig .tc .vmem S1024x128 .f32 := win0_10.stage (cfg0.slots t 10)
abbrev hs10 (t : Fin cfg0.N) : (ms10 t).IsWhole := hstage0_10 ((cfg0.slots t 10).cast nbuf0_10)
/-- Window 11's staging memref at point `t`, and that it is whole. -/
abbrev ms11 (t : Fin cfg0.N) : Memref sig .tc .vmem S1x1024x1 .f32 := win0_11.stage (cfg0.slots t 11)
abbrev hs11 (t : Fin cfg0.N) : (ms11 t).IsWhole := hstage0_11 ((cfg0.slots t 11).cast nbuf0_11)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t)
    ∗ owns (c : Thread nD τ) (ms9 t) fullShare ((dats m 0 c).after 9 t)
    ∗ owns (c : Thread nD τ) (ms10 t) fullShare ((dats m 0 c).after 10 t)
    ∗ owns (c : Thread nD τ) (ms11 t) fullShare ((dats m 0 c).after 11 t))

set_option maxHeartbeats 2400000 in
/-- The body at any point, by the two runs. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11]
  have h' : t.val - 1 < cfg0.N := Nat.lt_of_le_of_lt (Nat.sub_le _ _) t.isLt
  by_cases h0 : t.val % 8 = 0
  · rw [stAt_first m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runA c (grid0.coords t) (inp m c t) ((cond0_iff t).mpr h0) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · simp only [before_7 m c t h0 h', before_8 m c t h0 h']
    rw [stAt_later m c t h0 h']
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((runB c (grid0.coords t) (inp m c t) (stAt m c (t.val - 1) h').dq (stAt m c (t.val - 1) h').dfq (fun h => h0 ((cond0_iff t).mp h)) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iintro ⟨H0, H1, H2, H3, H4, H5, H6, H7, H8, H9, H10, H11⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

/-- The body table's row at point `t`'s slots is the body. -/
theorem row (t : Fin cfg0.N) : defs₀ (F := F) .tc cfg0.body (cfg0.bodyArgs t (cfg0.slots t)) = bodyAt0 t := by
  unfold defs₀; rw [Defs.onTc_tc]

/-- The library's body obligation. -/
theorem obligation (c : Dev nD) : BodyObligation (dats (F := F) m 0 c) (defs₀ (F := F)) Variants.none () Set.univ := fun t => by
  rw [bigSep_W0, bigSep_W0, row]
  exact triple_restated (sound_body m c t) rfl .rfl fun _ => .rfl

set_option backward.isDefEq.respectTransparency.types false in
/-- The run: every array ends as the proof data say, and every semaphore counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The argument arrays end unchanged and the counters at zero. -/
theorem frame_quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiescent m ρ))

end Cert.KernelIdeal.Fox

end
-- ==== Proof.Block.lean ====
/- The tiles of the backward region read at an element, at blocks of real numbers: the weights `P`, their gradients `T`, and what a
   tile adds to each of the five gradients. -/
module

public import proofs.«01_k».proof.Proof.State
public import Idealize.ShloMosaic.Lib.Pointwise

@[expose] public section

set_option maxRecDepth 16384

noncomputable section

namespace Cert.KernelIdeal.Fox

open Idealize.ShloMosaic Idealize.ShloMosaic.TcCoe Idealize.ShloMosaic.Tactic
open Idealize.ShloMosaic.VecWindow
open Cert.KernelIdeal.Gen

/-- A finite sum of reals is the real sum. -/
theorem coe_sum {ι : Type} (s : Finset ι) (g : ι → ℝ) : (∑ x ∈ s, ((g x : ℝ) : EReal)) = ((∑ x ∈ s, g x : ℝ) : EReal) := by
  classical
  induction s using Finset.induction_on with
  | empty => simp
  | insert a s ha ih => rw [Finset.sum_insert ha, Finset.sum_insert ha, ih, EReal.coe_add]

/-- A sum of products of reals. -/
theorem coe_dot {n : ℕ} {x y : Fin n → EReal} {g h : Fin n → ℝ} (hx : ∀ a, x a = (g a : EReal)) (hy : ∀ a, y a = (h a : EReal)) :
    (∑ a, x a * y a) = ((∑ a, g a * h a : ℝ) : EReal) := by
  rw [← coe_sum]
  exact Finset.sum_congr rfl fun a _ => by rw [hx, hy, EReal.coe_mul]

/-- The real numbers a point's blocks hold. -/
structure Rs where
  q : ℕ → ℕ → ℝ
  d : ℕ → ℕ → ℝ
  k : ℕ → ℕ → ℝ
  v : ℕ → ℕ → ℝ
  f : ℕ → ℝ
  l : ℕ → ℝ
  e : ℕ → ℝ

/-- The weight of key `r` of block `j` for query `a`: zero ahead of the query. -/
def P (X : Rs) (j r a : ℕ) : ℝ :=
  if 1024 * j + r ≤ a then Real.exp ((∑ d : Fin 128, X.k r d * X.q a d) - X.f r - X.l a) else 0

/-- The gradient of the logit. -/
def T (X : Rs) (j r a : ℕ) : ℝ := P X j r a * ((∑ d : Fin 128, X.v r d * X.d a d) - X.e a)

theorem T_ahead (X : Rs) (j r a : ℕ) (h : a < 1024 * j + r) : T X j r a = 0 := by
  unfold T P; rw [if_neg (by omega), zero_mul]

theorem P_ahead (X : Rs) (j r a : ℕ) (h : a < 1024 * j + r) : P X j r a = 0 := by
  unfold P; rw [if_neg (by omega)]

/-- The blocks hold the numbers `X`. -/
structure Holds (x : Inp Ideal) (X : Rs) : Prop where
  q : ∀ (a : Fin 8192) (d : Fin 128), x.q (ix2 a d) = ((X.q a d : ℝ) : EReal)
  d : ∀ (a : Fin 8192) (d : Fin 128), x.d (ix2 a d) = ((X.d a d : ℝ) : EReal)
  k : ∀ (r : Fin 1024) (d : Fin 128), x.k (ix2 r d) = ((X.k r d : ℝ) : EReal)
  v : ∀ (r : Fin 1024) (d : Fin 128), x.v (ix2 r d) = ((X.v r d : ℝ) : EReal)
  f : ∀ r : Fin 1024, x.f (ix3 0 r 0) = ((X.f r : ℝ) : EReal)
  l : ∀ a : Fin 8192, x.l (ix3 0 0 a) = ((X.l a : ℝ) : EReal)
  e : ∀ a : Fin 8192, x.e (ix3 0 0 a) = ((X.e a : ℝ) : EReal)

section windows

variable {α : Type}

theorem window_rows (x : S8192x128.Idx → α) (off : Fin 2 → ℕ) (inb : ∀ a, off a + S1024x128.size a ≤ S8192x128.size a) (o : ℕ)
    (ho : off = ![o, 0]) (c : Fin 1024) (d : Fin 128) (h : o + c.val < 8192) :
    window x off S1024x128.size inb (ix2 c d) = x (ix2 ⟨o + c.val, h⟩ d) := by
  subst ho
  unfold window
  congr 1
  funext a
  apply Fin.ext
  match a with
  | ⟨0, _⟩ => simp [Rect.emb, Rect.unit, ix2]
  | ⟨1, _⟩ => simp [Rect.emb, Rect.unit, ix2]

theorem window_row (x : S1x1x8192.Idx → α) (off : Fin 3 → ℕ) (inb : ∀ a, off a + S1x1x1024.size a ≤ S1x1x8192.size a) (o : ℕ)
    (ho : off = ![0, 0, o]) (c : Fin 1024) (h : o + c.val < 8192) :
    window x off S1x1x1024.size inb (ix3 0 0 c) = x (ix3 0 0 ⟨o + c.val, h⟩) := by
  subst ho
  unfold window
  congr 1
  funext a
  apply Fin.ext
  match a with
  | ⟨0, _⟩ => rfl
  | ⟨1, _⟩ => rfl
  | ⟨2, _⟩ => simp [Rect.emb, Rect.unit, ix3]

theorem put_rows_in (x : S8192x128.Idx → α) (off : Fin 2 → ℕ) (w : S1024x128.Idx → α) (o : ℕ) (ho : off = ![o, 0])
    (a : Fin 8192) (d : Fin 128) (h : o ≤ a.val ∧ a.val < o + 1024) (h' : a.val - o < 1024) :
    put x off S1024x128.size w (ix2 a d) = w (ix2 ⟨a.val - o, h'⟩ d) := by
  subst ho
  unfold put
  rw [dif_pos (fun b => by
    match b with
    | ⟨0, _⟩ => exact h
    | ⟨1, _⟩ => exact ⟨Nat.zero_le _, by show d.val < 0 + 128; omega⟩)]
  congr 1
  funext b
  apply Fin.ext
  match b with
  | ⟨0, _⟩ => rfl
  | ⟨1, _⟩ => rfl

theorem put_rows_out (x : S8192x128.Idx → α) (off : Fin 2 → ℕ) (w : S1024x128.Idx → α) (o : ℕ) (ho : off = ![o, 0])
    (a : Fin 8192) (d : Fin 128) (h : ¬ (o ≤ a.val ∧ a.val < o + 1024)) :
    put x off S1024x128.size w (ix2 a d) = x (ix2 a d) := by
  subst ho
  unfold put
  refine dif_neg fun hb => h ?_
  have := hb (0 : Fin 2)
  exact this

theorem put_row_in (x : S1x1x8192.Idx → α) (off : Fin 3 → ℕ) (w : S1x1x1024.Idx → α) (o : ℕ) (ho : off = ![0, 0, o])
    (a : Fin 8192) (h : o ≤ a.val ∧ a.val < o + 1024) (h' : a.val - o < 1024) :
    put x off S1x1x1024.size w (ix3 0 0 a) = w (ix3 0 0 ⟨a.val - o, h'⟩) := by
  subst ho
  unfold put
  rw [dif_pos (fun b => by
    match b with
    | ⟨0, _⟩ => exact ⟨Nat.le_refl _, Nat.zero_lt_one⟩
    | ⟨1, _⟩ => exact ⟨Nat.le_refl _, Nat.zero_lt_one⟩
    | ⟨2, _⟩ => exact h)]
  congr 1
  funext b
  apply Fin.ext
  match b with
  | ⟨0, _⟩ => rfl
  | ⟨1, _⟩ => rfl
  | ⟨2, _⟩ => rfl

theorem put_row_out (x : S1x1x8192.Idx → α) (off : Fin 3 → ℕ) (w : S1x1x1024.Idx → α) (o : ℕ) (ho : off = ![0, 0, o])
    (a : Fin 8192) (h : ¬ (o ≤ a.val ∧ a.val < o + 1024)) :
    put x off S1x1x1024.size w (ix3 0 0 a) = x (ix3 0 0 a) := by
  subst ho
  unfold put
  refine dif_neg fun hb => h ?_
  have := hb (2 : Fin 3)
  exact this

end windows

/-- A further block's weights. -/
theorem weights (X : Rs) (j o : ℕ) (k q : FVec Ideal S1024x128 .bf16) (f : FVec Ideal S1024x1 .f32) (l : Vec Ideal S1x1x1024 .f32)
    (hk : ∀ (r : Fin 1024) (d : Fin 128), k (ix2 r d) = ((X.k r d : ℝ) : EReal))
    (hq : ∀ (c : Fin 1024) (d : Fin 128), q (ix2 c d) = ((X.q (o + c) d : ℝ) : EReal))
    (hf : ∀ r : Fin 1024, f (ix2 r 0) = ((X.f r : ℝ) : EReal))
    (hl : ∀ c : Fin 1024, l (ix3 0 0 c) = ((X.l (o + c) : ℝ) : EReal))
    (ho : 1024 * j + 1024 ≤ o) (r c : Fin 1024) :
    k0_pay4 k f q l (ix2 r c) = ((P X j r (o + c) : ℝ) : EReal) := by
  pointwise [k0_pay4, k0_pay2]
  rw [coe_dot (hk r) (hq c), hf, hl, ← EReal.coe_sub, ← EReal.coe_sub, Ideal.exp_coe]
  unfold P
  rw [if_pos (by omega)]

/-- The diagonal block's weights. -/
theorem weights_diag (X : Rs) (j : ℕ) (k q : Vec Ideal S1024x128 .bf16) (f : Vec Ideal S1x1024x1 .f32) (l : Vec Ideal S1x1x1024 .f32)
    (hk : ∀ (r : Fin 1024) (d : Fin 128), k (ix2 r d) = ((X.k r d : ℝ) : EReal))
    (hq : ∀ (c : Fin 1024) (d : Fin 128), q (ix2 c d) = ((X.q (1024 * j + c) d : ℝ) : EReal))
    (hf : ∀ r : Fin 1024, f (ix3 0 r 0) = ((X.f r : ℝ) : EReal))
    (hl : ∀ c : Fin 1024, l (ix3 0 0 c) = ((X.l (1024 * j + c) : ℝ) : EReal)) (r c : Fin 1024) :
    k0_pay27 k f q l (ix2 r c) = ((P X j r (1024 * j + c) : ℝ) : EReal) := by
  pointwise [k0_pay27, k0_pay20, k0_pay22, k0_pay25]
  rw [coe_dot (hk r) (hq c), hf, hl, ← EReal.coe_sub, ← EReal.coe_sub]
  have hb : IntOp.cmpi CmpIPredicate.sge (BitVec.ofNat 32 c.val) (BitVec.ofNat 32 r.val) = 1#1 ↔ r.val ≤ c.val := by
    have := r.isLt; have := c.isLt
    word_cmp
  unfold P
  by_cases h : r.val ≤ c.val
  · rw [hb.mpr h, if_pos (by omega)]
    simp [Scalar.select]
    rw [← EReal.coe_sub, ← EReal.coe_sub, Ideal.exp_coe]
  · have h0 : IntOp.cmpi CmpIPredicate.sge (BitVec.ofNat 32 c.val) (BitVec.ofNat 32 r.val) = 0#1 := by
      rcases BitVec.eq_zero_or_eq_one (IntOp.cmpi CmpIPredicate.sge (BitVec.ofNat 32 c.val) (BitVec.ofNat 32 r.val)) with e | e
      · exact e
      · exact absurd (hb.mp e) h
    rw [h0, if_neg (by omega)]
    have hbot : Ideal.ofBits FTy.f32 4286578688#32 = ⊥ := by simp [Ideal.ofBits, Ideal.ieee]
    rw [hbot]
    simp [Scalar.select]

/-- A further block's gradients of the logits. -/
theorem grads (X : Rs) (j o : ℕ) (k v q d : FVec Ideal S1024x128 .bf16) (f : FVec Ideal S1024x1 .f32) (l e : Vec Ideal S1x1x1024 .f32)
    (hp : ∀ r c : Fin 1024, k0_pay4 k f q l (ix2 r c) = ((P X j r (o + c) : ℝ) : EReal))
    (hv : ∀ (r : Fin 1024) (x : Fin 128), v (ix2 r x) = ((X.v r x : ℝ) : EReal))
    (hd : ∀ (c : Fin 1024) (x : Fin 128), d (ix2 c x) = ((X.d (o + c) x : ℝ) : EReal))
    (he : ∀ c : Fin 1024, e (ix3 0 0 c) = ((X.e (o + c) : ℝ) : EReal)) (r c : Fin 1024) :
    k0_pay6 k v f q d l e (ix2 r c) = ((T X j r (o + c) : ℝ) : EReal) := by
  pointwise [k0_pay6, k0_pay3]
  rw [coe_dot (hv r) (hd c), hp, he, ← EReal.coe_sub, ← EReal.coe_mul]
  rfl

/-- The diagonal block's. -/
theorem grads_diag (X : Rs) (j : ℕ) (v d : FVec Ideal S1024x128 .bf16) (p : FVec Ideal S1024x1024 .f32) (e : Vec Ideal S1x1x1024 .f32)
    (hp : ∀ r c : Fin 1024, p (ix2 r c) = ((P X j r (1024 * j + c) : ℝ) : EReal))
    (hv : ∀ (r : Fin 1024) (x : Fin 128), v (ix2 r x) = ((X.v r x : ℝ) : EReal))
    (hd : ∀ (c : Fin 1024) (x : Fin 128), d (ix2 c x) = ((X.d (1024 * j + c) x : ℝ) : EReal))
    (he : ∀ c : Fin 1024, e (ix3 0 0 c) = ((X.e (1024 * j + c) : ℝ) : EReal)) (r c : Fin 1024) :
    k0_pay29 v d p e (ix2 r c) = ((T X j r (1024 * j + c) : ℝ) : EReal) := by
  pointwise [k0_pay29]
  rw [coe_dot (hv r) (hd c), hp, he, ← EReal.coe_sub, ← EReal.coe_mul]
  rfl

/-- The state after the query blocks below row `B`, the head's query-side gradients having been `dq0` and `dfq0`. -/
structure Upto (X : Rs) (j B : ℕ) (dq0 : ℕ → ℕ → ℝ) (dfq0 : ℕ → ℝ) (s : St Ideal) : Prop where
  dk : ∀ (r : Fin 1024) (d : Fin 128), s.acc.1 (ix2 r d) = ((∑ a ∈ Finset.range B, T X j r a * X.q a d : ℝ) : EReal)
  dv : ∀ (r : Fin 1024) (d : Fin 128), s.acc.2.1 (ix2 r d) = ((∑ a ∈ Finset.range B, P X j r a * X.d a d : ℝ) : EReal)
  df : ∀ r : Fin 1024, s.acc.2.2 (ix2 r 0) = ((-(∑ a ∈ Finset.range B, T X j r a) : ℝ) : EReal)
  dq : ∀ (a : Fin 8192) (d : Fin 128), s.dq (ix2 a d)
    = ((dq0 a d + (if a.val < B then ∑ r : Fin 1024, T X j r a * X.k r d else 0) : ℝ) : EReal)
  dfq : ∀ a : Fin 8192, s.dfq (ix3 0 0 a) = ((dfq0 a + (if a.val < B then ∑ r : Fin 1024, T X j r a else 0) : ℝ) : EReal)

theorem sum_next (g : ℕ → ℝ) (o : ℕ) : ∑ a ∈ Finset.range (o + 1024), g a = ∑ a ∈ Finset.range o, g a + ∑ c : Fin 1024, g (o + c) := by
  rw [Finset.sum_range_add, Finset.sum_range (fun x => g (o + x))]

/-- A sum that starts at row `o`. -/
theorem sum_first (g : ℕ → ℝ) (o : ℕ) (h : ∀ a < o, g a = 0) : ∑ a ∈ Finset.range (o + 1024), g a = ∑ c : Fin 1024, g (o + c) := by
  rw [sum_next, Finset.sum_eq_zero (fun a ha => h a (Finset.mem_range.mp ha)), zero_add]

variable (i : grid0.Coords) (x : Inp Ideal) (X : Rs) (dq : Vec Ideal S8192x128 .f32) (dfq : Vec Ideal S1x1x8192 .f32)
variable (dq0 : ℕ → ℕ → ℝ) (dfq0 : ℕ → ℝ)

theorem diag_upto (hx : Holds x X) (hdq : ∀ (a : Fin 8192) (d : Fin 128), dq (ix2 a d) = ((dq0 a d : ℝ) : EReal))
    (hdfq : ∀ a : Fin 8192, dfq (ix3 0 0 a) = ((dfq0 a : ℝ) : EReal)) :
    Upto X (i 1).val (1024 * (i 1).val + 1024) dq0 dfq0 (diag i x dq dfq) := by
  have hj : (i 1).val < 8 := (i 1).isLt
  have hin : ∀ c : Fin 1024, 1024 * (i 1).val + c.val < 8192 := fun c => by have := c.isLt; omega
  have o1 := k0_off1_eq i
  have o2 := k0_off2_eq i
  have hq : ∀ (c : Fin 1024) (d : Fin 128), window x.q (k0_off1 i) S1024x128.size (Facts₀.k0_off1_inb i) (ix2 c d)
      = ((X.q (1024 * (i 1).val + c) d : ℝ) : EReal) := fun c d => by rw [window_rows _ _ _ _ o1 c d (hin c), hx.q]
  have hd : ∀ (c : Fin 1024) (d : Fin 128), window x.d (k0_off1 i) S1024x128.size (Facts₀.k0_off1_inb i) (ix2 c d)
      = ((X.d (1024 * (i 1).val + c) d : ℝ) : EReal) := fun c d => by rw [window_rows _ _ _ _ o1 c d (hin c), hx.d]
  have hl : ∀ c : Fin 1024, window x.l (k0_off2 i) S1x1x1024.size (Facts₀.k0_off2_inb i) (ix3 0 0 c)
      = ((X.l (1024 * (i 1).val + c) : ℝ) : EReal) := fun c => by rw [window_row _ _ _ _ o2 c (hin c), hx.l]
  have he : ∀ c : Fin 1024, window x.e (k0_off2 i) S1x1x1024.size (Facts₀.k0_off2_inb i) (ix3 0 0 c)
      = ((X.e (1024 * (i 1).val + c) : ℝ) : EReal) := fun c => by rw [window_row _ _ _ _ o2 c (hin c), hx.e]
  have hp := weights_diag X (i 1).val x.k _ x.f _ hx.k hq hx.f hl
  have ev : k0_pay21 x.v = x.v := by
    funext y; idx_vars y; pointwise [k0_pay21]
  have ek : k0_pay20 x.k = x.k := by
    funext y; idx_vars y; pointwise [k0_pay20]
  have ed : ∀ z : Vec Ideal S1024x128 .bf16, k0_pay26 z = z := fun z => by
    funext y; idx_vars y; pointwise [k0_pay26]
  have eq : ∀ z : Vec Ideal S1024x128 .bf16, k0_pay25 z = z := fun z => by
    funext y; idx_vars y; pointwise [k0_pay25]
  have hT := grads_diag X (i 1).val x.v _ _ _ hp hx.v hd he
  unfold diag
  dsimp only
  rw [ev, ek, ed, eq]
  refine ⟨fun r d => ?_, fun r d => ?_, fun r => ?_, fun a d => ?_, fun a => ?_⟩ <;> dsimp only
  · rw [sum_first (fun a => T X (i 1).val r a * X.q a d) _ fun a ha => by simp only []; rw [T_ahead _ _ _ _ (by omega), zero_mul]]
    pointwise [k0_pay33, k0_pay32, k0_pay23]
    exact coe_dot (hT r) (fun c => hq c d)
  · rw [sum_first (fun a => P X (i 1).val r a * X.d a d) _ fun a ha => by simp only []; rw [P_ahead _ _ _ _ (by omega), zero_mul]]
    pointwise [k0_pay28, k0_pay26]
    exact coe_dot (hp r) (fun c => hd c d)
  · rw [sum_first (fun a => T X (i 1).val r a) _ fun a ha => T_ahead _ _ _ _ (by omega)]
    pointwise [k0_pay30, k0_pay24]
    rw [Finset.sum_congr rfl fun c _ => hT r c, coe_sum]
    simp
  · by_cases h : 1024 * (i 1).val ≤ a.val ∧ a.val < 1024 * (i 1).val + 1024
    · have h' : a.val - 1024 * (i 1).val < 1024 := by omega
      rw [put_rows_in _ _ _ _ o1 a d h h', if_pos h.2]
      pointwise [k0_pay34, k0_pay32]
      rw [window_rows _ _ _ _ o1 _ d (hin _), hdq, coe_dot (fun r => hT r ⟨a.val - 1024 * (i 1).val, h'⟩) (fun r => hx.k r d), ← EReal.coe_add]
      simp only [Nat.add_sub_cancel' h.1]
    · rw [put_rows_out _ _ _ _ o1 a d h, hdq]
      by_cases h2 : a.val < 1024 * (i 1).val + 1024
      · rw [if_pos h2, Finset.sum_eq_zero (fun r _ => by rw [T_ahead _ _ _ _ (by omega), zero_mul]), add_zero]
      · rw [if_neg h2, add_zero]
  · by_cases h : 1024 * (i 1).val ≤ a.val ∧ a.val < 1024 * (i 1).val + 1024
    · have h' : a.val - 1024 * (i 1).val < 1024 := by omega
      rw [put_row_in _ _ _ _ o2 a h h', if_pos h.2]
      pointwise [k0_pay31]
      rw [window_row _ _ _ _ o2 _ (hin _), hdfq, Finset.sum_congr rfl fun r _ => hT r ⟨a.val - 1024 * (i 1).val, h'⟩, coe_sum, ← EReal.coe_add]
      simp only [Nat.add_sub_cancel' h.1]
    · rw [put_row_out _ _ _ _ o2 a h, hdfq]
      by_cases h2 : a.val < 1024 * (i 1).val + 1024
      · rw [if_pos h2, Finset.sum_eq_zero (fun r _ => T_ahead _ _ _ _ (by omega)), add_zero]
      · rw [if_neg h2, add_zero]

theorem step_upto (t : Fin (k0_t1_loop i).trips) (s : St Ideal) (hx : Holds x X) (ht : (i 1).val + t.val + 1 < 8)
    (hs : Upto X (i 1).val (1024 * (i 1).val + 1024 * t.val + 1024) dq0 dfq0 s) :
    Upto X (i 1).val (1024 * (i 1).val + 1024 * t.val + 1024 + 1024) dq0 dfq0 (step i x t s) := by
  have o3 := k0_off3_eq i t
  have o4 := k0_off4_eq i t
  generalize hO : 1024 * (i 1).val + 1024 * t.val + 1024 = o at *
  have hin : ∀ c : Fin 1024, o + c.val < 8192 := fun c => by have := c.isLt; omega
  have hq : ∀ (c : Fin 1024) (d : Fin 128), window x.q (k0_off3 i t) S1024x128.size (Facts₀.k0_off3_inb i t) (ix2 c d)
      = ((X.q (o + c) d : ℝ) : EReal) := fun c d => by rw [window_rows _ _ _ _ o3 c d (hin c), hx.q]
  have hd : ∀ (c : Fin 1024) (d : Fin 128), window x.d (k0_off3 i t) S1024x128.size (Facts₀.k0_off3_inb i t) (ix2 c d)
      = ((X.d (o + c) d : ℝ) : EReal) := fun c d => by rw [window_rows _ _ _ _ o3 c d (hin c), hx.d]
  have hl : ∀ c : Fin 1024, window x.l (k0_off4 i t) S1x1x1024.size (Facts₀.k0_off4_inb i t) (ix3 0 0 c)
      = ((X.l (o + c) : ℝ) : EReal) := fun c => by rw [window_row _ _ _ _ o4 c (hin c), hx.l]
  have he : ∀ c : Fin 1024, window x.e (k0_off4 i t) S1x1x1024.size (Facts₀.k0_off4_inb i t) (ix3 0 0 c)
      = ((X.e (o + c) : ℝ) : EReal) := fun c => by rw [window_row _ _ _ _ o4 c (hin c), hx.e]
  have ev : k0_pay21 x.v = x.v := by
    funext y; idx_vars y; pointwise [k0_pay21]
  have ek : k0_pay20 x.k = x.k := by
    funext y; idx_vars y; pointwise [k0_pay20]
  have hf : ∀ r : Fin 1024, k0_pay22 x.f (ix2 r 0) = ((X.f r : ℝ) : EReal) := fun r => by
    rw [← hx.f r]; pointwise [k0_pay22]
  have hp := weights X (i 1).val o x.k _ (k0_pay22 x.f) _ hx.k hq hf hl (by omega)
  have hT := grads X (i 1).val o x.k x.v _ _ (k0_pay22 x.f) _ _ hp hx.v hd he
  unfold step
  dsimp only
  rw [ev, ek]
  refine ⟨fun r d => ?_, fun r d => ?_, fun r => ?_, fun a d => ?_, fun a => ?_⟩ <;> dsimp only
  · rw [sum_next (fun a => T X (i 1).val r a * X.q a d)]
    pointwise [k0_pay35, k0_pay9, k0_pay2]
    rw [hs.dk, coe_dot (hT r) (fun c => hq c d), EReal.coe_add]
  · rw [sum_next (fun a => P X (i 1).val r a * X.d a d)]
    pointwise [k0_pay5, k0_pay3]
    rw [hs.dv, coe_dot (hp r) (fun c => hd c d), EReal.coe_add]
  · rw [sum_next (fun a => T X (i 1).val r a)]
    pointwise [k0_pay7]
    rw [hs.df, Finset.sum_congr rfl fun c _ => hT r c, coe_sum, ← EReal.coe_sub]
    congr 1; ring
  · by_cases h : o ≤ a.val ∧ a.val < o + 1024
    · have h' : a.val - o < 1024 := by omega
      rw [put_rows_in _ _ _ _ o3 a d h h', if_pos h.2]
      pointwise [k0_pay36, k0_pay9]
      rw [window_rows _ _ _ _ o3 _ d (hin _), hs.dq, coe_dot (fun r => hT r ⟨a.val - o, h'⟩) (fun r => hx.k r d), ← EReal.coe_add]
      simp only [Nat.add_sub_cancel' h.1]
      rw [if_neg (by omega), add_zero]
    · rw [put_rows_out _ _ _ _ o3 a d h, hs.dq]
      by_cases h2 : a.val < o
      · rw [if_pos h2, if_pos (by omega)]
      · rw [if_neg h2, if_neg (by omega)]
  · by_cases h : o ≤ a.val ∧ a.val < o + 1024
    · have h' : a.val - o < 1024 := by omega
      rw [put_row_in _ _ _ _ o4 a h h', if_pos h.2]
      pointwise [k0_pay8]
      rw [window_row _ _ _ _ o4 _ (hin _), hs.dfq, Finset.sum_congr rfl fun r _ => hT r ⟨a.val - o, h'⟩, coe_sum, ← EReal.coe_add]
      simp only [Nat.add_sub_cancel' h.1]
      rw [if_neg (by omega), add_zero]
    · rw [put_row_out _ _ _ _ o4 a h, hs.dfq]
      by_cases h2 : a.val < o
      · rw [if_pos h2, if_pos (by omega)]
      · rw [if_neg h2, if_neg (by omega)]

theorem trips1 : ∀ i : grid0.Coords, (k0_t1_loop i).trips = 7 - (i 1).val := by decide +kernel

/-- What a whole point leaves. -/
theorem point_upto (hx : Holds x X) (hdq : ∀ (a : Fin 8192) (d : Fin 128), dq (ix2 a d) = ((dq0 a d : ℝ) : EReal))
    (hdfq : ∀ a : Fin 8192, dfq (ix3 0 0 a) = ((dfq0 a : ℝ) : EReal)) :
    Upto X (i 1).val 8192 dq0 dfq0 (point i x dq dfq) := by
  have hj : (i 1).val < 8 := (i 1).isLt
  have key : ∀ n, n ≤ (k0_t1_loop i).trips → Upto X (i 1).val (1024 * (i 1).val + 1024 * n + 1024) dq0 dfq0 (upTo i x dq dfq n) := by
    intro n
    induction n with
    | zero => exact fun _ => diag_upto i x X dq dfq dq0 dfq0 hx hdq hdfq
    | succ n ih =>
      intro hn
      have e := upTo_succ i x dq dfq ⟨n, hn⟩
      rw [show n + 1 = (⟨n, hn⟩ : Fin (k0_t1_loop i).trips).val + 1 from rfl, e]
      have h1 := trips1 i
      have := step_upto i x X dq0 dfq0 ⟨n, hn⟩ _ hx (by show (i 1).val + n + 1 < 8; omega) (ih (by omega))
      rw [show 1024 * (i 1).val + 1024 * ((⟨n, hn⟩ : Fin (k0_t1_loop i).trips).val + 1) + 1024 = 1024 * (i 1).val + 1024 * n + 1024 + 1024 by
        show 1024 * (i 1).val + 1024 * (n + 1) + 1024 = _; ring]
      exact this
  have h1 := trips1 i
  have := key _ (Nat.le_refl _)
  rw [show 1024 * (i 1).val + 1024 * (k0_t1_loop i).trips + 1024 = 8192 by omega] at this
  exact this

end Cert.KernelIdeal.Fox

end
-- ==== Proof.Heads.lean ====
/- The backward region's results as whole arrays: sums over all the keys, or all the queries, of a head. -/
module

public import proofs.«01_k».proof.Proof.Region
public import proofs.«01_k».proof.Proof.Block
public import Idealize.ShloMosaic.Lib.Pipeline.ValueKit

@[expose] public section

set_option maxRecDepth 100000

noncomputable section

namespace Cert.KernelIdeal.Fox

open Idealize.ShloMosaic Idealize.ShloMosaic.TcCoe Idealize.ShloMosaic.Tactic
open Cert.KernelIdeal.Gen

variable (m : (ℓ : Loc nD τ sig) → Buf (Elt Ideal) ℓ)

/-- The real numbers of the region's operands, whole arrays: rows first, the two statistics by head and row. -/
structure Gl where
  q : ℕ → ℕ → ℝ
  d : ℕ → ℕ → ℝ
  k : ℕ → ℕ → ℝ
  v : ℕ → ℕ → ℝ
  f : ℕ → ℕ → ℝ
  l : ℕ → ℕ → ℝ
  e : ℕ → ℕ → ℝ

/-- The weight of key `b` for query `a` in head `h`. -/
def PG (g : Gl) (h b a : ℕ) : ℝ :=
  if b ≤ a then Real.exp ((∑ x : Fin 128, g.k b (128 * h + x) * g.q a (128 * h + x)) - g.f b h - g.l h a) else 0

/-- The gradient of that logit. -/
def TG (g : Gl) (h b a : ℕ) : ℝ := PG g h b a * ((∑ x : Fin 128, g.v b (128 * h + x) * g.d a (128 * h + x)) - g.e h a)

/-- The blocks of head `h`, key block `j`. -/
def blockOf (g : Gl) (h j : ℕ) : Rs where
  q a x := g.q a (128 * h + x)
  d a x := g.d a (128 * h + x)
  k r x := g.k (1024 * j + r) (128 * h + x)
  v r x := g.v (1024 * j + r) (128 * h + x)
  f r := g.f (1024 * j + r) h
  l a := g.l h a
  e a := g.e h a

theorem P_blockOf (g : Gl) (h j r a : ℕ) : P (blockOf g h j) j r a = PG g h (1024 * j + r) a := rfl

theorem T_blockOf (g : Gl) (h j r a : ℕ) : T (blockOf g h j) j r a = TG g h (1024 * j + r) a := rfl

/-- The region finds the numbers `g` on device `c`. -/
structure Finds (c : Dev nD) (g : Gl) : Prop where
  q : ∀ (a : Fin 8192) (x : Fin 1024), V m c main_v48 (ix2 a x) = ((g.q a x : ℝ) : EReal)
  d : ∀ (a : Fin 8192) (x : Fin 1024), V m c main_v51 (ix2 a x) = ((g.d a x : ℝ) : EReal)
  k : ∀ (a : Fin 8192) (x : Fin 1024), V m c main_v49 (ix2 a x) = ((g.k a x : ℝ) : EReal)
  v : ∀ (a : Fin 8192) (x : Fin 1024), V m c main_v50 (ix2 a x) = ((g.v a x : ℝ) : EReal)
  f : ∀ (h : Fin 8) (a : Fin 8192), V m c main_v52 (ix3 h a 0) = ((g.f a h : ℝ) : EReal)
  l : ∀ (h : Fin 8) (a : Fin 8192), V m c main_v42 (ix3 h 0 a) = ((g.l h a : ℝ) : EReal)
  e : ∀ (h : Fin 8) (a : Fin 8192), V m c main_v47 (ix3 h 0 a) = ((g.e h a : ℝ) : EReal)

theorem idx : ∀ t : Fin cfg0.N, win0_0.index t = ![0, t.val / 8] ∧ win0_1.index t = ![0, t.val / 8]
    ∧ win0_2.index t = ![t.val % 8, t.val / 8] ∧ win0_3.index t = ![t.val % 8, t.val / 8]
    ∧ win0_4.index t = ![t.val / 8, t.val % 8, 0] ∧ win0_5.index t = ![t.val / 8, 0, 0] ∧ win0_6.index t = ![t.val / 8, 0, 0]
    ∧ win0_7.index t = ![0, t.val / 8] ∧ win0_8.index t = ![t.val / 8, 0, 0]
    ∧ win0_9.index t = ![t.val % 8, t.val / 8] ∧ win0_10.index t = ![t.val % 8, t.val / 8]
    ∧ win0_11.index t = ![t.val / 8, t.val % 8, 0] := by decide +kernel

theorem lt64 (t : Fin cfg0.N) : t.val < 64 := Nat.lt_of_lt_of_eq t.isLt N_0

theorem read_0 (c : Dev nD) (t : Fin cfg0.N) (a : Fin 8192) (d : Fin 128) (h : 128 * (t.val / 8) + d.val < 1024) :
    (inp m c t).q (ix2 a d) = V m c main_v48 (ix2 a ⟨128 * (t.val / 8) + d.val, h⟩) := by
  obtain ⟨i0, i1, i2, i3, i4, i5, i6, -⟩ := idx t
  unfold inp
  dsimp only
  blk_ext [iblk, i0]

theorem read_1 (c : Dev nD) (t : Fin cfg0.N) (a : Fin 8192) (d : Fin 128) (h : 128 * (t.val / 8) + d.val < 1024) :
    (inp m c t).d (ix2 a d) = V m c main_v51 (ix2 a ⟨128 * (t.val / 8) + d.val, h⟩) := by
  obtain ⟨i0, i1, i2, i3, i4, i5, i6, -⟩ := idx t
  unfold inp
  dsimp only
  blk_ext [iblk, i1]

theorem read_2 (c : Dev nD) (t : Fin cfg0.N) (r : Fin 1024) (d : Fin 128) (h1 : 1024 * (t.val % 8) + r.val < 8192) (h : 128 * (t.val / 8) + d.val < 1024) :
    (inp m c t).k (ix2 r d) = V m c main_v49 (ix2 ⟨1024 * (t.val % 8) + r.val, h1⟩ ⟨128 * (t.val / 8) + d.val, h⟩) := by
  obtain ⟨i0, i1, i2, i3, i4, i5, i6, -⟩ := idx t
  unfold inp
  dsimp only
  blk_ext [iblk, i2]

theorem read_3 (c : Dev nD) (t : Fin cfg0.N) (r : Fin 1024) (d : Fin 128) (h1 : 1024 * (t.val % 8) + r.val < 8192) (h : 128 * (t.val / 8) + d.val < 1024) :
    (inp m c t).v (ix2 r d) = V m c main_v50 (ix2 ⟨1024 * (t.val % 8) + r.val, h1⟩ ⟨128 * (t.val / 8) + d.val, h⟩) := by
  obtain ⟨i0, i1, i2, i3, i4, i5, i6, -⟩ := idx t
  unfold inp
  dsimp only
  blk_ext [iblk, i3]

theorem read_4 (c : Dev nD) (t : Fin cfg0.N) (r : Fin 1024) (h1 : 1024 * (t.val % 8) + r.val < 8192) (h : t.val / 8 < 8) :
    (inp m c t).f (ix3 0 r 0) = V m c main_v52 (ix3 ⟨t.val / 8, h⟩ ⟨1024 * (t.val % 8) + r.val, h1⟩ 0) := by
  obtain ⟨i0, i1, i2, i3, i4, i5, i6, -⟩ := idx t
  unfold inp
  dsimp only
  blk_ext [iblk, i4]

theorem inp_l (c : Dev nD) (t : Fin cfg0.N) : (inp m c t).l = iblk m c 5 t := rfl

theorem emb_5 (t : Fin cfg0.N) (a : Fin 8192) (h : t.val / 8 < 8) : (win0_5.blk t).view.emb (ix3 0 0 a) = ix3 ⟨t.val / 8, h⟩ 0 a := by
  obtain ⟨i0, i1, i2, i3, i4, i5, i6, -⟩ := idx t
  blk_ext [i5]

theorem block_5 (c : Dev nD) (W : (b : Ref sig .tc) → Buf (Elt Ideal) ((c : Thread nD τ).loc b)) (t : Fin cfg0.N) (y) :
    ((cfg0.win 5).blk t).view.read (Elt Ideal) (W (Pipeline.arrRef spec0 5)) y = W main_v42 ((win0_5.blk t).view.emb y) := rfl

theorem iblk_5 (c : Dev nD) (t : Fin cfg0.N) (y) : iblk m c 5 t y = V m c main_v42 ((win0_5.blk t).view.emb y) := block_5 c (V m c) t y

theorem read_5 (c : Dev nD) (t : Fin cfg0.N) (a : Fin 8192) (h : t.val / 8 < 8) :
    (inp m c t).l (ix3 0 0 a) = V m c main_v42 (ix3 ⟨t.val / 8, h⟩ 0 a) := by
  rw [inp_l, iblk_5, emb_5 t a h]

theorem read_6 (c : Dev nD) (t : Fin cfg0.N) (a : Fin 8192) (h : t.val / 8 < 8) :
    (inp m c t).e (ix3 0 0 a) = V m c main_v47 (ix3 ⟨t.val / 8, h⟩ 0 a) := by
  obtain ⟨i0, i1, i2, i3, i4, i5, i6, -⟩ := idx t
  unfold inp
  dsimp only
  have e : (win0_6.blk t).view.emb (ix3 0 0 a) = ix3 ⟨t.val / 8, h⟩ 0 a := by blk_ext [i6]
  exact congrArg (V m c main_v47) e

theorem holds (c : Dev nD) (g : Gl) (hg : Finds m c g) (t : Fin cfg0.N) : Holds (inp m c t) (blockOf g (t.val / 8) (t.val % 8)) := by
  have ht := lt64 t
  have hh : t.val / 8 < 8 := by omega
  have hx : ∀ d : Fin 128, 128 * (t.val / 8) + d.val < 1024 := fun d => by have := d.isLt; omega
  have hr : ∀ r : Fin 1024, 1024 * (t.val % 8) + r.val < 8192 := fun r => by have := r.isLt; omega
  exact ⟨fun a d => by rw [read_0 m c t a d (hx d), hg.q]; rfl, fun a d => by rw [read_1 m c t a d (hx d), hg.d]; rfl,
    fun r d => by rw [read_2 m c t r d (hr r) (hx d), hg.k]; rfl, fun r d => by rw [read_3 m c t r d (hr r) (hx d), hg.v]; rfl,
    fun r => by rw [read_4 m c t r (hr r) hh, hg.f]; rfl, fun a => by rw [read_5 m c t a hh, hg.l]; rfl,
    fun a => by rw [read_6 m c t a hh, hg.e]; rfl⟩

/-- The query-side gradients of head `h` from the keys below `B`. -/
def DQ (g : Gl) (B h a x : ℕ) : ℝ := ∑ b ∈ Finset.range B, TG g h b a * g.k b (128 * h + x)
def DFQ (g : Gl) (B h a : ℕ) : ℝ := ∑ b ∈ Finset.range B, TG g h b a

theorem DQ_next (g : Gl) (j h a x : ℕ) : DQ g (1024 * j) h a x
    + (if a < 8192 then ∑ r : Fin 1024, T (blockOf g h j) j r a * (blockOf g h j).k r x else 0)
    = if a < 8192 then DQ g (1024 * (j + 1)) h a x else DQ g (1024 * j) h a x := by
  split
  · unfold DQ
    rw [Nat.mul_add, Nat.mul_one, sum_next]
    rfl
  · rw [add_zero]

theorem DFQ_next (g : Gl) (j h a : ℕ) : DFQ g (1024 * j) h a
    + (if a < 8192 then ∑ r : Fin 1024, T (blockOf g h j) j r a else 0)
    = if a < 8192 then DFQ g (1024 * (j + 1)) h a else DFQ g (1024 * j) h a := by
  split
  · unfold DFQ
    rw [Nat.mul_add, Nat.mul_one, sum_next]
    rfl
  · rw [add_zero]

theorem coord1 (t : Fin cfg0.N) : (grid0.coords t 1).val = t.val % 8 := by
  have e1 : (grid0.coords t 1).val = t.val / 1 % 8 := Pipeline.Grid.coords_val t 1 (by decide) rfl
  rw [e1, Nat.div_one]

theorem zero_dq (a : Fin 8192) (d : Fin 128) : (k0_pay18 (F := Ideal)) (ix2 a d) = ((0 : ℝ) : EReal) := by
  pointwise [k0_pay18]
  simp

theorem zero_dfq (a : Fin 8192) : (k0_pay19 (F := Ideal)) (ix3 0 0 a) = ((0 : ℝ) : EReal) := by
  pointwise [k0_pay19]
  simp

/-- After every point. -/
theorem stAt_upto (c : Dev nD) (g : Gl) (hg : Finds m c g) : ∀ (n : ℕ) (hn : n < cfg0.N),
    Upto (blockOf g (n / 8) (n % 8)) (n % 8) 8192 (DQ g (1024 * (n % 8)) (n / 8)) (DFQ g (1024 * (n % 8)) (n / 8)) (stAt m c n hn) := by
  intro n
  induction n with
  | zero =>
    intro hn
    rw [stAt_first m c ⟨0, hn⟩ rfl]
    have h := point_upto (grid0.coords ⟨0, hn⟩) (inp m c ⟨0, hn⟩) _ (k0_pay18 (F := Ideal)) (k0_pay19 (F := Ideal)) (fun _ _ => 0) (fun _ => 0) (holds m c g hg ⟨0, hn⟩)
      zero_dq zero_dfq
    rw [coord1] at h
    have e1 : DQ g (1024 * (0 % 8)) (0 / 8) = fun _ _ => 0 := by funext a x; rfl
    have e2 : DFQ g (1024 * (0 % 8)) (0 / 8) = fun _ => 0 := by funext a; rfl
    rw [e1, e2]
    exact h
  | succ n ih =>
    intro hn
    by_cases h0 : (n + 1) % 8 = 0
    · rw [stAt_first m c ⟨n + 1, hn⟩ h0]
      have h := point_upto (grid0.coords ⟨n + 1, hn⟩) (inp m c ⟨n + 1, hn⟩) _ (k0_pay18 (F := Ideal)) (k0_pay19 (F := Ideal)) (fun _ _ => 0) (fun _ => 0)
        (holds m c g hg ⟨n + 1, hn⟩) zero_dq zero_dfq
      rw [coord1] at h
      have e1 : DQ g (1024 * ((n + 1) % 8)) ((n + 1) / 8) = fun _ _ => 0 := by rw [h0]; funext a x; rfl
      have e2 : DFQ g (1024 * ((n + 1) % 8)) ((n + 1) / 8) = fun _ => 0 := by rw [h0]; funext a; rfl
      rw [e1, e2]
      exact h
    · have hn' : n < cfg0.N := Nat.lt_of_succ_lt hn
      rw [stAt_later m c ⟨n + 1, hn⟩ h0 hn']
      have p := ih hn'
      have hq : (n + 1) / 8 = n / 8 := by omega
      have hm : (n + 1) % 8 = n % 8 + 1 := by omega
      have h := point_upto (grid0.coords ⟨n + 1, hn⟩) (inp m c ⟨n + 1, hn⟩) _ (stAt m c n hn').dq (stAt m c n hn').dfq
        (DQ g (1024 * ((n + 1) % 8)) ((n + 1) / 8)) (DFQ g (1024 * ((n + 1) % 8)) ((n + 1) / 8)) (holds m c g hg ⟨n + 1, hn⟩)
        (fun a d => by
          rw [p.dq, DQ_next, if_pos a.isLt, hm, hq])
        (fun a => by
          rw [p.dfq, DFQ_next, if_pos a.isLt, hm, hq])
      rw [coord1] at h
      exact h

/-- The key-side gradients of head `h`. -/
def DK (g : Gl) (h b x : ℕ) : ℝ := ∑ a ∈ Finset.range 8192, TG g h b a * g.q a (128 * h + x)
def DV (g : Gl) (h b x : ℕ) : ℝ := ∑ a ∈ Finset.range 8192, PG g h b a * g.d a (128 * h + x)
def DF (g : Gl) (h b : ℕ) : ℝ := -∑ a ∈ Finset.range 8192, TG g h b a

theorem final_7 (c : Dev nD) (g : Gl) (hg : Finds m c g) :
    (dats m 0 c).arrAt 7 cfg0.N = fun y : S8192x1024.Idx => ((DQ g 8192 ((y 1).val / 128) (y 0).val ((y 1).val % 128) : ℝ) : EReal) := by
  refine (dats m 0 c).arrAt_eq_of_covers 7 _ (by decide +kernel) fun t hf y => ?_
  obtain ⟨-, -, -, -, -, -, -, i7, i8, i9, i10, i11⟩ := idx t
  blk_simp [i7]
  rw [after_7]
  idx_vars y
  have ht := lt64 t
  have hh : t.val / 8 < 8 := by omega
  have hx : ∀ d : Fin 128, 128 * (t.val / 8) + d.val < 1024 := fun d => by have := d.isLt; omega
  have hr : ∀ r : Fin 1024, 1024 * (t.val % 8) + r.val < 8192 := fun r => by have := r.isLt; omega
  have p := stAt_upto m c g hg t.val t.isLt
  have hf' := (flush0_7 t).mp hf
  show (stAt m c t.val t.isLt).dq (ix2 y0 y1) = ((DQ g 8192 ((t.val / 8 * 128 + y1.val) / 128) y0.val ((t.val / 8 * 128 + y1.val) % 128) : ℝ) : EReal)
  have q1 : (t.val / 8 * 128 + y1.val) / 128 = t.val / 8 := by have := y1.isLt; omega
  have q2 : (t.val / 8 * 128 + y1.val) % 128 = y1.val := by have := y1.isLt; omega
  rw [q1, q2, p.dq, DQ_next, if_pos y0.isLt, hf']

theorem final_8 (c : Dev nD) (g : Gl) (hg : Finds m c g) :
    (dats m 0 c).arrAt 8 cfg0.N = fun y : S8x1x8192.Idx => ((DFQ g 8192 (y 0).val (y 2).val : ℝ) : EReal) := by
  refine (dats m 0 c).arrAt_eq_of_covers 8 _ (by decide +kernel) fun t hf y => ?_
  obtain ⟨-, -, -, -, -, -, -, i7, i8, i9, i10, i11⟩ := idx t
  blk_simp [i8]
  rw [after_8]
  idx_vars y
  have ht := lt64 t
  have hh : t.val / 8 < 8 := by omega
  have hx : ∀ d : Fin 128, 128 * (t.val / 8) + d.val < 1024 := fun d => by have := d.isLt; omega
  have hr : ∀ r : Fin 1024, 1024 * (t.val % 8) + r.val < 8192 := fun r => by have := r.isLt; omega
  have p := stAt_upto m c g hg t.val t.isLt
  have hf' := (flush0_8 t).mp hf
  have z0 : y0 = 0 := Subsingleton.elim _ _
  have z1 : y1 = 0 := Subsingleton.elim _ _
  subst z0 z1
  show (stAt m c t.val t.isLt).dfq (ix3 0 0 y2) = ((DFQ g 8192 (t.val / 8) y2.val : ℝ) : EReal)
  rw [p.dfq, DFQ_next, if_pos y2.isLt, hf']

theorem final_9 (c : Dev nD) (g : Gl) (hg : Finds m c g) :
    (dats m 0 c).arrAt 9 cfg0.N = fun y : S8192x1024.Idx => ((DK g ((y 1).val / 128) (y 0).val ((y 1).val % 128) : ℝ) : EReal) := by
  refine (dats m 0 c).arrAt_eq_of_covers 9 _ (by decide +kernel) fun t hf y => ?_
  obtain ⟨-, -, -, -, -, -, -, i7, i8, i9, i10, i11⟩ := idx t
  blk_simp [i9]
  rw [after_9]
  idx_vars y
  have ht := lt64 t
  have hh : t.val / 8 < 8 := by omega
  have hx : ∀ d : Fin 128, 128 * (t.val / 8) + d.val < 1024 := fun d => by have := d.isLt; omega
  have hr : ∀ r : Fin 1024, 1024 * (t.val % 8) + r.val < 8192 := fun r => by have := r.isLt; omega
  have p := stAt_upto m c g hg t.val t.isLt
  show (stAt m c t.val t.isLt).acc.1 (ix2 y0 y1) = ((DK g ((t.val / 8 * 128 + y1.val) / 128) (t.val % 8 * 1024 + y0.val) ((t.val / 8 * 128 + y1.val) % 128) : ℝ) : EReal)
  have q1 : (t.val / 8 * 128 + y1.val) / 128 = t.val / 8 := by have := y1.isLt; omega
  have q2 : (t.val / 8 * 128 + y1.val) % 128 = y1.val := by have := y1.isLt; omega
  rw [q1, q2, Nat.mul_comm (t.val % 8), p.dk]
  rfl

theorem final_10 (c : Dev nD) (g : Gl) (hg : Finds m c g) :
    (dats m 0 c).arrAt 10 cfg0.N = fun y : S8192x1024.Idx => ((DV g ((y 1).val / 128) (y 0).val ((y 1).val % 128) : ℝ) : EReal) := by
  refine (dats m 0 c).arrAt_eq_of_covers 10 _ (by decide +kernel) fun t hf y => ?_
  obtain ⟨-, -, -, -, -, -, -, i7, i8, i9, i10, i11⟩ := idx t
  blk_simp [i10]
  rw [after_10]
  idx_vars y
  have ht := lt64 t
  have hh : t.val / 8 < 8 := by omega
  have hx : ∀ d : Fin 128, 128 * (t.val / 8) + d.val < 1024 := fun d => by have := d.isLt; omega
  have hr : ∀ r : Fin 1024, 1024 * (t.val % 8) + r.val < 8192 := fun r => by have := r.isLt; omega
  have p := stAt_upto m c g hg t.val t.isLt
  show (stAt m c t.val t.isLt).acc.2.1 (ix2 y0 y1) = ((DV g ((t.val / 8 * 128 + y1.val) / 128) (t.val % 8 * 1024 + y0.val) ((t.val / 8 * 128 + y1.val) % 128) : ℝ) : EReal)
  have q1 : (t.val / 8 * 128 + y1.val) / 128 = t.val / 8 := by have := y1.isLt; omega
  have q2 : (t.val / 8 * 128 + y1.val) % 128 = y1.val := by have := y1.isLt; omega
  rw [q1, q2, Nat.mul_comm (t.val % 8), p.dv]
  rfl

theorem final_11 (c : Dev nD) (g : Gl) (hg : Finds m c g) :
    (dats m 0 c).arrAt 11 cfg0.N = fun y : S8x8192x1.Idx => ((DF g (y 0).val (y 1).val : ℝ) : EReal) := by
  refine (dats m 0 c).arrAt_eq_of_covers 11 _ (by decide +kernel) fun t hf y => ?_
  obtain ⟨-, -, -, -, -, -, -, i7, i8, i9, i10, i11⟩ := idx t
  blk_simp [i11]
  rw [after_11]
  idx_vars y
  have ht := lt64 t
  have hh : t.val / 8 < 8 := by omega
  have hx : ∀ d : Fin 128, 128 * (t.val / 8) + d.val < 1024 := fun d => by have := d.isLt; omega
  have hr : ∀ r : Fin 1024, 1024 * (t.val % 8) + r.val < 8192 := fun r => by have := r.isLt; omega
  have p := stAt_upto m c g hg t.val t.isLt
  have z0 : y0 = 0 := Subsingleton.elim _ _
  have z2 : y2 = 0 := Subsingleton.elim _ _
  subst z0 z2
  show k0_pay1 (stAt m c t.val t.isLt).acc.2.2 (ix3 0 y1 0) = ((DF g (t.val / 8) (t.val % 8 * 1024 + y1.val) : ℝ) : EReal)
  have e1 : k0_pay1 (stAt m c t.val t.isLt).acc.2.2 (ix3 0 y1 0) = (stAt m c t.val t.isLt).acc.2.2 (ix2 y1 0) := by pointwise [k0_pay1]
  rw [e1, Nat.mul_comm (t.val % 8), p.df]
  rfl

end Cert.KernelIdeal.Fox

end
-- ==== Proof.Attn.lean ====
/- The causal softmax of one head and its gradient, in real numbers. -/
module

public import Idealize.ShloMosaic.PureOps.Ideal.Laws
public import Idealize.ShloMosaic.Lib.Pointwise
public import Mathlib.Data.EReal.Operations
public import Mathlib.Analysis.SpecialFunctions.Log.Basic
public import proofs.«01_k».proof.Proof.Heads

@[expose] public section

noncomputable section

namespace Cert.Attn

open Idealize.ShloMosaic Cert.KernelIdeal.Fox

/-- The arguments' numbers: queries, keys, values, the output's cotangent, the cumulated log gates. -/
structure Nm where
  q : ℕ → ℕ → ℝ
  k : ℕ → ℕ → ℝ
  v : ℕ → ℕ → ℝ
  f : ℕ → ℕ → ℝ
  o : ℕ → ℕ → ℝ

/-- The logit of query `a` and key `b` in head `h`, before the mask. -/
def lr (n : Nm) (h a b : ℕ) : ℝ := (∑ x : Fin 128, n.q a (128 * h + x) * n.k b (128 * h + x)) + n.f a h - n.f b h

/-- The logit under the causal mask. -/
def lg (n : Nm) (h a b : ℕ) : EReal := if b ≤ a then ((lr n h a b : ℝ) : EReal) else ⊥

def Mx (n : Nm) (h a : ℕ) : ℝ := (Finset.univ.fold max ⊥ fun b : Fin 8192 => lg n h a b).toReal

theorem fold_lg (n : Nm) (h a : ℕ) (ha : a < 8192) : (Finset.univ.fold max ⊥ fun b : Fin 8192 => lg n h a b) = ((Mx n h a : ℝ) : EReal) := by
  unfold Mx
  rw [EReal.coe_toReal]
  · refine ne_of_lt ?_
    rw [Finset.fold_max_lt]
    refine ⟨bot_lt_top, fun b _ => ?_⟩
    unfold lg
    split
    · exact EReal.coe_lt_top _
    · exact bot_lt_top
  · refine ne_of_gt ?_
    rw [Finset.lt_fold_max]
    refine Or.inr ⟨⟨a, ha⟩, Finset.mem_univ _, ?_⟩
    unfold lg
    rw [if_pos (le_refl _)]
    exact EReal.bot_lt_coe _

/-- The weights before they are normalised. -/
def Wt (n : Nm) (h a b : ℕ) : ℝ := if b ≤ a then Real.exp (lr n h a b - Mx n h a) else 0

theorem exp_lg (n : Nm) (h a b : ℕ) : Ideal.exp (lg n h a b - ((Mx n h a : ℝ) : EReal)) = ((Wt n h a b : ℝ) : EReal) := by
  unfold lg Wt
  split
  · rw [← EReal.coe_sub, Ideal.exp_coe]
  · rw [EReal.bot_sub, Ideal.exp_bot]
    simp

def Ls (n : Nm) (h a : ℕ) : ℝ := ∑ b : Fin 8192, Wt n h a b

theorem Wt_nonneg (n : Nm) (h a b : ℕ) : 0 ≤ Wt n h a b := by
  unfold Wt
  split
  · exact (Real.exp_pos _).le
  · exact le_refl _

theorem Ls_pos (n : Nm) (h a : ℕ) (ha : a < 8192) : 0 < Ls n h a := by
  unfold Ls
  refine Finset.sum_pos' (fun b _ => Wt_nonneg n h a b) ⟨⟨a, ha⟩, Finset.mem_univ _, ?_⟩
  unfold Wt
  rw [if_pos (le_refl _)]
  exact Real.exp_pos _

/-- The products of the output's cotangent with the values. -/
def Dp (n : Nm) (h a b : ℕ) : ℝ := ∑ x : Fin 128, n.o a (128 * h + x) * n.v b (128 * h + x)

/-- The output's row product with its cotangent, as the output is formed. -/
def Dl (n : Nm) (h a : ℕ) : ℝ := ∑ x : Fin 128, n.o a (128 * h + x) * ∑ b : Fin 8192, n.v b (128 * h + x) * (Wt n h a b * (1 / Ls n h a))

theorem Dl_eq (n : Nm) (h a : ℕ) : Dl n h a = ∑ b : Fin 8192, Dp n h a b * (Wt n h a b * (1 / Ls n h a)) := by
  unfold Dl Dp
  simp only [Finset.mul_sum, Finset.sum_mul]
  rw [Finset.sum_comm]
  refine Finset.sum_congr rfl fun b _ => Finset.sum_congr rfl fun x _ => ?_
  ring

/-- What the region is given. -/
def gl (n : Nm) : Gl where
  q := n.q
  d := n.o
  k := n.k
  v := n.v
  f := n.f
  l h a := Mx n h a + Real.log (Ls n h a) - n.f a h
  e := Dl n

theorem PG_gl (n : Nm) (h b a : ℕ) (ha : a < 8192) : PG (gl n) h b a = Wt n h a b * (1 / Ls n h a) := by
  unfold PG Wt
  split
  · have hL := Ls_pos n h a ha
    have e1 : (∑ x : Fin 128, (gl n).k b (128 * h + x) * (gl n).q a (128 * h + x)) - (gl n).f b h - (gl n).l h a
        = (lr n h a b - Mx n h a) - Real.log (Ls n h a) := by
      unfold gl lr
      dsimp only
      have e2 : (∑ x : Fin 128, n.k b (128 * h + x) * n.q a (128 * h + x)) = ∑ x : Fin 128, n.q a (128 * h + x) * n.k b (128 * h + x) :=
        Finset.sum_congr rfl fun x _ => mul_comm _ _
      rw [e2]
      ring
    rw [e1, Real.exp_sub, Real.exp_log hL]
    ring
  · ring

/-- The gradient of a logit, as the softmax's own rule has it. -/
def Ds (n : Nm) (h a b : ℕ) : ℝ :=
  if b ≤ a then (Dp n h a b * (1 / Ls n h a) + -∑ b' : Fin 8192, Dp n h a b' * (1 * (1 / (Ls n h a * Ls n h a))) * Wt n h a b') * Wt n h a b else 0

theorem TG_gl (n : Nm) (h b a : ℕ) (ha : a < 8192) : TG (gl n) h b a = Ds n h a b := by
  unfold TG Ds
  rw [PG_gl n h b a ha]
  by_cases hb : b ≤ a
  · rw [if_pos hb]
    have hL := (Ls_pos n h a ha).ne'
    have e1 : (∑ x : Fin 128, (gl n).v b (128 * h + x) * (gl n).d a (128 * h + x)) = Dp n h a b :=
      Finset.sum_congr rfl fun x _ => mul_comm _ _
    have e2 : ∑ b' : Fin 8192, Dp n h a b' * (1 * (1 / (Ls n h a * Ls n h a))) * Wt n h a b' = Dl n h a * (1 / Ls n h a) := by
      rw [Dl_eq, Finset.sum_mul]
      refine Finset.sum_congr rfl fun b' _ => ?_
      field_simp
    rw [e1, e2]
    show _ * (_ - Dl n h a) = _
    ring
  · rw [if_neg hb]
    unfold Wt
    rw [if_neg hb]
    ring

theorem range_sum (g : ℕ → ℝ) : ∑ b ∈ Finset.range 8192, g b = ∑ b : Fin 8192, g b := Finset.sum_range g

end Cert.Attn

end
-- ==== Proof.Ref.lean ====
/- The reference's stages, read in real numbers. -/
module

public import proofs.«01_k».proof.Proof.Attn
public import proofs.«01_k».proof.Proof.Gen.ReferenceIdeal.Read

@[expose] public section

set_option maxRecDepth 16384

noncomputable section

namespace Cert.Attn

open Idealize.ShloMosaic Idealize.ShloMosaic.TcCoe Cert.ReferenceIdeal Cert.ReferenceIdeal.Read
open Cert.KernelIdeal.Fox (coe_sum coe_dot PG TG DQ DFQ DK DV DF)

/-- The arguments hold the numbers `n`. -/
structure Args (n : Nm) (x0 x1 x2 : S8192x1024.Idx → EReal) (x3 : S8192x8.Idx → EReal) (x4 : S8192x1024.Idx → EReal) : Prop where
  q : ∀ (a : Fin 8192) (x : Fin 1024), x0 (ix2 a x) = ((n.q a x : ℝ) : EReal)
  k : ∀ (a : Fin 8192) (x : Fin 1024), x1 (ix2 a x) = ((n.k a x : ℝ) : EReal)
  v : ∀ (a : Fin 8192) (x : Fin 1024), x2 (ix2 a x) = ((n.v a x : ℝ) : EReal)
  f : ∀ (a : Fin 8192) (h : Fin 8), x3 (ix2 a h) = ((n.f a h : ℝ) : EReal)
  o : ∀ (a : Fin 8192) (x : Fin 1024), x4 (ix2 a x) = ((n.o a x : ℝ) : EReal)

variable {n : Nm} {x0 x1 x2 : S8192x1024.Idx → EReal} {x3 : S8192x8.Idx → EReal} {x4 : S8192x1024.Idx → EReal}

theorem head_q (H : Args n x0 x1 x2 x3 x4) (a : Fin 8192) (h : Fin 8) (x : Fin 128) :
    val_main_v0 (F := Ideal) x0 (ix3 a h x) = ((n.q a (128 * h + x) : ℝ) : EReal) := by
  pointwise [val_main_v0]
  rw [H.q]
  show ((n.q a (h.val * 128 + x.val) : ℝ) : EReal) = _
  rw [Nat.mul_comm h.val 128]

theorem head_k (H : Args n x0 x1 x2 x3 x4) (a : Fin 8192) (h : Fin 8) (x : Fin 128) :
    val_main_v1 (F := Ideal) x1 (ix3 a h x) = ((n.k a (128 * h + x) : ℝ) : EReal) := by
  pointwise [val_main_v1]
  rw [H.k]
  show ((n.k a (h.val * 128 + x.val) : ℝ) : EReal) = _
  rw [Nat.mul_comm h.val 128]

theorem head_v (H : Args n x0 x1 x2 x3 x4) (a : Fin 8192) (h : Fin 8) (x : Fin 128) :
    val_main_v2 (F := Ideal) x2 (ix3 a h x) = ((n.v a (128 * h + x) : ℝ) : EReal) := by
  pointwise [val_main_v2]
  rw [H.v]
  show ((n.v a (h.val * 128 + x.val) : ℝ) : EReal) = _
  rw [Nat.mul_comm h.val 128]

theorem head_o (H : Args n x0 x1 x2 x3 x4) (a : Fin 8192) (h : Fin 8) (x : Fin 128) :
    val_main_v51 (F := Ideal) x4 (ix3 h x a) = ((n.o a (128 * h + x) : ℝ) : EReal) := by
  pointwise [val_main_v51, val_main_v50]
  rw [H.o]
  show ((n.o a (h.val * 128 + x.val) : ℝ) : EReal) = _
  rw [Nat.mul_comm h.val 128]

theorem logits (H : Args n x0 x1 x2 x3 x4) (h : Fin 8) (a b : Fin 8192) :
    val_main_v12 (F := Ideal) x0 x1 x3 (ix3 h a b) = ((lr n h a b : ℝ) : EReal) := by
  pointwise [val_main_v12, val_main_v8, val_main_v4, val_main_v7, val_main_v6, val_main_v5, val_main_v11, val_main_v10, val_main_v9]
  rw [coe_dot (head_q H a h) (head_k H b h), H.f, H.f, ← EReal.coe_add, ← EReal.coe_sub]
  rfl

theorem bot_word : Ideal.ofBits FTy.f32 4286578688#32 = ⊥ := by simp [Ideal.ofBits, Ideal.ieee]

/-- The causal mask. -/
theorem masked {x y : EReal} (a b : Fin 8192) :
    Scalar.select (IntOp.cmpi CmpIPredicate.sle (BitVec.ofNat 32 b.val) (BitVec.ofNat 32 a.val)) x y = if b.val ≤ a.val then x else y := by
  have hb : IntOp.cmpi CmpIPredicate.sle (BitVec.ofNat 32 b.val) (BitVec.ofNat 32 a.val) = 1#1 ↔ b.val ≤ a.val := by
    have := a.isLt; have := b.isLt
    word_cmp
  by_cases h : b.val ≤ a.val
  · rw [hb.mpr h, if_pos h]
    simp [Scalar.select]
  · have h0 : IntOp.cmpi CmpIPredicate.sle (BitVec.ofNat 32 b.val) (BitVec.ofNat 32 a.val) = 0#1 := by
      rcases BitVec.eq_zero_or_eq_one (IntOp.cmpi CmpIPredicate.sle (BitVec.ofNat 32 b.val) (BitVec.ofNat 32 a.val)) with e | e
      · exact e
      · exact absurd (hb.mp e) h
    rw [h0, if_neg h]
    simp [Scalar.select]

theorem masked_logits (H : Args n x0 x1 x2 x3 x4) (h : Fin 8) (a b : Fin 8192) :
    val_main_v18_0 (F := Ideal) x0 x1 x3 (ix3 h a b) = lg n h a b := by
  pointwise [val_main_v18_0, val_main_v18_1, val_main_v17, val_main_v16, val_main_v15, val_main_v14, val_main_v13, val_main_v3, val_main_call0_v2, val_main_call0_v0, val_main_cst]
  rw [masked, logits H]
  unfold lg
  split
  · rfl
  · exact bot_word

/-- The largest of a row. -/
theorem row_max (y : FVec Ideal S8x8192x8192 .f32) (h : Fin 8) (a : Fin 8192) :
    Host.reduce (FloatOps.maximumf (F := Ideal) (φ := .f32)) y (constant (F := Ideal) S_ .f32 0xFF800000#32) Gen.reducesTo_S8x8192x8192_S8x8192_d2 Gen.h_S_ (ix2 h a)
      = Finset.univ.fold max ⊥ fun b : Fin 8192 => y (ix3 h a b) := by
  pointwise []
  rw [bot_word]

theorem row_top (H : Args n x0 x1 x2 x3 x4) (h : Fin 8) (a : Fin 8192) :
    val_main_v19 (F := Ideal) x0 x1 x3 (ix2 h a) = ((Mx n h a : ℝ) : EReal) := by
  unfold val_main_v19 val_main_cst_0
  rw [row_max, ← fold_lg n h a a.isLt]
  congr 1
  funext b
  exact masked_logits H h a b

theorem row_top' (H : Args n x0 x1 x2 x3 x4) (h : Fin 8) (a : Fin 8192) :
    val_main_v26 (F := Ideal) x0 x1 x3 (ix2 h a) = ((Mx n h a : ℝ) : EReal) := by
  have e : val_main_v25 (F := Ideal) (ix2 h a) = ⊥ := by
    pointwise [val_main_v25, val_main_cst_2]
    exact bot_word
  rw [val_main_v26_apply, row_top H, e]
  exact max_eq_right bot_le

theorem weights (H : Args n x0 x1 x2 x3 x4) (h : Fin 8) (a b : Fin 8192) :
    val_main_v39 (F := Ideal) x0 x1 x3 (ix3 h a b) = ((Wt n h a b : ℝ) : EReal) := by
  pointwise [val_main_v39, val_main_v38, val_main_v37, val_main_v36]
  rw [masked_logits H, row_top' H, exp_lg]

theorem row_sum (H : Args n x0 x1 x2 x3 x4) (h : Fin 8) (a : Fin 8192) :
    val_main_v40 (F := Ideal) x0 x1 x3 (ix2 h a) = ((Ls n h a : ℝ) : EReal) := by
  pointwise [val_main_v40, val_main_cst_8]
  rw [Finset.sum_congr rfl fun b _ => weights H h a b, coe_sum]
  rfl

theorem probs (H : Args n x0 x1 x2 x3 x4) (h : Fin 8) (a b : Fin 8192) :
    val_main_v43 (F := Ideal) x0 x1 x3 (ix3 h a b) = ((Wt n h a b * (1 / Ls n h a) : ℝ) : EReal) := by
  pointwise [val_main_v43, val_main_v42, val_main_v41]
  rw [weights H, row_sum H, Ideal.div_coe (Ls_pos n h a a.isLt).ne', EReal.coe_mul]

theorem dots (H : Args n x0 x1 x2 x3 x4) (h : Fin 8) (a b : Fin 8192) :
    val_main_v52 (F := Ideal) x2 x4 (ix3 h a b) = ((Dp n h a b : ℝ) : EReal) := by
  pointwise [val_main_v52]
  exact coe_dot (fun x => head_o H a h x) (fun x => head_v H b h x)

theorem grads (H : Args n x0 x1 x2 x3 x4) (h : Fin 8) (a b : Fin 8192) :
    val_main_v67 (F := Ideal) x0 x1 x2 x3 x4 (ix3 h a b) = ((TG (gl n) h b a : ℝ) : EReal) := by
  have hL := (Ls_pos n h a a.isLt).ne'
  have hLL : Ls n h a * Ls n h a ≠ 0 := mul_ne_zero hL hL
  have e66 : val_main_v66 (F := Ideal) x0 x1 x2 x3 x4 (ix3 h a b)
      = (((Dp n h a b * (1 / Ls n h a) + -∑ b' : Fin 8192, Dp n h a b' * (1 * (1 / (Ls n h a * Ls n h a))) * Wt n h a b') * Wt n h a b : ℝ) : EReal) := by
    pointwise [val_main_v66, val_main_v65, val_main_v64, val_main_v63, val_main_cst_11, val_main_v62, val_main_v61, val_main_v41, val_main_v60, val_main_v59, val_main_v58, val_main_cst_10, val_main_v57, val_main_v56, val_main_v55, val_main_v46, val_main_v45, val_main_v44, val_main_cst_9]
    rw [row_sum H, dots H, weights H, Ideal.div_coe hL, ← EReal.coe_mul, ← EReal.coe_mul, Ideal.div_coe hLL]
    have e1 : ∀ b' : Fin 8192, val_main_v52 (F := Ideal) x2 x4 (ix3 h a b') * (1 * ((1 / (Ls n h a * Ls n h a) : ℝ) : EReal)) * val_main_v39 (F := Ideal) x0 x1 x3 (ix3 h a b')
        = ((Dp n h a b' * (1 * (1 / (Ls n h a * Ls n h a))) * Wt n h a b' : ℝ) : EReal) := fun b' => by
      rw [dots H, weights H, EReal.coe_mul, EReal.coe_mul, EReal.coe_mul 1, EReal.coe_one]
    rw [Finset.sum_congr rfl fun b' _ => e1 b', coe_sum]
    simp only [Finset.univ_unique, Finset.sum_singleton]
    rw [← EReal.coe_neg, ← EReal.coe_add, ← EReal.coe_mul]
    simp only [one_mul]
  have e67 : val_main_v67 (F := Ideal) x0 x1 x2 x3 x4 (ix3 h a b)
      = if b.val ≤ a.val then val_main_v66 (F := Ideal) x0 x1 x2 x3 x4 (ix3 h a b) else 0 := by
    pointwise [val_main_v67, val_main_v18_1, val_main_v17, val_main_v16, val_main_v15, val_main_v14, val_main_v13, val_main_v3, val_main_call1_v0, val_main_call1_cst]
    rw [masked]
  rw [e67, e66, TG_gl n h b a a.isLt]
  unfold Ds
  split
  · rfl
  · simp

theorem ref_dv (H : Args n x0 x1 x2 x3 x4) (b : Fin 8192) (x : Fin 1024) :
    val_main_v81 (F := Ideal) x0 x1 x3 x4 (ix2 b x) = ((DV (gl n) (x.val / 128) b (x.val % 128) : ℝ) : EReal) := by
  have hx : x.val / 128 < 8 := by have := x.isLt; omega
  have hm : x.val % 128 < 128 := Nat.mod_lt _ (by decide)
  have e : val_main_v81 (F := Ideal) x0 x1 x3 x4 (ix2 b x)
      = ∑ a : Fin 8192, val_main_v51 (F := Ideal) x4 (ix3 ⟨x.val / 128, hx⟩ ⟨x.val % 128, hm⟩ a) * val_main_v43 (F := Ideal) x0 x1 x3 (ix3 ⟨x.val / 128, hx⟩ a b) := by
    pointwise [val_main_v81, val_main_v54, val_main_v53]
  rw [e, coe_dot (fun a => head_o H a ⟨x.val / 128, hx⟩ ⟨x.val % 128, hm⟩) (fun a => probs H ⟨x.val / 128, hx⟩ a b)]
  unfold DV
  rw [range_sum]
  refine congrArg Real.toEReal (Finset.sum_congr rfl fun a _ => ?_)
  rw [PG_gl n _ _ _ a.isLt]
  exact mul_comm _ _

theorem ref_dk (H : Args n x0 x1 x2 x3 x4) (b : Fin 8192) (x : Fin 1024) :
    val_main_v82 (F := Ideal) x0 x1 x2 x3 x4 (ix2 b x) = ((DK (gl n) (x.val / 128) b (x.val % 128) : ℝ) : EReal) := by
  have hx : x.val / 128 < 8 := by have := x.isLt; omega
  have hm : x.val % 128 < 128 := Nat.mod_lt _ (by decide)
  have e : val_main_v82 (F := Ideal) x0 x1 x2 x3 x4 (ix2 b x)
      = ∑ a : Fin 8192, val_main_v67 (F := Ideal) x0 x1 x2 x3 x4 (ix3 ⟨x.val / 128, hx⟩ a b) * val_main_v0 (F := Ideal) x0 (ix3 a ⟨x.val / 128, hx⟩ ⟨x.val % 128, hm⟩) := by
    pointwise [val_main_v82, val_main_v78, val_main_v77]
  rw [e, coe_dot (fun a => grads H ⟨x.val / 128, hx⟩ a b) (fun a => head_q H a ⟨x.val / 128, hx⟩ ⟨x.val % 128, hm⟩)]
  unfold DK
  rw [range_sum]
  rfl

theorem ref_dq (H : Args n x0 x1 x2 x3 x4) (a : Fin 8192) (x : Fin 1024) :
    val_main_v83 (F := Ideal) x0 x1 x2 x3 x4 (ix2 a x) = ((DQ (gl n) 8192 (x.val / 128) a (x.val % 128) : ℝ) : EReal) := by
  have hx : x.val / 128 < 8 := by have := x.isLt; omega
  have hm : x.val % 128 < 128 := Nat.mod_lt _ (by decide)
  have e : val_main_v83 (F := Ideal) x0 x1 x2 x3 x4 (ix2 a x)
      = ∑ b : Fin 8192, val_main_v67 (F := Ideal) x0 x1 x2 x3 x4 (ix3 ⟨x.val / 128, hx⟩ a b) * val_main_v1 (F := Ideal) x1 (ix3 b ⟨x.val / 128, hx⟩ ⟨x.val % 128, hm⟩) := by
    pointwise [val_main_v83, val_main_v80, val_main_v79]
  rw [e, coe_dot (fun b => grads H ⟨x.val / 128, hx⟩ a b) (fun b => head_k H b ⟨x.val / 128, hx⟩ ⟨x.val % 128, hm⟩)]
  unfold DQ
  rw [range_sum]
  rfl

theorem ref_dfq (H : Args n x0 x1 x2 x3 x4) (h : Fin 8) (a : Fin 8192) :
    val_main_v85 (F := Ideal) x0 x1 x2 x3 x4 (ix3 h 0 a) = ((DFQ (gl n) 8192 h a : ℝ) : EReal) := by
  pointwise [val_main_v85, val_main_v84, val_main_v76, val_main_v75, val_main_cst_15, val_main_v74, val_main_v73, val_main_cst_14]
  simp only [Finset.univ_unique, Finset.sum_singleton]
  rw [Finset.sum_congr rfl fun b _ => grads H h a b, coe_sum]
  unfold DFQ
  rw [range_sum]

theorem ref_df (H : Args n x0 x1 x2 x3 x4) (h : Fin 8) (b : Fin 8192) :
    val_main_v87 (F := Ideal) x0 x1 x2 x3 x4 (ix3 h b 0) = ((DF (gl n) h b : ℝ) : EReal) := by
  pointwise [val_main_v87, val_main_v86, val_main_v72, val_main_v71, val_main_cst_13, val_main_v70, val_main_v69, val_main_v68, val_main_cst_12]
  simp only [Finset.univ_unique, Finset.sum_singleton]
  have e : ∀ a : Fin 8192, -val_main_v67 (F := Ideal) x0 x1 x2 x3 x4 (ix3 h a b) = ((-TG (gl n) h b a : ℝ) : EReal) := fun a => by
    rw [grads H, EReal.coe_neg]
  rw [Finset.sum_congr rfl fun a _ => e a, coe_sum]
  unfold DF
  rw [range_sum, Finset.sum_neg_distrib]

end Cert.Attn

end
-- ==== Proof.Host.lean ====
/- What the host's lines hand the region, read in real numbers. -/
module

public import proofs.«01_k».proof.Proof.Ref
public import Idealize.ShloMosaic.Lib.Claim

@[expose] public section

set_option maxRecDepth 16384

noncomputable section

namespace Cert.Attn

open Idealize.ShloMosaic Idealize.ShloMosaic.TcCoe Cert.KernelIdeal Cert.KernelIdeal.Gen
open Cert.KernelIdeal.Fox (coe_sum coe_dot Finds)
open Cert.ReferenceIdeal.Read (val_main_v18_0 val_main_v19 val_main_v49)

variable (m : (ℓ : Loc nD τ sig) → Buf (Elt Ideal) ℓ) (c : Dev nD)

/-- The statistic of the logits, as the host forms it from the masked logits and their rows' largest. -/
def lseRow (s : FVec Ideal S8x8192x8192 .f32) (mx : FVec Ideal S8x8192 .f32) (F : FVec Ideal S8192x8 .f32) : FVec Ideal S8x1x8192 .f32 :=
  let ex : FVec Ideal S8x8192x8192 .f32 := Host.exp (subf s (broadcastInDim S8x8192x8192 ![0, 1, 2] Gen.bcast_S8x8192x1_S8x8192x8192_0_1_2
    (broadcastInDim S8x8192x1 ![0, 1] Gen.bcast_S8x8192_S8x8192x1_0_1 mx)))
  let sm : FVec Ideal S8x8192 .f32 := Host.reduceAdd ex (constant (F := Ideal) S_ .f32 0x00000000#32) Gen.reducesTo_S8x8192x8192_S8x8192_d2 Gen.h_S_
  broadcastInDim S8x1x8192 ![0, 2] Gen.bcast_S8x8192_S8x1x8192_0_2
    (subf (addf mx (Host.log sm)) (transpose S8x8192 [1, 0] F Gen.transposes_S8192x8_S8x8192_1_0))

/-- The statistic of the output and its cotangent, as the host forms it from the output. -/
def deltaRow (out o : FVec Ideal S8192x1024 .f32) : FVec Ideal S8x1x8192 .f32 :=
  broadcastInDim S8x1x8192 ![0, 2] Gen.bcast_S8x8192_S8x1x8192_0_2
    (transpose S8x8192 [1, 0]
      (Host.reduceAdd (shapeCast S8192x8x128 (mulf o out) Gen.shapeCasts_S8192x1024_S8192x8x128 : FVec Ideal S8192x8x128 .f32)
        (constant (F := Ideal) S_ .f32 0x00000000#32) Gen.reducesTo_S8192x8x128_S8192x8_d2 Gen.h_S_ : FVec Ideal S8192x8 .f32)
      Gen.transposes_S8192x8_S8x8192_1_0)

theorem V_42 : V m c main_v42 = lseRow (val_main_v18_0 (F := Ideal) (m ((c : Thread nD τ).loc main_arg0)) (m ((c : Thread nD τ).loc main_arg1)) (m ((c : Thread nD τ).loc main_arg3))) (val_main_v19 (F := Ideal) (m ((c : Thread nD τ).loc main_arg0)) (m ((c : Thread nD τ).loc main_arg1)) (m ((c : Thread nD τ).loc main_arg3)))
    (m ((c : Thread nD τ).loc main_arg3)) := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

theorem V_47 : V m c main_v47 = deltaRow (val_main_v49 (F := Ideal) (m ((c : Thread nD τ).loc main_arg0)) (m ((c : Thread nD τ).loc main_arg1)) (m ((c : Thread nD τ).loc main_arg2)) (m ((c : Thread nD τ).loc main_arg3))) (m ((c : Thread nD τ).loc main_arg4)) := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

theorem V_48 (i : S8192x1024.Idx) : V m c main_v48 i = m ((c : Thread nD τ).loc main_arg0) i := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

theorem V_49 (i : S8192x1024.Idx) : V m c main_v49 i = m ((c : Thread nD τ).loc main_arg1) i := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

theorem V_50 (i : S8192x1024.Idx) : V m c main_v50 i = m ((c : Thread nD τ).loc main_arg2) i := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

theorem V_51 (i : S8192x1024.Idx) : V m c main_v51 i = m ((c : Thread nD τ).loc main_arg4) i := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp
  rfl

theorem V_52 : V m c main_v52 = broadcastInDim S8x8192x1 ![0, 1] Gen.bcast_S8x8192_S8x8192x1_0_1
    (transpose S8x8192 [1, 0] (m ((c : Thread nD τ).loc main_arg3)) Gen.transposes_S8192x8_S8x8192_1_0) := by
  simp only [V, hostOps0, hostOps0_1, hostOps0_2, List.flatten_cons, List.flatten_nil, List.append_nil, List.cons_append, List.nil_append,
    StableHlo.TRef.nullary, StableHlo.TRef.ternary, StableHlo.TRef.unary, StableHlo.TRef.toBuf, StableHlo.TRef.ofBuf, cast_eq]
  after_results_simp

end Cert.Attn

end
-- ==== Proof.Entry.lean ====
/- What the region finds, in real numbers. -/
module

public import proofs.«01_k».proof.Proof.Host
public import Idealize.ShloMosaic.Lib.Claim

@[expose] public section

set_option maxRecDepth 16384

noncomputable section

namespace Cert.Attn

open Idealize.ShloMosaic Idealize.ShloMosaic.TcCoe Cert.KernelIdeal Cert.KernelIdeal.Gen
open Cert.KernelIdeal.Fox (coe_sum coe_dot Finds)
open Cert.ReferenceIdeal.Read (val_main_v18_0 val_main_v19 val_main_v49)

variable (m : (ℓ : Loc nD τ sig) → Buf (Elt Ideal) ℓ) (c : Dev nD)

/-! ### The values -/

variable {n : Nm} {x0 x1 x2 : S8192x1024.Idx → EReal} {x3 : S8192x8.Idx → EReal} {x4 : S8192x1024.Idx → EReal}

theorem lseRow_at (s : FVec Ideal S8x8192x8192 .f32) (M : FVec Ideal S8x8192 .f32) (F : FVec Ideal S8192x8 .f32)
    (hs : ∀ (h : Fin 8) (a b : Fin 8192), s (ix3 h a b) = lg n h a b) (hm : ∀ (h : Fin 8) (a : Fin 8192), M (ix2 h a) = ((Mx n h a : ℝ) : EReal))
    (hF : ∀ (a : Fin 8192) (h : Fin 8), F (ix2 a h) = ((n.f a h : ℝ) : EReal)) (h : Fin 8) (a : Fin 8192) :
    lseRow s M F (ix3 h 0 a) = (((gl n).l h a : ℝ) : EReal) := by
  unfold lseRow
  dsimp only
  pointwise []
  have e : ∀ b : Fin 8192, Ideal.exp (s (ix3 h a b) - M (ix2 h a)) = ((Wt n h a b : ℝ) : EReal) := fun b => by rw [hs, hm, exp_lg]
  rw [Finset.sum_congr rfl fun b _ => e b, coe_sum, hm, hF]
  have hL := Ls_pos n h a a.isLt
  have hl : Ideal.log (((∑ b : Fin 8192, Wt n h a b : ℝ)) : EReal) = ((Real.log (Ls n h a) : ℝ) : EReal) := by
    show Ideal.log ((Ls n h a : ℝ) : EReal) = _
    rw [Ideal.log_coe, if_neg (not_le.mpr hL)]
  rw [hl, ← EReal.coe_add, ← EReal.coe_sub]
  rfl

theorem output (H : Args n x0 x1 x2 x3 x4) (a : Fin 8192) (h : Fin 8) (x : Fin 128) (hx : h.val * 128 + x.val < 1024) :
    val_main_v49 (F := Ideal) x0 x1 x2 x3 (ix2 a ⟨h.val * 128 + x.val, hx⟩)
      = ((∑ b : Fin 8192, n.v b (128 * h + x) * (Wt n h a b * (1 / Ls n h a)) : ℝ) : EReal) := by
  have e : val_main_v49 (F := Ideal) x0 x1 x2 x3 (ix2 a ⟨h.val * 128 + x.val, hx⟩) = ∑ b : Fin 8192, Cert.ReferenceIdeal.Read.val_main_v2 (F := Ideal) x2 (ix3 b h x)
      * Cert.ReferenceIdeal.Read.val_main_v43 (F := Ideal) x0 x1 x3 (ix3 h a b) := by
    have e1 : (h.val * 128 + x.val) / 128 = h.val := by have := x.isLt; omega
    have e2 : (h.val * 128 + x.val) % 128 = x.val := by have := x.isLt; omega
    pointwise [val_main_v49, Cert.ReferenceIdeal.Read.val_main_v48, Cert.ReferenceIdeal.Read.val_main_v47]
  rw [e, coe_dot (fun b => head_v H b h x) (fun b => probs H h a b)]

theorem deltaRow_at (H : Args n x0 x1 x2 x3 x4) (h : Fin 8) (a : Fin 8192) :
    deltaRow (val_main_v49 (F := Ideal) x0 x1 x2 x3) x4 (ix3 h 0 a) = (((gl n).e h a : ℝ) : EReal) := by
  have hx : ∀ x : Fin 128, h.val * 128 + x.val < 1024 := fun x => by have := h.isLt; have := x.isLt; omega
  have e : ∀ x : Fin 128, x4 (ix2 a ⟨h.val * 128 + x.val, hx x⟩) * val_main_v49 (F := Ideal) x0 x1 x2 x3 (ix2 a ⟨h.val * 128 + x.val, hx x⟩)
      = ((n.o a (128 * h + x) * ∑ b : Fin 8192, n.v b (128 * h + x) * (Wt n h a b * (1 / Ls n h a)) : ℝ) : EReal) := fun x => by
    rw [output H, H.o, EReal.coe_mul]
    show ((n.o a (h.val * 128 + x.val) : ℝ) : EReal) * _ = _
    rw [Nat.mul_comm h.val 128]
  generalize val_main_v49 (F := Ideal) x0 x1 x2 x3 = y at e ⊢
  pointwise [deltaRow]
  rw [Finset.sum_congr rfl fun x _ => e x, coe_sum]
  rfl

/-- The region finds the arguments' numbers. -/
theorem finds (H : Args n (m ((c : Thread nD τ).loc main_arg0)) (m ((c : Thread nD τ).loc main_arg1)) (m ((c : Thread nD τ).loc main_arg2))
    (m ((c : Thread nD τ).loc main_arg3)) (m ((c : Thread nD τ).loc main_arg4))) : Finds m c (gl n) where
  q a x := (V_48 m c _).trans (H.q a x)
  d a x := (V_51 m c _).trans (H.o a x)
  k a x := (V_49 m c _).trans (H.k a x)
  v a x := (V_50 m c _).trans (H.v a x)
  f h a := by
    rw [V_52]
    generalize m ((c : Thread nD τ).loc main_arg3) = F at H
    have e : ∀ F : FVec Ideal S8192x8 .f32, (broadcastInDim S8x8192x1 ![0, 1] Gen.bcast_S8x8192_S8x8192x1_0_1
        (transpose S8x8192 [1, 0] F Gen.transposes_S8192x8_S8x8192_1_0)) (ix3 h a 0) = F (ix2 a h) := fun F => by pointwise []
    exact (e F).trans (H.f a h)
  l h a := by
    rw [V_42]
    exact lseRow_at _ _ _ (fun h a b => masked_logits H h a b) (fun h a => row_top H h a) H.f h a
  e h a := by
    rw [V_47]
    exact deltaRow_at H h a

/-! ### The numbers of finite arguments -/

def num {r s : ℕ} (A : (⟨2, ![r, s]⟩ : Shape).Idx → EReal) (a x : ℕ) : ℝ :=
  if h : a < r ∧ x < s then (A (ix2 ⟨a, h.1⟩ ⟨x, h.2⟩)).toReal else 0

theorem num_eq {r s : ℕ} (A : (⟨2, ![r, s]⟩ : Shape).Idx → EReal) (hA : ∀ i, A i ≠ ⊤ ∧ A i ≠ ⊥) (a : Fin r) (x : Fin s) :
    A (ix2 a x) = ((num A a x : ℝ) : EReal) := by
  unfold num
  rw [dif_pos ⟨a.isLt, x.isLt⟩]
  exact (EReal.coe_toReal (hA _).1 (hA _).2).symm

theorem finite_of {x : EReal} (h : FloatOps.cmpf (F := Ideal) (φ := .f32) .olt (FloatOps.hostAbsf x) (FloatOps.ofBits (F := Ideal) .f32 0x7F800000#32) = 1#1) :
    x ≠ ⊤ ∧ x ≠ ⊥ := by
  change Ideal.cmp .olt (max x (-x)) (Ideal.ofBits .f32 0x7F800000#32) = 1#1 at h
  have htop : Ideal.ofBits FTy.f32 0x7F800000#32 = ⊤ := by simp [Ideal.ofBits, Ideal.ieee]
  rw [htop] at h
  unfold Ideal.cmp at h
  have h' : max x (-x) < ⊤ := by
    by_contra hn
    simp [hn] at h
  rw [max_lt_iff] at h'
  refine ⟨h'.1.ne, fun e => ?_⟩
  rw [e] at h'
  simp at h'

end Cert.Attn

end
-- ==== Proof.Claims.lean ====
/- The backward call's results are the reference's, array by array. -/
module

public import proofs.«01_k».proof.Defs
public import proofs.«01_k».proof.Proof.Gen.Kernel
public import proofs.«01_k».proof.Proof.Gen.Kernel.Frame
public import proofs.«01_k».proof.Proof.Gen.Pre_finite_arguments
public import proofs.«01_k».proof.Proof.Entry

@[expose] public section

set_option maxRecDepth 16384

noncomputable section

namespace Cert.Attn

open Idealize.ShloMosaic Idealize.ShloMosaic.TcCoe Idealize.SL.Sem
open Cert.KernelIdeal.Fox (DQ DFQ DK DV DF final_7 final_8 final_9 final_10 final_11 run_main frame_quiescent dats)

section Kernel

open Cert.KernelIdeal Cert.KernelIdeal.Gen

variable (m : (ℓ : Loc nD τ sig) → Buf (Elt Ideal) ℓ) (c : Dev nD)

/-- The arguments' numbers on a device. -/
def nums : Nm where
  q := num (r := 8192) (s := 1024) (m ((c.tc : Thread nD τ).loc main_arg0))
  k := num (r := 8192) (s := 1024) (m ((c.tc : Thread nD τ).loc main_arg1))
  v := num (r := 8192) (s := 1024) (m ((c.tc : Thread nD τ).loc main_arg2))
  f := num (r := 8192) (s := 8) (m ((c.tc : Thread nD τ).loc main_arg3))
  o := num (r := 8192) (s := 1024) (m ((c.tc : Thread nD τ).loc main_arg4))

theorem args (hp : Pre_KernelIdeal_finite_arguments m) : Args (nums m c) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4)) where
  q := num_eq (r := 8192) (s := 1024) _ fun i => finite_of (congrFun (hp c).1 i)
  k := num_eq (r := 8192) (s := 1024) _ fun i => finite_of (congrFun (hp c).2.1 i)
  v := num_eq (r := 8192) (s := 1024) _ fun i => finite_of (congrFun (hp c).2.2.1 i)
  f := num_eq (r := 8192) (s := 8) _ fun i => finite_of (congrFun (hp c).2.2.2.1 i)
  o := num_eq (r := 8192) (s := 1024) _ fun i => finite_of (congrFun (hp c).2.2.2.2 i)

/-- The five results. -/
def out0 (y : S8192x1024.Idx) : EReal := ((DQ (gl (nums m c)) 8192 ((y 1).val / 128) (y 0).val ((y 1).val % 128) : ℝ) : EReal)
def out1 (y : S8x1x8192.Idx) : EReal := ((DFQ (gl (nums m c)) 8192 (y 0).val (y 2).val : ℝ) : EReal)
def out2 (y : S8192x1024.Idx) : EReal := ((DK (gl (nums m c)) ((y 1).val / 128) (y 0).val ((y 1).val % 128) : ℝ) : EReal)
def out3 (y : S8192x1024.Idx) : EReal := ((DV (gl (nums m c)) ((y 1).val / 128) (y 0).val ((y 1).val % 128) : ℝ) : EReal)
def out4 (y : S8x8192x1.Idx) : EReal := ((DF (gl (nums m c)) (y 0).val (y 1).val : ℝ) : EReal)

theorem kernel_run (g : Dev nD → PrngReg) (hp : Pre_KernelIdeal_finite_arguments m) :
    θ_run (defs (F := Ideal)) (onTc (τ := τ) (main (F := Ideal))) ⟨m, fun _ => 0, g⟩ (fun r => ∀ c : Dev nD,
      r.2.mem ((c.tc : Thread nD τ).loc main_v53_0) = out0 m c
      ∧ r.2.mem ((c.tc : Thread nD τ).loc main_v53_1) = out1 m c
      ∧ r.2.mem ((c.tc : Thread nD τ).loc main_v53_2) = out2 m c
      ∧ r.2.mem ((c.tc : Thread nD τ).loc main_v53_3) = out3 m c
      ∧ r.2.mem ((c.tc : Thread nD τ).loc main_v53_4) = out4 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run defs _ _).mono (fun r h c => ?_) (θ_run_and (run_main m g) (frame_quiescent m g))
  have hF := finds m c (args m c hp)
  have hw := (h.1 c).1
  exact ⟨(hw 7).trans (final_7 m c _ hF), (hw 8).trans (final_8 m c _ hF), (hw 9).trans (final_9 m c _ hF),
    (hw 10).trans (final_10 m c _ hF), (hw 11).trans (final_11 m c _ hF), h.2.1 c⟩

end Kernel

/-- The reference's results are the same arrays. -/
theorem ref_results {n : Nm} {x0 x1 x2 : Cert.ReferenceIdeal.S8192x1024.Idx → EReal} {x3 : Cert.ReferenceIdeal.S8192x8.Idx → EReal}
    {x4 : Cert.ReferenceIdeal.S8192x1024.Idx → EReal} (H : Args n x0 x1 x2 x3 x4) :
    (Cert.ReferenceIdeal.Read.val_main_v83 (F := Ideal) x0 x1 x2 x3 x4 = fun y => ((DQ (gl n) 8192 ((y 1).val / 128) (y 0).val ((y 1).val % 128) : ℝ) : EReal))
    ∧ (Cert.ReferenceIdeal.Read.val_main_v85 (F := Ideal) x0 x1 x2 x3 x4 = fun y => ((DFQ (gl n) 8192 (y 0).val (y 2).val : ℝ) : EReal))
    ∧ (Cert.ReferenceIdeal.Read.val_main_v82 (F := Ideal) x0 x1 x2 x3 x4 = fun y => ((DK (gl n) ((y 1).val / 128) (y 0).val ((y 1).val % 128) : ℝ) : EReal))
    ∧ (Cert.ReferenceIdeal.Read.val_main_v81 (F := Ideal) x0 x1 x3 x4 = fun y => ((DV (gl n) ((y 1).val / 128) (y 0).val ((y 1).val % 128) : ℝ) : EReal))
    ∧ (Cert.ReferenceIdeal.Read.val_main_v87 (F := Ideal) x0 x1 x2 x3 x4 = fun y => ((DF (gl n) (y 0).val (y 1).val : ℝ) : EReal)) := by
  refine ⟨?_, ?_, ?_, ?_, ?_⟩ <;> funext y
  · idx_vars y
    exact ref_dq H y0 y1
  · idx_vars y
    obtain rfl : y1 = 0 := Subsingleton.elim _ _
    exact ref_dfq H y0 y2
  · idx_vars y
    exact ref_dk H y0 y1
  · idx_vars y
    exact ref_dv H y0 y1
  · idx_vars y
    obtain rfl : y2 = 0 := Subsingleton.elim _ _
    exact ref_df H y0 y1

theorem algebraic : Cert.algebraic_KernelIdeal_ReferenceIdeal_pre_finite_arguments := by
  intro m g m' g' hp hag
  refine ⟨out0 m, out1 m, out2 m, out3 m, out4 m, kernel_run m g hp, ?_⟩
  refine (θ_run Cert.ReferenceIdeal.defs _ _).mono (fun r h c => ?_) (Cert.ReferenceIdeal.Value.run m' g')
  obtain ⟨a0, a1, a2, a3, a4⟩ := hag c
  have R := ref_results (args m c hp)
  obtain ⟨h0, h1, h2, h3, h4, hr⟩ := h c
  refine ⟨h0.trans ((Cert.ReferenceIdeal.Read.val_main_v83_eq m' c).trans ?_), h1.trans ((Cert.ReferenceIdeal.Read.val_main_v85_eq m' c).trans ?_),
    h2.trans ((Cert.ReferenceIdeal.Read.val_main_v82_eq m' c).trans ?_), h3.trans ((Cert.ReferenceIdeal.Read.val_main_v81_eq m' c).trans ?_),
    h4.trans ((Cert.ReferenceIdeal.Read.val_main_v87_eq m' c).trans ?_), hr⟩
  · rw [a0, a1, a2, a3, a4]; exact R.1
  · rw [a0, a1, a2, a3, a4]; exact R.2.1
  · rw [a0, a1, a2, a3, a4]; exact R.2.2.1
  · rw [a0, a1, a3, a4]; exact R.2.2.2.1
  · rw [a0, a1, a2, a3, a4]; exact R.2.2.2.2

theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0) :=
  (θ_run Cert.ReferenceIdeal.defs _ _).mono (fun r h => ⟨fun c => (h c).2.2.2.2.2, sem_eq_zero_of_no_sems (by decide) r.2⟩)
    (Cert.ReferenceIdeal.Value.run m g)

end Cert.Attn

end
-- ==== Proof.FoxRow.lean ====
/- A running softmax over a row of logits, in real numbers: the sums kept so far, relative to a running reference value. -/
module

public import Idealize.ShloMosaic.Lib.Pointwise

@[expose] public section

noncomputable section

namespace Cert.FoxFwd

open Idealize.ShloMosaic

/-- A finite sum of reals is the real sum. -/
theorem coe_sum {ι : Type} (s : Finset ι) (g : ι → ℝ) : (∑ x ∈ s, ((g x : ℝ) : EReal)) = ((∑ x ∈ s, g x : ℝ) : EReal) := by
  classical
  induction s using Finset.induction_on with
  | empty => simp
  | insert a s ha ih => rw [Finset.sum_insert ha, Finset.sum_insert ha, ih, EReal.coe_add]

/-- What a row keeps after the keys below `B`: nothing yet, or sums of exponentials relative to some real `M`. -/
def Row (s : ℕ → ℝ) (v : ℕ → ℕ → ℝ) (B : ℕ) (m l : EReal) (acc : Fin 128 → EReal) : Prop :=
  (B = 0 ∧ m = ⊥ ∧ l = 0 ∧ ∀ x, acc x = 0) ∨
  ∃ M : ℝ, m = (M : EReal) ∧ l = ((∑ b ∈ Finset.range B, Real.exp (s b - M) : ℝ) : EReal)
    ∧ ∀ x, acc x = ((∑ b ∈ Finset.range B, Real.exp (s b - M) * v b x : ℝ) : EReal)

theorem Row.start (s : ℕ → ℝ) (v : ℕ → ℕ → ℝ) {m l : EReal} {acc : Fin 128 → EReal} (hm : m = ⊥) (hl : l = 0) (ha : ∀ x, acc x = 0) :
    Row s v 0 m l acc := Or.inl ⟨rfl, hm, hl, ha⟩

/-- The largest of a block with at least one key, and of what came before it, is real. -/
theorem top_real (s : ℕ → ℝ) (v : ℕ → ℕ → ℝ) (B n : ℕ) (hn : 0 < n) {m l : EReal} {acc : Fin 128 → EReal} (h : Row s v B m l acc)
    (t : Fin 1024 → EReal) (ht : ∀ j, t j = if j.val < n then ((s (B + j) : ℝ) : EReal) else ⊥) :
    ∃ M : ℝ, max m (Finset.univ.fold max ⊥ t) = (M : EReal) := by
  have hm : m ≠ ⊤ := by
    rcases h with ⟨-, hm, -⟩ | ⟨M, hm, -⟩
    · rw [hm]; exact bot_ne_top
    · rw [hm]; exact EReal.coe_ne_top M
  have hf : Finset.univ.fold max ⊥ t < ⊤ := by
    rw [Finset.fold_max_lt]
    refine ⟨bot_lt_top, fun j _ => ?_⟩
    rw [ht]
    split
    · exact EReal.coe_lt_top _
    · exact bot_lt_top
  have hb : ⊥ < Finset.univ.fold max ⊥ t := by
    rw [Finset.lt_fold_max]
    refine Or.inr ⟨0, Finset.mem_univ _, ?_⟩
    rw [ht, if_pos (by exact hn)]
    exact EReal.bot_lt_coe _
  refine ⟨(max m (Finset.univ.fold max ⊥ t)).toReal, (EReal.coe_toReal ?_ ?_).symm⟩
  · exact (max_lt (lt_top_iff_ne_top.mpr hm) hf).ne
  · exact (lt_of_lt_of_le hb (le_max_right _ _)).ne'

/-- A block's sum, of which the first `n` terms count. -/
theorem block_sum (n : ℕ) (hn : n ≤ 1024) (g : ℕ → ℝ) : (∑ j : Fin 1024, if j.val < n then g j else 0) = ∑ j ∈ Finset.range n, g j := by
  rw [← Finset.sum_range (fun j => if j < n then g j else 0), ← Finset.sum_filter]
  congr 1
  ext j
  simp only [Finset.mem_filter, Finset.mem_range]
  omega

/-- One block: the keys `B … B + n - 1` are added, the sums so far rescaled to the new reference value. -/
theorem Row.step (s : ℕ → ℝ) (v : ℕ → ℕ → ℝ) (B n : ℕ) (hn : 0 < n) (hn' : n ≤ 1024) {m l : EReal} {acc : Fin 128 → EReal} (h : Row s v B m l acc)
    (t : Fin 1024 → EReal) (ht : ∀ j, t j = if j.val < n then ((s (B + j) : ℝ) : EReal) else ⊥)
    (w : Fin 1024 → Fin 128 → EReal) (hw : ∀ j x, w j x = ((v (B + j) x : ℝ) : EReal))
    {m' l' : EReal} {acc' : Fin 128 → EReal} (hm' : m' = max m (Finset.univ.fold max ⊥ t))
    (hl' : l' = Ideal.exp (m - m') * l + ∑ j, Ideal.exp (t j - m'))
    (ha' : ∀ x, acc' x = Ideal.exp (m - m') * acc x + ∑ j, Ideal.exp (t j - m') * w j x) :
    Row s v (B + n) m' l' acc' := by
  obtain ⟨M', hM'⟩ := top_real s v B n hn h t ht
  rw [hM'] at hm'
  subst hm'
  have he : ∀ j, Ideal.exp (t j - (M' : EReal)) = ((if j.val < n then Real.exp (s (B + j) - M') else 0 : ℝ) : EReal) := fun j => by
    rw [ht]
    split
    · rw [← EReal.coe_sub, Ideal.exp_coe]
    · rw [EReal.bot_sub, Ideal.exp_bot]
      simp
  have hl2 : ∑ j, Ideal.exp (t j - (M' : EReal)) = ((∑ j ∈ Finset.range n, Real.exp (s (B + j) - M') : ℝ) : EReal) := by
    rw [Finset.sum_congr rfl fun j _ => he j, coe_sum, block_sum n hn' (fun j => Real.exp (s (B + j) - M'))]
  have ha2 : ∀ x : Fin 128, ∑ j, Ideal.exp (t j - (M' : EReal)) * w j x = ((∑ j ∈ Finset.range n, Real.exp (s (B + j) - M') * v (B + j) x : ℝ) : EReal) := fun x => by
    have e : ∀ j : Fin 1024, Ideal.exp (t j - (M' : EReal)) * w j x = ((if j.val < n then Real.exp (s (B + j) - M') * v (B + j) x else 0 : ℝ) : EReal) := fun j => by
      rw [he, hw, ← EReal.coe_mul]
      split <;> simp
    rw [Finset.sum_congr rfl fun j _ => e j, coe_sum, block_sum n hn' (fun j => Real.exp (s (B + j) - M') * v (B + j) x)]
  refine Or.inr ⟨M', rfl, ?_, fun x => ?_⟩
  · rw [hl', hl2, Finset.sum_range_add]
    rcases h with ⟨hB, -, hl, -⟩ | ⟨M, hm, hl, -⟩
    · subst hB
      rw [hl, mul_zero, zero_add, Finset.sum_range_zero, zero_add]
    · rw [hm, hl, ← EReal.coe_sub, Ideal.exp_coe, ← EReal.coe_mul, ← EReal.coe_add, Finset.mul_sum]
      congr 2
      refine Finset.sum_congr rfl fun b _ => ?_
      rw [← Real.exp_add]
      congr 1
      ring
  · rw [ha', ha2, Finset.sum_range_add]
    rcases h with ⟨hB, -, -, ha⟩ | ⟨M, hm, -, ha⟩
    · subst hB
      rw [ha, mul_zero, zero_add, Finset.sum_range_zero, zero_add]
    · rw [hm, ha, ← EReal.coe_sub, Ideal.exp_coe, ← EReal.coe_mul, ← EReal.coe_add, Finset.mul_sum]
      congr 2
      refine Finset.sum_congr rfl fun b _ => ?_
      rw [← mul_assoc, ← Real.exp_add]
      congr 2
      ring

/-- The row's output and the logarithm of its sum, without any reference value. -/
def rowOut (s : ℕ → ℝ) (v : ℕ → ℕ → ℝ) (B x : ℕ) : ℝ := (∑ b ∈ Finset.range B, Real.exp (s b) * v b x) / ∑ b ∈ Finset.range B, Real.exp (s b)
def rowLog (s : ℕ → ℝ) (B : ℕ) : ℝ := Real.log (∑ b ∈ Finset.range B, Real.exp (s b))

theorem exps_pos (s : ℕ → ℝ) (B : ℕ) (hB : 0 < B) : 0 < ∑ b ∈ Finset.range B, Real.exp (s b) :=
  Finset.sum_pos (fun b _ => Real.exp_pos _) ⟨0, Finset.mem_range.mpr hB⟩

theorem exps_shift (s : ℕ → ℝ) (B : ℕ) (M : ℝ) : ∑ b ∈ Finset.range B, Real.exp (s b - M) = Real.exp (-M) * ∑ b ∈ Finset.range B, Real.exp (s b) := by
  rw [Finset.mul_sum]
  refine Finset.sum_congr rfl fun b _ => ?_
  rw [← Real.exp_add]
  congr 1
  ring

theorem vals_shift (s : ℕ → ℝ) (v : ℕ → ℕ → ℝ) (B x : ℕ) (M : ℝ) :
    ∑ b ∈ Finset.range B, Real.exp (s b - M) * v b x = Real.exp (-M) * ∑ b ∈ Finset.range B, Real.exp (s b) * v b x := by
  rw [Finset.mul_sum]
  refine Finset.sum_congr rfl fun b _ => ?_
  rw [← mul_assoc, ← Real.exp_add]
  congr 2
  ring

/-- A quotient of shifted sums is the row's output, whatever the shift. -/
theorem out_shift (s : ℕ → ℝ) (v : ℕ → ℕ → ℝ) (B x : ℕ) (M : ℝ) :
    (∑ b ∈ Finset.range B, Real.exp (s b - M) * v b x) / (∑ b ∈ Finset.range B, Real.exp (s b - M)) = rowOut s v B x := by
  rw [exps_shift, vals_shift]
  exact mul_div_mul_left _ _ (Real.exp_pos _).ne'

theorem log_shift (s : ℕ → ℝ) (B : ℕ) (hB : 0 < B) (M : ℝ) : M + Real.log (∑ b ∈ Finset.range B, Real.exp (s b - M)) = rowLog s B := by
  rw [exps_shift, Real.log_mul (Real.exp_pos _).ne' (exps_pos s B hB).ne', Real.log_exp]
  unfold rowLog
  ring

/-- What the row ends with. -/
theorem Row.finish (s : ℕ → ℝ) (v : ℕ → ℕ → ℝ) (B : ℕ) (hB : 0 < B) {m l : EReal} {acc : Fin 128 → EReal} (h : Row s v B m l acc) :
    (∀ x, Ideal.div (acc x) l = ((rowOut s v B x : ℝ) : EReal)) ∧ m + Ideal.log l = ((rowLog s B : ℝ) : EReal) := by
  rcases h with ⟨h0, -⟩ | ⟨M, hm, hl, ha⟩
  · omega
  · have hp : 0 < ∑ b ∈ Finset.range B, Real.exp (s b - M) := by
      rw [exps_shift]
      exact mul_pos (Real.exp_pos _) (exps_pos s B hB)
    refine ⟨fun x => ?_, ?_⟩
    · rw [ha, hl, Ideal.div_coe hp.ne', ← EReal.coe_mul]
      rw [mul_one_div, out_shift]
    · rw [hm, hl, Ideal.log_coe, if_neg (not_le.mpr hp), ← EReal.coe_add, log_shift s B hB M]

end Cert.FoxFwd

end
-- ==== Proof.FoxBlock.lean ====
/- One block of keys in the attention's forward call, read at an element: the running largest, the running sum and the running
   output of each query of the tile. -/
module

public import proofs.«01_k».proof.Proof.Gen.KernelFoxIdeal.Frame
public import proofs.«01_k».proof.Proof.FoxRow
public import Idealize.ShloMosaic.Lib.VecWindow
public import Idealize.ShloMosaic.Lib.WholeRead

@[expose] public section

set_option maxRecDepth 16384

noncomputable section

namespace Cert.FoxFwd

open Idealize.ShloMosaic Idealize.ShloMosaic.TcCoe Idealize.ShloMosaic.Tactic
open Cert.KernelFoxIdeal Cert.KernelFoxIdeal.Gen
open Idealize.ShloMosaic.VecWindow

/-- The real numbers a point's blocks hold: a tile of queries, and a head's keys, values and cumulated gates. -/
structure Rs where
  q : ℕ → ℕ → ℝ
  k : ℕ → ℕ → ℝ
  v : ℕ → ℕ → ℝ
  f : ℕ → ℝ

/-- The logit of query `r` of the tile and key `b`, up to the query's own gate. -/
def Sc (X : Rs) (r b : ℕ) : ℝ := (∑ d : Fin 128, X.q r d * X.k b d) - X.f b

/-- The blocks hold the numbers `X`. -/
structure Holds (X : Rs) (x0 : Vec Ideal S1024x128 .bf16) (x1 x2 : Vec Ideal S8192x128 .bf16) (x3 : Vec Ideal S1x1x8192 .f32) : Prop where
  q : ∀ (r : Fin 1024) (d : Fin 128), x0 (ix2 r d) = ((X.q r d : ℝ) : EReal)
  k : ∀ (b : Fin 8192) (d : Fin 128), x1 (ix2 b d) = ((X.k b d : ℝ) : EReal)
  v : ∀ (b : Fin 8192) (d : Fin 128), x2 (ix2 b d) = ((X.v b d : ℝ) : EReal)
  f : ∀ b : Fin 8192, x3 (ix3 0 0 b) = ((X.f b : ℝ) : EReal)

section windows

variable {α : Type}

theorem rows (x : S8192x128.Idx → α) (off : Fin 2 → ℕ) (inb : ∀ a, off a + S1024x128.size a ≤ S8192x128.size a) (o : ℕ)
    (ho : off = ![o, 0]) (j : Fin 1024) (d : Fin 128) (h : o + j.val < 8192) :
    window x off S1024x128.size inb (ix2 j d) = x (ix2 ⟨o + j.val, h⟩ d) := by
  subst ho
  unfold window
  congr 1
  funext a
  apply Fin.ext
  match a with
  | ⟨0, _⟩ => simp [Rect.emb, Rect.unit, ix2]
  | ⟨1, _⟩ => simp [Rect.emb, Rect.unit, ix2]

theorem row (x : S1x1x8192.Idx → α) (off : Fin 3 → ℕ) (inb : ∀ a, off a + S1x1x1024.size a ≤ S1x1x8192.size a) (o : ℕ)
    (ho : off = ![0, 0, o]) (j : Fin 1024) (h : o + j.val < 8192) :
    window x off S1x1x1024.size inb (ix3 0 0 j) = x (ix3 0 0 ⟨o + j.val, h⟩) := by
  subst ho
  unfold window
  congr 1
  funext a
  apply Fin.ext
  match a with
  | ⟨0, _⟩ => rfl
  | ⟨1, _⟩ => rfl
  | ⟨2, _⟩ => simp [Rect.emb, Rect.unit, ix3]

end windows

theorem bot_word : Ideal.ofBits FTy.f32 4286578688#32 = ⊥ := by simp [Ideal.ofBits, Ideal.ieee]

/-- The keys from `o` on, of which a block is read. -/
structure Part (X : Rs) (o : ℕ) (y1 y2 : Vec Ideal S1024x128 .bf16) (y3 : Vec Ideal S1x1x1024 .f32) : Prop where
  k : ∀ (j : Fin 1024) (d : Fin 128), y1 (ix2 j d) = ((X.k (o + j) d : ℝ) : EReal)
  v : ∀ (j : Fin 1024) (d : Fin 128), y2 (ix2 j d) = ((X.v (o + j) d : ℝ) : EReal)
  f : ∀ j : Fin 1024, y3 (ix3 0 0 j) = ((X.f (o + j) : ℝ) : EReal)

variable {X : Rs} {x0 : Vec Ideal S1024x128 .bf16} {x1 x2 : Vec Ideal S8192x128 .bf16} {x3 : Vec Ideal S1x1x8192 .f32}

theorem Holds.part (H : Holds X x0 x1 x2 x3) (o : ℕ) (ho : o + 1024 ≤ 8192) (off : Fin 2 → ℕ) (e : off = ![o, 0]) (off' : Fin 3 → ℕ) (e' : off' = ![0, 0, o])
    (inb : ∀ a, off a + S1024x128.size a ≤ S8192x128.size a) (inb' : ∀ a, off' a + S1x1x1024.size a ≤ S1x1x8192.size a) :
    Part X o (window x1 off S1024x128.size inb) (window x2 off S1024x128.size inb) (window x3 off' S1x1x1024.size inb') := by
  have hj : ∀ j : Fin 1024, o + j.val < 8192 := fun j => by have := j.isLt; omega
  exact ⟨fun j d => by rw [rows x1 off inb o e j d (hj j), H.k], fun j d => by rw [rows x2 off inb o e j d (hj j), H.v],
    fun j => by rw [row x3 off' inb' o e' j (hj j), H.f]⟩

variable {o : ℕ} {y1 y2 : Vec Ideal S1024x128 .bf16} {y3 : Vec Ideal S1x1x1024 .f32}

/-- The product of a query and a key, less the key's gate. -/
theorem logit (H : Holds X x0 x1 x2 x3) (P : Part X o y1 y2 y3) (r j : Fin 1024) :
    (∑ d : Fin 128, x0 (ix2 r d) * y1 (ix2 j d)) - y3 (ix3 0 0 j) = ((Sc X r (o + j) : ℝ) : EReal) := by
  rw [Finset.sum_congr rfl fun d _ => by rw [H.q, P.k, ← EReal.coe_mul], coe_sum, P.f, ← EReal.coe_sub]
  rfl

theorem scores (H : Holds X x0 x1 x2 x3) (P : Part X o y1 y2 y3) (r j : Fin 1024) :
    k0_pay8 (F := Ideal) x0 y1 y3 (ix2 r j) = ((Sc X r (o + j) : ℝ) : EReal) := by
  rw [← logit H P]
  pointwise [k0_pay8, k0_pay4]

/-- The diagonal's causal mask. -/
theorem masked {x y : EReal} (r j : Fin 1024) :
    Scalar.select (IntOp.cmpi CmpIPredicate.sge (BitVec.ofNat 32 r.val) (BitVec.ofNat 32 j.val)) x y = if j.val < r.val + 1 then x else y := by
  have hb : IntOp.cmpi CmpIPredicate.sge (BitVec.ofNat 32 r.val) (BitVec.ofNat 32 j.val) = 1#1 ↔ j.val ≤ r.val := by
    have := r.isLt; have := j.isLt
    word_cmp
  by_cases h : j.val ≤ r.val
  · rw [hb.mpr h, if_pos (by omega)]
    simp [Scalar.select]
  · have h0 : IntOp.cmpi CmpIPredicate.sge (BitVec.ofNat 32 r.val) (BitVec.ofNat 32 j.val) = 0#1 := by
      rcases BitVec.eq_zero_or_eq_one (IntOp.cmpi CmpIPredicate.sge (BitVec.ofNat 32 r.val) (BitVec.ofNat 32 j.val)) with e | e
      · exact e
      · exact absurd (hb.mp e) h
    rw [h0, if_neg (by omega)]
    simp [Scalar.select]

theorem scores_diag (H : Holds X x0 x1 x2 x3) (P : Part X o y1 y2 y3) (r j : Fin 1024) :
    k0_pay21 (F := Ideal) x0 y1 y3 (ix2 r j) = if j.val < r.val + 1 then ((Sc X r (o + j) : ℝ) : EReal) else ⊥ := by
  rw [← logit H P]
  pointwise [k0_pay21, k0_pay4]
  rw [masked, bot_word]

/-- What a tile of queries keeps: the running largest, the running sum and the running output. -/
abbrev St : Type := FVec Ideal S1024x1 .f32 × FVec Ideal S1024x1 .f32 × FVec Ideal S1024x128 .f32

/-- Query `r` of the tile has taken in the keys below `B`. -/
def At (X : Rs) (B : ℕ) (r : Fin 1024) (s : St) : Prop :=
  Row (Sc X r) X.v B (s.1 (ix2 r 0)) (s.2.1 (ix2 r 0)) fun x => s.2.2 (ix2 r x)

theorem at_start (r : Fin 1024) : At X 0 r (k0_pay5 (F := Ideal), k0_pay6 (F := Ideal), k0_pay7 (F := Ideal)) := by
  refine Row.start _ _ ?_ ?_ fun x => ?_
  · pointwise [k0_pay5]
    exact bot_word
  · pointwise [k0_pay6]
    try simp
  · pointwise [k0_pay7]
    try simp

section payloads

variable (s : St) (r : Fin 1024)

theorem top_at : k0_pay9 (F := Ideal) x0 s.1 y1 y3 (ix2 r 0) = max (s.1 (ix2 r 0)) (Finset.univ.fold max ⊥ fun j : Fin 1024 => k0_pay8 (F := Ideal) x0 y1 y3 (ix2 r j)) := by
  pointwise [k0_pay9]
  rw [bot_word]

theorem sum_at : k0_pay12 (F := Ideal) x0 s.1 s.2.1 y1 y3 (ix2 r 0)
    = Ideal.exp (s.1 (ix2 r 0) - k0_pay9 (F := Ideal) x0 s.1 y1 y3 (ix2 r 0)) * s.2.1 (ix2 r 0)
      + ∑ j : Fin 1024, Ideal.exp (k0_pay8 (F := Ideal) x0 y1 y3 (ix2 r j) - k0_pay9 (F := Ideal) x0 s.1 y1 y3 (ix2 r 0)) := by
  pointwise [k0_pay12, k0_pay10, k0_pay11]

theorem acc_at (x : Fin 128) : k0_pay13 (F := Ideal) x0 s.1 s.2.2 y1 y2 y3 (ix2 r x)
    = Ideal.exp (s.1 (ix2 r 0) - k0_pay9 (F := Ideal) x0 s.1 y1 y3 (ix2 r 0)) * s.2.2 (ix2 r x)
      + ∑ j : Fin 1024, Ideal.exp (k0_pay8 (F := Ideal) x0 y1 y3 (ix2 r j) - k0_pay9 (F := Ideal) x0 s.1 y1 y3 (ix2 r 0)) * y2 (ix2 j x) := by
  pointwise [k0_pay13, k0_pay10, k0_pay11]

theorem top_diag : k0_pay22 (F := Ideal) x0 s.1 y1 y3 (ix2 r 0) = max (s.1 (ix2 r 0)) (Finset.univ.fold max ⊥ fun j : Fin 1024 => k0_pay21 (F := Ideal) x0 y1 y3 (ix2 r j)) := by
  pointwise [k0_pay22]
  rw [bot_word]

/-- The diagonal's sum. -/
def sumDiag (x0 : Vec Ideal S1024x128 .bf16) (y1 : Vec Ideal S1024x128 .bf16) (y3 : Vec Ideal S1x1x1024 .f32) (s : St) : FVec Ideal S1024x1 .f32 :=
  k0_pay1 (F := Ideal) (k0_pay24 (F := Ideal) x0 s.1 y1 y3) (k0_pay25 (F := Ideal) x0 s.1 s.2.1 y1 y3)

/-- The diagonal's output, not yet divided. -/
def accDiag (x0 : Vec Ideal S1024x128 .bf16) (y1 y2 : Vec Ideal S1024x128 .bf16) (y3 : Vec Ideal S1x1x1024 .f32) (s : St) : FVec Ideal S1024x128 .f32 := fun i =>
  k0_pay23 (F := Ideal) x0 s.1 y1 y3 (ix2 (i 0) 0) * s.2.2 i + ∑ j : Fin 1024, k0_pay24 (F := Ideal) x0 s.1 y1 y3 (ix2 (i 0) j) * y2 (ix2 j (i 1))

theorem sum_diag : sumDiag x0 y1 y3 s (ix2 r 0)
    = Ideal.exp (s.1 (ix2 r 0) - k0_pay22 (F := Ideal) x0 s.1 y1 y3 (ix2 r 0)) * s.2.1 (ix2 r 0)
      + ∑ j : Fin 1024, Ideal.exp (k0_pay21 (F := Ideal) x0 y1 y3 (ix2 r j) - k0_pay22 (F := Ideal) x0 s.1 y1 y3 (ix2 r 0)) := by
  pointwise [sumDiag, k0_pay1, k0_pay25, k0_pay23, k0_pay24]

theorem acc_diag (x : Fin 128) : accDiag x0 y1 y2 y3 s (ix2 r x)
    = Ideal.exp (s.1 (ix2 r 0) - k0_pay22 (F := Ideal) x0 s.1 y1 y3 (ix2 r 0)) * s.2.2 (ix2 r x)
      + ∑ j : Fin 1024, Ideal.exp (k0_pay21 (F := Ideal) x0 y1 y3 (ix2 r j) - k0_pay22 (F := Ideal) x0 s.1 y1 y3 (ix2 r 0)) * y2 (ix2 j x) := by
  pointwise [accDiag, k0_pay23, k0_pay24]

theorem out_at (x : Fin 128) : k0_pay2 (F := Ideal) s.2.2 (k0_pay20 (F := Ideal) y2) (k0_pay23 (F := Ideal) x0 s.1 y1 y3) (k0_pay24 (F := Ideal) x0 s.1 y1 y3)
      (k0_pay25 (F := Ideal) x0 s.1 s.2.1 y1 y3) (ix2 r x)
    = Ideal.div (accDiag x0 y1 y2 y3 s (ix2 r x)) (sumDiag x0 y1 y3 s (ix2 r 0)) := by
  pointwise [k0_pay2, k0_pay20, accDiag, sumDiag]

theorem log_at : k0_pay3 (F := Ideal) (k0_pay22 (F := Ideal) x0 s.1 y1 y3) (k0_pay24 (F := Ideal) x0 s.1 y1 y3)
      (k0_pay25 (F := Ideal) x0 s.1 s.2.1 y1 y3) (ix3 0 r 0)
    = k0_pay22 (F := Ideal) x0 s.1 y1 y3 (ix2 r 0) + Ideal.log (sumDiag x0 y1 y3 s (ix2 r 0)) := by
  pointwise [k0_pay3, sumDiag]

end payloads

/-- A whole block of keys. -/
theorem at_step (H : Holds X x0 x1 x2 x3) (P : Part X o y1 y2 y3) (s : St) (r : Fin 1024) (h : At X o r s) :
    At X (o + 1024) r (k0_pay9 (F := Ideal) x0 s.1 y1 y3, k0_pay12 (F := Ideal) x0 s.1 s.2.1 y1 y3, k0_pay13 (F := Ideal) x0 s.1 s.2.2 y1 y2 y3) :=
  Row.step _ _ o 1024 (by omega) (le_refl _) h (fun j => k0_pay8 (F := Ideal) x0 y1 y3 (ix2 r j))
    (fun j => by rw [scores H P, if_pos j.isLt]) (fun j x => y2 (ix2 j x)) P.v (top_at s r) (sum_at s r) (acc_at s r)

/-- The block on the diagonal: the keys up to the query's own. -/
theorem at_diag (H : Holds X x0 x1 x2 x3) (P : Part X o y1 y2 y3) (s : St) (r : Fin 1024) (h : At X o r s) :
    At X (o + (r.val + 1)) r (k0_pay22 (F := Ideal) x0 s.1 y1 y3, sumDiag x0 y1 y3 s, accDiag x0 y1 y2 y3 s) :=
  Row.step _ _ o (r.val + 1) (by omega) r.isLt h (fun j => k0_pay21 (F := Ideal) x0 y1 y3 (ix2 r j))
    (scores_diag H P r) (fun j x => y2 (ix2 j x)) P.v (top_diag s r) (sum_diag s r) (acc_diag s r)

end Cert.FoxFwd

end
-- ==== Proof.FoxPoint.lean ====
/- The attention's forward call at one grid point: the key blocks before the diagonal, one by one, then the diagonal. -/
module

public import proofs.«01_k».proof.Proof.FoxBlock
public import Idealize.ShloMosaic.Lib.Pipeline.ValueKit

@[expose] public section

set_option maxRecDepth 16384

noncomputable section

namespace Cert.FoxFwd

open Idealize.ShloMosaic Idealize.ShloMosaic.TcCoe Idealize.ShloMosaic.Tactic
open Cert.KernelFoxIdeal Cert.KernelFoxIdeal.Gen
open Idealize.ShloMosaic.VecWindow

/-- A load from a whole buffer held at `Y` is a window of `Y`. -/
theorem load_part {s : Shape} {e : EltTy} {m : Memref sig .tc .vmem s e} (h : m.IsWhole) (Y : s.Idx → Elt Ideal e) {off size : Fin s.rank → ℕ}
    (inb : ∀ a, off a + size a ≤ s.size a) :
    m.view.readAt (Elt Ideal) (Rect.unit off size inb).toLoadRect (h.unread Y) = window Y off size inb := by
  rw [View.readAt_unit m.view _ inb rfl inb, h.read_unread]

theorem trips_before : ∀ i : grid0.Coords, (k0_t1_loop i).trips = (i 1).val := by decide +kernel

theorem trips_after (i : grid0.Coords) : (k0_t2_loop i).trips = 0 := Nat.le_zero.mp (k0_t2_abs i).2.1

section loop

variable (𝒱 : Variants) (c : Dev nD) (bd : Option 𝒱.V) (i : grid0.Coords) (arg2 : Memref sig .tc .vmem S1024x128 .bf16) (harg2 : arg2.IsWhole)
  (arg3 : Memref sig .tc .vmem S8192x128 .bf16) (harg3 : arg3.IsWhole) (arg4 : Memref sig .tc .vmem S8192x128 .bf16) (harg4 : arg4.IsWhole)
  (arg5 : Memref sig .tc .vmem S1x1x8192 .f32) (harg5 : arg5.IsWhole) (arg6 : Memref sig .tc .vmem S1024x128 .f32) (harg6 : arg6.IsWhole)
  (arg7 : Memref sig .tc .vmem S1x1024x1 .f32) (harg7 : arg7.IsWhole)

/-- What one trip leaves. -/
theorem trip_eq (x0 : Vec Ideal S1024x128 .bf16) (x1 x2 : Vec Ideal S8192x128 .bf16) (x3 : Vec Ideal S1x1x8192 .f32)
    (k : Fin (k0_t1_loop i).trips) (s : St) :
    tripR_k0_t1 (F := Ideal) 𝒱 c bd i arg2 harg2 arg3 harg3 arg4 harg4 arg5 harg5 arg6 harg6 arg7 harg7 x0 (harg3.unread x1) (harg4.unread x2) (harg5.unread x3) k s
      = (k0_pay9 (F := Ideal) x0 s.1 (window x1 (k0_off1 i k) S1024x128.size (k0_off1_inb i k)) (window x3 (k0_off2 i k) S1x1x1024.size (k0_off2_inb i k)),
        k0_pay12 (F := Ideal) x0 s.1 s.2.1 (window x1 (k0_off1 i k) S1024x128.size (k0_off1_inb i k)) (window x3 (k0_off2 i k) S1x1x1024.size (k0_off2_inb i k)),
        k0_pay13 (F := Ideal) x0 s.1 s.2.2 (window x1 (k0_off1 i k) S1024x128.size (k0_off1_inb i k)) (window x2 (k0_off1 i k) S1024x128.size (k0_off1_inb i k))
          (window x3 (k0_off2 i k) S1x1x1024.size (k0_off2_inb i k))) := by
  unfold tripR_k0_t1 trip_k0_t1
  dsimp only
  rw [load_part harg3 x1, load_part harg4 x2, load_part harg5 x3]

variable {X : Rs} {x0 : Vec Ideal S1024x128 .bf16} {x1 x2 : Vec Ideal S8192x128 .bf16} {x3 : Vec Ideal S1x1x8192 .f32}

/-- After `n` of the blocks before the diagonal. -/
theorem before_diag (H : Holds X x0 x1 x2 x3) (r : Fin 1024) : ∀ n, n ≤ (k0_t1_loop i).trips →
    At X (1024 * n) r (st_k0_t1 (F := Ideal) 𝒱 c bd i arg2 harg2 arg3 harg3 arg4 harg4 arg5 harg5 arg6 harg6 arg7 harg7 x0 (harg3.unread x1) (harg4.unread x2) (harg5.unread x3)
      (k0_pay5 (F := Ideal), k0_pay6 (F := Ideal), k0_pay7 (F := Ideal)) n) := by
  intro n
  induction n with
  | zero =>
    intro _
    rw [st_k0_t1_zero]
    exact at_start r
  | succ n ih =>
    intro hn
    have hi : (i 1).val < 8 := (i 1).isLt
    have ht := trips_before i
    have e := st_k0_t1_succ (F := Ideal) 𝒱 c bd i arg2 harg2 arg3 harg3 arg4 harg4 arg5 harg5 arg6 harg6 arg7 harg7 x0 (harg3.unread x1) (harg4.unread x2) (harg5.unread x3)
      (k0_pay5 (F := Ideal), k0_pay6 (F := Ideal), k0_pay7 (F := Ideal)) ⟨n, hn⟩
    have P := H.part (1024 * n) (by omega) _ (k0_off1_eq i ⟨n, hn⟩) _ (k0_off2_eq i ⟨n, hn⟩) (k0_off1_inb i ⟨n, hn⟩) (k0_off2_inb i ⟨n, hn⟩)
    have := at_step H P _ r (ih (by omega))
    rw [Nat.mul_add, Nat.mul_one]
    rw [trip_eq] at e
    exact e ▸ this

end loop

variable (m : (ℓ : Loc nD τ sig) → Buf (Elt Ideal) ℓ) (c : Dev nD)

/-- The query block's state when the diagonal is reached. -/
def reached (t : Fin cfg0.N) : St :=
  st_k0_t1 (F := Ideal) Variants.none c none (grid0.coords t) (ms0_0 t) (hs0_0 t) (ms0_1 t) (hs0_1 t) (ms0_2 t) (hs0_2 t) (ms0_3 t) (hs0_3 t) (ms0_4 t) (hs0_4 t)
    (ms0_5 t) (hs0_5 t) (iblk m c 0 t) ((hs0_1 t).unread (iblk m c 1 t)) ((hs0_2 t).unread (iblk m c 2 t)) ((hs0_3 t).unread (iblk m c 3 t))
    (k0_pay5 (F := Ideal), k0_pay6 (F := Ideal), k0_pay7 (F := Ideal)) (k0_t1_loop (grid0.coords t)).trips

/-- The blocks on the diagonal. -/
def dk (t : Fin cfg0.N) : Vec Ideal S1024x128 .bf16 := window (iblk m c 1 t) (k0_off5 (grid0.coords t)) S1024x128.size (k0_off5_inb (grid0.coords t))
def dv (t : Fin cfg0.N) : Vec Ideal S1024x128 .bf16 := window (iblk m c 2 t) (k0_off5 (grid0.coords t)) S1024x128.size (k0_off5_inb (grid0.coords t))
def df (t : Fin cfg0.N) : Vec Ideal S1x1x1024 .f32 := window (iblk m c 3 t) (k0_off6 (grid0.coords t)) S1x1x1024.size (k0_off6_inb (grid0.coords t))

theorem none_after (i : grid0.Coords) : Scf.trips (Scalar.addi (0#32) (Scalar.muli (Scalar.divsi (Scalar.subi (BitVec.ofNat 32 (i 1).val) 0#32) 1#32) 1#32))
    (Scalar.addi (0#32) (Scalar.subi (BitVec.ofNat 32 (i 1).val) 0#32)) 1#32 = 0 := trips_after i

theorem left_4 (t : Fin cfg0.N) (y : S1024x128.Idx) : (outsAt0 m c t).1 y
    = k0_pay2 (F := Ideal) (reached m c t).2.2 (k0_pay20 (F := Ideal) (dv m c t)) (k0_pay23 (F := Ideal) (iblk m c 0 t) (reached m c t).1 (dk m c t) (df m c t))
      (k0_pay24 (F := Ideal) (iblk m c 0 t) (reached m c t).1 (dk m c t) (df m c t))
      (k0_pay25 (F := Ideal) (iblk m c 0 t) (reached m c t).1 (reached m c t).2.1 (dk m c t) (df m c t)) y := by
  unfold outsAt0
  dsimp only
  frame_out
  rw [none_after]
  rfl

theorem left_5 (t : Fin cfg0.N) (y : S1x1024x1.Idx) : (outsAt0 m c t).2 y
    = k0_pay3 (F := Ideal) (k0_pay22 (F := Ideal) (iblk m c 0 t) (reached m c t).1 (dk m c t) (df m c t))
      (k0_pay24 (F := Ideal) (iblk m c 0 t) (reached m c t).1 (dk m c t) (df m c t))
      (k0_pay25 (F := Ideal) (iblk m c 0 t) (reached m c t).1 (reached m c t).2.1 (dk m c t) (df m c t)) y := by
  unfold outsAt0
  dsimp only
  frame_out
  rw [none_after]
  rfl

/-- What a point leaves, at blocks of real numbers: every query's output and its sum's logarithm over the keys up to itself. -/
theorem point_out (t : Fin cfg0.N) (X : Rs) (H : Holds X (iblk m c 0 t) (iblk m c 1 t) (iblk m c 2 t) (iblk m c 3 t)) (r : Fin 1024) :
    (∀ x : Fin 128, (outsAt0 m c t).1 (ix2 r x) = ((rowOut (Sc X r) X.v (1024 * (grid0.coords t 1).val + (r.val + 1)) x : ℝ) : EReal))
    ∧ (outsAt0 m c t).2 (ix3 0 r 0) = ((rowLog (Sc X r) (1024 * (grid0.coords t 1).val + (r.val + 1)) : ℝ) : EReal) := by
  have hi : (grid0.coords t 1).val < 8 := (grid0.coords t 1).isLt
  have B : At X (1024 * (grid0.coords t 1).val) r (reached m c t) := by
    have := before_diag Variants.none c none (grid0.coords t) (ms0_0 t) (hs0_0 t) (ms0_1 t) (hs0_1 t) (ms0_2 t) (hs0_2 t) (ms0_3 t) (hs0_3 t) (ms0_4 t) (hs0_4 t)
      (ms0_5 t) (hs0_5 t) H r _ (Nat.le_refl _)
    rw [trips_before] at this
    unfold reached
    rw [trips_before]
    exact this
  have P := H.part (1024 * (grid0.coords t 1).val) (by omega) _ (k0_off5_eq (grid0.coords t)) _ (k0_off6_eq (grid0.coords t)) (k0_off5_inb (grid0.coords t)) (k0_off6_inb (grid0.coords t))
  have D := Row.finish _ _ _ (by omega) (at_diag H P _ r B)
  refine ⟨fun x => ?_, ?_⟩
  · rw [left_4, out_at]
    exact D.1 x
  · rw [left_5, log_at]
    exact D.2

end Cert.FoxFwd

end
-- ==== Proof.FoxFinal.lean ====
/- The attention's forward call as whole arrays: every query's output and its sum's logarithm over the keys up to itself. -/
module

public import proofs.«01_k».proof.Proof.FoxPoint
public import proofs.«01_k».proof.Proof.Entry

@[expose] public section

set_option maxRecDepth 100000

noncomputable section

namespace Cert.FoxFwd

open Idealize.ShloMosaic Idealize.ShloMosaic.TcCoe Idealize.ShloMosaic.Tactic
open Cert.KernelFoxIdeal Cert.KernelFoxIdeal.Gen
open Cert.Attn (Nm)

variable (m : (ℓ : Loc nD τ sig) → Buf (Elt Ideal) ℓ) (c : Dev nD)

/-- The logit of query `a` and key `b` in head `h`, up to the query's own gate. -/
def SG (n : Nm) (h a b : ℕ) : ℝ := (∑ d : Fin 128, n.q a (128 * h + d) * n.k b (128 * h + d)) - n.f b h

/-- The two results. -/
def outG (n : Nm) (h a x : ℕ) : ℝ := rowOut (SG n h a) (fun b x => n.v b (128 * h + x)) (a + 1) x
def logG (n : Nm) (h a : ℕ) : ℝ := rowLog (SG n h a) (a + 1)

/-- The numbers of head `h`, query tile `i`. -/
def tile (n : Nm) (h i : ℕ) : Rs where
  q r d := n.q (1024 * i + r) (128 * h + d)
  k b d := n.k b (128 * h + d)
  v b d := n.v b (128 * h + d)
  f b := n.f b h

/-- The region finds the numbers `n`. -/
structure Finds (n : Nm) : Prop where
  q : ∀ (a : Fin 8192) (x : Fin 1024), V m c main_v0 (ix2 a x) = ((n.q a x : ℝ) : EReal)
  k : ∀ (a : Fin 8192) (x : Fin 1024), V m c main_v1 (ix2 a x) = ((n.k a x : ℝ) : EReal)
  v : ∀ (a : Fin 8192) (x : Fin 1024), V m c main_v2 (ix2 a x) = ((n.v a x : ℝ) : EReal)
  f : ∀ (h : Fin 8) (a : Fin 8192), V m c main_v4 (ix3 h 0 a) = ((n.f a h : ℝ) : EReal)

theorem idx : ∀ t : Fin cfg0.N, win0_0.index t = ![t.val % 8, t.val / 8] ∧ win0_1.index t = ![0, t.val / 8]
    ∧ win0_2.index t = ![0, t.val / 8] ∧ win0_3.index t = ![t.val / 8, 0, 0]
    ∧ win0_4.index t = ![t.val % 8, t.val / 8] ∧ win0_5.index t = ![t.val / 8, t.val % 8, 0] := by decide +kernel

theorem lt64 (t : Fin cfg0.N) : t.val < 64 := Nat.lt_of_lt_of_eq t.isLt N_0

theorem coord1 (t : Fin cfg0.N) : (grid0.coords t 1).val = t.val % 8 := by
  have e1 : (grid0.coords t 1).val = t.val / 1 % 8 := Pipeline.Grid.coords_val t 1 (by decide) rfl
  rw [e1, Nat.div_one]

theorem read_q (t : Fin cfg0.N) (r : Fin 1024) (d : Fin 128) (h1 : 1024 * (t.val % 8) + r.val < 8192) (h : 128 * (t.val / 8) + d.val < 1024) :
    iblk m c 0 t (ix2 r d) = V m c main_v0 (ix2 ⟨1024 * (t.val % 8) + r.val, h1⟩ ⟨128 * (t.val / 8) + d.val, h⟩) := by
  obtain ⟨i0, i1, i2, i3, -⟩ := idx t
  have e : (win0_0.blk t).view.emb (ix2 r d) = ix2 ⟨1024 * (t.val % 8) + r.val, h1⟩ ⟨128 * (t.val / 8) + d.val, h⟩ := by blk_ext [i0]
  exact congrArg (V m c main_v0) e

theorem read_k (t : Fin cfg0.N) (b : Fin 8192) (d : Fin 128) (h : 128 * (t.val / 8) + d.val < 1024) :
    iblk m c 1 t (ix2 b d) = V m c main_v1 (ix2 b ⟨128 * (t.val / 8) + d.val, h⟩) := by
  obtain ⟨i0, i1, i2, i3, -⟩ := idx t
  have e : (win0_1.blk t).view.emb (ix2 b d) = ix2 b ⟨128 * (t.val / 8) + d.val, h⟩ := by blk_ext [i1]
  exact congrArg (V m c main_v1) e

theorem read_v (t : Fin cfg0.N) (b : Fin 8192) (d : Fin 128) (h : 128 * (t.val / 8) + d.val < 1024) :
    iblk m c 2 t (ix2 b d) = V m c main_v2 (ix2 b ⟨128 * (t.val / 8) + d.val, h⟩) := by
  obtain ⟨i0, i1, i2, i3, -⟩ := idx t
  have e : (win0_2.blk t).view.emb (ix2 b d) = ix2 b ⟨128 * (t.val / 8) + d.val, h⟩ := by blk_ext [i2]
  exact congrArg (V m c main_v2) e

theorem read_f (t : Fin cfg0.N) (b : Fin 8192) (h : t.val / 8 < 8) :
    iblk m c 3 t (ix3 0 0 b) = V m c main_v4 (ix3 ⟨t.val / 8, h⟩ 0 b) := by
  obtain ⟨i0, i1, i2, i3, -⟩ := idx t
  have e : (win0_3.blk t).view.emb (ix3 0 0 b) = ix3 ⟨t.val / 8, h⟩ 0 b := by blk_ext [i3]
  exact congrArg (V m c main_v4) e

variable {m c} {n : Nm}

theorem tile_holds (hn : Finds m c n) (t : Fin cfg0.N) :
    Holds (tile n (t.val / 8) (t.val % 8)) (iblk m c 0 t) (iblk m c 1 t) (iblk m c 2 t) (iblk m c 3 t) := by
  have ht := lt64 t
  have hx : ∀ d : Fin 128, 128 * (t.val / 8) + d.val < 1024 := fun d => by have := d.isLt; omega
  have hr : ∀ r : Fin 1024, 1024 * (t.val % 8) + r.val < 8192 := fun r => by have := r.isLt; omega
  exact ⟨fun r d => (read_q m c t r d (hr r) (hx d)).trans (hn.q _ _), fun b d => (read_k m c t b d (hx d)).trans (hn.k _ _),
    fun b d => (read_v m c t b d (hx d)).trans (hn.v _ _), fun b => (read_f m c t b (by omega)).trans (hn.f _ _)⟩

theorem final_o (hn : Finds m c n) :
    (dats m 0 c).arrAt 4 cfg0.N = fun y : S8192x1024.Idx => ((outG n ((y 1).val / 128) (y 0).val ((y 1).val % 128) : ℝ) : EReal) := by
  refine (dats m 0 c).arrAt_eq_of_covers 4 _ (by decide +kernel) fun t hf y => ?_
  obtain ⟨-, -, -, -, i4, i5⟩ := idx t
  blk_simp [i4]
  rw [after0_4]
  idx_vars y
  have p := (point_out m c t _ (tile_holds hn t) y0).1 y1
  rw [coord1] at p
  show (outsAt0 m c t).1 (ix2 y0 y1)
    = ((outG n ((t.val / 8 * 128 + y1.val) / 128) (t.val % 8 * 1024 + y0.val) ((t.val / 8 * 128 + y1.val) % 128) : ℝ) : EReal)
  have q1 : (t.val / 8 * 128 + y1.val) / 128 = t.val / 8 := by have := y1.isLt; omega
  have q2 : (t.val / 8 * 128 + y1.val) % 128 = y1.val := by have := y1.isLt; omega
  rw [q1, q2, Nat.mul_comm (t.val % 8), p]
  rfl

theorem final_l (hn : Finds m c n) :
    (dats m 0 c).arrAt 5 cfg0.N = fun y : S8x8192x1.Idx => ((logG n (y 0).val (y 1).val : ℝ) : EReal) := by
  refine (dats m 0 c).arrAt_eq_of_covers 5 _ (by decide +kernel) fun t hf y => ?_
  obtain ⟨-, -, -, -, i4, i5⟩ := idx t
  blk_simp [i5]
  rw [after0_5]
  idx_vars y
  obtain rfl : y0 = 0 := Subsingleton.elim _ _
  obtain rfl : y2 = 0 := Subsingleton.elim _ _
  have p := (point_out m c t _ (tile_holds hn t) y1).2
  rw [coord1] at p
  show (outsAt0 m c t).2 (ix3 0 y1 0) = ((logG n (t.val / 8) (t.val % 8 * 1024 + y1.val) : ℝ) : EReal)
  rw [Nat.mul_comm (t.val % 8), p]
  rfl

end Cert.FoxFwd

end
-- ==== Proof.FoxRef.lean ====
/- The attention's forward reference, read in real numbers. -/
module

public import proofs.«01_k».proof.Proof.FoxFinal
public import proofs.«01_k».proof.Proof.Gen.ReferenceFoxIdeal.Read

@[expose] public section

set_option maxRecDepth 16384

noncomputable section

namespace Cert.FoxFwd

open Idealize.ShloMosaic Idealize.ShloMosaic.TcCoe Cert.ReferenceFoxIdeal Cert.ReferenceFoxIdeal.Read
open Cert.Attn (Nm Args lr lg Mx Wt Ls Ls_pos exp_lg output masked_logits row_max fold_lg)

/-- A sum over the keys of what is zero past query `a` is a sum over the keys up to it. -/
theorem upto_sum (a : ℕ) (ha : a < 8192) (g : ℕ → ℝ) : (∑ b : Fin 8192, if b.val ≤ a then g b else 0) = ∑ b ∈ Finset.range (a + 1), g b := by
  rw [← Finset.sum_range (fun b => if b ≤ a then g b else 0), ← Finset.sum_filter]
  congr 1
  ext b
  simp only [Finset.mem_filter, Finset.mem_range]
  omega

variable {n : Nm} {h a : ℕ}

theorem lr_top (b : ℕ) : lr n h a b - Mx n h a = SG n h a b - (Mx n h a - n.f a h) := by
  unfold lr SG
  ring

theorem sum_eq (ha : a < 8192) : Ls n h a = ∑ b ∈ Finset.range (a + 1), Real.exp (SG n h a b - (Mx n h a - n.f a h)) := by
  rw [← upto_sum a ha]
  unfold Ls Wt
  simp only [lr_top]

theorem out_eq (ha : a < 8192) (x : ℕ) :
    (∑ b : Fin 8192, n.v b (128 * h + x) * (Wt n h a b * (1 / Ls n h a))) = outG n h a x := by
  unfold outG
  rw [← out_shift _ _ _ _ (Mx n h a - n.f a h), ← sum_eq ha, ← upto_sum a ha, Finset.sum_div]
  refine Finset.sum_congr rfl fun b _ => ?_
  unfold Wt
  split
  · rw [lr_top]
    ring
  · ring

theorem log_eq (ha : a < 8192) : Mx n h a + Real.log (Ls n h a) - n.f a h = logG n h a := by
  unfold logG
  rw [← log_shift _ _ (Nat.succ_pos a) (Mx n h a - n.f a h), ← sum_eq ha]
  ring

variable {x0 x1 x2 x4 : S8192x1024.Idx → EReal} {x3 : S8192x8.Idx → EReal}

theorem same_out : val_main_v31 (F := Ideal) x0 x1 x2 x3 = Cert.ReferenceIdeal.Read.val_main_v49 (F := Ideal) x0 x1 x2 x3 := rfl

theorem same_masked : val_main_v17 (F := Ideal) x0 x1 x3 = Cert.ReferenceIdeal.Read.val_main_v18_0 (F := Ideal) x0 x1 x3 := rfl

theorem same_top : val_main_v32 (F := Ideal) x0 x1 x3 = Cert.ReferenceIdeal.Read.val_main_v19 (F := Ideal) x0 x1 x3 := rfl

theorem ref_out (H : Args n x0 x1 x2 x3 x4) (a : Fin 8192) (x : Fin 1024) :
    val_main_v31 (F := Ideal) x0 x1 x2 x3 (ix2 a x) = ((outG n (x.val / 128) a (x.val % 128) : ℝ) : EReal) := by
  have hx : x.val / 128 < 8 := by have := x.isLt; omega
  have hm : x.val % 128 < 128 := Nat.mod_lt _ (by decide)
  have e : x = ⟨x.val / 128 * 128 + x.val % 128, by have := x.isLt; omega⟩ := Fin.ext (by show x.val = x.val / 128 * 128 + x.val % 128; omega)
  have o := output H a ⟨x.val / 128, hx⟩ ⟨x.val % 128, hm⟩ (by show x.val / 128 * 128 + x.val % 128 < 1024; have := x.isLt; omega)
  rw [same_out]
  refine (congrArg (fun z => Cert.ReferenceIdeal.Read.val_main_v49 (F := Ideal) x0 x1 x2 x3 (ix2 a z)) e).trans (o.trans ?_)
  exact congrArg Real.toEReal (out_eq a.isLt _)

/-- The logarithm of a row's sum, as the reference forms it from the masked logits and their rows' largest. -/
def lseCol (s : FVec Ideal S8x8192x8192 .f32) (mx : FVec Ideal S8x8192 .f32) (F : FVec Ideal S8192x8 .f32) : FVec Ideal S8x8192x1 .f32 :=
  let ex : FVec Ideal S8x8192x8192 .f32 := Host.exp (subf s (broadcastInDim S8x8192x8192 ![0, 1, 2] Gen.bcast_S8x8192x1_S8x8192x8192_0_1_2
    (broadcastInDim S8x8192x1 ![0, 1] Gen.bcast_S8x8192_S8x8192x1_0_1 mx)))
  let sm : FVec Ideal S8x8192 .f32 := Host.reduceAdd ex (constant (F := Ideal) S_ .f32 0x00000000#32) Gen.reducesTo_S8x8192x8192_S8x8192_d2 Gen.h_S_
  broadcastInDim S8x8192x1 ![0, 1] Gen.bcast_S8x8192_S8x8192x1_0_1
    (subf (addf mx (Host.log sm)) (transpose S8x8192 [1, 0] F Gen.transposes_S8192x8_S8x8192_1_0))

theorem col_row (s : FVec Ideal S8x8192x8192 .f32) (mx : FVec Ideal S8x8192 .f32) (F : FVec Ideal S8192x8 .f32) (h : Fin 8) (a : Fin 8192) :
    lseCol s mx F (ix3 h a 0) = Cert.Attn.lseRow s mx F (ix3 h 0 a) := by
  unfold lseCol Cert.Attn.lseRow
  dsimp only
  pointwise []

theorem log_col : val_main_v42 (F := Ideal) x0 x1 x3 = lseCol (val_main_v17 (F := Ideal) x0 x1 x3) (val_main_v32 (F := Ideal) x0 x1 x3) x3 := rfl

theorem ref_log (H : Args n x0 x1 x2 x3 x4) (h : Fin 8) (a : Fin 8192) :
    val_main_v42 (F := Ideal) x0 x1 x3 (ix3 h a 0) = ((logG n h a : ℝ) : EReal) := by
  rw [log_col, col_row, same_masked, same_top]
  exact (Cert.Attn.lseRow_at _ _ _ (fun h a b => masked_logits H h a b) (fun h a => Cert.Attn.row_top H h a) H.f h a).trans
    (congrArg Real.toEReal (log_eq a.isLt))

end Cert.FoxFwd

end
-- ==== Proof.FoxClaim.lean ====
/- The attention's forward call against its reference. -/
module

public import proofs.«01_k».proof.Defs
public import proofs.«01_k».proof.Proof.FoxRef
public import proofs.«01_k».proof.Proof.Gen.KernelFox.Frame
public import proofs.«01_k».proof.Proof.Gen.KernelFoxIdeal.Frame
public import proofs.«01_k».proof.Proof.Gen.Pre_finite_fox

@[expose] public section

set_option maxRecDepth 16384

noncomputable section

namespace Cert.FoxFwd

open Idealize.ShloMosaic Idealize.ShloMosaic.TcCoe Idealize.SL.Sem
open Cert.Attn (Nm Args num num_eq finite_of)

section kernel

open Cert.KernelFoxIdeal Cert.KernelFoxIdeal.Gen

variable (m : (ℓ : Loc nD τ sig) → Buf (Elt Ideal) ℓ) (c : Dev nD)

/-! ### What the host's lines hand the region -/

theorem V_q (i : S8192x1024.Idx) : V m c main_v0 i = m ((c : Thread nD τ).loc main_arg0) i := by
  simp only [V, hostOps0, StableHlo.TRef.unary, StableHlo.TRef.toBuf, StableHlo.TRef.ofBuf, cast_eq]
  after_results_simp
  rfl

theorem V_k (i : S8192x1024.Idx) : V m c main_v1 i = m ((c : Thread nD τ).loc main_arg1) i := by
  simp only [V, hostOps0, StableHlo.TRef.unary, StableHlo.TRef.toBuf, StableHlo.TRef.ofBuf, cast_eq]
  after_results_simp
  rfl

theorem V_v (i : S8192x1024.Idx) : V m c main_v2 i = m ((c : Thread nD τ).loc main_arg2) i := by
  simp only [V, hostOps0, StableHlo.TRef.unary, StableHlo.TRef.toBuf, StableHlo.TRef.ofBuf, cast_eq]
  after_results_simp
  rfl

theorem V_f : V m c main_v4 = broadcastInDim S8x1x8192 ![0, 2] Gen.bcast_S8x8192_S8x1x8192_0_2
    (transpose S8x8192 [1, 0] (m ((c : Thread nD τ).loc main_arg3)) Gen.transposes_S8192x8_S8x8192_1_0) := by
  simp only [V, hostOps0, StableHlo.TRef.unary, StableHlo.TRef.toBuf, StableHlo.TRef.ofBuf, cast_eq]
  after_results_simp

/-- The arguments' numbers on a device. -/
def nums : Nm where
  q := num (r := 8192) (s := 1024) (m ((c.tc : Thread nD τ).loc main_arg0))
  k := num (r := 8192) (s := 1024) (m ((c.tc : Thread nD τ).loc main_arg1))
  v := num (r := 8192) (s := 1024) (m ((c.tc : Thread nD τ).loc main_arg2))
  f := num (r := 8192) (s := 8) (m ((c.tc : Thread nD τ).loc main_arg3))
  o _ _ := 0

theorem args (hp : Pre_KernelFoxIdeal_finite_fox m) : Args (nums m c) (m ((c.tc : Thread nD τ).loc main_arg0)) (m ((c.tc : Thread nD τ).loc main_arg1))
    (m ((c.tc : Thread nD τ).loc main_arg2)) (m ((c.tc : Thread nD τ).loc main_arg3)) (fun _ => 0) where
  q := num_eq (r := 8192) (s := 1024) _ fun i => finite_of (congrFun (hp c).1 i)
  k := num_eq (r := 8192) (s := 1024) _ fun i => finite_of (congrFun (hp c).2.1 i)
  v := num_eq (r := 8192) (s := 1024) _ fun i => finite_of (congrFun (hp c).2.2.1 i)
  f := num_eq (r := 8192) (s := 8) _ fun i => finite_of (congrFun (hp c).2.2.2 i)
  o _ _ := rfl

theorem finds (hp : Pre_KernelFoxIdeal_finite_fox m) : Finds m c (nums m c) where
  q a x := (V_q m c _).trans ((args m c hp).q a x)
  k a x := (V_k m c _).trans ((args m c hp).k a x)
  v a x := (V_v m c _).trans ((args m c hp).v a x)
  f h a := by
    rw [V_f]
    have e : ∀ F : FVec Ideal S8192x8 .f32, (broadcastInDim S8x1x8192 ![0, 2] Gen.bcast_S8x8192_S8x1x8192_0_2
        (transpose S8x8192 [1, 0] F Gen.transposes_S8192x8_S8x8192_1_0)) (ix3 h 0 a) = F (ix2 a h) := fun F => by pointwise []
    exact (e _).trans ((args m c hp).f a h)

/-- The two results. -/
def out0 (y : S8192x1024.Idx) : EReal := ((outG (nums m c) ((y 1).val / 128) (y 0).val ((y 1).val % 128) : ℝ) : EReal)
def out1 (y : S8x8192x1.Idx) : EReal := ((logG (nums m c) (y 0).val (y 1).val : ℝ) : EReal)

theorem kernel_run (g : Dev nD → PrngReg) (hp : Pre_KernelFoxIdeal_finite_fox m) :
    θ_run (defs (F := Ideal)) (onTc (τ := τ) (main (F := Ideal))) ⟨m, fun _ => 0, g⟩ (fun r => ∀ c : Dev nD,
      r.2.mem ((c.tc : Thread nD τ).loc main_v5_0) = out0 m c
      ∧ r.2.mem ((c.tc : Thread nD τ).loc main_v5_1) = out1 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h.1 c).1 4).trans (final_o (finds m c hp)), ((h.1 c).1 5).trans (final_l (finds m c hp)), h.2.1 c⟩)
    (θ_run_and (run_main m g) (frame m g))

end kernel

theorem algebraic : Cert.algebraic_KernelFoxIdeal_ReferenceFoxIdeal_pre_finite_fox := by
  intro m g m' g' hp hag
  refine ⟨out0 m, out1 m, kernel_run m g hp, ?_⟩
  refine (θ_run Cert.ReferenceFoxIdeal.defs _ _).mono (fun r h c => ?_) (Cert.ReferenceFoxIdeal.Value.run m' g')
  obtain ⟨a0, a1, a2, a3⟩ := hag c
  have H := args m c hp
  obtain ⟨h0, h1, hr⟩ := h c
  refine ⟨h0.trans ((Cert.ReferenceFoxIdeal.Read.val_main_v31_eq m' c).trans ?_), h1.trans ((Cert.ReferenceFoxIdeal.Read.val_main_v42_eq m' c).trans ?_), hr⟩
  · rw [a0, a1, a2, a3]
    funext y
    idx_vars y
    exact ref_out H y0 y1
  · rw [a0, a1, a3]
    funext y
    idx_vars y
    obtain rfl : y2 = 0 := Subsingleton.elim _ _
    exact ref_log H y0 y1

end Cert.FoxFwd

end
-- ==== Proof.Same.lean ====
/- The kernel over the float words has the text of its ideal program, so it has that program's run. -/
module

public import proofs.«01_k».proof.Defs
public import proofs.«01_k».proof.Proof.Gen.Kernel
public import proofs.«01_k».proof.Proof.Region

@[expose] public section

set_option maxRecDepth 16384
noncomputable section

namespace Cert.Same
open Idealize.ShloMosaic Idealize.ShloMosaic.TcCoe Idealize.SL.Sem

set_option maxHeartbeats 2000000
/-- The body of the call is one text in the two programs. -/
theorem body_same (i : Cert.Kernel.grid0.Coords) : Cert.Kernel.cc0_fox_attn_b (F := Bits) i = Cert.KernelIdeal.cc0_fox_attn_b (F := Bits) i := rfl
/-- So are the host operations before the call, -/
theorem host_same : Cert.Kernel.main_part0 (F := Bits) = Cert.KernelIdeal.main_part0 (F := Bits) := rfl
/-- the table of bodies, -/
theorem bodies_same : Cert.Kernel.defs₀ (F := Bits) = Cert.KernelIdeal.defs₀ (F := Bits) := by
  refine congrArg Defs.onTc (funext fun l => funext fun a => ?_)
  revert a
  match l with
  | ⟨0, _⟩ =>
    intro a
    exact congrFun (congrFun (congrFun (congrFun (congrFun (congrFun (congrFun (congrFun (congrFun (congrFun (congrFun (congrFun (congrFun (congrFun (congrFun (congrFun (congrFun (congrFun (congrFun (congrFun (congrFun (congrFun (congrFun (congrFun (body_same (Cert.Kernel.grid0.coords a.1)) _) _) _) _) _) _) _) _) _) _) _) _) _) _) _) _) _) _) _) _) _) _) _) _
/-- the table of the pipeline, -/
theorem defs_same : Cert.Kernel.defs (F := Bits) = Cert.KernelIdeal.defs (F := Bits) :=
  congrArg (Pipeline.defs (Cert.Kernel.pcfgs (F := Bits))) bodies_same
/-- and the whole host function. -/
theorem main_same : Cert.Kernel.main (F := Bits) = Cert.KernelIdeal.main (F := Bits) :=
  funext fun d => congrArg (fun p => p d >>= fun _ => Cert.Kernel.main_part1 (F := Bits) d) host_same

/-- The kernel's frame, from the run over the ideal program's text. -/
theorem frame_kernel : Cert.quiescent_Kernel := fun m ρ _ => by
  have h := Cert.KernelIdeal.Fox.frame_quiescent (F := Bits) m ρ
  rw [← defs_same, ← main_same] at h
  exact h

end Cert.Same

end
-- ==== Proof.lean ====
/- The proof of the claims about the attention's two calls and the products. -/
module

public import proofs.«01_k».proof.Defs
public import proofs.«01_k».proof.Proof.Gen.KernelUpDw.Frame
public import proofs.«01_k».proof.Proof.Gen.KernelUpDx.Frame
public import proofs.«01_k».proof.Proof.Gen.KernelDownDw.Frame
public import proofs.«01_k».proof.Proof.Gen.KernelDownDx.Frame
public import proofs.«01_k».proof.Proof.Gen.KernelInDw.Frame
public import proofs.«01_k».proof.Proof.Gen.KernelInDx.Frame
public import proofs.«01_k».proof.Proof.Gen.KernelIn.Frame
public import proofs.«01_k».proof.Proof.Gen.KernelUp.Frame
public import proofs.«01_k».proof.Proof.Gen.KernelDown.Frame
public import proofs.«01_k».proof.Proof.Gen.KernelOutDw.Frame
public import proofs.«01_k».proof.Proof.Gen.KernelOutDx.Frame
public import proofs.«01_k».proof.Proof.Gen.KernelBranchDw.Frame
public import proofs.«01_k».proof.Proof.Gen.KernelBranchDx.Frame
public import proofs.«01_k».proof.Proof.Gen.KernelOut.Frame
public import proofs.«01_k».proof.Proof.Gen.KernelBranch.Frame
public import proofs.«01_k».proof.Proof.Gen.KernelXaQ.Frame
public import proofs.«01_k».proof.Proof.Gen.KernelXaQDw.Frame
public import proofs.«01_k».proof.Proof.Gen.KernelXaQDx.Frame
public import proofs.«01_k».proof.Proof.Gen.KernelXaO.Frame
public import proofs.«01_k».proof.Proof.Gen.KernelXaODw.Frame
public import proofs.«01_k».proof.Proof.Gen.KernelXaODx.Frame
public import proofs.«01_k».proof.Proof.Calls
public import proofs.«01_k».proof.Proof.Claims
public import proofs.«01_k».proof.Proof.Gen.KernelFox.Frame
public import proofs.«01_k».proof.Proof.FoxClaim
public import proofs.«01_k».proof.Proof.Same
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.KernelUpDw.Gen.facts, Cert.KernelUpDwIdeal.Gen.facts, Cert.ReferenceUpDwIdeal.Gen.facts,
  Cert.KernelUpDx.Gen.facts, Cert.KernelUpDxIdeal.Gen.facts, Cert.ReferenceUpDxIdeal.Gen.facts,
  Cert.KernelDownDw.Gen.facts, Cert.KernelDownDwIdeal.Gen.facts, Cert.ReferenceDownDwIdeal.Gen.facts,
  Cert.KernelDownDx.Gen.facts, Cert.KernelDownDxIdeal.Gen.facts, Cert.ReferenceDownDxIdeal.Gen.facts,
  Cert.KernelInDw.Gen.facts, Cert.KernelInDwIdeal.Gen.facts, Cert.ReferenceInDwIdeal.Gen.facts,
  Cert.KernelInDx.Gen.facts, Cert.KernelInDxIdeal.Gen.facts, Cert.ReferenceInDxIdeal.Gen.facts,
  Cert.KernelIn.Gen.facts, Cert.KernelInIdeal.Gen.facts, Cert.ReferenceInIdeal.Gen.facts,
  Cert.KernelUp.Gen.facts, Cert.KernelUpIdeal.Gen.facts, Cert.ReferenceUpIdeal.Gen.facts,
  Cert.KernelDown.Gen.facts, Cert.KernelDownIdeal.Gen.facts, Cert.ReferenceDownIdeal.Gen.facts,
  Cert.KernelOutDw.Gen.facts, Cert.KernelOutDwIdeal.Gen.facts, Cert.ReferenceOutDwIdeal.Gen.facts,
  Cert.KernelOutDx.Gen.facts, Cert.KernelOutDxIdeal.Gen.facts, Cert.ReferenceOutDxIdeal.Gen.facts,
  Cert.KernelBranchDw.Gen.facts, Cert.KernelBranchDwIdeal.Gen.facts, Cert.ReferenceBranchDwIdeal.Gen.facts,
  Cert.KernelBranchDx.Gen.facts, Cert.KernelBranchDxIdeal.Gen.facts, Cert.ReferenceBranchDxIdeal.Gen.facts,
  Cert.KernelOut.Gen.facts, Cert.KernelOutIdeal.Gen.facts, Cert.ReferenceOutIdeal.Gen.facts,
  Cert.KernelBranch.Gen.facts, Cert.KernelBranchIdeal.Gen.facts, Cert.ReferenceBranchIdeal.Gen.facts,
  Cert.KernelXaQ.Gen.facts, Cert.KernelXaQIdeal.Gen.facts, Cert.ReferenceXaQIdeal.Gen.facts,
  Cert.KernelXaQDw.Gen.facts, Cert.KernelXaQDwIdeal.Gen.facts, Cert.ReferenceXaQDwIdeal.Gen.facts,
  Cert.KernelXaQDx.Gen.facts, Cert.KernelXaQDxIdeal.Gen.facts, Cert.ReferenceXaQDxIdeal.Gen.facts,
  Cert.KernelXaO.Gen.facts, Cert.KernelXaOIdeal.Gen.facts, Cert.ReferenceXaOIdeal.Gen.facts,
  Cert.KernelXaODw.Gen.facts, Cert.KernelXaODwIdeal.Gen.facts, Cert.ReferenceXaODwIdeal.Gen.facts,
  Cert.KernelXaODx.Gen.facts, Cert.KernelXaODxIdeal.Gen.facts, Cert.ReferenceXaODxIdeal.Gen.facts,
  Cert.KernelFox.Gen.facts, Cert.KernelFoxIdeal.Gen.facts, Cert.ReferenceFoxIdeal.Gen.facts,
  Cert.Pre_finite_arguments.Gen.facts, Cert.Pre_finite_fox.Gen.facts,
  Cert.Same.frame_kernel,
  fun m ρ _ => Cert.KernelIdeal.Fox.frame_quiescent m ρ,
  fun m ρ _ => Cert.KernelIdeal.Fox.frame_quiescent m ρ,
  fun m ρ _ => Cert.Attn.frame_reference m ρ,
  fun m ρ _ => Cert.Attn.frame_reference m ρ,
  fun m ρ _ => Cert.KernelUpDw.Gen.frame m ρ, fun m ρ _ => Cert.KernelUpDwIdeal.Gen.frame m ρ, fun m ρ _ => Cert.Prod.quiet (Cert.ReferenceUpDwIdeal.Value.run m ρ) rfl,
  fun m ρ _ => Cert.KernelUpDx.Gen.frame m ρ, fun m ρ _ => Cert.KernelUpDxIdeal.Gen.frame m ρ, fun m ρ _ => Cert.Prod.quiet (Cert.ReferenceUpDxIdeal.Value.run m ρ) rfl,
  fun m ρ _ => Cert.KernelDownDw.Gen.frame m ρ, fun m ρ _ => Cert.KernelDownDwIdeal.Gen.frame m ρ, fun m ρ _ => Cert.Prod.quiet (Cert.ReferenceDownDwIdeal.Value.run m ρ) rfl,
  fun m ρ _ => Cert.KernelDownDx.Gen.frame m ρ, fun m ρ _ => Cert.KernelDownDxIdeal.Gen.frame m ρ, fun m ρ _ => Cert.Prod.quiet (Cert.ReferenceDownDxIdeal.Value.run m ρ) rfl,
  fun m ρ _ => Cert.KernelInDw.Gen.frame m ρ, fun m ρ _ => Cert.KernelInDwIdeal.Gen.frame m ρ, fun m ρ _ => Cert.Prod.quiet (Cert.ReferenceInDwIdeal.Value.run m ρ) rfl,
  fun m ρ _ => Cert.KernelInDx.Gen.frame m ρ, fun m ρ _ => Cert.KernelInDxIdeal.Gen.frame m ρ, fun m ρ _ => Cert.Prod.quiet (Cert.ReferenceInDxIdeal.Value.run m ρ) rfl,
  fun m ρ _ => Cert.KernelIn.Gen.frame m ρ, fun m ρ _ => Cert.KernelInIdeal.Gen.frame m ρ, fun m ρ _ => Cert.Prod.quiet (Cert.ReferenceInIdeal.Value.run m ρ) rfl,
  fun m ρ _ => Cert.KernelUp.Gen.frame m ρ, fun m ρ _ => Cert.KernelUpIdeal.Gen.frame m ρ, fun m ρ _ => Cert.Prod.quiet (Cert.ReferenceUpIdeal.Value.run m ρ) rfl,
  fun m ρ _ => Cert.KernelDown.Gen.frame m ρ, fun m ρ _ => Cert.KernelDownIdeal.Gen.frame m ρ, fun m ρ _ => Cert.Prod.quiet (Cert.ReferenceDownIdeal.Value.run m ρ) rfl,
  fun m ρ _ => Cert.KernelOutDw.Gen.frame m ρ, fun m ρ _ => Cert.KernelOutDwIdeal.Gen.frame m ρ, fun m ρ _ => Cert.Prod.quiet (Cert.ReferenceOutDwIdeal.Value.run m ρ) rfl,
  fun m ρ _ => Cert.KernelOutDx.Gen.frame m ρ, fun m ρ _ => Cert.KernelOutDxIdeal.Gen.frame m ρ, fun m ρ _ => Cert.Prod.quiet (Cert.ReferenceOutDxIdeal.Value.run m ρ) rfl,
  fun m ρ _ => Cert.KernelBranchDw.Gen.frame m ρ, fun m ρ _ => Cert.KernelBranchDwIdeal.Gen.frame m ρ, fun m ρ _ => Cert.Prod.quiet (Cert.ReferenceBranchDwIdeal.Value.run m ρ) rfl,
  fun m ρ _ => Cert.KernelBranchDx.Gen.frame m ρ, fun m ρ _ => Cert.KernelBranchDxIdeal.Gen.frame m ρ, fun m ρ _ => Cert.Prod.quiet (Cert.ReferenceBranchDxIdeal.Value.run m ρ) rfl,
  fun m ρ _ => Cert.KernelOut.Gen.frame m ρ, fun m ρ _ => Cert.KernelOutIdeal.Gen.frame m ρ, fun m ρ _ => Cert.Prod.quiet (Cert.ReferenceOutIdeal.Value.run m ρ) rfl,
  fun m ρ _ => Cert.KernelBranch.Gen.frame m ρ, fun m ρ _ => Cert.KernelBranchIdeal.Gen.frame m ρ, fun m ρ _ => Cert.Prod.quiet (Cert.ReferenceBranchIdeal.Value.run m ρ) rfl,
  fun m ρ _ => Cert.KernelXaQ.Gen.frame m ρ, fun m ρ _ => Cert.KernelXaQIdeal.Gen.frame m ρ, fun m ρ _ => Cert.Prod.quiet (Cert.ReferenceXaQIdeal.Value.run m ρ) rfl,
  fun m ρ _ => Cert.KernelXaQDw.Gen.frame m ρ, fun m ρ _ => Cert.KernelXaQDwIdeal.Gen.frame m ρ, fun m ρ _ => Cert.Prod.quiet (Cert.ReferenceXaQDwIdeal.Value.run m ρ) rfl,
  fun m ρ _ => Cert.KernelXaQDx.Gen.frame m ρ, fun m ρ _ => Cert.KernelXaQDxIdeal.Gen.frame m ρ, fun m ρ _ => Cert.Prod.quiet (Cert.ReferenceXaQDxIdeal.Value.run m ρ) rfl,
  fun m ρ _ => Cert.KernelXaO.Gen.frame m ρ, fun m ρ _ => Cert.KernelXaOIdeal.Gen.frame m ρ, fun m ρ _ => Cert.Prod.quiet (Cert.ReferenceXaOIdeal.Value.run m ρ) rfl,
  fun m ρ _ => Cert.KernelXaODw.Gen.frame m ρ, fun m ρ _ => Cert.KernelXaODwIdeal.Gen.frame m ρ, fun m ρ _ => Cert.Prod.quiet (Cert.ReferenceXaODwIdeal.Value.run m ρ) rfl,
  fun m ρ _ => Cert.KernelXaODx.Gen.frame m ρ, fun m ρ _ => Cert.KernelXaODxIdeal.Gen.frame m ρ, fun m ρ _ => Cert.Prod.quiet (Cert.ReferenceXaODxIdeal.Value.run m ρ) rfl,
  fun m ρ _ => Cert.KernelFox.Gen.frame m ρ,
  fun m ρ _ => Cert.KernelFoxIdeal.Gen.frame m ρ,
  fun m ρ _ => Cert.KernelFoxIdeal.Gen.frame m ρ,
  fun m ρ _ => (θ_run _ _ _).mono (fun r h => ⟨fun c => (h.1 c).2, h.2⟩) (Cert.Prod.quiet (Cert.ReferenceFoxIdeal.Value.run m ρ) rfl),
  fun m ρ _ => (θ_run _ _ _).mono (fun r h => ⟨fun c => (h.1 c).2, h.2⟩) (Cert.Prod.quiet (Cert.ReferenceFoxIdeal.Value.run m ρ) rfl),
  trivial, Cert.Attn.algebraic,
  trivial, Cert.Prod.up_dw,
  trivial, Cert.Prod.up_dx,
  trivial, Cert.Prod.down_dw,
  trivial, Cert.Prod.down_dx,
  trivial, Cert.Prod.in_dw,
  trivial, Cert.Prod.in_dx,
  trivial, Cert.Prod.in_fwd,
  trivial, Cert.Prod.up_fwd,
  trivial, Cert.Prod.down_fwd,
  trivial, Cert.Prod.out_dw,
  trivial, Cert.Prod.out_dx,
  trivial, Cert.Prod.branch_dw,
  trivial, Cert.Prod.branch_dx,
  trivial, Cert.Prod.out_fwd,
  trivial, Cert.Prod.branch_fwd,
  trivial, Cert.Prod.xa_q,
  trivial, Cert.Prod.xa_q_dw,
  trivial, Cert.Prod.xa_q_dx,
  trivial, Cert.Prod.xa_o,
  trivial, Cert.Prod.xa_o_dw,
  trivial, Cert.Prod.xa_o_dx,
  trivial, Cert.FoxFwd.algebraic⟩

end Cert.Proof

end
